-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 4096]⟩ ⟨3, ![4, 4096, 4096]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x4096 : Shape := ⟨3, ![1, 4096, 4096]⟩
abbrev S4096x4096 : Shape := ⟨2, ![4096, 4096]⟩
abbrev S4096 : Shape := ⟨1, ![4096]⟩
abbrev S4x256x4096 : Shape := ⟨3, ![4, 256, 4096]⟩
abbrev S2x256x4096 : Shape := ⟨3, ![2, 256, 4096]⟩
abbrev S2x3 : Shape := ⟨2, ![2, 3]⟩
abbrev S2x4 : Shape := ⟨2, ![2, 4]⟩
abbrev S2x3x2 : Shape := ⟨3, ![2, 3, 2]⟩
abbrev S2 : Shape := ⟨1, ![2]⟩
abbrev S128x4096 : Shape := ⟨2, ![128, 4096]⟩
abbrev S_ : Shape := ⟨0, ![]⟩
abbrev S1x1 : Shape := ⟨2, ![1, 1]⟩
abbrev S1x128x4096 : Shape := ⟨3, ![1, 128, 4096]⟩
abbrev S1 : Shape := ⟨1, ![1]⟩
abbrev S128 : Shape := ⟨1, ![128]⟩
abbrev S128x1 : Shape := ⟨2, ![128, 1]⟩
abbrev S1x4096 : Shape := ⟨2, ![1, 4096]⟩
abbrev S1x1x1 : Shape := ⟨3, ![1, 1, 1]⟩

abbrev nBuf : Space → Nat
  | .hbm => 6
  | .vmem => 5
  | .smem => 0
  | _ => 0

abbrev bufTy : (tb : Table) → Fin (tcTables nBuf tb) → BufTy
  | .hbm, ⟨0, _⟩ => ⟨S1x4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4x256x4096, .f32⟩
  | .hbm, ⟨5, _⟩ => ⟨S2x256x4096, .f32⟩
  | .local _ .vmem, ⟨0, _⟩ => ⟨S4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 97 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | _ => false

abbrev sig : RefSig :=
  (ofTc nBuf bufTy 1 97 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_scratch11 : Ref sig .tc := ⟨.vmem, 1, rfl⟩
abbrev cc0_scratch12 : Ref sig .tc := ⟨.vmem, 2, rfl⟩
abbrev cc0_scratch13 : Ref sig .tc := ⟨.vmem, 3, rfl⟩
abbrev cc0_scratch14 : Ref sig .tc := ⟨.vmem, 4, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_68 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_67 : BitVec 32 := 8#32
  let v135 : BitVec 32 := Scalar.muli v2 c8_i32_67
  let v136 : BitVec 32 := Scalar.addi c0_i32_68 v135
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_69 : BitVec 32 := 4#32
  let v137 : BitVec 32 := Scalar.muli v5 c4_i32_69
  let v138 : BitVec 32 := Scalar.addi v136 v137
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_59 : BitVec 32 := 1#32
  let v124 : BitVec 32 := Scalar.addi v8 c1_i32_59
  let c4_i32_60 : BitVec 32 := 4#32
  let c0_i32_61 : BitVec 32 := 0#32
  let v125 : BitVec 1 := Scalar.cmpi .eq c4_i32_60 c0_i32_61
  let c1_i32_62 : BitVec 32 := 1#32
  let v126 : BitVec 32 := Scalar.select v125 c1_i32_62 c4_i32_60
  let v127 : BitVec 32 := Scalar.remsi v124 v126
  let c0_i32_64 : BitVec 32 := 0#32
  let v129 : BitVec 1 := Scalar.cmpi .slt v127 c0_i32_64
  let c0_i32_65 : BitVec 32 := 0#32
  let v130 : BitVec 1 := Scalar.cmpi .slt v126 c0_i32_65
  let v131 : BitVec 1 := Scalar.xori v129 v130
  let c0_i32_63 : BitVec 32 := 0#32
  let v128 : BitVec 1 := Scalar.cmpi .ne v127 c0_i32_63
  let v132 : BitVec 1 := Scalar.andi v131 v128
  let v133 : BitVec 32 := Scalar.addi v127 v126
  let v134 : BitVec 32 := Scalar.select v132 v133 v127
  let c1_i32_70 : BitVec 32 := 1#32
  let v139 : BitVec 32 := Scalar.muli v134 c1_i32_70
  let v140 : BitVec 32 := Scalar.addi v138 v139
  v140.toNat
def k0_dev2 (d0 : Dev nD) : Nat :=
  let c0_i32_80 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_79 : BitVec 32 := 8#32
  let v152 : BitVec 32 := Scalar.muli v2 c8_i32_79
  let v153 : BitVec 32 := Scalar.addi c0_i32_80 v152
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_81 : BitVec 32 := 4#32
  let v154 : BitVec 32 := Scalar.muli v5 c4_i32_81
  let v155 : BitVec 32 := Scalar.addi v153 v154
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_71 : BitVec 32 := 2#32
  let v141 : BitVec 32 := Scalar.addi v8 c2_i32_71
  let c4_i32_72 : BitVec 32 := 4#32
  let c0_i32_73 : BitVec 32 := 0#32
  let v142 : BitVec 1 := Scalar.cmpi .eq c4_i32_72 c0_i32_73
  let c1_i32_74 : BitVec 32 := 1#32
  let v143 : BitVec 32 := Scalar.select v142 c1_i32_74 c4_i32_72
  let v144 : BitVec 32 := Scalar.remsi v141 v143
  let c0_i32_76 : BitVec 32 := 0#32
  let v146 : BitVec 1 := Scalar.cmpi .slt v144 c0_i32_76
  let c0_i32_77 : BitVec 32 := 0#32
  let v147 : BitVec 1 := Scalar.cmpi .slt v143 c0_i32_77
  let v148 : BitVec 1 := Scalar.xori v146 v147
  let c0_i32_75 : BitVec 32 := 0#32
  let v145 : BitVec 1 := Scalar.cmpi .ne v144 c0_i32_75
  let v149 : BitVec 1 := Scalar.andi v148 v145
  let v150 : BitVec 32 := Scalar.addi v144 v143
  let v151 : BitVec 32 := Scalar.select v149 v150 v144
  let c1_i32_82 : BitVec 32 := 1#32
  let v156 : BitVec 32 := Scalar.muli v151 c1_i32_82
  let v157 : BitVec 32 := Scalar.addi v155 v156
  v157.toNat
def k0_dev3 (d0 : Dev nD) : Nat :=
  let c0_i32_92 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_91 : BitVec 32 := 8#32
  let v169 : BitVec 32 := Scalar.muli v2 c8_i32_91
  let v170 : BitVec 32 := Scalar.addi c0_i32_92 v169
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_93 : BitVec 32 := 4#32
  let v171 : BitVec 32 := Scalar.muli v5 c4_i32_93
  let v172 : BitVec 32 := Scalar.addi v170 v171
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_83 : BitVec 32 := 3#32
  let v158 : BitVec 32 := Scalar.addi v8 c3_i32_83
  let c4_i32_84 : BitVec 32 := 4#32
  let c0_i32_85 : BitVec 32 := 0#32
  let v159 : BitVec 1 := Scalar.cmpi .eq c4_i32_84 c0_i32_85
  let c1_i32_86 : BitVec 32 := 1#32
  let v160 : BitVec 32 := Scalar.select v159 c1_i32_86 c4_i32_84
  let v161 : BitVec 32 := Scalar.remsi v158 v160
  let c0_i32_88 : BitVec 32 := 0#32
  let v163 : BitVec 1 := Scalar.cmpi .slt v161 c0_i32_88
  let c0_i32_89 : BitVec 32 := 0#32
  let v164 : BitVec 1 := Scalar.cmpi .slt v160 c0_i32_89
  let v165 : BitVec 1 := Scalar.xori v163 v164
  let c0_i32_87 : BitVec 32 := 0#32
  let v162 : BitVec 1 := Scalar.cmpi .ne v161 c0_i32_87
  let v166 : BitVec 1 := Scalar.andi v165 v162
  let v167 : BitVec 32 := Scalar.addi v161 v160
  let v168 : BitVec 32 := Scalar.select v166 v167 v161
  let c1_i32_94 : BitVec 32 := 1#32
  let v173 : BitVec 32 := Scalar.muli v168 c1_i32_94
  let v174 : BitVec 32 := Scalar.addi v172 v173
  v174.toNat
def k0_dev4 (d0 : Dev nD) : Nat :=
  let c0_i32_97 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1_i32_8 : BitVec 32 := 1#32
  let v22 : BitVec 32 := Scalar.addi v21 c1_i32_8
  let c4_i32_9 : BitVec 32 := 4#32
  let c0_i32_10 : BitVec 32 := 0#32
  let v23 : BitVec 1 := Scalar.cmpi .eq c4_i32_9 c0_i32_10
  let c1_i32_11 : BitVec 32 := 1#32
  let v24 : BitVec 32 := Scalar.select v23 c1_i32_11 c4_i32_9
  let v25 : BitVec 32 := Scalar.remsi v22 v24
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let c0_i32_12 : BitVec 32 := 0#32
  let v26 : BitVec 1 := Scalar.cmpi .ne v25 c0_i32_12
  let v30 : BitVec 1 := Scalar.andi v29 v26
  let v31 : BitVec 32 := Scalar.addi v25 v24
  let v32 : BitVec 32 := Scalar.select v30 v31 v25
  let c0_i32_16 : BitVec 32 := 0#32
  let v34 : BitVec 1 := Scalar.cmpi .sgt v32 c0_i32_16
  let v35 : BitVec 32 := Scalar.extui v34
  let c0_i32_17 : BitVec 32 := 0#32
  let v36 : BitVec 1 := Scalar.cmpi .slt v32 c0_i32_17
  let v37 : BitVec 32 := Scalar.extui v36
  let v38 : BitVec 32 := Scalar.subi v35 v37
  let c2_i32_15 : BitVec 32 := 2#32
  let c0_i32_18 : BitVec 32 := 0#32
  let v39 : BitVec 1 := Scalar.cmpi .sgt c2_i32_15 c0_i32_18
  let v40 : BitVec 32 := Scalar.extui v39
  let c0_i32_19 : BitVec 32 := 0#32
  let v41 : BitVec 1 := Scalar.cmpi .slt c2_i32_15 c0_i32_19
  let v42 : BitVec 32 := Scalar.extui v41
  let v43 : BitVec 32 := Scalar.subi v40 v42
  let v44 : BitVec 1 := Scalar.cmpi .ne v38 v43
  let v45 : BitVec 32 := Scalar.remsi v32 c2_i32_15
  let c0_i32_20 : BitVec 32 := 0#32
  let v46 : BitVec 1 := Scalar.cmpi .ne v45 c0_i32_20
  let v47 : BitVec 1 := Scalar.andi v44 v46
  let v33 : BitVec 32 := Scalar.divsi v32 c2_i32_15
  let c1_i32_21 : BitVec 32 := 1#32
  let v48 : BitVec 32 := Scalar.subi v33 c1_i32_21
  let v49 : BitVec 32 := Scalar.select v47 v48 v33
  let c8_i32_96 : BitVec 32 := 8#32
  let v175 : BitVec 32 := Scalar.muli v49 c8_i32_96
  let v176 : BitVec 32 := Scalar.addi c0_i32_97 v175
  let c2_i32_22 : BitVec 32 := 2#32
  let c0_i32_23 : BitVec 32 := 0#32
  let v50 : BitVec 1 := Scalar.cmpi .eq c2_i32_22 c0_i32_23
  let c1_i32_24 : BitVec 32 := 1#32
  let v51 : BitVec 32 := Scalar.select v50 c1_i32_24 c2_i32_22
  let v52 : BitVec 32 := Scalar.remsi v32 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let v60 : BitVec 32 := Scalar.addi v49 v59
  let c2_i32_28 : BitVec 32 := 2#32
  let c0_i32_29 : BitVec 32 := 0#32
  let v61 : BitVec 1 := Scalar.cmpi .eq c2_i32_28 c0_i32_29
  let c1_i32_30 : BitVec 32 := 1#32
  let v62 : BitVec 32 := Scalar.select v61 c1_i32_30 c2_i32_28
  let v63 : BitVec 32 := Scalar.remsi v60 v62
  let c0_i32_32 : BitVec 32 := 0#32
  let v65 : BitVec 1 := Scalar.cmpi .slt v63 c0_i32_32
  let c0_i32_33 : BitVec 32 := 0#32
  let v66 : BitVec 1 := Scalar.cmpi .slt v62 c0_i32_33
  let v67 : BitVec 1 := Scalar.xori v65 v66
  let c0_i32_31 : BitVec 32 := 0#32
  let v64 : BitVec 1 := Scalar.cmpi .ne v63 c0_i32_31
  let v68 : BitVec 1 := Scalar.andi v67 v64
  let v69 : BitVec 32 := Scalar.addi v63 v62
  let v70 : BitVec 32 := Scalar.select v68 v69 v63
  let c4_i32_98 : BitVec 32 := 4#32
  let v177 : BitVec 32 := Scalar.muli v70 c4_i32_98
  let v178 : BitVec 32 := Scalar.addi v176 v177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v179 : BitVec 32 := Scalar.muli v8 c1_i32_99
  let v180 : BitVec 32 := Scalar.addi v178 v179
  v180.toNat
def k0_dev5 (d0 : Dev nD) : Nat :=
  let c0_i32_102 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v71 : BitVec 32 := Scalar.addi v21 c3_i32
  let c4_i32_34 : BitVec 32 := 4#32
  let c0_i32_35 : BitVec 32 := 0#32
  let v72 : BitVec 1 := Scalar.cmpi .eq c4_i32_34 c0_i32_35
  let c1_i32_36 : BitVec 32 := 1#32
  let v73 : BitVec 32 := Scalar.select v72 c1_i32_36 c4_i32_34
  let v74 : BitVec 32 := Scalar.remsi v71 v73
  let c0_i32_38 : BitVec 32 := 0#32
  let v76 : BitVec 1 := Scalar.cmpi .slt v74 c0_i32_38
  let c0_i32_39 : BitVec 32 := 0#32
  let v77 : BitVec 1 := Scalar.cmpi .slt v73 c0_i32_39
  let v78 : BitVec 1 := Scalar.xori v76 v77
  let c0_i32_37 : BitVec 32 := 0#32
  let v75 : BitVec 1 := Scalar.cmpi .ne v74 c0_i32_37
  let v79 : BitVec 1 := Scalar.andi v78 v75
  let v80 : BitVec 32 := Scalar.addi v74 v73
  let v81 : BitVec 32 := Scalar.select v79 v80 v74
  let c0_i32_41 : BitVec 32 := 0#32
  let v83 : BitVec 1 := Scalar.cmpi .sgt v81 c0_i32_41
  let v84 : BitVec 32 := Scalar.extui v83
  let c0_i32_42 : BitVec 32 := 0#32
  let v85 : BitVec 1 := Scalar.cmpi .slt v81 c0_i32_42
  let v86 : BitVec 32 := Scalar.extui v85
  let v87 : BitVec 32 := Scalar.subi v84 v86
  let c2_i32_40 : BitVec 32 := 2#32
  let c0_i32_43 : BitVec 32 := 0#32
  let v88 : BitVec 1 := Scalar.cmpi .sgt c2_i32_40 c0_i32_43
  let v89 : BitVec 32 := Scalar.extui v88
  let c0_i32_44 : BitVec 32 := 0#32
  let v90 : BitVec 1 := Scalar.cmpi .slt c2_i32_40 c0_i32_44
  let v91 : BitVec 32 := Scalar.extui v90
  let v92 : BitVec 32 := Scalar.subi v89 v91
  let v93 : BitVec 1 := Scalar.cmpi .ne v87 v92
  let v94 : BitVec 32 := Scalar.remsi v81 c2_i32_40
  let c0_i32_45 : BitVec 32 := 0#32
  let v95 : BitVec 1 := Scalar.cmpi .ne v94 c0_i32_45
  let v96 : BitVec 1 := Scalar.andi v93 v95
  let v82 : BitVec 32 := Scalar.divsi v81 c2_i32_40
  let c1_i32_46 : BitVec 32 := 1#32
  let v97 : BitVec 32 := Scalar.subi v82 c1_i32_46
  let v98 : BitVec 32 := Scalar.select v96 v97 v82
  let c8_i32_101 : BitVec 32 := 8#32
  let v181 : BitVec 32 := Scalar.muli v98 c8_i32_101
  let v182 : BitVec 32 := Scalar.addi c0_i32_102 v181
  let c2_i32_47 : BitVec 32 := 2#32
  let c0_i32_48 : BitVec 32 := 0#32
  let v99 : BitVec 1 := Scalar.cmpi .eq c2_i32_47 c0_i32_48
  let c1_i32_49 : BitVec 32 := 1#32
  let v100 : BitVec 32 := Scalar.select v99 c1_i32_49 c2_i32_47
  let v101 : BitVec 32 := Scalar.remsi v81 v100
  let c0_i32_51 : BitVec 32 := 0#32
  let v103 : BitVec 1 := Scalar.cmpi .slt v101 c0_i32_51
  let c0_i32_52 : BitVec 32 := 0#32
  let v104 : BitVec 1 := Scalar.cmpi .slt v100 c0_i32_52
  let v105 : BitVec 1 := Scalar.xori v103 v104
  let c0_i32_50 : BitVec 32 := 0#32
  let v102 : BitVec 1 := Scalar.cmpi .ne v101 c0_i32_50
  let v106 : BitVec 1 := Scalar.andi v105 v102
  let v107 : BitVec 32 := Scalar.addi v101 v100
  let v108 : BitVec 32 := Scalar.select v106 v107 v101
  let v109 : BitVec 32 := Scalar.addi v98 v108
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v109 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c4_i32_103 : BitVec 32 := 4#32
  let v183 : BitVec 32 := Scalar.muli v119 c4_i32_103
  let v184 : BitVec 32 := Scalar.addi v182 v183
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_104 : BitVec 32 := 1#32
  let v185 : BitVec 32 := Scalar.muli v8 c1_i32_104
  let v186 : BitVec 32 := Scalar.addi v184 v185
  v186.toNat
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_107 : BitVec 32 := 0#32
  let v190 : BitVec 1 := Scalar.cmpi .eq v8 c0_i32_107
  let v191 : BitVec 32 := Scalar.extui v190
  let c0_i32_114 : BitVec 32 := 0#32
  let v192 : BitVec 1 := Scalar.cmpi .ne v191 c0_i32_114
  v192

def k0_off1 (d0 : Dev nD) : Fin 3 → Nat :=
  let c0_i32_108 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_105 : BitVec 32 := 1024#32
  let v187 : BitVec 32 := Scalar.muli v21 c1024_i32_105
  let c768_i32 : BitVec 32 := 768#32
  let v188 : BitVec 32 := Scalar.addi v187 c768_i32
  let c0_i32_106 : BitVec 32 := 0#32
  let v189 : BitVec 32 := Scalar.addi v188 c0_i32_106
  let c0_i32_2613 : BitVec 32 := 0#32
  ![0, v189.toNat, 0]
def k0_dev6 (d0 : Dev nD) : Nat :=
  let c0_i32_2608 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2607 : BitVec 32 := 8#32
  let v2548 : BitVec 32 := Scalar.muli v2 c8_i32_2607
  let v2549 : BitVec 32 := Scalar.addi c0_i32_2608 v2548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2609 : BitVec 32 := 4#32
  let v2550 : BitVec 32 := Scalar.muli v5 c4_i32_2609
  let v2551 : BitVec 32 := Scalar.addi v2549 v2550
  let c1_i32_2606 : BitVec 32 := 1#32
  let c1_i32_2610 : BitVec 32 := 1#32
  let v2552 : BitVec 32 := Scalar.muli c1_i32_2606 c1_i32_2610
  let v2553 : BitVec 32 := Scalar.addi v2551 v2552
  v2553.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_117 : BitVec 32 := 0#32
  let v196 : BitVec 1 := Scalar.cmpi .eq v8 c0_i32_117
  let v197 : BitVec 32 := Scalar.extui v196
  let c0_i32_124 : BitVec 32 := 0#32
  let v198 : BitVec 1 := Scalar.cmpi .ne v197 c0_i32_124
  v198

def k0_off2 (d0 : Dev nD) : Fin 3 → Nat :=
  let c0_i32_118 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_115 : BitVec 32 := 1024#32
  let v193 : BitVec 32 := Scalar.muli v21 c1024_i32_115
  let c512_i32 : BitVec 32 := 512#32
  let v194 : BitVec 32 := Scalar.addi v193 c512_i32
  let c0_i32_116 : BitVec 32 := 0#32
  let v195 : BitVec 32 := Scalar.addi v194 c0_i32_116
  let c0_i32_2613 : BitVec 32 := 0#32
  ![0, v195.toNat, 0]
def k0_dev7 (d0 : Dev nD) : Nat :=
  let c0_i32_2608 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2607 : BitVec 32 := 8#32
  let v2548 : BitVec 32 := Scalar.muli v2 c8_i32_2607
  let v2549 : BitVec 32 := Scalar.addi c0_i32_2608 v2548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2609 : BitVec 32 := 4#32
  let v2550 : BitVec 32 := Scalar.muli v5 c4_i32_2609
  let v2551 : BitVec 32 := Scalar.addi v2549 v2550
  let c1_i32_2606 : BitVec 32 := 1#32
  let c1_i32_2610 : BitVec 32 := 1#32
  let v2552 : BitVec 32 := Scalar.muli c1_i32_2606 c1_i32_2610
  let v2553 : BitVec 32 := Scalar.addi v2551 v2552
  v2553.toNat
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_128 : BitVec 32 := 0#32
  let v202 : BitVec 1 := Scalar.cmpi .eq v8 c0_i32_128
  let v203 : BitVec 32 := Scalar.extui v202
  let c0_i32_135 : BitVec 32 := 0#32
  let v204 : BitVec 1 := Scalar.cmpi .ne v203 c0_i32_135
  v204

def k0_off3 (d0 : Dev nD) : Fin 3 → Nat :=
  let c0_i32_129 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_125 : BitVec 32 := 1024#32
  let v199 : BitVec 32 := Scalar.muli v21 c1024_i32_125
  let c256_i32_126 : BitVec 32 := 256#32
  let v200 : BitVec 32 := Scalar.addi v199 c256_i32_126
  let c0_i32_127 : BitVec 32 := 0#32
  let v201 : BitVec 32 := Scalar.addi v200 c0_i32_127
  let c0_i32_2613 : BitVec 32 := 0#32
  ![0, v201.toNat, 0]
def k0_dev8 (d0 : Dev nD) : Nat :=
  let c0_i32_2608 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2607 : BitVec 32 := 8#32
  let v2548 : BitVec 32 := Scalar.muli v2 c8_i32_2607
  let v2549 : BitVec 32 := Scalar.addi c0_i32_2608 v2548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2609 : BitVec 32 := 4#32
  let v2550 : BitVec 32 := Scalar.muli v5 c4_i32_2609
  let v2551 : BitVec 32 := Scalar.addi v2549 v2550
  let c1_i32_2606 : BitVec 32 := 1#32
  let c1_i32_2610 : BitVec 32 := 1#32
  let v2552 : BitVec 32 := Scalar.muli c1_i32_2606 c1_i32_2610
  let v2553 : BitVec 32 := Scalar.addi v2551 v2552
  v2553.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_139 : BitVec 32 := 1#32
  let v208 : BitVec 1 := Scalar.cmpi .eq v8 c1_i32_139
  let v209 : BitVec 32 := Scalar.extui v208
  let c0_i32_146 : BitVec 32 := 0#32
  let v210 : BitVec 1 := Scalar.cmpi .ne v209 c0_i32_146
  v210

def k0_off4 (d0 : Dev nD) : Fin 3 → Nat :=
  let c0_i32_140 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_136 : BitVec 32 := 1024#32
  let v205 : BitVec 32 := Scalar.muli v21 c1024_i32_136
  let c0_i32_137 : BitVec 32 := 0#32
  let v206 : BitVec 32 := Scalar.addi v205 c0_i32_137
  let c0_i32_138 : BitVec 32 := 0#32
  let v207 : BitVec 32 := Scalar.addi v206 c0_i32_138
  let c0_i32_2613 : BitVec 32 := 0#32
  ![0, v207.toNat, 0]
def k0_dev9 (d0 : Dev nD) : Nat :=
  let c0_i32_2608 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2607 : BitVec 32 := 8#32
  let v2548 : BitVec 32 := Scalar.muli v2 c8_i32_2607
  let v2549 : BitVec 32 := Scalar.addi c0_i32_2608 v2548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2609 : BitVec 32 := 4#32
  let v2550 : BitVec 32 := Scalar.muli v5 c4_i32_2609
  let v2551 : BitVec 32 := Scalar.addi v2549 v2550
  let c0_i32_2606 : BitVec 32 := 0#32
  let c1_i32_2610 : BitVec 32 := 1#32
  let v2552 : BitVec 32 := Scalar.muli c0_i32_2606 c1_i32_2610
  let v2553 : BitVec 32 := Scalar.addi v2551 v2552
  v2553.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_150 : BitVec 32 := 2#32
  let v214 : BitVec 1 := Scalar.cmpi .eq v8 c2_i32_150
  let v215 : BitVec 32 := Scalar.extui v214
  let c0_i32_157 : BitVec 32 := 0#32
  let v216 : BitVec 1 := Scalar.cmpi .ne v215 c0_i32_157
  v216

def k0_off5 (d0 : Dev nD) : Fin 3 → Nat :=
  let c0_i32_151 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_147 : BitVec 32 := 1024#32
  let v211 : BitVec 32 := Scalar.muli v21 c1024_i32_147
  let c768_i32_148 : BitVec 32 := 768#32
  let v212 : BitVec 32 := Scalar.addi v211 c768_i32_148
  let c0_i32_149 : BitVec 32 := 0#32
  let v213 : BitVec 32 := Scalar.addi v212 c0_i32_149
  let c0_i32_2613 : BitVec 32 := 0#32
  ![0, v213.toNat, 0]
def k0_dev10 (d0 : Dev nD) : Nat :=
  let c0_i32_2608 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2607 : BitVec 32 := 8#32
  let v2548 : BitVec 32 := Scalar.muli v2 c8_i32_2607
  let v2549 : BitVec 32 := Scalar.addi c0_i32_2608 v2548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2609 : BitVec 32 := 4#32
  let v2550 : BitVec 32 := Scalar.muli v5 c4_i32_2609
  let v2551 : BitVec 32 := Scalar.addi v2549 v2550
  let c3_i32_2606 : BitVec 32 := 3#32
  let c1_i32_2610 : BitVec 32 := 1#32
  let v2552 : BitVec 32 := Scalar.muli c3_i32_2606 c1_i32_2610
  let v2553 : BitVec 32 := Scalar.addi v2551 v2552
  v2553.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_161 : BitVec 32 := 3#32
  let v220 : BitVec 1 := Scalar.cmpi .eq v8 c3_i32_161
  let v221 : BitVec 32 := Scalar.extui v220
  let c0_i32_168 : BitVec 32 := 0#32
  let v222 : BitVec 1 := Scalar.cmpi .ne v221 c0_i32_168
  v222

def k0_off6 (d0 : Dev nD) : Fin 3 → Nat :=
  let c0_i32_162 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_158 : BitVec 32 := 1024#32
  let v217 : BitVec 32 := Scalar.muli v21 c1024_i32_158
  let c0_i32_159 : BitVec 32 := 0#32
  let v218 : BitVec 32 := Scalar.addi v217 c0_i32_159
  let c0_i32_160 : BitVec 32 := 0#32
  let v219 : BitVec 32 := Scalar.addi v218 c0_i32_160
  let c0_i32_2613 : BitVec 32 := 0#32
  ![0, v219.toNat, 0]
def k0_dev11 (d0 : Dev nD) : Nat :=
  let c0_i32_2608 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2607 : BitVec 32 := 8#32
  let v2548 : BitVec 32 := Scalar.muli v2 c8_i32_2607
  let v2549 : BitVec 32 := Scalar.addi c0_i32_2608 v2548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2609 : BitVec 32 := 4#32
  let v2550 : BitVec 32 := Scalar.muli v5 c4_i32_2609
  let v2551 : BitVec 32 := Scalar.addi v2549 v2550
  let c2_i32_2606 : BitVec 32 := 2#32
  let c1_i32_2610 : BitVec 32 := 1#32
  let v2552 : BitVec 32 := Scalar.muli c2_i32_2606 c1_i32_2610
  let v2553 : BitVec 32 := Scalar.addi v2551 v2552
  v2553.toNat
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_172 : BitVec 32 := 3#32
  let v226 : BitVec 1 := Scalar.cmpi .eq v8 c3_i32_172
  let v227 : BitVec 32 := Scalar.extui v226
  let c0_i32_179 : BitVec 32 := 0#32
  let v228 : BitVec 1 := Scalar.cmpi .ne v227 c0_i32_179
  v228

def k0_off7 (d0 : Dev nD) : Fin 3 → Nat :=
  let c0_i32_173 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_169 : BitVec 32 := 1024#32
  let v223 : BitVec 32 := Scalar.muli v21 c1024_i32_169
  let c256_i32_170 : BitVec 32 := 256#32
  let v224 : BitVec 32 := Scalar.addi v223 c256_i32_170
  let c0_i32_171 : BitVec 32 := 0#32
  let v225 : BitVec 32 := Scalar.addi v224 c0_i32_171
  let c0_i32_2613 : BitVec 32 := 0#32
  ![0, v225.toNat, 0]
def k0_dev12 (d0 : Dev nD) : Nat :=
  let c0_i32_2608 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2607 : BitVec 32 := 8#32
  let v2548 : BitVec 32 := Scalar.muli v2 c8_i32_2607
  let v2549 : BitVec 32 := Scalar.addi c0_i32_2608 v2548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2609 : BitVec 32 := 4#32
  let v2550 : BitVec 32 := Scalar.muli v5 c4_i32_2609
  let v2551 : BitVec 32 := Scalar.addi v2549 v2550
  let c2_i32_2606 : BitVec 32 := 2#32
  let c1_i32_2610 : BitVec 32 := 1#32
  let v2552 : BitVec 32 := Scalar.muli c2_i32_2606 c1_i32_2610
  let v2553 : BitVec 32 := Scalar.addi v2551 v2552
  v2553.toNat
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_183 : BitVec 32 := 3#32
  let v232 : BitVec 1 := Scalar.cmpi .eq v8 c3_i32_183
  let v233 : BitVec 32 := Scalar.extui v232
  let c0_i32_190 : BitVec 32 := 0#32
  let v234 : BitVec 1 := Scalar.cmpi .ne v233 c0_i32_190
  v234

def k0_off8 (d0 : Dev nD) : Fin 3 → Nat :=
  let c0_i32_184 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_180 : BitVec 32 := 1024#32
  let v229 : BitVec 32 := Scalar.muli v21 c1024_i32_180
  let c512_i32_181 : BitVec 32 := 512#32
  let v230 : BitVec 32 := Scalar.addi v229 c512_i32_181
  let c0_i32_182 : BitVec 32 := 0#32
  let v231 : BitVec 32 := Scalar.addi v230 c0_i32_182
  let c0_i32_2613 : BitVec 32 := 0#32
  ![0, v231.toNat, 0]
def k0_dev13 (d0 : Dev nD) : Nat :=
  let c0_i32_2608 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2607 : BitVec 32 := 8#32
  let v2548 : BitVec 32 := Scalar.muli v2 c8_i32_2607
  let v2549 : BitVec 32 := Scalar.addi c0_i32_2608 v2548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2609 : BitVec 32 := 4#32
  let v2550 : BitVec 32 := Scalar.muli v5 c4_i32_2609
  let v2551 : BitVec 32 := Scalar.addi v2549 v2550
  let c2_i32_2606 : BitVec 32 := 2#32
  let c1_i32_2610 : BitVec 32 := 1#32
  let v2552 : BitVec 32 := Scalar.muli c2_i32_2606 c1_i32_2610
  let v2553 : BitVec 32 := Scalar.addi v2551 v2552
  v2553.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_193 : BitVec 32 := 0#32
  let v238 : BitVec 1 := Scalar.cmpi .eq v8 c0_i32_193
  let v239 : BitVec 32 := Scalar.extui v238
  let c0_i32_200 : BitVec 32 := 0#32
  let v240 : BitVec 1 := Scalar.cmpi .ne v239 c0_i32_200
  v240

def k0_off9 (d0 : Dev nD) : Fin 3 → Nat :=
  let c0_i32_194 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_191 : BitVec 32 := 1024#32
  let v235 : BitVec 32 := Scalar.muli v21 c1024_i32_191
  let c768_i32_192 : BitVec 32 := 768#32
  let v236 : BitVec 32 := Scalar.addi v235 c768_i32_192
  let c128_i32 : BitVec 32 := 128#32
  let v237 : BitVec 32 := Scalar.addi v236 c128_i32
  let c0_i32_2613 : BitVec 32 := 0#32
  ![0, v237.toNat, 0]
def k0_dev14 (d0 : Dev nD) : Nat :=
  let c0_i32_2608 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2607 : BitVec 32 := 8#32
  let v2548 : BitVec 32 := Scalar.muli v2 c8_i32_2607
  let v2549 : BitVec 32 := Scalar.addi c0_i32_2608 v2548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2609 : BitVec 32 := 4#32
  let v2550 : BitVec 32 := Scalar.muli v5 c4_i32_2609
  let v2551 : BitVec 32 := Scalar.addi v2549 v2550
  let c1_i32_2606 : BitVec 32 := 1#32
  let c1_i32_2610 : BitVec 32 := 1#32
  let v2552 : BitVec 32 := Scalar.muli c1_i32_2606 c1_i32_2610
  let v2553 : BitVec 32 := Scalar.addi v2551 v2552
  v2553.toNat
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_204 : BitVec 32 := 0#32
  let v244 : BitVec 1 := Scalar.cmpi .eq v8 c0_i32_204
  let v245 : BitVec 32 := Scalar.extui v244
  let c0_i32_211 : BitVec 32 := 0#32
  let v246 : BitVec 1 := Scalar.cmpi .ne v245 c0_i32_211
  v246

def k0_off10 (d0 : Dev nD) : Fin 3 → Nat :=
  let c0_i32_205 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_201 : BitVec 32 := 1024#32
  let v241 : BitVec 32 := Scalar.muli v21 c1024_i32_201
  let c512_i32_202 : BitVec 32 := 512#32
  let v242 : BitVec 32 := Scalar.addi v241 c512_i32_202
  let c128_i32_203 : BitVec 32 := 128#32
  let v243 : BitVec 32 := Scalar.addi v242 c128_i32_203
  let c0_i32_2613 : BitVec 32 := 0#32
  ![0, v243.toNat, 0]
def k0_dev15 (d0 : Dev nD) : Nat :=
  let c0_i32_2608 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2607 : BitVec 32 := 8#32
  let v2548 : BitVec 32 := Scalar.muli v2 c8_i32_2607
  let v2549 : BitVec 32 := Scalar.addi c0_i32_2608 v2548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2609 : BitVec 32 := 4#32
  let v2550 : BitVec 32 := Scalar.muli v5 c4_i32_2609
  let v2551 : BitVec 32 := Scalar.addi v2549 v2550
  let c1_i32_2606 : BitVec 32 := 1#32
  let c1_i32_2610 : BitVec 32 := 1#32
  let v2552 : BitVec 32 := Scalar.muli c1_i32_2606 c1_i32_2610
  let v2553 : BitVec 32 := Scalar.addi v2551 v2552
  v2553.toNat
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_215 : BitVec 32 := 0#32
  let v250 : BitVec 1 := Scalar.cmpi .eq v8 c0_i32_215
  let v251 : BitVec 32 := Scalar.extui v250
  let c0_i32_222 : BitVec 32 := 0#32
  let v252 : BitVec 1 := Scalar.cmpi .ne v251 c0_i32_222
  v252

def k0_off11 (d0 : Dev nD) : Fin 3 → Nat :=
  let c0_i32_216 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_212 : BitVec 32 := 1024#32
  let v247 : BitVec 32 := Scalar.muli v21 c1024_i32_212
  let c256_i32_213 : BitVec 32 := 256#32
  let v248 : BitVec 32 := Scalar.addi v247 c256_i32_213
  let c128_i32_214 : BitVec 32 := 128#32
  let v249 : BitVec 32 := Scalar.addi v248 c128_i32_214
  let c0_i32_2613 : BitVec 32 := 0#32
  ![0, v249.toNat, 0]
def k0_dev16 (d0 : Dev nD) : Nat :=
  let c0_i32_2608 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2607 : BitVec 32 := 8#32
  let v2548 : BitVec 32 := Scalar.muli v2 c8_i32_2607
  let v2549 : BitVec 32 := Scalar.addi c0_i32_2608 v2548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2609 : BitVec 32 := 4#32
  let v2550 : BitVec 32 := Scalar.muli v5 c4_i32_2609
  let v2551 : BitVec 32 := Scalar.addi v2549 v2550
  let c1_i32_2606 : BitVec 32 := 1#32
  let c1_i32_2610 : BitVec 32 := 1#32
  let v2552 : BitVec 32 := Scalar.muli c1_i32_2606 c1_i32_2610
  let v2553 : BitVec 32 := Scalar.addi v2551 v2552
  v2553.toNat
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_226 : BitVec 32 := 1#32
  let v256 : BitVec 1 := Scalar.cmpi .eq v8 c1_i32_226
  let v257 : BitVec 32 := Scalar.extui v256
  let c0_i32_233 : BitVec 32 := 0#32
  let v258 : BitVec 1 := Scalar.cmpi .ne v257 c0_i32_233
  v258

def k0_off12 (d0 : Dev nD) : Fin 3 → Nat :=
  let c0_i32_227 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_223 : BitVec 32 := 1024#32
  let v253 : BitVec 32 := Scalar.muli v21 c1024_i32_223
  let c0_i32_224 : BitVec 32 := 0#32
  let v254 : BitVec 32 := Scalar.addi v253 c0_i32_224
  let c128_i32_225 : BitVec 32 := 128#32
  let v255 : BitVec 32 := Scalar.addi v254 c128_i32_225
  let c0_i32_2613 : BitVec 32 := 0#32
  ![0, v255.toNat, 0]
def k0_dev17 (d0 : Dev nD) : Nat :=
  let c0_i32_2608 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2607 : BitVec 32 := 8#32
  let v2548 : BitVec 32 := Scalar.muli v2 c8_i32_2607
  let v2549 : BitVec 32 := Scalar.addi c0_i32_2608 v2548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2609 : BitVec 32 := 4#32
  let v2550 : BitVec 32 := Scalar.muli v5 c4_i32_2609
  let v2551 : BitVec 32 := Scalar.addi v2549 v2550
  let c0_i32_2606 : BitVec 32 := 0#32
  let c1_i32_2610 : BitVec 32 := 1#32
  let v2552 : BitVec 32 := Scalar.muli c0_i32_2606 c1_i32_2610
  let v2553 : BitVec 32 := Scalar.addi v2551 v2552
  v2553.toNat
def k0_cond13 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_237 : BitVec 32 := 2#32
  let v262 : BitVec 1 := Scalar.cmpi .eq v8 c2_i32_237
  let v263 : BitVec 32 := Scalar.extui v262
  let c0_i32_244 : BitVec 32 := 0#32
  let v264 : BitVec 1 := Scalar.cmpi .ne v263 c0_i32_244
  v264

def k0_off13 (d0 : Dev nD) : Fin 3 → Nat :=
  let c0_i32_238 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_234 : BitVec 32 := 1024#32
  let v259 : BitVec 32 := Scalar.muli v21 c1024_i32_234
  let c768_i32_235 : BitVec 32 := 768#32
  let v260 : BitVec 32 := Scalar.addi v259 c768_i32_235
  let c128_i32_236 : BitVec 32 := 128#32
  let v261 : BitVec 32 := Scalar.addi v260 c128_i32_236
  let c0_i32_2613 : BitVec 32 := 0#32
  ![0, v261.toNat, 0]
def k0_dev18 (d0 : Dev nD) : Nat :=
  let c0_i32_2608 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2607 : BitVec 32 := 8#32
  let v2548 : BitVec 32 := Scalar.muli v2 c8_i32_2607
  let v2549 : BitVec 32 := Scalar.addi c0_i32_2608 v2548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2609 : BitVec 32 := 4#32
  let v2550 : BitVec 32 := Scalar.muli v5 c4_i32_2609
  let v2551 : BitVec 32 := Scalar.addi v2549 v2550
  let c3_i32_2606 : BitVec 32 := 3#32
  let c1_i32_2610 : BitVec 32 := 1#32
  let v2552 : BitVec 32 := Scalar.muli c3_i32_2606 c1_i32_2610
  let v2553 : BitVec 32 := Scalar.addi v2551 v2552
  v2553.toNat
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_248 : BitVec 32 := 3#32
  let v268 : BitVec 1 := Scalar.cmpi .eq v8 c3_i32_248
  let v269 : BitVec 32 := Scalar.extui v268
  let c0_i32_255 : BitVec 32 := 0#32
  let v270 : BitVec 1 := Scalar.cmpi .ne v269 c0_i32_255
  v270

def k0_off14 (d0 : Dev nD) : Fin 3 → Nat :=
  let c0_i32_249 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_245 : BitVec 32 := 1024#32
  let v265 : BitVec 32 := Scalar.muli v21 c1024_i32_245
  let c0_i32_246 : BitVec 32 := 0#32
  let v266 : BitVec 32 := Scalar.addi v265 c0_i32_246
  let c128_i32_247 : BitVec 32 := 128#32
  let v267 : BitVec 32 := Scalar.addi v266 c128_i32_247
  let c0_i32_2613 : BitVec 32 := 0#32
  ![0, v267.toNat, 0]
def k0_dev19 (d0 : Dev nD) : Nat :=
  let c0_i32_2608 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2607 : BitVec 32 := 8#32
  let v2548 : BitVec 32 := Scalar.muli v2 c8_i32_2607
  let v2549 : BitVec 32 := Scalar.addi c0_i32_2608 v2548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2609 : BitVec 32 := 4#32
  let v2550 : BitVec 32 := Scalar.muli v5 c4_i32_2609
  let v2551 : BitVec 32 := Scalar.addi v2549 v2550
  let c2_i32_2606 : BitVec 32 := 2#32
  let c1_i32_2610 : BitVec 32 := 1#32
  let v2552 : BitVec 32 := Scalar.muli c2_i32_2606 c1_i32_2610
  let v2553 : BitVec 32 := Scalar.addi v2551 v2552
  v2553.toNat
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_259 : BitVec 32 := 3#32
  let v274 : BitVec 1 := Scalar.cmpi .eq v8 c3_i32_259
  let v275 : BitVec 32 := Scalar.extui v274
  let c0_i32_266 : BitVec 32 := 0#32
  let v276 : BitVec 1 := Scalar.cmpi .ne v275 c0_i32_266
  v276

def k0_off15 (d0 : Dev nD) : Fin 3 → Nat :=
  let c0_i32_260 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_256 : BitVec 32 := 1024#32
  let v271 : BitVec 32 := Scalar.muli v21 c1024_i32_256
  let c256_i32_257 : BitVec 32 := 256#32
  let v272 : BitVec 32 := Scalar.addi v271 c256_i32_257
  let c128_i32_258 : BitVec 32 := 128#32
  let v273 : BitVec 32 := Scalar.addi v272 c128_i32_258
  let c0_i32_2613 : BitVec 32 := 0#32
  ![0, v273.toNat, 0]
def k0_dev20 (d0 : Dev nD) : Nat :=
  let c0_i32_2608 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2607 : BitVec 32 := 8#32
  let v2548 : BitVec 32 := Scalar.muli v2 c8_i32_2607
  let v2549 : BitVec 32 := Scalar.addi c0_i32_2608 v2548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2609 : BitVec 32 := 4#32
  let v2550 : BitVec 32 := Scalar.muli v5 c4_i32_2609
  let v2551 : BitVec 32 := Scalar.addi v2549 v2550
  let c2_i32_2606 : BitVec 32 := 2#32
  let c1_i32_2610 : BitVec 32 := 1#32
  let v2552 : BitVec 32 := Scalar.muli c2_i32_2606 c1_i32_2610
  let v2553 : BitVec 32 := Scalar.addi v2551 v2552
  v2553.toNat
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_270 : BitVec 32 := 3#32
  let v280 : BitVec 1 := Scalar.cmpi .eq v8 c3_i32_270
  let v281 : BitVec 32 := Scalar.extui v280
  let c0_i32_277 : BitVec 32 := 0#32
  let v282 : BitVec 1 := Scalar.cmpi .ne v281 c0_i32_277
  v282

def k0_off16 (d0 : Dev nD) : Fin 3 → Nat :=
  let c0_i32_271 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_267 : BitVec 32 := 1024#32
  let v277 : BitVec 32 := Scalar.muli v21 c1024_i32_267
  let c512_i32_268 : BitVec 32 := 512#32
  let v278 : BitVec 32 := Scalar.addi v277 c512_i32_268
  let c128_i32_269 : BitVec 32 := 128#32
  let v279 : BitVec 32 := Scalar.addi v278 c128_i32_269
  let c0_i32_2613 : BitVec 32 := 0#32
  ![0, v279.toNat, 0]
def k0_dev21 (d0 : Dev nD) : Nat :=
  let c0_i32_2608 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2607 : BitVec 32 := 8#32
  let v2548 : BitVec 32 := Scalar.muli v2 c8_i32_2607
  let v2549 : BitVec 32 := Scalar.addi c0_i32_2608 v2548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2609 : BitVec 32 := 4#32
  let v2550 : BitVec 32 := Scalar.muli v5 c4_i32_2609
  let v2551 : BitVec 32 := Scalar.addi v2549 v2550
  let c2_i32_2606 : BitVec 32 := 2#32
  let c1_i32_2610 : BitVec 32 := 1#32
  let v2552 : BitVec 32 := Scalar.muli c2_i32_2606 c1_i32_2610
  let v2553 : BitVec 32 := Scalar.addi v2551 v2552
  v2553.toNat
def k0_cond17 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_278 : BitVec 32 := 1#32
  let v283 : BitVec 1 := Scalar.cmpi .eq v8 c1_i32_278
  let v284 : BitVec 32 := Scalar.extui v283
  let c0_i32_285 : BitVec 32 := 0#32
  let v285 : BitVec 1 := Scalar.cmpi .ne v284 c0_i32_285
  v285

def k0_off17 (d0 : Dev nD) (c0_i32_2607 : BitVec 32) : Fin 3 → Nat :=
  let c0_i32_2609 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_2606 : BitVec 32 := 1024#32
  let v2548 : BitVec 32 := Scalar.muli v21 c1024_i32_2606
  let v2549 : BitVec 32 := Scalar.addi v2548 c0_i32_2607
  let c0_i32_2608 : BitVec 32 := 0#32
  let v2550 : BitVec 32 := Scalar.addi v2549 c0_i32_2608
  let c0_i32_2621 : BitVec 32 := 0#32
  ![0, v2550.toNat, 0]
def k0_dev22 (d0 : Dev nD) : Nat :=
  let c0_i32_2655 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2654 : BitVec 32 := 8#32
  let v2596 : BitVec 32 := Scalar.muli v2 c8_i32_2654
  let v2597 : BitVec 32 := Scalar.addi c0_i32_2655 v2596
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2656 : BitVec 32 := 4#32
  let v2598 : BitVec 32 := Scalar.muli v5 c4_i32_2656
  let v2599 : BitVec 32 := Scalar.addi v2597 v2598
  let c3_i32_2653 : BitVec 32 := 3#32
  let c1_i32_2657 : BitVec 32 := 1#32
  let v2600 : BitVec 32 := Scalar.muli c3_i32_2653 c1_i32_2657
  let v2601 : BitVec 32 := Scalar.addi v2599 v2600
  v2601.toNat
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_286 : BitVec 32 := 1#32
  let v286 : BitVec 1 := Scalar.cmpi .eq v8 c1_i32_286
  let v287 : BitVec 32 := Scalar.extui v286
  let c0_i32_293 : BitVec 32 := 0#32
  let v288 : BitVec 1 := Scalar.cmpi .ne v287 c0_i32_293
  v288

def k0_off18 (d0 : Dev nD) (c0_i32_2607 : BitVec 32) : Fin 3 → Nat :=
  let c0_i32_2609 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_2606 : BitVec 32 := 1024#32
  let v2548 : BitVec 32 := Scalar.muli v21 c1024_i32_2606
  let v2549 : BitVec 32 := Scalar.addi v2548 c0_i32_2607
  let c0_i32_2608 : BitVec 32 := 0#32
  let v2550 : BitVec 32 := Scalar.addi v2549 c0_i32_2608
  let c0_i32_2621 : BitVec 32 := 0#32
  ![0, v2550.toNat, 0]
def k0_dev23 (d0 : Dev nD) : Nat :=
  let c0_i32_2655 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2654 : BitVec 32 := 8#32
  let v2596 : BitVec 32 := Scalar.muli v2 c8_i32_2654
  let v2597 : BitVec 32 := Scalar.addi c0_i32_2655 v2596
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2656 : BitVec 32 := 4#32
  let v2598 : BitVec 32 := Scalar.muli v5 c4_i32_2656
  let v2599 : BitVec 32 := Scalar.addi v2597 v2598
  let c2_i32_2653 : BitVec 32 := 2#32
  let c1_i32_2657 : BitVec 32 := 1#32
  let v2600 : BitVec 32 := Scalar.muli c2_i32_2653 c1_i32_2657
  let v2601 : BitVec 32 := Scalar.addi v2599 v2600
  v2601.toNat
def k0_cond19 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_294 : BitVec 32 := 2#32
  let v289 : BitVec 1 := Scalar.cmpi .eq v8 c2_i32_294
  let v290 : BitVec 32 := Scalar.extui v289
  let c0_i32_301 : BitVec 32 := 0#32
  let v291 : BitVec 1 := Scalar.cmpi .ne v290 c0_i32_301
  v291

def k0_off19 (d0 : Dev nD) : Fin 3 → Nat :=
  let c0_i32_2609 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_2606 : BitVec 32 := 1024#32
  let v2548 : BitVec 32 := Scalar.muli v21 c1024_i32_2606
  let c0_i32_2607 : BitVec 32 := 0#32
  let v2549 : BitVec 32 := Scalar.addi v2548 c0_i32_2607
  let c0_i32_2608 : BitVec 32 := 0#32
  let v2550 : BitVec 32 := Scalar.addi v2549 c0_i32_2608
  let c0_i32_2621 : BitVec 32 := 0#32
  ![0, v2550.toNat, 0]
def k0_dev24 (d0 : Dev nD) : Nat :=
  let c0_i32_2655 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2654 : BitVec 32 := 8#32
  let v2596 : BitVec 32 := Scalar.muli v2 c8_i32_2654
  let v2597 : BitVec 32 := Scalar.addi c0_i32_2655 v2596
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2656 : BitVec 32 := 4#32
  let v2598 : BitVec 32 := Scalar.muli v5 c4_i32_2656
  let v2599 : BitVec 32 := Scalar.addi v2597 v2598
  let c0_i32_2653 : BitVec 32 := 0#32
  let c1_i32_2657 : BitVec 32 := 1#32
  let v2600 : BitVec 32 := Scalar.muli c0_i32_2653 c1_i32_2657
  let v2601 : BitVec 32 := Scalar.addi v2599 v2600
  v2601.toNat
def k0_cond20 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_302 : BitVec 32 := 2#32
  let v292 : BitVec 1 := Scalar.cmpi .eq v8 c2_i32_302
  let v293 : BitVec 32 := Scalar.extui v292
  let c0_i32_309 : BitVec 32 := 0#32
  let v294 : BitVec 1 := Scalar.cmpi .ne v293 c0_i32_309
  v294

def k0_off20 (d0 : Dev nD) (c0_i32_2607 : BitVec 32) : Fin 3 → Nat :=
  let c0_i32_2609 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_2606 : BitVec 32 := 1024#32
  let v2548 : BitVec 32 := Scalar.muli v21 c1024_i32_2606
  let v2549 : BitVec 32 := Scalar.addi v2548 c0_i32_2607
  let c0_i32_2608 : BitVec 32 := 0#32
  let v2550 : BitVec 32 := Scalar.addi v2549 c0_i32_2608
  let c0_i32_2621 : BitVec 32 := 0#32
  ![0, v2550.toNat, 0]
def k0_dev25 (d0 : Dev nD) : Nat :=
  let c0_i32_2655 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2654 : BitVec 32 := 8#32
  let v2596 : BitVec 32 := Scalar.muli v2 c8_i32_2654
  let v2597 : BitVec 32 := Scalar.addi c0_i32_2655 v2596
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2656 : BitVec 32 := 4#32
  let v2598 : BitVec 32 := Scalar.muli v5 c4_i32_2656
  let v2599 : BitVec 32 := Scalar.addi v2597 v2598
  let c1_i32_2653 : BitVec 32 := 1#32
  let c1_i32_2657 : BitVec 32 := 1#32
  let v2600 : BitVec 32 := Scalar.muli c1_i32_2653 c1_i32_2657
  let v2601 : BitVec 32 := Scalar.addi v2599 v2600
  v2601.toNat
def k0_off21 (d0 : Dev nD) (c0_i32_310 : BitVec 32) : Fin 3 → Nat :=
  let c0_i32_311 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32 : BitVec 32 := 1024#32
  let v120 : BitVec 32 := Scalar.muli v21 c1024_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32 : BitVec 32 := 256#32
  let v121 : BitVec 32 := Scalar.muli v8 c256_i32
  let v122 : BitVec 32 := Scalar.addi v120 v121
  let v295 : BitVec 32 := Scalar.addi v122 c0_i32_310
  let c0_i32_313 : BitVec 32 := 0#32
  ![0, v295.toNat, 0]
def k0_off22 (d0 : Dev nD) (c0_i32_310 : BitVec 32) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32 : BitVec 32 := 1024#32
  let v120 : BitVec 32 := Scalar.muli v21 c1024_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32 : BitVec 32 := 256#32
  let v121 : BitVec 32 := Scalar.muli v8 c256_i32
  let v122 : BitVec 32 := Scalar.addi v120 v121
  let v295 : BitVec 32 := Scalar.addi v122 c0_i32_310
  let c0_i32_315 : BitVec 32 := 0#32
  ![v295.toNat, 0]
def k0_off23 (d0 : Dev nD) (c0_i32_328 : BitVec 32) : Fin 3 → Nat :=
  let c0_i32_329 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_326 : BitVec 32 := 1024#32
  let v316 : BitVec 32 := Scalar.muli v21 c1024_i32_326
  let c0_i32_327 : BitVec 32 := 0#32
  let v317 : BitVec 32 := Scalar.addi v316 c0_i32_327
  let v318 : BitVec 32 := Scalar.addi v317 c0_i32_328
  let c0_i32_341 : BitVec 32 := 0#32
  ![0, v318.toNat, 0]
def k0_cond21 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_397 : BitVec 32 := 3#32
  let v399 : BitVec 1 := Scalar.cmpi .slt v8 c3_i32_397
  let v419 : BitVec 32 := Scalar.extui v399
  let c0_i32_413 : BitVec 32 := 0#32
  let v420 : BitVec 1 := Scalar.cmpi .ne v419 c0_i32_413
  v420

def k0_off24 (d0 : Dev nD) : Fin 2 → Nat :=
  let c0_i32_412 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![0, v8.toNat]
def k0_off25 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_401 : BitVec 32 := 1024#32
  let v404 : BitVec 32 := Scalar.muli v21 c1024_i32_401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_402 : BitVec 32 := 256#32
  let v405 : BitVec 32 := Scalar.muli v8 c256_i32_402
  let v406 : BitVec 32 := Scalar.addi v404 v405
  let c0_i32_403 : BitVec 32 := 0#32
  let v407 : BitVec 32 := Scalar.addi v406 c0_i32_403
  let c0_i32_2610 : BitVec 32 := 0#32
  ![v407.toNat, 0]
def k0_dev26 (d0 : Dev nD) : Nat :=
  let c0_i32_2607 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2606 : BitVec 32 := 8#32
  let v2548 : BitVec 32 := Scalar.muli v2 c8_i32_2606
  let v2549 : BitVec 32 := Scalar.addi c0_i32_2607 v2548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2608 : BitVec 32 := 4#32
  let v2550 : BitVec 32 := Scalar.muli v5 c4_i32_2608
  let v2551 : BitVec 32 := Scalar.addi v2549 v2550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_404 : BitVec 32 := 1#32
  let v408 : BitVec 32 := Scalar.addi v8 c1_i32_404
  let c4_i32_405 : BitVec 32 := 4#32
  let c0_i32_406 : BitVec 32 := 0#32
  let v409 : BitVec 1 := Scalar.cmpi .eq c4_i32_405 c0_i32_406
  let c1_i32_407 : BitVec 32 := 1#32
  let v410 : BitVec 32 := Scalar.select v409 c1_i32_407 c4_i32_405
  let v411 : BitVec 32 := Scalar.remsi v408 v410
  let c0_i32_409 : BitVec 32 := 0#32
  let v413 : BitVec 1 := Scalar.cmpi .slt v411 c0_i32_409
  let c0_i32_410 : BitVec 32 := 0#32
  let v414 : BitVec 1 := Scalar.cmpi .slt v410 c0_i32_410
  let v415 : BitVec 1 := Scalar.xori v413 v414
  let c0_i32_408 : BitVec 32 := 0#32
  let v412 : BitVec 1 := Scalar.cmpi .ne v411 c0_i32_408
  let v416 : BitVec 1 := Scalar.andi v415 v412
  let v417 : BitVec 32 := Scalar.addi v411 v410
  let v418 : BitVec 32 := Scalar.select v416 v417 v411
  let c1_i32_2609 : BitVec 32 := 1#32
  let v2552 : BitVec 32 := Scalar.muli v418 c1_i32_2609
  let v2553 : BitVec 32 := Scalar.addi v2551 v2552
  v2553.toNat
def k0_cond22 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_414 : BitVec 32 := 0#32
  let v421 : BitVec 1 := Scalar.cmpi .sgt v8 c0_i32_414
  let v441 : BitVec 32 := Scalar.extui v421
  let c0_i32_430 : BitVec 32 := 0#32
  let v442 : BitVec 1 := Scalar.cmpi .ne v441 c0_i32_430
  v442

def k0_off26 (d0 : Dev nD) : Fin 2 → Nat :=
  let c0_i32_429 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![0, v8.toNat]
def k0_off27 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_418 : BitVec 32 := 1024#32
  let v426 : BitVec 32 := Scalar.muli v21 c1024_i32_418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_419 : BitVec 32 := 256#32
  let v427 : BitVec 32 := Scalar.muli v8 c256_i32_419
  let v428 : BitVec 32 := Scalar.addi v426 v427
  let c0_i32_420 : BitVec 32 := 0#32
  let v429 : BitVec 32 := Scalar.addi v428 c0_i32_420
  let c0_i32_2610 : BitVec 32 := 0#32
  ![v429.toNat, 0]
def k0_dev27 (d0 : Dev nD) : Nat :=
  let c0_i32_2607 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2606 : BitVec 32 := 8#32
  let v2548 : BitVec 32 := Scalar.muli v2 c8_i32_2606
  let v2549 : BitVec 32 := Scalar.addi c0_i32_2607 v2548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2608 : BitVec 32 := 4#32
  let v2550 : BitVec 32 := Scalar.muli v5 c4_i32_2608
  let v2551 : BitVec 32 := Scalar.addi v2549 v2550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_421 : BitVec 32 := 3#32
  let v430 : BitVec 32 := Scalar.addi v8 c3_i32_421
  let c4_i32_422 : BitVec 32 := 4#32
  let c0_i32_423 : BitVec 32 := 0#32
  let v431 : BitVec 1 := Scalar.cmpi .eq c4_i32_422 c0_i32_423
  let c1_i32_424 : BitVec 32 := 1#32
  let v432 : BitVec 32 := Scalar.select v431 c1_i32_424 c4_i32_422
  let v433 : BitVec 32 := Scalar.remsi v430 v432
  let c0_i32_426 : BitVec 32 := 0#32
  let v435 : BitVec 1 := Scalar.cmpi .slt v433 c0_i32_426
  let c0_i32_427 : BitVec 32 := 0#32
  let v436 : BitVec 1 := Scalar.cmpi .slt v432 c0_i32_427
  let v437 : BitVec 1 := Scalar.xori v435 v436
  let c0_i32_425 : BitVec 32 := 0#32
  let v434 : BitVec 1 := Scalar.cmpi .ne v433 c0_i32_425
  let v438 : BitVec 1 := Scalar.andi v437 v434
  let v439 : BitVec 32 := Scalar.addi v433 v432
  let v440 : BitVec 32 := Scalar.select v438 v439 v433
  let c1_i32_2609 : BitVec 32 := 1#32
  let v2552 : BitVec 32 := Scalar.muli v440 c1_i32_2609
  let v2553 : BitVec 32 := Scalar.addi v2551 v2552
  v2553.toNat
def k0_cond23 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_431 : BitVec 32 := 1#32
  let v443 : BitVec 1 := Scalar.cmpi .eq v8 c1_i32_431
  let v444 : BitVec 32 := Scalar.extui v443
  let c0_i32_438 : BitVec 32 := 0#32
  let v445 : BitVec 1 := Scalar.cmpi .ne v444 c0_i32_438
  v445

def k0_off28 (d0 : Dev nD) (c0_i32_2607 : BitVec 32) : Fin 3 → Nat :=
  let c0_i32_2609 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_2606 : BitVec 32 := 1024#32
  let v2548 : BitVec 32 := Scalar.muli v21 c1024_i32_2606
  let v2549 : BitVec 32 := Scalar.addi v2548 c0_i32_2607
  let c128_i32_2608 : BitVec 32 := 128#32
  let v2550 : BitVec 32 := Scalar.addi v2549 c128_i32_2608
  let c0_i32_2621 : BitVec 32 := 0#32
  ![0, v2550.toNat, 0]
def k0_dev28 (d0 : Dev nD) : Nat :=
  let c0_i32_2655 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2654 : BitVec 32 := 8#32
  let v2596 : BitVec 32 := Scalar.muli v2 c8_i32_2654
  let v2597 : BitVec 32 := Scalar.addi c0_i32_2655 v2596
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2656 : BitVec 32 := 4#32
  let v2598 : BitVec 32 := Scalar.muli v5 c4_i32_2656
  let v2599 : BitVec 32 := Scalar.addi v2597 v2598
  let c3_i32_2653 : BitVec 32 := 3#32
  let c1_i32_2657 : BitVec 32 := 1#32
  let v2600 : BitVec 32 := Scalar.muli c3_i32_2653 c1_i32_2657
  let v2601 : BitVec 32 := Scalar.addi v2599 v2600
  v2601.toNat
def k0_cond24 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_439 : BitVec 32 := 1#32
  let v446 : BitVec 1 := Scalar.cmpi .eq v8 c1_i32_439
  let v447 : BitVec 32 := Scalar.extui v446
  let c0_i32_446 : BitVec 32 := 0#32
  let v448 : BitVec 1 := Scalar.cmpi .ne v447 c0_i32_446
  v448

def k0_off29 (d0 : Dev nD) (c0_i32_2607 : BitVec 32) : Fin 3 → Nat :=
  let c0_i32_2609 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_2606 : BitVec 32 := 1024#32
  let v2548 : BitVec 32 := Scalar.muli v21 c1024_i32_2606
  let v2549 : BitVec 32 := Scalar.addi v2548 c0_i32_2607
  let c128_i32_2608 : BitVec 32 := 128#32
  let v2550 : BitVec 32 := Scalar.addi v2549 c128_i32_2608
  let c0_i32_2621 : BitVec 32 := 0#32
  ![0, v2550.toNat, 0]
def k0_dev29 (d0 : Dev nD) : Nat :=
  let c0_i32_2655 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2654 : BitVec 32 := 8#32
  let v2596 : BitVec 32 := Scalar.muli v2 c8_i32_2654
  let v2597 : BitVec 32 := Scalar.addi c0_i32_2655 v2596
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2656 : BitVec 32 := 4#32
  let v2598 : BitVec 32 := Scalar.muli v5 c4_i32_2656
  let v2599 : BitVec 32 := Scalar.addi v2597 v2598
  let c2_i32_2653 : BitVec 32 := 2#32
  let c1_i32_2657 : BitVec 32 := 1#32
  let v2600 : BitVec 32 := Scalar.muli c2_i32_2653 c1_i32_2657
  let v2601 : BitVec 32 := Scalar.addi v2599 v2600
  v2601.toNat
def k0_cond25 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_447 : BitVec 32 := 2#32
  let v449 : BitVec 1 := Scalar.cmpi .eq v8 c2_i32_447
  let v450 : BitVec 32 := Scalar.extui v449
  let c0_i32_454 : BitVec 32 := 0#32
  let v451 : BitVec 1 := Scalar.cmpi .ne v450 c0_i32_454
  v451

def k0_off30 (d0 : Dev nD) : Fin 3 → Nat :=
  let c0_i32_2609 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_2606 : BitVec 32 := 1024#32
  let v2548 : BitVec 32 := Scalar.muli v21 c1024_i32_2606
  let c0_i32_2607 : BitVec 32 := 0#32
  let v2549 : BitVec 32 := Scalar.addi v2548 c0_i32_2607
  let c128_i32_2608 : BitVec 32 := 128#32
  let v2550 : BitVec 32 := Scalar.addi v2549 c128_i32_2608
  let c0_i32_2621 : BitVec 32 := 0#32
  ![0, v2550.toNat, 0]
def k0_dev30 (d0 : Dev nD) : Nat :=
  let c0_i32_2655 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2654 : BitVec 32 := 8#32
  let v2596 : BitVec 32 := Scalar.muli v2 c8_i32_2654
  let v2597 : BitVec 32 := Scalar.addi c0_i32_2655 v2596
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2656 : BitVec 32 := 4#32
  let v2598 : BitVec 32 := Scalar.muli v5 c4_i32_2656
  let v2599 : BitVec 32 := Scalar.addi v2597 v2598
  let c0_i32_2653 : BitVec 32 := 0#32
  let c1_i32_2657 : BitVec 32 := 1#32
  let v2600 : BitVec 32 := Scalar.muli c0_i32_2653 c1_i32_2657
  let v2601 : BitVec 32 := Scalar.addi v2599 v2600
  v2601.toNat
def k0_cond26 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_455 : BitVec 32 := 2#32
  let v452 : BitVec 1 := Scalar.cmpi .eq v8 c2_i32_455
  let v453 : BitVec 32 := Scalar.extui v452
  let c0_i32_462 : BitVec 32 := 0#32
  let v454 : BitVec 1 := Scalar.cmpi .ne v453 c0_i32_462
  v454

def k0_off31 (d0 : Dev nD) (c0_i32_2607 : BitVec 32) : Fin 3 → Nat :=
  let c0_i32_2609 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_2606 : BitVec 32 := 1024#32
  let v2548 : BitVec 32 := Scalar.muli v21 c1024_i32_2606
  let v2549 : BitVec 32 := Scalar.addi v2548 c0_i32_2607
  let c128_i32_2608 : BitVec 32 := 128#32
  let v2550 : BitVec 32 := Scalar.addi v2549 c128_i32_2608
  let c0_i32_2621 : BitVec 32 := 0#32
  ![0, v2550.toNat, 0]
def k0_dev31 (d0 : Dev nD) : Nat :=
  let c0_i32_2655 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2654 : BitVec 32 := 8#32
  let v2596 : BitVec 32 := Scalar.muli v2 c8_i32_2654
  let v2597 : BitVec 32 := Scalar.addi c0_i32_2655 v2596
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2656 : BitVec 32 := 4#32
  let v2598 : BitVec 32 := Scalar.muli v5 c4_i32_2656
  let v2599 : BitVec 32 := Scalar.addi v2597 v2598
  let c1_i32_2653 : BitVec 32 := 1#32
  let c1_i32_2657 : BitVec 32 := 1#32
  let v2600 : BitVec 32 := Scalar.muli c1_i32_2653 c1_i32_2657
  let v2601 : BitVec 32 := Scalar.addi v2599 v2600
  v2601.toNat
def k0_cond27 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_552 : BitVec 32 := 3#32
  let v559 : BitVec 1 := Scalar.cmpi .slt v8 c3_i32_552
  let v579 : BitVec 32 := Scalar.extui v559
  let c0_i32_568 : BitVec 32 := 0#32
  let v580 : BitVec 1 := Scalar.cmpi .ne v579 c0_i32_568
  v580

def k0_off32 (d0 : Dev nD) : Fin 2 → Nat :=
  let c1_i32_567 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![1, v8.toNat]
def k0_off33 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_556 : BitVec 32 := 1024#32
  let v564 : BitVec 32 := Scalar.muli v21 c1024_i32_556
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_557 : BitVec 32 := 256#32
  let v565 : BitVec 32 := Scalar.muli v8 c256_i32_557
  let v566 : BitVec 32 := Scalar.addi v564 v565
  let c128_i32_558 : BitVec 32 := 128#32
  let v567 : BitVec 32 := Scalar.addi v566 c128_i32_558
  let c0_i32_2610 : BitVec 32 := 0#32
  ![v567.toNat, 0]
def k0_dev32 (d0 : Dev nD) : Nat :=
  let c0_i32_2607 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2606 : BitVec 32 := 8#32
  let v2548 : BitVec 32 := Scalar.muli v2 c8_i32_2606
  let v2549 : BitVec 32 := Scalar.addi c0_i32_2607 v2548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2608 : BitVec 32 := 4#32
  let v2550 : BitVec 32 := Scalar.muli v5 c4_i32_2608
  let v2551 : BitVec 32 := Scalar.addi v2549 v2550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_559 : BitVec 32 := 1#32
  let v568 : BitVec 32 := Scalar.addi v8 c1_i32_559
  let c4_i32_560 : BitVec 32 := 4#32
  let c0_i32_561 : BitVec 32 := 0#32
  let v569 : BitVec 1 := Scalar.cmpi .eq c4_i32_560 c0_i32_561
  let c1_i32_562 : BitVec 32 := 1#32
  let v570 : BitVec 32 := Scalar.select v569 c1_i32_562 c4_i32_560
  let v571 : BitVec 32 := Scalar.remsi v568 v570
  let c0_i32_564 : BitVec 32 := 0#32
  let v573 : BitVec 1 := Scalar.cmpi .slt v571 c0_i32_564
  let c0_i32_565 : BitVec 32 := 0#32
  let v574 : BitVec 1 := Scalar.cmpi .slt v570 c0_i32_565
  let v575 : BitVec 1 := Scalar.xori v573 v574
  let c0_i32_563 : BitVec 32 := 0#32
  let v572 : BitVec 1 := Scalar.cmpi .ne v571 c0_i32_563
  let v576 : BitVec 1 := Scalar.andi v575 v572
  let v577 : BitVec 32 := Scalar.addi v571 v570
  let v578 : BitVec 32 := Scalar.select v576 v577 v571
  let c1_i32_2609 : BitVec 32 := 1#32
  let v2552 : BitVec 32 := Scalar.muli v578 c1_i32_2609
  let v2553 : BitVec 32 := Scalar.addi v2551 v2552
  v2553.toNat
def k0_cond28 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_569 : BitVec 32 := 0#32
  let v581 : BitVec 1 := Scalar.cmpi .sgt v8 c0_i32_569
  let v601 : BitVec 32 := Scalar.extui v581
  let c0_i32_585 : BitVec 32 := 0#32
  let v602 : BitVec 1 := Scalar.cmpi .ne v601 c0_i32_585
  v602

def k0_off34 (d0 : Dev nD) : Fin 2 → Nat :=
  let c1_i32_584 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![1, v8.toNat]
def k0_off35 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_573 : BitVec 32 := 1024#32
  let v586 : BitVec 32 := Scalar.muli v21 c1024_i32_573
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_574 : BitVec 32 := 256#32
  let v587 : BitVec 32 := Scalar.muli v8 c256_i32_574
  let v588 : BitVec 32 := Scalar.addi v586 v587
  let c128_i32_575 : BitVec 32 := 128#32
  let v589 : BitVec 32 := Scalar.addi v588 c128_i32_575
  let c0_i32_2610 : BitVec 32 := 0#32
  ![v589.toNat, 0]
def k0_dev33 (d0 : Dev nD) : Nat :=
  let c0_i32_2607 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2606 : BitVec 32 := 8#32
  let v2548 : BitVec 32 := Scalar.muli v2 c8_i32_2606
  let v2549 : BitVec 32 := Scalar.addi c0_i32_2607 v2548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2608 : BitVec 32 := 4#32
  let v2550 : BitVec 32 := Scalar.muli v5 c4_i32_2608
  let v2551 : BitVec 32 := Scalar.addi v2549 v2550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_576 : BitVec 32 := 3#32
  let v590 : BitVec 32 := Scalar.addi v8 c3_i32_576
  let c4_i32_577 : BitVec 32 := 4#32
  let c0_i32_578 : BitVec 32 := 0#32
  let v591 : BitVec 1 := Scalar.cmpi .eq c4_i32_577 c0_i32_578
  let c1_i32_579 : BitVec 32 := 1#32
  let v592 : BitVec 32 := Scalar.select v591 c1_i32_579 c4_i32_577
  let v593 : BitVec 32 := Scalar.remsi v590 v592
  let c0_i32_581 : BitVec 32 := 0#32
  let v595 : BitVec 1 := Scalar.cmpi .slt v593 c0_i32_581
  let c0_i32_582 : BitVec 32 := 0#32
  let v596 : BitVec 1 := Scalar.cmpi .slt v592 c0_i32_582
  let v597 : BitVec 1 := Scalar.xori v595 v596
  let c0_i32_580 : BitVec 32 := 0#32
  let v594 : BitVec 1 := Scalar.cmpi .ne v593 c0_i32_580
  let v598 : BitVec 1 := Scalar.andi v597 v594
  let v599 : BitVec 32 := Scalar.addi v593 v592
  let v600 : BitVec 32 := Scalar.select v598 v599 v593
  let c1_i32_2609 : BitVec 32 := 1#32
  let v2552 : BitVec 32 := Scalar.muli v600 c1_i32_2609
  let v2553 : BitVec 32 := Scalar.addi v2551 v2552
  v2553.toNat
def k0_dev34 (d0 : Dev nD) : Nat :=
  let c0_i32_641 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1_i32_8 : BitVec 32 := 1#32
  let v22 : BitVec 32 := Scalar.addi v21 c1_i32_8
  let c4_i32_9 : BitVec 32 := 4#32
  let c0_i32_10 : BitVec 32 := 0#32
  let v23 : BitVec 1 := Scalar.cmpi .eq c4_i32_9 c0_i32_10
  let c1_i32_11 : BitVec 32 := 1#32
  let v24 : BitVec 32 := Scalar.select v23 c1_i32_11 c4_i32_9
  let v25 : BitVec 32 := Scalar.remsi v22 v24
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let c0_i32_12 : BitVec 32 := 0#32
  let v26 : BitVec 1 := Scalar.cmpi .ne v25 c0_i32_12
  let v30 : BitVec 1 := Scalar.andi v29 v26
  let v31 : BitVec 32 := Scalar.addi v25 v24
  let v32 : BitVec 32 := Scalar.select v30 v31 v25
  let c0_i32_16 : BitVec 32 := 0#32
  let v34 : BitVec 1 := Scalar.cmpi .sgt v32 c0_i32_16
  let v35 : BitVec 32 := Scalar.extui v34
  let c0_i32_17 : BitVec 32 := 0#32
  let v36 : BitVec 1 := Scalar.cmpi .slt v32 c0_i32_17
  let v37 : BitVec 32 := Scalar.extui v36
  let v38 : BitVec 32 := Scalar.subi v35 v37
  let c2_i32_15 : BitVec 32 := 2#32
  let c0_i32_18 : BitVec 32 := 0#32
  let v39 : BitVec 1 := Scalar.cmpi .sgt c2_i32_15 c0_i32_18
  let v40 : BitVec 32 := Scalar.extui v39
  let c0_i32_19 : BitVec 32 := 0#32
  let v41 : BitVec 1 := Scalar.cmpi .slt c2_i32_15 c0_i32_19
  let v42 : BitVec 32 := Scalar.extui v41
  let v43 : BitVec 32 := Scalar.subi v40 v42
  let v44 : BitVec 1 := Scalar.cmpi .ne v38 v43
  let v45 : BitVec 32 := Scalar.remsi v32 c2_i32_15
  let c0_i32_20 : BitVec 32 := 0#32
  let v46 : BitVec 1 := Scalar.cmpi .ne v45 c0_i32_20
  let v47 : BitVec 1 := Scalar.andi v44 v46
  let v33 : BitVec 32 := Scalar.divsi v32 c2_i32_15
  let c1_i32_21 : BitVec 32 := 1#32
  let v48 : BitVec 32 := Scalar.subi v33 c1_i32_21
  let v49 : BitVec 32 := Scalar.select v47 v48 v33
  let c8_i32_640 : BitVec 32 := 8#32
  let v662 : BitVec 32 := Scalar.muli v49 c8_i32_640
  let v663 : BitVec 32 := Scalar.addi c0_i32_641 v662
  let c2_i32_22 : BitVec 32 := 2#32
  let c0_i32_23 : BitVec 32 := 0#32
  let v50 : BitVec 1 := Scalar.cmpi .eq c2_i32_22 c0_i32_23
  let c1_i32_24 : BitVec 32 := 1#32
  let v51 : BitVec 32 := Scalar.select v50 c1_i32_24 c2_i32_22
  let v52 : BitVec 32 := Scalar.remsi v32 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let v60 : BitVec 32 := Scalar.addi v49 v59
  let c2_i32_28 : BitVec 32 := 2#32
  let c0_i32_29 : BitVec 32 := 0#32
  let v61 : BitVec 1 := Scalar.cmpi .eq c2_i32_28 c0_i32_29
  let c1_i32_30 : BitVec 32 := 1#32
  let v62 : BitVec 32 := Scalar.select v61 c1_i32_30 c2_i32_28
  let v63 : BitVec 32 := Scalar.remsi v60 v62
  let c0_i32_32 : BitVec 32 := 0#32
  let v65 : BitVec 1 := Scalar.cmpi .slt v63 c0_i32_32
  let c0_i32_33 : BitVec 32 := 0#32
  let v66 : BitVec 1 := Scalar.cmpi .slt v62 c0_i32_33
  let v67 : BitVec 1 := Scalar.xori v65 v66
  let c0_i32_31 : BitVec 32 := 0#32
  let v64 : BitVec 1 := Scalar.cmpi .ne v63 c0_i32_31
  let v68 : BitVec 1 := Scalar.andi v67 v64
  let v69 : BitVec 32 := Scalar.addi v63 v62
  let v70 : BitVec 32 := Scalar.select v68 v69 v63
  let c4_i32_642 : BitVec 32 := 4#32
  let v664 : BitVec 32 := Scalar.muli v70 c4_i32_642
  let v665 : BitVec 32 := Scalar.addi v663 v664
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_643 : BitVec 32 := 1#32
  let v666 : BitVec 32 := Scalar.muli v8 c1_i32_643
  let v667 : BitVec 32 := Scalar.addi v665 v666
  v667.toNat
def k0_cond29 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let v682 : BitVec 1 := Scalar.cmpi .slt v641 v8
  let v683 : BitVec 32 := Scalar.extui v682
  let c0_i32_654 : BitVec 32 := 0#32
  let v684 : BitVec 1 := Scalar.cmpi .ne v683 c0_i32_654
  v684

def k0_off36 (d0 : Dev nD) : Fin 2 → Nat :=
  let c0_i32_652 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  ![0, v641.toNat]
def k0_off37 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_646 : BitVec 32 := 1024#32
  let v674 : BitVec 32 := Scalar.muli v21 c1024_i32_646
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c256_i32_647 : BitVec 32 := 256#32
  let v675 : BitVec 32 := Scalar.muli v641 c256_i32_647
  let v676 : BitVec 32 := Scalar.addi v674 v675
  let c0_i32_648 : BitVec 32 := 0#32
  let v677 : BitVec 32 := Scalar.addi v676 c0_i32_648
  let c0_i32_2610 : BitVec 32 := 0#32
  ![v677.toNat, 0]
def k0_off38 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32 : BitVec 32 := 1024#32
  let v120 : BitVec 32 := Scalar.muli v21 c1024_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32 : BitVec 32 := 256#32
  let v121 : BitVec 32 := Scalar.muli v8 c256_i32
  let v122 : BitVec 32 := Scalar.addi v120 v121
  let c0_i32_2611 : BitVec 32 := 0#32
  ![v122.toNat, 0]
def k0_cond30 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let v685 : BitVec 1 := Scalar.cmpi .sgt v641 v8
  let v686 : BitVec 32 := Scalar.extui v685
  let c0_i32_657 : BitVec 32 := 0#32
  let v687 : BitVec 1 := Scalar.cmpi .ne v686 c0_i32_657
  v687

def k0_off39 (d0 : Dev nD) : Fin 2 → Nat :=
  let c0_i32_655 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  ![0, v641.toNat]
def k0_off40 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_649 : BitVec 32 := 1024#32
  let v678 : BitVec 32 := Scalar.muli v21 c1024_i32_649
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c256_i32_650 : BitVec 32 := 256#32
  let v679 : BitVec 32 := Scalar.muli v641 c256_i32_650
  let v680 : BitVec 32 := Scalar.addi v678 v679
  let c0_i32_651 : BitVec 32 := 0#32
  let v681 : BitVec 32 := Scalar.addi v680 c0_i32_651
  let c0_i32_2610 : BitVec 32 := 0#32
  ![v681.toNat, 0]
def k0_off41 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32 : BitVec 32 := 1024#32
  let v120 : BitVec 32 := Scalar.muli v21 c1024_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32 : BitVec 32 := 256#32
  let v121 : BitVec 32 := Scalar.muli v8 c256_i32
  let v122 : BitVec 32 := Scalar.addi v120 v121
  let c0_i32_2611 : BitVec 32 := 0#32
  ![v122.toNat, 0]
def k0_cond31 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let v688 : BitVec 1 := Scalar.cmpi .slt v641 v8
  let c3_i32_658 : BitVec 32 := 3#32
  let v689 : BitVec 1 := Scalar.cmpi .slt v8 c3_i32_658
  let v690 : BitVec 1 := Scalar.andi v688 v689
  let v710 : BitVec 32 := Scalar.extui v690
  let c0_i32_674 : BitVec 32 := 0#32
  let v711 : BitVec 1 := Scalar.cmpi .ne v710 c0_i32_674
  v711

def k0_off42 (d0 : Dev nD) : Fin 2 → Nat :=
  let c0_i32_673 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  ![0, v641.toNat]
def k0_off43 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_662 : BitVec 32 := 1024#32
  let v695 : BitVec 32 := Scalar.muli v21 c1024_i32_662
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c256_i32_663 : BitVec 32 := 256#32
  let v696 : BitVec 32 := Scalar.muli v641 c256_i32_663
  let v697 : BitVec 32 := Scalar.addi v695 v696
  let c0_i32_664 : BitVec 32 := 0#32
  let v698 : BitVec 32 := Scalar.addi v697 c0_i32_664
  let c0_i32_2610 : BitVec 32 := 0#32
  ![v698.toNat, 0]
def k0_dev35 (d0 : Dev nD) : Nat :=
  let c0_i32_2607 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2606 : BitVec 32 := 8#32
  let v2548 : BitVec 32 := Scalar.muli v2 c8_i32_2606
  let v2549 : BitVec 32 := Scalar.addi c0_i32_2607 v2548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2608 : BitVec 32 := 4#32
  let v2550 : BitVec 32 := Scalar.muli v5 c4_i32_2608
  let v2551 : BitVec 32 := Scalar.addi v2549 v2550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_665 : BitVec 32 := 1#32
  let v699 : BitVec 32 := Scalar.addi v8 c1_i32_665
  let c4_i32_666 : BitVec 32 := 4#32
  let c0_i32_667 : BitVec 32 := 0#32
  let v700 : BitVec 1 := Scalar.cmpi .eq c4_i32_666 c0_i32_667
  let c1_i32_668 : BitVec 32 := 1#32
  let v701 : BitVec 32 := Scalar.select v700 c1_i32_668 c4_i32_666
  let v702 : BitVec 32 := Scalar.remsi v699 v701
  let c0_i32_670 : BitVec 32 := 0#32
  let v704 : BitVec 1 := Scalar.cmpi .slt v702 c0_i32_670
  let c0_i32_671 : BitVec 32 := 0#32
  let v705 : BitVec 1 := Scalar.cmpi .slt v701 c0_i32_671
  let v706 : BitVec 1 := Scalar.xori v704 v705
  let c0_i32_669 : BitVec 32 := 0#32
  let v703 : BitVec 1 := Scalar.cmpi .ne v702 c0_i32_669
  let v707 : BitVec 1 := Scalar.andi v706 v703
  let v708 : BitVec 32 := Scalar.addi v702 v701
  let v709 : BitVec 32 := Scalar.select v707 v708 v702
  let c1_i32_2609 : BitVec 32 := 1#32
  let v2552 : BitVec 32 := Scalar.muli v709 c1_i32_2609
  let v2553 : BitVec 32 := Scalar.addi v2551 v2552
  v2553.toNat
def k0_cond32 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let v712 : BitVec 1 := Scalar.cmpi .sgt v641 v8
  let c0_i32_675 : BitVec 32 := 0#32
  let v713 : BitVec 1 := Scalar.cmpi .sgt v8 c0_i32_675
  let v714 : BitVec 1 := Scalar.andi v712 v713
  let v734 : BitVec 32 := Scalar.extui v714
  let c0_i32_691 : BitVec 32 := 0#32
  let v735 : BitVec 1 := Scalar.cmpi .ne v734 c0_i32_691
  v735

def k0_off44 (d0 : Dev nD) : Fin 2 → Nat :=
  let c0_i32_690 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  ![0, v641.toNat]
def k0_off45 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_679 : BitVec 32 := 1024#32
  let v719 : BitVec 32 := Scalar.muli v21 c1024_i32_679
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c256_i32_680 : BitVec 32 := 256#32
  let v720 : BitVec 32 := Scalar.muli v641 c256_i32_680
  let v721 : BitVec 32 := Scalar.addi v719 v720
  let c0_i32_681 : BitVec 32 := 0#32
  let v722 : BitVec 32 := Scalar.addi v721 c0_i32_681
  let c0_i32_2610 : BitVec 32 := 0#32
  ![v722.toNat, 0]
def k0_dev36 (d0 : Dev nD) : Nat :=
  let c0_i32_2607 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2606 : BitVec 32 := 8#32
  let v2548 : BitVec 32 := Scalar.muli v2 c8_i32_2606
  let v2549 : BitVec 32 := Scalar.addi c0_i32_2607 v2548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2608 : BitVec 32 := 4#32
  let v2550 : BitVec 32 := Scalar.muli v5 c4_i32_2608
  let v2551 : BitVec 32 := Scalar.addi v2549 v2550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_682 : BitVec 32 := 3#32
  let v723 : BitVec 32 := Scalar.addi v8 c3_i32_682
  let c4_i32_683 : BitVec 32 := 4#32
  let c0_i32_684 : BitVec 32 := 0#32
  let v724 : BitVec 1 := Scalar.cmpi .eq c4_i32_683 c0_i32_684
  let c1_i32_685 : BitVec 32 := 1#32
  let v725 : BitVec 32 := Scalar.select v724 c1_i32_685 c4_i32_683
  let v726 : BitVec 32 := Scalar.remsi v723 v725
  let c0_i32_687 : BitVec 32 := 0#32
  let v728 : BitVec 1 := Scalar.cmpi .slt v726 c0_i32_687
  let c0_i32_688 : BitVec 32 := 0#32
  let v729 : BitVec 1 := Scalar.cmpi .slt v725 c0_i32_688
  let v730 : BitVec 1 := Scalar.xori v728 v729
  let c0_i32_686 : BitVec 32 := 0#32
  let v727 : BitVec 1 := Scalar.cmpi .ne v726 c0_i32_686
  let v731 : BitVec 1 := Scalar.andi v730 v727
  let v732 : BitVec 32 := Scalar.addi v726 v725
  let v733 : BitVec 32 := Scalar.select v731 v732 v726
  let c1_i32_2609 : BitVec 32 := 1#32
  let v2552 : BitVec 32 := Scalar.muli v733 c1_i32_2609
  let v2553 : BitVec 32 := Scalar.addi v2551 v2552
  v2553.toNat
def k0_cond33 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c1_i32_586 : BitVec 32 := 1#32
  let v603 : BitVec 32 := Scalar.addi v8 c1_i32_586
  let c4_i32_587 : BitVec 32 := 4#32
  let c0_i32_588 : BitVec 32 := 0#32
  let v604 : BitVec 1 := Scalar.cmpi .eq c4_i32_587 c0_i32_588
  let c1_i32_589 : BitVec 32 := 1#32
  let v605 : BitVec 32 := Scalar.select v604 c1_i32_589 c4_i32_587
  let v606 : BitVec 32 := Scalar.remsi v603 v605
  let c0_i32_591 : BitVec 32 := 0#32
  let v608 : BitVec 1 := Scalar.cmpi .slt v606 c0_i32_591
  let c0_i32_592 : BitVec 32 := 0#32
  let v609 : BitVec 1 := Scalar.cmpi .slt v605 c0_i32_592
  let v610 : BitVec 1 := Scalar.xori v608 v609
  let c0_i32_590 : BitVec 32 := 0#32
  let v607 : BitVec 1 := Scalar.cmpi .ne v606 c0_i32_590
  let v611 : BitVec 1 := Scalar.andi v610 v607
  let v612 : BitVec 32 := Scalar.addi v606 v605
  let v613 : BitVec 32 := Scalar.select v611 v612 v606
  let v736 : BitVec 1 := Scalar.cmpi .eq v641 v613
  let v747 : BitVec 32 := Scalar.extui v736
  let c0_i32_704 : BitVec 32 := 0#32
  let v748 : BitVec 1 := Scalar.cmpi .ne v747 c0_i32_704
  v748

def k0_off46 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_695 : BitVec 32 := 1024#32
  let v743 : BitVec 32 := Scalar.muli v21 c1024_i32_695
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c256_i32_696 : BitVec 32 := 256#32
  let v744 : BitVec 32 := Scalar.muli v641 c256_i32_696
  let v745 : BitVec 32 := Scalar.addi v743 v744
  let c0_i32_697 : BitVec 32 := 0#32
  let v746 : BitVec 32 := Scalar.addi v745 c0_i32_697
  let c0_i32_2610 : BitVec 32 := 0#32
  ![v746.toNat, 0]
def k0_dev37 (d0 : Dev nD) : Nat :=
  let c0_i32_2607 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1_i32_8 : BitVec 32 := 1#32
  let v22 : BitVec 32 := Scalar.addi v21 c1_i32_8
  let c4_i32_9 : BitVec 32 := 4#32
  let c0_i32_10 : BitVec 32 := 0#32
  let v23 : BitVec 1 := Scalar.cmpi .eq c4_i32_9 c0_i32_10
  let c1_i32_11 : BitVec 32 := 1#32
  let v24 : BitVec 32 := Scalar.select v23 c1_i32_11 c4_i32_9
  let v25 : BitVec 32 := Scalar.remsi v22 v24
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let c0_i32_12 : BitVec 32 := 0#32
  let v26 : BitVec 1 := Scalar.cmpi .ne v25 c0_i32_12
  let v30 : BitVec 1 := Scalar.andi v29 v26
  let v31 : BitVec 32 := Scalar.addi v25 v24
  let v32 : BitVec 32 := Scalar.select v30 v31 v25
  let c0_i32_16 : BitVec 32 := 0#32
  let v34 : BitVec 1 := Scalar.cmpi .sgt v32 c0_i32_16
  let v35 : BitVec 32 := Scalar.extui v34
  let c0_i32_17 : BitVec 32 := 0#32
  let v36 : BitVec 1 := Scalar.cmpi .slt v32 c0_i32_17
  let v37 : BitVec 32 := Scalar.extui v36
  let v38 : BitVec 32 := Scalar.subi v35 v37
  let c2_i32_15 : BitVec 32 := 2#32
  let c0_i32_18 : BitVec 32 := 0#32
  let v39 : BitVec 1 := Scalar.cmpi .sgt c2_i32_15 c0_i32_18
  let v40 : BitVec 32 := Scalar.extui v39
  let c0_i32_19 : BitVec 32 := 0#32
  let v41 : BitVec 1 := Scalar.cmpi .slt c2_i32_15 c0_i32_19
  let v42 : BitVec 32 := Scalar.extui v41
  let v43 : BitVec 32 := Scalar.subi v40 v42
  let v44 : BitVec 1 := Scalar.cmpi .ne v38 v43
  let v45 : BitVec 32 := Scalar.remsi v32 c2_i32_15
  let c0_i32_20 : BitVec 32 := 0#32
  let v46 : BitVec 1 := Scalar.cmpi .ne v45 c0_i32_20
  let v47 : BitVec 1 := Scalar.andi v44 v46
  let v33 : BitVec 32 := Scalar.divsi v32 c2_i32_15
  let c1_i32_21 : BitVec 32 := 1#32
  let v48 : BitVec 32 := Scalar.subi v33 c1_i32_21
  let v49 : BitVec 32 := Scalar.select v47 v48 v33
  let c8_i32_2606 : BitVec 32 := 8#32
  let v2548 : BitVec 32 := Scalar.muli v49 c8_i32_2606
  let v2549 : BitVec 32 := Scalar.addi c0_i32_2607 v2548
  let c2_i32_22 : BitVec 32 := 2#32
  let c0_i32_23 : BitVec 32 := 0#32
  let v50 : BitVec 1 := Scalar.cmpi .eq c2_i32_22 c0_i32_23
  let c1_i32_24 : BitVec 32 := 1#32
  let v51 : BitVec 32 := Scalar.select v50 c1_i32_24 c2_i32_22
  let v52 : BitVec 32 := Scalar.remsi v32 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let v60 : BitVec 32 := Scalar.addi v49 v59
  let c2_i32_28 : BitVec 32 := 2#32
  let c0_i32_29 : BitVec 32 := 0#32
  let v61 : BitVec 1 := Scalar.cmpi .eq c2_i32_28 c0_i32_29
  let c1_i32_30 : BitVec 32 := 1#32
  let v62 : BitVec 32 := Scalar.select v61 c1_i32_30 c2_i32_28
  let v63 : BitVec 32 := Scalar.remsi v60 v62
  let c0_i32_32 : BitVec 32 := 0#32
  let v65 : BitVec 1 := Scalar.cmpi .slt v63 c0_i32_32
  let c0_i32_33 : BitVec 32 := 0#32
  let v66 : BitVec 1 := Scalar.cmpi .slt v62 c0_i32_33
  let v67 : BitVec 1 := Scalar.xori v65 v66
  let c0_i32_31 : BitVec 32 := 0#32
  let v64 : BitVec 1 := Scalar.cmpi .ne v63 c0_i32_31
  let v68 : BitVec 1 := Scalar.andi v67 v64
  let v69 : BitVec 32 := Scalar.addi v63 v62
  let v70 : BitVec 32 := Scalar.select v68 v69 v63
  let c4_i32_2608 : BitVec 32 := 4#32
  let v2550 : BitVec 32 := Scalar.muli v70 c4_i32_2608
  let v2551 : BitVec 32 := Scalar.addi v2549 v2550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2609 : BitVec 32 := 1#32
  let v2552 : BitVec 32 := Scalar.muli v8 c1_i32_2609
  let v2553 : BitVec 32 := Scalar.addi v2551 v2552
  v2553.toNat
def k0_cond34 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c2_i32_593 : BitVec 32 := 2#32
  let v614 : BitVec 32 := Scalar.addi v8 c2_i32_593
  let c4_i32_594 : BitVec 32 := 4#32
  let c0_i32_595 : BitVec 32 := 0#32
  let v615 : BitVec 1 := Scalar.cmpi .eq c4_i32_594 c0_i32_595
  let c1_i32_596 : BitVec 32 := 1#32
  let v616 : BitVec 32 := Scalar.select v615 c1_i32_596 c4_i32_594
  let v617 : BitVec 32 := Scalar.remsi v614 v616
  let c0_i32_598 : BitVec 32 := 0#32
  let v619 : BitVec 1 := Scalar.cmpi .slt v617 c0_i32_598
  let c0_i32_599 : BitVec 32 := 0#32
  let v620 : BitVec 1 := Scalar.cmpi .slt v616 c0_i32_599
  let v621 : BitVec 1 := Scalar.xori v619 v620
  let c0_i32_597 : BitVec 32 := 0#32
  let v618 : BitVec 1 := Scalar.cmpi .ne v617 c0_i32_597
  let v622 : BitVec 1 := Scalar.andi v621 v618
  let v623 : BitVec 32 := Scalar.addi v617 v616
  let v624 : BitVec 32 := Scalar.select v622 v623 v617
  let v737 : BitVec 1 := Scalar.cmpi .eq v641 v624
  let v757 : BitVec 32 := Scalar.extui v737
  let c0_i32_717 : BitVec 32 := 0#32
  let v758 : BitVec 1 := Scalar.cmpi .ne v757 c0_i32_717
  v758

def k0_off47 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_708 : BitVec 32 := 1024#32
  let v753 : BitVec 32 := Scalar.muli v21 c1024_i32_708
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c256_i32_709 : BitVec 32 := 256#32
  let v754 : BitVec 32 := Scalar.muli v641 c256_i32_709
  let v755 : BitVec 32 := Scalar.addi v753 v754
  let c0_i32_710 : BitVec 32 := 0#32
  let v756 : BitVec 32 := Scalar.addi v755 c0_i32_710
  let c0_i32_2610 : BitVec 32 := 0#32
  ![v756.toNat, 0]
def k0_dev38 (d0 : Dev nD) : Nat :=
  let c0_i32_2607 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v71 : BitVec 32 := Scalar.addi v21 c3_i32
  let c4_i32_34 : BitVec 32 := 4#32
  let c0_i32_35 : BitVec 32 := 0#32
  let v72 : BitVec 1 := Scalar.cmpi .eq c4_i32_34 c0_i32_35
  let c1_i32_36 : BitVec 32 := 1#32
  let v73 : BitVec 32 := Scalar.select v72 c1_i32_36 c4_i32_34
  let v74 : BitVec 32 := Scalar.remsi v71 v73
  let c0_i32_38 : BitVec 32 := 0#32
  let v76 : BitVec 1 := Scalar.cmpi .slt v74 c0_i32_38
  let c0_i32_39 : BitVec 32 := 0#32
  let v77 : BitVec 1 := Scalar.cmpi .slt v73 c0_i32_39
  let v78 : BitVec 1 := Scalar.xori v76 v77
  let c0_i32_37 : BitVec 32 := 0#32
  let v75 : BitVec 1 := Scalar.cmpi .ne v74 c0_i32_37
  let v79 : BitVec 1 := Scalar.andi v78 v75
  let v80 : BitVec 32 := Scalar.addi v74 v73
  let v81 : BitVec 32 := Scalar.select v79 v80 v74
  let c0_i32_41 : BitVec 32 := 0#32
  let v83 : BitVec 1 := Scalar.cmpi .sgt v81 c0_i32_41
  let v84 : BitVec 32 := Scalar.extui v83
  let c0_i32_42 : BitVec 32 := 0#32
  let v85 : BitVec 1 := Scalar.cmpi .slt v81 c0_i32_42
  let v86 : BitVec 32 := Scalar.extui v85
  let v87 : BitVec 32 := Scalar.subi v84 v86
  let c2_i32_40 : BitVec 32 := 2#32
  let c0_i32_43 : BitVec 32 := 0#32
  let v88 : BitVec 1 := Scalar.cmpi .sgt c2_i32_40 c0_i32_43
  let v89 : BitVec 32 := Scalar.extui v88
  let c0_i32_44 : BitVec 32 := 0#32
  let v90 : BitVec 1 := Scalar.cmpi .slt c2_i32_40 c0_i32_44
  let v91 : BitVec 32 := Scalar.extui v90
  let v92 : BitVec 32 := Scalar.subi v89 v91
  let v93 : BitVec 1 := Scalar.cmpi .ne v87 v92
  let v94 : BitVec 32 := Scalar.remsi v81 c2_i32_40
  let c0_i32_45 : BitVec 32 := 0#32
  let v95 : BitVec 1 := Scalar.cmpi .ne v94 c0_i32_45
  let v96 : BitVec 1 := Scalar.andi v93 v95
  let v82 : BitVec 32 := Scalar.divsi v81 c2_i32_40
  let c1_i32_46 : BitVec 32 := 1#32
  let v97 : BitVec 32 := Scalar.subi v82 c1_i32_46
  let v98 : BitVec 32 := Scalar.select v96 v97 v82
  let c8_i32_2606 : BitVec 32 := 8#32
  let v2548 : BitVec 32 := Scalar.muli v98 c8_i32_2606
  let v2549 : BitVec 32 := Scalar.addi c0_i32_2607 v2548
  let c2_i32_47 : BitVec 32 := 2#32
  let c0_i32_48 : BitVec 32 := 0#32
  let v99 : BitVec 1 := Scalar.cmpi .eq c2_i32_47 c0_i32_48
  let c1_i32_49 : BitVec 32 := 1#32
  let v100 : BitVec 32 := Scalar.select v99 c1_i32_49 c2_i32_47
  let v101 : BitVec 32 := Scalar.remsi v81 v100
  let c0_i32_51 : BitVec 32 := 0#32
  let v103 : BitVec 1 := Scalar.cmpi .slt v101 c0_i32_51
  let c0_i32_52 : BitVec 32 := 0#32
  let v104 : BitVec 1 := Scalar.cmpi .slt v100 c0_i32_52
  let v105 : BitVec 1 := Scalar.xori v103 v104
  let c0_i32_50 : BitVec 32 := 0#32
  let v102 : BitVec 1 := Scalar.cmpi .ne v101 c0_i32_50
  let v106 : BitVec 1 := Scalar.andi v105 v102
  let v107 : BitVec 32 := Scalar.addi v101 v100
  let v108 : BitVec 32 := Scalar.select v106 v107 v101
  let v109 : BitVec 32 := Scalar.addi v98 v108
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v109 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c4_i32_2608 : BitVec 32 := 4#32
  let v2550 : BitVec 32 := Scalar.muli v119 c4_i32_2608
  let v2551 : BitVec 32 := Scalar.addi v2549 v2550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2609 : BitVec 32 := 1#32
  let v2552 : BitVec 32 := Scalar.muli v8 c1_i32_2609
  let v2553 : BitVec 32 := Scalar.addi v2551 v2552
  v2553.toNat
def k0_cond35 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c3_i32_600 : BitVec 32 := 3#32
  let v625 : BitVec 32 := Scalar.addi v8 c3_i32_600
  let c4_i32_601 : BitVec 32 := 4#32
  let c0_i32_602 : BitVec 32 := 0#32
  let v626 : BitVec 1 := Scalar.cmpi .eq c4_i32_601 c0_i32_602
  let c1_i32_603 : BitVec 32 := 1#32
  let v627 : BitVec 32 := Scalar.select v626 c1_i32_603 c4_i32_601
  let v628 : BitVec 32 := Scalar.remsi v625 v627
  let c0_i32_605 : BitVec 32 := 0#32
  let v630 : BitVec 1 := Scalar.cmpi .slt v628 c0_i32_605
  let c0_i32_606 : BitVec 32 := 0#32
  let v631 : BitVec 1 := Scalar.cmpi .slt v627 c0_i32_606
  let v632 : BitVec 1 := Scalar.xori v630 v631
  let c0_i32_604 : BitVec 32 := 0#32
  let v629 : BitVec 1 := Scalar.cmpi .ne v628 c0_i32_604
  let v633 : BitVec 1 := Scalar.andi v632 v629
  let v634 : BitVec 32 := Scalar.addi v628 v627
  let v635 : BitVec 32 := Scalar.select v633 v634 v628
  let v738 : BitVec 1 := Scalar.cmpi .eq v641 v635
  let v767 : BitVec 32 := Scalar.extui v738
  let c0_i32_730 : BitVec 32 := 0#32
  let v768 : BitVec 1 := Scalar.cmpi .ne v767 c0_i32_730
  v768

def k0_off48 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_721 : BitVec 32 := 1024#32
  let v763 : BitVec 32 := Scalar.muli v21 c1024_i32_721
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c256_i32_722 : BitVec 32 := 256#32
  let v764 : BitVec 32 := Scalar.muli v641 c256_i32_722
  let v765 : BitVec 32 := Scalar.addi v763 v764
  let c0_i32_723 : BitVec 32 := 0#32
  let v766 : BitVec 32 := Scalar.addi v765 c0_i32_723
  let c0_i32_2610 : BitVec 32 := 0#32
  ![v766.toNat, 0]
def k0_dev39 (d0 : Dev nD) : Nat :=
  let c0_i32_2607 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v71 : BitVec 32 := Scalar.addi v21 c3_i32
  let c4_i32_34 : BitVec 32 := 4#32
  let c0_i32_35 : BitVec 32 := 0#32
  let v72 : BitVec 1 := Scalar.cmpi .eq c4_i32_34 c0_i32_35
  let c1_i32_36 : BitVec 32 := 1#32
  let v73 : BitVec 32 := Scalar.select v72 c1_i32_36 c4_i32_34
  let v74 : BitVec 32 := Scalar.remsi v71 v73
  let c0_i32_38 : BitVec 32 := 0#32
  let v76 : BitVec 1 := Scalar.cmpi .slt v74 c0_i32_38
  let c0_i32_39 : BitVec 32 := 0#32
  let v77 : BitVec 1 := Scalar.cmpi .slt v73 c0_i32_39
  let v78 : BitVec 1 := Scalar.xori v76 v77
  let c0_i32_37 : BitVec 32 := 0#32
  let v75 : BitVec 1 := Scalar.cmpi .ne v74 c0_i32_37
  let v79 : BitVec 1 := Scalar.andi v78 v75
  let v80 : BitVec 32 := Scalar.addi v74 v73
  let v81 : BitVec 32 := Scalar.select v79 v80 v74
  let c0_i32_41 : BitVec 32 := 0#32
  let v83 : BitVec 1 := Scalar.cmpi .sgt v81 c0_i32_41
  let v84 : BitVec 32 := Scalar.extui v83
  let c0_i32_42 : BitVec 32 := 0#32
  let v85 : BitVec 1 := Scalar.cmpi .slt v81 c0_i32_42
  let v86 : BitVec 32 := Scalar.extui v85
  let v87 : BitVec 32 := Scalar.subi v84 v86
  let c2_i32_40 : BitVec 32 := 2#32
  let c0_i32_43 : BitVec 32 := 0#32
  let v88 : BitVec 1 := Scalar.cmpi .sgt c2_i32_40 c0_i32_43
  let v89 : BitVec 32 := Scalar.extui v88
  let c0_i32_44 : BitVec 32 := 0#32
  let v90 : BitVec 1 := Scalar.cmpi .slt c2_i32_40 c0_i32_44
  let v91 : BitVec 32 := Scalar.extui v90
  let v92 : BitVec 32 := Scalar.subi v89 v91
  let v93 : BitVec 1 := Scalar.cmpi .ne v87 v92
  let v94 : BitVec 32 := Scalar.remsi v81 c2_i32_40
  let c0_i32_45 : BitVec 32 := 0#32
  let v95 : BitVec 1 := Scalar.cmpi .ne v94 c0_i32_45
  let v96 : BitVec 1 := Scalar.andi v93 v95
  let v82 : BitVec 32 := Scalar.divsi v81 c2_i32_40
  let c1_i32_46 : BitVec 32 := 1#32
  let v97 : BitVec 32 := Scalar.subi v82 c1_i32_46
  let v98 : BitVec 32 := Scalar.select v96 v97 v82
  let c8_i32_2606 : BitVec 32 := 8#32
  let v2548 : BitVec 32 := Scalar.muli v98 c8_i32_2606
  let v2549 : BitVec 32 := Scalar.addi c0_i32_2607 v2548
  let c2_i32_47 : BitVec 32 := 2#32
  let c0_i32_48 : BitVec 32 := 0#32
  let v99 : BitVec 1 := Scalar.cmpi .eq c2_i32_47 c0_i32_48
  let c1_i32_49 : BitVec 32 := 1#32
  let v100 : BitVec 32 := Scalar.select v99 c1_i32_49 c2_i32_47
  let v101 : BitVec 32 := Scalar.remsi v81 v100
  let c0_i32_51 : BitVec 32 := 0#32
  let v103 : BitVec 1 := Scalar.cmpi .slt v101 c0_i32_51
  let c0_i32_52 : BitVec 32 := 0#32
  let v104 : BitVec 1 := Scalar.cmpi .slt v100 c0_i32_52
  let v105 : BitVec 1 := Scalar.xori v103 v104
  let c0_i32_50 : BitVec 32 := 0#32
  let v102 : BitVec 1 := Scalar.cmpi .ne v101 c0_i32_50
  let v106 : BitVec 1 := Scalar.andi v105 v102
  let v107 : BitVec 32 := Scalar.addi v101 v100
  let v108 : BitVec 32 := Scalar.select v106 v107 v101
  let v109 : BitVec 32 := Scalar.addi v98 v108
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v109 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c4_i32_2608 : BitVec 32 := 4#32
  let v2550 : BitVec 32 := Scalar.muli v119 c4_i32_2608
  let v2551 : BitVec 32 := Scalar.addi v2549 v2550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2609 : BitVec 32 := 1#32
  let v2552 : BitVec 32 := Scalar.muli v8 c1_i32_2609
  let v2553 : BitVec 32 := Scalar.addi v2551 v2552
  v2553.toNat
def k0_cond36 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let v777 : BitVec 1 := Scalar.cmpi .slt v647 v8
  let v778 : BitVec 32 := Scalar.extui v777
  let c0_i32_739 : BitVec 32 := 0#32
  let v779 : BitVec 1 := Scalar.cmpi .ne v778 c0_i32_739
  v779

def k0_off49 (d0 : Dev nD) : Fin 2 → Nat :=
  let c0_i32_737 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  ![0, v647.toNat]
def k0_off50 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_731 : BitVec 32 := 1024#32
  let v769 : BitVec 32 := Scalar.muli v21 c1024_i32_731
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c256_i32_732 : BitVec 32 := 256#32
  let v770 : BitVec 32 := Scalar.muli v647 c256_i32_732
  let v771 : BitVec 32 := Scalar.addi v769 v770
  let c0_i32_733 : BitVec 32 := 0#32
  let v772 : BitVec 32 := Scalar.addi v771 c0_i32_733
  let c0_i32_2610 : BitVec 32 := 0#32
  ![v772.toNat, 0]
def k0_off51 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32 : BitVec 32 := 1024#32
  let v120 : BitVec 32 := Scalar.muli v21 c1024_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32 : BitVec 32 := 256#32
  let v121 : BitVec 32 := Scalar.muli v8 c256_i32
  let v122 : BitVec 32 := Scalar.addi v120 v121
  let c0_i32_2611 : BitVec 32 := 0#32
  ![v122.toNat, 0]
def k0_cond37 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let v780 : BitVec 1 := Scalar.cmpi .sgt v647 v8
  let v781 : BitVec 32 := Scalar.extui v780
  let c0_i32_742 : BitVec 32 := 0#32
  let v782 : BitVec 1 := Scalar.cmpi .ne v781 c0_i32_742
  v782

def k0_off52 (d0 : Dev nD) : Fin 2 → Nat :=
  let c0_i32_740 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  ![0, v647.toNat]
def k0_off53 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_734 : BitVec 32 := 1024#32
  let v773 : BitVec 32 := Scalar.muli v21 c1024_i32_734
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c256_i32_735 : BitVec 32 := 256#32
  let v774 : BitVec 32 := Scalar.muli v647 c256_i32_735
  let v775 : BitVec 32 := Scalar.addi v773 v774
  let c0_i32_736 : BitVec 32 := 0#32
  let v776 : BitVec 32 := Scalar.addi v775 c0_i32_736
  let c0_i32_2610 : BitVec 32 := 0#32
  ![v776.toNat, 0]
def k0_off54 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32 : BitVec 32 := 1024#32
  let v120 : BitVec 32 := Scalar.muli v21 c1024_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32 : BitVec 32 := 256#32
  let v121 : BitVec 32 := Scalar.muli v8 c256_i32
  let v122 : BitVec 32 := Scalar.addi v120 v121
  let c0_i32_2611 : BitVec 32 := 0#32
  ![v122.toNat, 0]
def k0_cond38 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let v783 : BitVec 1 := Scalar.cmpi .slt v647 v8
  let c3_i32_743 : BitVec 32 := 3#32
  let v784 : BitVec 1 := Scalar.cmpi .slt v8 c3_i32_743
  let v785 : BitVec 1 := Scalar.andi v783 v784
  let v805 : BitVec 32 := Scalar.extui v785
  let c0_i32_759 : BitVec 32 := 0#32
  let v806 : BitVec 1 := Scalar.cmpi .ne v805 c0_i32_759
  v806

def k0_off55 (d0 : Dev nD) : Fin 2 → Nat :=
  let c0_i32_758 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  ![0, v647.toNat]
def k0_off56 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_747 : BitVec 32 := 1024#32
  let v790 : BitVec 32 := Scalar.muli v21 c1024_i32_747
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c256_i32_748 : BitVec 32 := 256#32
  let v791 : BitVec 32 := Scalar.muli v647 c256_i32_748
  let v792 : BitVec 32 := Scalar.addi v790 v791
  let c0_i32_749 : BitVec 32 := 0#32
  let v793 : BitVec 32 := Scalar.addi v792 c0_i32_749
  let c0_i32_2610 : BitVec 32 := 0#32
  ![v793.toNat, 0]
def k0_dev40 (d0 : Dev nD) : Nat :=
  let c0_i32_2607 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2606 : BitVec 32 := 8#32
  let v2548 : BitVec 32 := Scalar.muli v2 c8_i32_2606
  let v2549 : BitVec 32 := Scalar.addi c0_i32_2607 v2548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2608 : BitVec 32 := 4#32
  let v2550 : BitVec 32 := Scalar.muli v5 c4_i32_2608
  let v2551 : BitVec 32 := Scalar.addi v2549 v2550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_750 : BitVec 32 := 1#32
  let v794 : BitVec 32 := Scalar.addi v8 c1_i32_750
  let c4_i32_751 : BitVec 32 := 4#32
  let c0_i32_752 : BitVec 32 := 0#32
  let v795 : BitVec 1 := Scalar.cmpi .eq c4_i32_751 c0_i32_752
  let c1_i32_753 : BitVec 32 := 1#32
  let v796 : BitVec 32 := Scalar.select v795 c1_i32_753 c4_i32_751
  let v797 : BitVec 32 := Scalar.remsi v794 v796
  let c0_i32_755 : BitVec 32 := 0#32
  let v799 : BitVec 1 := Scalar.cmpi .slt v797 c0_i32_755
  let c0_i32_756 : BitVec 32 := 0#32
  let v800 : BitVec 1 := Scalar.cmpi .slt v796 c0_i32_756
  let v801 : BitVec 1 := Scalar.xori v799 v800
  let c0_i32_754 : BitVec 32 := 0#32
  let v798 : BitVec 1 := Scalar.cmpi .ne v797 c0_i32_754
  let v802 : BitVec 1 := Scalar.andi v801 v798
  let v803 : BitVec 32 := Scalar.addi v797 v796
  let v804 : BitVec 32 := Scalar.select v802 v803 v797
  let c1_i32_2609 : BitVec 32 := 1#32
  let v2552 : BitVec 32 := Scalar.muli v804 c1_i32_2609
  let v2553 : BitVec 32 := Scalar.addi v2551 v2552
  v2553.toNat
def k0_cond39 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let v807 : BitVec 1 := Scalar.cmpi .sgt v647 v8
  let c0_i32_760 : BitVec 32 := 0#32
  let v808 : BitVec 1 := Scalar.cmpi .sgt v8 c0_i32_760
  let v809 : BitVec 1 := Scalar.andi v807 v808
  let v829 : BitVec 32 := Scalar.extui v809
  let c0_i32_776 : BitVec 32 := 0#32
  let v830 : BitVec 1 := Scalar.cmpi .ne v829 c0_i32_776
  v830

def k0_off57 (d0 : Dev nD) : Fin 2 → Nat :=
  let c0_i32_775 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  ![0, v647.toNat]
def k0_off58 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_764 : BitVec 32 := 1024#32
  let v814 : BitVec 32 := Scalar.muli v21 c1024_i32_764
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c256_i32_765 : BitVec 32 := 256#32
  let v815 : BitVec 32 := Scalar.muli v647 c256_i32_765
  let v816 : BitVec 32 := Scalar.addi v814 v815
  let c0_i32_766 : BitVec 32 := 0#32
  let v817 : BitVec 32 := Scalar.addi v816 c0_i32_766
  let c0_i32_2610 : BitVec 32 := 0#32
  ![v817.toNat, 0]
def k0_dev41 (d0 : Dev nD) : Nat :=
  let c0_i32_2607 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2606 : BitVec 32 := 8#32
  let v2548 : BitVec 32 := Scalar.muli v2 c8_i32_2606
  let v2549 : BitVec 32 := Scalar.addi c0_i32_2607 v2548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2608 : BitVec 32 := 4#32
  let v2550 : BitVec 32 := Scalar.muli v5 c4_i32_2608
  let v2551 : BitVec 32 := Scalar.addi v2549 v2550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_767 : BitVec 32 := 3#32
  let v818 : BitVec 32 := Scalar.addi v8 c3_i32_767
  let c4_i32_768 : BitVec 32 := 4#32
  let c0_i32_769 : BitVec 32 := 0#32
  let v819 : BitVec 1 := Scalar.cmpi .eq c4_i32_768 c0_i32_769
  let c1_i32_770 : BitVec 32 := 1#32
  let v820 : BitVec 32 := Scalar.select v819 c1_i32_770 c4_i32_768
  let v821 : BitVec 32 := Scalar.remsi v818 v820
  let c0_i32_772 : BitVec 32 := 0#32
  let v823 : BitVec 1 := Scalar.cmpi .slt v821 c0_i32_772
  let c0_i32_773 : BitVec 32 := 0#32
  let v824 : BitVec 1 := Scalar.cmpi .slt v820 c0_i32_773
  let v825 : BitVec 1 := Scalar.xori v823 v824
  let c0_i32_771 : BitVec 32 := 0#32
  let v822 : BitVec 1 := Scalar.cmpi .ne v821 c0_i32_771
  let v826 : BitVec 1 := Scalar.andi v825 v822
  let v827 : BitVec 32 := Scalar.addi v821 v820
  let v828 : BitVec 32 := Scalar.select v826 v827 v821
  let c1_i32_2609 : BitVec 32 := 1#32
  let v2552 : BitVec 32 := Scalar.muli v828 c1_i32_2609
  let v2553 : BitVec 32 := Scalar.addi v2551 v2552
  v2553.toNat
def k0_cond40 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c1_i32_586 : BitVec 32 := 1#32
  let v603 : BitVec 32 := Scalar.addi v8 c1_i32_586
  let c4_i32_587 : BitVec 32 := 4#32
  let c0_i32_588 : BitVec 32 := 0#32
  let v604 : BitVec 1 := Scalar.cmpi .eq c4_i32_587 c0_i32_588
  let c1_i32_589 : BitVec 32 := 1#32
  let v605 : BitVec 32 := Scalar.select v604 c1_i32_589 c4_i32_587
  let v606 : BitVec 32 := Scalar.remsi v603 v605
  let c0_i32_591 : BitVec 32 := 0#32
  let v608 : BitVec 1 := Scalar.cmpi .slt v606 c0_i32_591
  let c0_i32_592 : BitVec 32 := 0#32
  let v609 : BitVec 1 := Scalar.cmpi .slt v605 c0_i32_592
  let v610 : BitVec 1 := Scalar.xori v608 v609
  let c0_i32_590 : BitVec 32 := 0#32
  let v607 : BitVec 1 := Scalar.cmpi .ne v606 c0_i32_590
  let v611 : BitVec 1 := Scalar.andi v610 v607
  let v612 : BitVec 32 := Scalar.addi v606 v605
  let v613 : BitVec 32 := Scalar.select v611 v612 v606
  let v831 : BitVec 1 := Scalar.cmpi .eq v647 v613
  let v842 : BitVec 32 := Scalar.extui v831
  let c0_i32_789 : BitVec 32 := 0#32
  let v843 : BitVec 1 := Scalar.cmpi .ne v842 c0_i32_789
  v843

def k0_off59 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_780 : BitVec 32 := 1024#32
  let v838 : BitVec 32 := Scalar.muli v21 c1024_i32_780
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c256_i32_781 : BitVec 32 := 256#32
  let v839 : BitVec 32 := Scalar.muli v647 c256_i32_781
  let v840 : BitVec 32 := Scalar.addi v838 v839
  let c0_i32_782 : BitVec 32 := 0#32
  let v841 : BitVec 32 := Scalar.addi v840 c0_i32_782
  let c0_i32_2610 : BitVec 32 := 0#32
  ![v841.toNat, 0]
def k0_dev42 (d0 : Dev nD) : Nat :=
  let c0_i32_2607 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1_i32_8 : BitVec 32 := 1#32
  let v22 : BitVec 32 := Scalar.addi v21 c1_i32_8
  let c4_i32_9 : BitVec 32 := 4#32
  let c0_i32_10 : BitVec 32 := 0#32
  let v23 : BitVec 1 := Scalar.cmpi .eq c4_i32_9 c0_i32_10
  let c1_i32_11 : BitVec 32 := 1#32
  let v24 : BitVec 32 := Scalar.select v23 c1_i32_11 c4_i32_9
  let v25 : BitVec 32 := Scalar.remsi v22 v24
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let c0_i32_12 : BitVec 32 := 0#32
  let v26 : BitVec 1 := Scalar.cmpi .ne v25 c0_i32_12
  let v30 : BitVec 1 := Scalar.andi v29 v26
  let v31 : BitVec 32 := Scalar.addi v25 v24
  let v32 : BitVec 32 := Scalar.select v30 v31 v25
  let c0_i32_16 : BitVec 32 := 0#32
  let v34 : BitVec 1 := Scalar.cmpi .sgt v32 c0_i32_16
  let v35 : BitVec 32 := Scalar.extui v34
  let c0_i32_17 : BitVec 32 := 0#32
  let v36 : BitVec 1 := Scalar.cmpi .slt v32 c0_i32_17
  let v37 : BitVec 32 := Scalar.extui v36
  let v38 : BitVec 32 := Scalar.subi v35 v37
  let c2_i32_15 : BitVec 32 := 2#32
  let c0_i32_18 : BitVec 32 := 0#32
  let v39 : BitVec 1 := Scalar.cmpi .sgt c2_i32_15 c0_i32_18
  let v40 : BitVec 32 := Scalar.extui v39
  let c0_i32_19 : BitVec 32 := 0#32
  let v41 : BitVec 1 := Scalar.cmpi .slt c2_i32_15 c0_i32_19
  let v42 : BitVec 32 := Scalar.extui v41
  let v43 : BitVec 32 := Scalar.subi v40 v42
  let v44 : BitVec 1 := Scalar.cmpi .ne v38 v43
  let v45 : BitVec 32 := Scalar.remsi v32 c2_i32_15
  let c0_i32_20 : BitVec 32 := 0#32
  let v46 : BitVec 1 := Scalar.cmpi .ne v45 c0_i32_20
  let v47 : BitVec 1 := Scalar.andi v44 v46
  let v33 : BitVec 32 := Scalar.divsi v32 c2_i32_15
  let c1_i32_21 : BitVec 32 := 1#32
  let v48 : BitVec 32 := Scalar.subi v33 c1_i32_21
  let v49 : BitVec 32 := Scalar.select v47 v48 v33
  let c8_i32_2606 : BitVec 32 := 8#32
  let v2548 : BitVec 32 := Scalar.muli v49 c8_i32_2606
  let v2549 : BitVec 32 := Scalar.addi c0_i32_2607 v2548
  let c2_i32_22 : BitVec 32 := 2#32
  let c0_i32_23 : BitVec 32 := 0#32
  let v50 : BitVec 1 := Scalar.cmpi .eq c2_i32_22 c0_i32_23
  let c1_i32_24 : BitVec 32 := 1#32
  let v51 : BitVec 32 := Scalar.select v50 c1_i32_24 c2_i32_22
  let v52 : BitVec 32 := Scalar.remsi v32 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let v60 : BitVec 32 := Scalar.addi v49 v59
  let c2_i32_28 : BitVec 32 := 2#32
  let c0_i32_29 : BitVec 32 := 0#32
  let v61 : BitVec 1 := Scalar.cmpi .eq c2_i32_28 c0_i32_29
  let c1_i32_30 : BitVec 32 := 1#32
  let v62 : BitVec 32 := Scalar.select v61 c1_i32_30 c2_i32_28
  let v63 : BitVec 32 := Scalar.remsi v60 v62
  let c0_i32_32 : BitVec 32 := 0#32
  let v65 : BitVec 1 := Scalar.cmpi .slt v63 c0_i32_32
  let c0_i32_33 : BitVec 32 := 0#32
  let v66 : BitVec 1 := Scalar.cmpi .slt v62 c0_i32_33
  let v67 : BitVec 1 := Scalar.xori v65 v66
  let c0_i32_31 : BitVec 32 := 0#32
  let v64 : BitVec 1 := Scalar.cmpi .ne v63 c0_i32_31
  let v68 : BitVec 1 := Scalar.andi v67 v64
  let v69 : BitVec 32 := Scalar.addi v63 v62
  let v70 : BitVec 32 := Scalar.select v68 v69 v63
  let c4_i32_2608 : BitVec 32 := 4#32
  let v2550 : BitVec 32 := Scalar.muli v70 c4_i32_2608
  let v2551 : BitVec 32 := Scalar.addi v2549 v2550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2609 : BitVec 32 := 1#32
  let v2552 : BitVec 32 := Scalar.muli v8 c1_i32_2609
  let v2553 : BitVec 32 := Scalar.addi v2551 v2552
  v2553.toNat
def k0_cond41 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c2_i32_593 : BitVec 32 := 2#32
  let v614 : BitVec 32 := Scalar.addi v8 c2_i32_593
  let c4_i32_594 : BitVec 32 := 4#32
  let c0_i32_595 : BitVec 32 := 0#32
  let v615 : BitVec 1 := Scalar.cmpi .eq c4_i32_594 c0_i32_595
  let c1_i32_596 : BitVec 32 := 1#32
  let v616 : BitVec 32 := Scalar.select v615 c1_i32_596 c4_i32_594
  let v617 : BitVec 32 := Scalar.remsi v614 v616
  let c0_i32_598 : BitVec 32 := 0#32
  let v619 : BitVec 1 := Scalar.cmpi .slt v617 c0_i32_598
  let c0_i32_599 : BitVec 32 := 0#32
  let v620 : BitVec 1 := Scalar.cmpi .slt v616 c0_i32_599
  let v621 : BitVec 1 := Scalar.xori v619 v620
  let c0_i32_597 : BitVec 32 := 0#32
  let v618 : BitVec 1 := Scalar.cmpi .ne v617 c0_i32_597
  let v622 : BitVec 1 := Scalar.andi v621 v618
  let v623 : BitVec 32 := Scalar.addi v617 v616
  let v624 : BitVec 32 := Scalar.select v622 v623 v617
  let v832 : BitVec 1 := Scalar.cmpi .eq v647 v624
  let v852 : BitVec 32 := Scalar.extui v832
  let c0_i32_802 : BitVec 32 := 0#32
  let v853 : BitVec 1 := Scalar.cmpi .ne v852 c0_i32_802
  v853

def k0_off60 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_793 : BitVec 32 := 1024#32
  let v848 : BitVec 32 := Scalar.muli v21 c1024_i32_793
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c256_i32_794 : BitVec 32 := 256#32
  let v849 : BitVec 32 := Scalar.muli v647 c256_i32_794
  let v850 : BitVec 32 := Scalar.addi v848 v849
  let c0_i32_795 : BitVec 32 := 0#32
  let v851 : BitVec 32 := Scalar.addi v850 c0_i32_795
  let c0_i32_2610 : BitVec 32 := 0#32
  ![v851.toNat, 0]
def k0_dev43 (d0 : Dev nD) : Nat :=
  let c0_i32_2607 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v71 : BitVec 32 := Scalar.addi v21 c3_i32
  let c4_i32_34 : BitVec 32 := 4#32
  let c0_i32_35 : BitVec 32 := 0#32
  let v72 : BitVec 1 := Scalar.cmpi .eq c4_i32_34 c0_i32_35
  let c1_i32_36 : BitVec 32 := 1#32
  let v73 : BitVec 32 := Scalar.select v72 c1_i32_36 c4_i32_34
  let v74 : BitVec 32 := Scalar.remsi v71 v73
  let c0_i32_38 : BitVec 32 := 0#32
  let v76 : BitVec 1 := Scalar.cmpi .slt v74 c0_i32_38
  let c0_i32_39 : BitVec 32 := 0#32
  let v77 : BitVec 1 := Scalar.cmpi .slt v73 c0_i32_39
  let v78 : BitVec 1 := Scalar.xori v76 v77
  let c0_i32_37 : BitVec 32 := 0#32
  let v75 : BitVec 1 := Scalar.cmpi .ne v74 c0_i32_37
  let v79 : BitVec 1 := Scalar.andi v78 v75
  let v80 : BitVec 32 := Scalar.addi v74 v73
  let v81 : BitVec 32 := Scalar.select v79 v80 v74
  let c0_i32_41 : BitVec 32 := 0#32
  let v83 : BitVec 1 := Scalar.cmpi .sgt v81 c0_i32_41
  let v84 : BitVec 32 := Scalar.extui v83
  let c0_i32_42 : BitVec 32 := 0#32
  let v85 : BitVec 1 := Scalar.cmpi .slt v81 c0_i32_42
  let v86 : BitVec 32 := Scalar.extui v85
  let v87 : BitVec 32 := Scalar.subi v84 v86
  let c2_i32_40 : BitVec 32 := 2#32
  let c0_i32_43 : BitVec 32 := 0#32
  let v88 : BitVec 1 := Scalar.cmpi .sgt c2_i32_40 c0_i32_43
  let v89 : BitVec 32 := Scalar.extui v88
  let c0_i32_44 : BitVec 32 := 0#32
  let v90 : BitVec 1 := Scalar.cmpi .slt c2_i32_40 c0_i32_44
  let v91 : BitVec 32 := Scalar.extui v90
  let v92 : BitVec 32 := Scalar.subi v89 v91
  let v93 : BitVec 1 := Scalar.cmpi .ne v87 v92
  let v94 : BitVec 32 := Scalar.remsi v81 c2_i32_40
  let c0_i32_45 : BitVec 32 := 0#32
  let v95 : BitVec 1 := Scalar.cmpi .ne v94 c0_i32_45
  let v96 : BitVec 1 := Scalar.andi v93 v95
  let v82 : BitVec 32 := Scalar.divsi v81 c2_i32_40
  let c1_i32_46 : BitVec 32 := 1#32
  let v97 : BitVec 32 := Scalar.subi v82 c1_i32_46
  let v98 : BitVec 32 := Scalar.select v96 v97 v82
  let c8_i32_2606 : BitVec 32 := 8#32
  let v2548 : BitVec 32 := Scalar.muli v98 c8_i32_2606
  let v2549 : BitVec 32 := Scalar.addi c0_i32_2607 v2548
  let c2_i32_47 : BitVec 32 := 2#32
  let c0_i32_48 : BitVec 32 := 0#32
  let v99 : BitVec 1 := Scalar.cmpi .eq c2_i32_47 c0_i32_48
  let c1_i32_49 : BitVec 32 := 1#32
  let v100 : BitVec 32 := Scalar.select v99 c1_i32_49 c2_i32_47
  let v101 : BitVec 32 := Scalar.remsi v81 v100
  let c0_i32_51 : BitVec 32 := 0#32
  let v103 : BitVec 1 := Scalar.cmpi .slt v101 c0_i32_51
  let c0_i32_52 : BitVec 32 := 0#32
  let v104 : BitVec 1 := Scalar.cmpi .slt v100 c0_i32_52
  let v105 : BitVec 1 := Scalar.xori v103 v104
  let c0_i32_50 : BitVec 32 := 0#32
  let v102 : BitVec 1 := Scalar.cmpi .ne v101 c0_i32_50
  let v106 : BitVec 1 := Scalar.andi v105 v102
  let v107 : BitVec 32 := Scalar.addi v101 v100
  let v108 : BitVec 32 := Scalar.select v106 v107 v101
  let v109 : BitVec 32 := Scalar.addi v98 v108
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v109 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c4_i32_2608 : BitVec 32 := 4#32
  let v2550 : BitVec 32 := Scalar.muli v119 c4_i32_2608
  let v2551 : BitVec 32 := Scalar.addi v2549 v2550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2609 : BitVec 32 := 1#32
  let v2552 : BitVec 32 := Scalar.muli v8 c1_i32_2609
  let v2553 : BitVec 32 := Scalar.addi v2551 v2552
  v2553.toNat
def k0_cond42 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c3_i32_600 : BitVec 32 := 3#32
  let v625 : BitVec 32 := Scalar.addi v8 c3_i32_600
  let c4_i32_601 : BitVec 32 := 4#32
  let c0_i32_602 : BitVec 32 := 0#32
  let v626 : BitVec 1 := Scalar.cmpi .eq c4_i32_601 c0_i32_602
  let c1_i32_603 : BitVec 32 := 1#32
  let v627 : BitVec 32 := Scalar.select v626 c1_i32_603 c4_i32_601
  let v628 : BitVec 32 := Scalar.remsi v625 v627
  let c0_i32_605 : BitVec 32 := 0#32
  let v630 : BitVec 1 := Scalar.cmpi .slt v628 c0_i32_605
  let c0_i32_606 : BitVec 32 := 0#32
  let v631 : BitVec 1 := Scalar.cmpi .slt v627 c0_i32_606
  let v632 : BitVec 1 := Scalar.xori v630 v631
  let c0_i32_604 : BitVec 32 := 0#32
  let v629 : BitVec 1 := Scalar.cmpi .ne v628 c0_i32_604
  let v633 : BitVec 1 := Scalar.andi v632 v629
  let v634 : BitVec 32 := Scalar.addi v628 v627
  let v635 : BitVec 32 := Scalar.select v633 v634 v628
  let v833 : BitVec 1 := Scalar.cmpi .eq v647 v635
  let v862 : BitVec 32 := Scalar.extui v833
  let c0_i32_815 : BitVec 32 := 0#32
  let v863 : BitVec 1 := Scalar.cmpi .ne v862 c0_i32_815
  v863

def k0_off61 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_806 : BitVec 32 := 1024#32
  let v858 : BitVec 32 := Scalar.muli v21 c1024_i32_806
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c256_i32_807 : BitVec 32 := 256#32
  let v859 : BitVec 32 := Scalar.muli v647 c256_i32_807
  let v860 : BitVec 32 := Scalar.addi v858 v859
  let c0_i32_808 : BitVec 32 := 0#32
  let v861 : BitVec 32 := Scalar.addi v860 c0_i32_808
  let c0_i32_2610 : BitVec 32 := 0#32
  ![v861.toNat, 0]
def k0_dev44 (d0 : Dev nD) : Nat :=
  let c0_i32_2607 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v71 : BitVec 32 := Scalar.addi v21 c3_i32
  let c4_i32_34 : BitVec 32 := 4#32
  let c0_i32_35 : BitVec 32 := 0#32
  let v72 : BitVec 1 := Scalar.cmpi .eq c4_i32_34 c0_i32_35
  let c1_i32_36 : BitVec 32 := 1#32
  let v73 : BitVec 32 := Scalar.select v72 c1_i32_36 c4_i32_34
  let v74 : BitVec 32 := Scalar.remsi v71 v73
  let c0_i32_38 : BitVec 32 := 0#32
  let v76 : BitVec 1 := Scalar.cmpi .slt v74 c0_i32_38
  let c0_i32_39 : BitVec 32 := 0#32
  let v77 : BitVec 1 := Scalar.cmpi .slt v73 c0_i32_39
  let v78 : BitVec 1 := Scalar.xori v76 v77
  let c0_i32_37 : BitVec 32 := 0#32
  let v75 : BitVec 1 := Scalar.cmpi .ne v74 c0_i32_37
  let v79 : BitVec 1 := Scalar.andi v78 v75
  let v80 : BitVec 32 := Scalar.addi v74 v73
  let v81 : BitVec 32 := Scalar.select v79 v80 v74
  let c0_i32_41 : BitVec 32 := 0#32
  let v83 : BitVec 1 := Scalar.cmpi .sgt v81 c0_i32_41
  let v84 : BitVec 32 := Scalar.extui v83
  let c0_i32_42 : BitVec 32 := 0#32
  let v85 : BitVec 1 := Scalar.cmpi .slt v81 c0_i32_42
  let v86 : BitVec 32 := Scalar.extui v85
  let v87 : BitVec 32 := Scalar.subi v84 v86
  let c2_i32_40 : BitVec 32 := 2#32
  let c0_i32_43 : BitVec 32 := 0#32
  let v88 : BitVec 1 := Scalar.cmpi .sgt c2_i32_40 c0_i32_43
  let v89 : BitVec 32 := Scalar.extui v88
  let c0_i32_44 : BitVec 32 := 0#32
  let v90 : BitVec 1 := Scalar.cmpi .slt c2_i32_40 c0_i32_44
  let v91 : BitVec 32 := Scalar.extui v90
  let v92 : BitVec 32 := Scalar.subi v89 v91
  let v93 : BitVec 1 := Scalar.cmpi .ne v87 v92
  let v94 : BitVec 32 := Scalar.remsi v81 c2_i32_40
  let c0_i32_45 : BitVec 32 := 0#32
  let v95 : BitVec 1 := Scalar.cmpi .ne v94 c0_i32_45
  let v96 : BitVec 1 := Scalar.andi v93 v95
  let v82 : BitVec 32 := Scalar.divsi v81 c2_i32_40
  let c1_i32_46 : BitVec 32 := 1#32
  let v97 : BitVec 32 := Scalar.subi v82 c1_i32_46
  let v98 : BitVec 32 := Scalar.select v96 v97 v82
  let c8_i32_2606 : BitVec 32 := 8#32
  let v2548 : BitVec 32 := Scalar.muli v98 c8_i32_2606
  let v2549 : BitVec 32 := Scalar.addi c0_i32_2607 v2548
  let c2_i32_47 : BitVec 32 := 2#32
  let c0_i32_48 : BitVec 32 := 0#32
  let v99 : BitVec 1 := Scalar.cmpi .eq c2_i32_47 c0_i32_48
  let c1_i32_49 : BitVec 32 := 1#32
  let v100 : BitVec 32 := Scalar.select v99 c1_i32_49 c2_i32_47
  let v101 : BitVec 32 := Scalar.remsi v81 v100
  let c0_i32_51 : BitVec 32 := 0#32
  let v103 : BitVec 1 := Scalar.cmpi .slt v101 c0_i32_51
  let c0_i32_52 : BitVec 32 := 0#32
  let v104 : BitVec 1 := Scalar.cmpi .slt v100 c0_i32_52
  let v105 : BitVec 1 := Scalar.xori v103 v104
  let c0_i32_50 : BitVec 32 := 0#32
  let v102 : BitVec 1 := Scalar.cmpi .ne v101 c0_i32_50
  let v106 : BitVec 1 := Scalar.andi v105 v102
  let v107 : BitVec 32 := Scalar.addi v101 v100
  let v108 : BitVec 32 := Scalar.select v106 v107 v101
  let v109 : BitVec 32 := Scalar.addi v98 v108
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v109 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c4_i32_2608 : BitVec 32 := 4#32
  let v2550 : BitVec 32 := Scalar.muli v119 c4_i32_2608
  let v2551 : BitVec 32 := Scalar.addi v2549 v2550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2609 : BitVec 32 := 1#32
  let v2552 : BitVec 32 := Scalar.muli v8 c1_i32_2609
  let v2553 : BitVec 32 := Scalar.addi v2551 v2552
  v2553.toNat
def k0_cond43 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let v872 : BitVec 1 := Scalar.cmpi .slt v653 v8
  let v873 : BitVec 32 := Scalar.extui v872
  let c0_i32_824 : BitVec 32 := 0#32
  let v874 : BitVec 1 := Scalar.cmpi .ne v873 c0_i32_824
  v874

def k0_off62 (d0 : Dev nD) : Fin 2 → Nat :=
  let c0_i32_822 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  ![0, v653.toNat]
def k0_off63 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_816 : BitVec 32 := 1024#32
  let v864 : BitVec 32 := Scalar.muli v21 c1024_i32_816
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c256_i32_817 : BitVec 32 := 256#32
  let v865 : BitVec 32 := Scalar.muli v653 c256_i32_817
  let v866 : BitVec 32 := Scalar.addi v864 v865
  let c0_i32_818 : BitVec 32 := 0#32
  let v867 : BitVec 32 := Scalar.addi v866 c0_i32_818
  let c0_i32_2610 : BitVec 32 := 0#32
  ![v867.toNat, 0]
def k0_off64 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32 : BitVec 32 := 1024#32
  let v120 : BitVec 32 := Scalar.muli v21 c1024_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32 : BitVec 32 := 256#32
  let v121 : BitVec 32 := Scalar.muli v8 c256_i32
  let v122 : BitVec 32 := Scalar.addi v120 v121
  let c0_i32_2611 : BitVec 32 := 0#32
  ![v122.toNat, 0]
def k0_cond44 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let v875 : BitVec 1 := Scalar.cmpi .sgt v653 v8
  let v876 : BitVec 32 := Scalar.extui v875
  let c0_i32_827 : BitVec 32 := 0#32
  let v877 : BitVec 1 := Scalar.cmpi .ne v876 c0_i32_827
  v877

def k0_off65 (d0 : Dev nD) : Fin 2 → Nat :=
  let c0_i32_825 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  ![0, v653.toNat]
def k0_off66 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_819 : BitVec 32 := 1024#32
  let v868 : BitVec 32 := Scalar.muli v21 c1024_i32_819
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c256_i32_820 : BitVec 32 := 256#32
  let v869 : BitVec 32 := Scalar.muli v653 c256_i32_820
  let v870 : BitVec 32 := Scalar.addi v868 v869
  let c0_i32_821 : BitVec 32 := 0#32
  let v871 : BitVec 32 := Scalar.addi v870 c0_i32_821
  let c0_i32_2610 : BitVec 32 := 0#32
  ![v871.toNat, 0]
def k0_off67 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32 : BitVec 32 := 1024#32
  let v120 : BitVec 32 := Scalar.muli v21 c1024_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32 : BitVec 32 := 256#32
  let v121 : BitVec 32 := Scalar.muli v8 c256_i32
  let v122 : BitVec 32 := Scalar.addi v120 v121
  let c0_i32_2611 : BitVec 32 := 0#32
  ![v122.toNat, 0]
def k0_cond45 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let v878 : BitVec 1 := Scalar.cmpi .slt v653 v8
  let c3_i32_828 : BitVec 32 := 3#32
  let v879 : BitVec 1 := Scalar.cmpi .slt v8 c3_i32_828
  let v880 : BitVec 1 := Scalar.andi v878 v879
  let v900 : BitVec 32 := Scalar.extui v880
  let c0_i32_844 : BitVec 32 := 0#32
  let v901 : BitVec 1 := Scalar.cmpi .ne v900 c0_i32_844
  v901

def k0_off68 (d0 : Dev nD) : Fin 2 → Nat :=
  let c0_i32_843 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  ![0, v653.toNat]
def k0_off69 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_832 : BitVec 32 := 1024#32
  let v885 : BitVec 32 := Scalar.muli v21 c1024_i32_832
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c256_i32_833 : BitVec 32 := 256#32
  let v886 : BitVec 32 := Scalar.muli v653 c256_i32_833
  let v887 : BitVec 32 := Scalar.addi v885 v886
  let c0_i32_834 : BitVec 32 := 0#32
  let v888 : BitVec 32 := Scalar.addi v887 c0_i32_834
  let c0_i32_2610 : BitVec 32 := 0#32
  ![v888.toNat, 0]
def k0_dev45 (d0 : Dev nD) : Nat :=
  let c0_i32_2607 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2606 : BitVec 32 := 8#32
  let v2548 : BitVec 32 := Scalar.muli v2 c8_i32_2606
  let v2549 : BitVec 32 := Scalar.addi c0_i32_2607 v2548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2608 : BitVec 32 := 4#32
  let v2550 : BitVec 32 := Scalar.muli v5 c4_i32_2608
  let v2551 : BitVec 32 := Scalar.addi v2549 v2550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_835 : BitVec 32 := 1#32
  let v889 : BitVec 32 := Scalar.addi v8 c1_i32_835
  let c4_i32_836 : BitVec 32 := 4#32
  let c0_i32_837 : BitVec 32 := 0#32
  let v890 : BitVec 1 := Scalar.cmpi .eq c4_i32_836 c0_i32_837
  let c1_i32_838 : BitVec 32 := 1#32
  let v891 : BitVec 32 := Scalar.select v890 c1_i32_838 c4_i32_836
  let v892 : BitVec 32 := Scalar.remsi v889 v891
  let c0_i32_840 : BitVec 32 := 0#32
  let v894 : BitVec 1 := Scalar.cmpi .slt v892 c0_i32_840
  let c0_i32_841 : BitVec 32 := 0#32
  let v895 : BitVec 1 := Scalar.cmpi .slt v891 c0_i32_841
  let v896 : BitVec 1 := Scalar.xori v894 v895
  let c0_i32_839 : BitVec 32 := 0#32
  let v893 : BitVec 1 := Scalar.cmpi .ne v892 c0_i32_839
  let v897 : BitVec 1 := Scalar.andi v896 v893
  let v898 : BitVec 32 := Scalar.addi v892 v891
  let v899 : BitVec 32 := Scalar.select v897 v898 v892
  let c1_i32_2609 : BitVec 32 := 1#32
  let v2552 : BitVec 32 := Scalar.muli v899 c1_i32_2609
  let v2553 : BitVec 32 := Scalar.addi v2551 v2552
  v2553.toNat
def k0_cond46 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let v902 : BitVec 1 := Scalar.cmpi .sgt v653 v8
  let c0_i32_845 : BitVec 32 := 0#32
  let v903 : BitVec 1 := Scalar.cmpi .sgt v8 c0_i32_845
  let v904 : BitVec 1 := Scalar.andi v902 v903
  let v924 : BitVec 32 := Scalar.extui v904
  let c0_i32_861 : BitVec 32 := 0#32
  let v925 : BitVec 1 := Scalar.cmpi .ne v924 c0_i32_861
  v925

def k0_off70 (d0 : Dev nD) : Fin 2 → Nat :=
  let c0_i32_860 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  ![0, v653.toNat]
def k0_off71 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_849 : BitVec 32 := 1024#32
  let v909 : BitVec 32 := Scalar.muli v21 c1024_i32_849
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c256_i32_850 : BitVec 32 := 256#32
  let v910 : BitVec 32 := Scalar.muli v653 c256_i32_850
  let v911 : BitVec 32 := Scalar.addi v909 v910
  let c0_i32_851 : BitVec 32 := 0#32
  let v912 : BitVec 32 := Scalar.addi v911 c0_i32_851
  let c0_i32_2610 : BitVec 32 := 0#32
  ![v912.toNat, 0]
def k0_dev46 (d0 : Dev nD) : Nat :=
  let c0_i32_2607 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2606 : BitVec 32 := 8#32
  let v2548 : BitVec 32 := Scalar.muli v2 c8_i32_2606
  let v2549 : BitVec 32 := Scalar.addi c0_i32_2607 v2548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2608 : BitVec 32 := 4#32
  let v2550 : BitVec 32 := Scalar.muli v5 c4_i32_2608
  let v2551 : BitVec 32 := Scalar.addi v2549 v2550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_852 : BitVec 32 := 3#32
  let v913 : BitVec 32 := Scalar.addi v8 c3_i32_852
  let c4_i32_853 : BitVec 32 := 4#32
  let c0_i32_854 : BitVec 32 := 0#32
  let v914 : BitVec 1 := Scalar.cmpi .eq c4_i32_853 c0_i32_854
  let c1_i32_855 : BitVec 32 := 1#32
  let v915 : BitVec 32 := Scalar.select v914 c1_i32_855 c4_i32_853
  let v916 : BitVec 32 := Scalar.remsi v913 v915
  let c0_i32_857 : BitVec 32 := 0#32
  let v918 : BitVec 1 := Scalar.cmpi .slt v916 c0_i32_857
  let c0_i32_858 : BitVec 32 := 0#32
  let v919 : BitVec 1 := Scalar.cmpi .slt v915 c0_i32_858
  let v920 : BitVec 1 := Scalar.xori v918 v919
  let c0_i32_856 : BitVec 32 := 0#32
  let v917 : BitVec 1 := Scalar.cmpi .ne v916 c0_i32_856
  let v921 : BitVec 1 := Scalar.andi v920 v917
  let v922 : BitVec 32 := Scalar.addi v916 v915
  let v923 : BitVec 32 := Scalar.select v921 v922 v916
  let c1_i32_2609 : BitVec 32 := 1#32
  let v2552 : BitVec 32 := Scalar.muli v923 c1_i32_2609
  let v2553 : BitVec 32 := Scalar.addi v2551 v2552
  v2553.toNat
def k0_cond47 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c1_i32_586 : BitVec 32 := 1#32
  let v603 : BitVec 32 := Scalar.addi v8 c1_i32_586
  let c4_i32_587 : BitVec 32 := 4#32
  let c0_i32_588 : BitVec 32 := 0#32
  let v604 : BitVec 1 := Scalar.cmpi .eq c4_i32_587 c0_i32_588
  let c1_i32_589 : BitVec 32 := 1#32
  let v605 : BitVec 32 := Scalar.select v604 c1_i32_589 c4_i32_587
  let v606 : BitVec 32 := Scalar.remsi v603 v605
  let c0_i32_591 : BitVec 32 := 0#32
  let v608 : BitVec 1 := Scalar.cmpi .slt v606 c0_i32_591
  let c0_i32_592 : BitVec 32 := 0#32
  let v609 : BitVec 1 := Scalar.cmpi .slt v605 c0_i32_592
  let v610 : BitVec 1 := Scalar.xori v608 v609
  let c0_i32_590 : BitVec 32 := 0#32
  let v607 : BitVec 1 := Scalar.cmpi .ne v606 c0_i32_590
  let v611 : BitVec 1 := Scalar.andi v610 v607
  let v612 : BitVec 32 := Scalar.addi v606 v605
  let v613 : BitVec 32 := Scalar.select v611 v612 v606
  let v926 : BitVec 1 := Scalar.cmpi .eq v653 v613
  let v937 : BitVec 32 := Scalar.extui v926
  let c0_i32_874 : BitVec 32 := 0#32
  let v938 : BitVec 1 := Scalar.cmpi .ne v937 c0_i32_874
  v938

def k0_off72 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_865 : BitVec 32 := 1024#32
  let v933 : BitVec 32 := Scalar.muli v21 c1024_i32_865
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c256_i32_866 : BitVec 32 := 256#32
  let v934 : BitVec 32 := Scalar.muli v653 c256_i32_866
  let v935 : BitVec 32 := Scalar.addi v933 v934
  let c0_i32_867 : BitVec 32 := 0#32
  let v936 : BitVec 32 := Scalar.addi v935 c0_i32_867
  let c0_i32_2610 : BitVec 32 := 0#32
  ![v936.toNat, 0]
def k0_dev47 (d0 : Dev nD) : Nat :=
  let c0_i32_2607 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1_i32_8 : BitVec 32 := 1#32
  let v22 : BitVec 32 := Scalar.addi v21 c1_i32_8
  let c4_i32_9 : BitVec 32 := 4#32
  let c0_i32_10 : BitVec 32 := 0#32
  let v23 : BitVec 1 := Scalar.cmpi .eq c4_i32_9 c0_i32_10
  let c1_i32_11 : BitVec 32 := 1#32
  let v24 : BitVec 32 := Scalar.select v23 c1_i32_11 c4_i32_9
  let v25 : BitVec 32 := Scalar.remsi v22 v24
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let c0_i32_12 : BitVec 32 := 0#32
  let v26 : BitVec 1 := Scalar.cmpi .ne v25 c0_i32_12
  let v30 : BitVec 1 := Scalar.andi v29 v26
  let v31 : BitVec 32 := Scalar.addi v25 v24
  let v32 : BitVec 32 := Scalar.select v30 v31 v25
  let c0_i32_16 : BitVec 32 := 0#32
  let v34 : BitVec 1 := Scalar.cmpi .sgt v32 c0_i32_16
  let v35 : BitVec 32 := Scalar.extui v34
  let c0_i32_17 : BitVec 32 := 0#32
  let v36 : BitVec 1 := Scalar.cmpi .slt v32 c0_i32_17
  let v37 : BitVec 32 := Scalar.extui v36
  let v38 : BitVec 32 := Scalar.subi v35 v37
  let c2_i32_15 : BitVec 32 := 2#32
  let c0_i32_18 : BitVec 32 := 0#32
  let v39 : BitVec 1 := Scalar.cmpi .sgt c2_i32_15 c0_i32_18
  let v40 : BitVec 32 := Scalar.extui v39
  let c0_i32_19 : BitVec 32 := 0#32
  let v41 : BitVec 1 := Scalar.cmpi .slt c2_i32_15 c0_i32_19
  let v42 : BitVec 32 := Scalar.extui v41
  let v43 : BitVec 32 := Scalar.subi v40 v42
  let v44 : BitVec 1 := Scalar.cmpi .ne v38 v43
  let v45 : BitVec 32 := Scalar.remsi v32 c2_i32_15
  let c0_i32_20 : BitVec 32 := 0#32
  let v46 : BitVec 1 := Scalar.cmpi .ne v45 c0_i32_20
  let v47 : BitVec 1 := Scalar.andi v44 v46
  let v33 : BitVec 32 := Scalar.divsi v32 c2_i32_15
  let c1_i32_21 : BitVec 32 := 1#32
  let v48 : BitVec 32 := Scalar.subi v33 c1_i32_21
  let v49 : BitVec 32 := Scalar.select v47 v48 v33
  let c8_i32_2606 : BitVec 32 := 8#32
  let v2548 : BitVec 32 := Scalar.muli v49 c8_i32_2606
  let v2549 : BitVec 32 := Scalar.addi c0_i32_2607 v2548
  let c2_i32_22 : BitVec 32 := 2#32
  let c0_i32_23 : BitVec 32 := 0#32
  let v50 : BitVec 1 := Scalar.cmpi .eq c2_i32_22 c0_i32_23
  let c1_i32_24 : BitVec 32 := 1#32
  let v51 : BitVec 32 := Scalar.select v50 c1_i32_24 c2_i32_22
  let v52 : BitVec 32 := Scalar.remsi v32 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let v60 : BitVec 32 := Scalar.addi v49 v59
  let c2_i32_28 : BitVec 32 := 2#32
  let c0_i32_29 : BitVec 32 := 0#32
  let v61 : BitVec 1 := Scalar.cmpi .eq c2_i32_28 c0_i32_29
  let c1_i32_30 : BitVec 32 := 1#32
  let v62 : BitVec 32 := Scalar.select v61 c1_i32_30 c2_i32_28
  let v63 : BitVec 32 := Scalar.remsi v60 v62
  let c0_i32_32 : BitVec 32 := 0#32
  let v65 : BitVec 1 := Scalar.cmpi .slt v63 c0_i32_32
  let c0_i32_33 : BitVec 32 := 0#32
  let v66 : BitVec 1 := Scalar.cmpi .slt v62 c0_i32_33
  let v67 : BitVec 1 := Scalar.xori v65 v66
  let c0_i32_31 : BitVec 32 := 0#32
  let v64 : BitVec 1 := Scalar.cmpi .ne v63 c0_i32_31
  let v68 : BitVec 1 := Scalar.andi v67 v64
  let v69 : BitVec 32 := Scalar.addi v63 v62
  let v70 : BitVec 32 := Scalar.select v68 v69 v63
  let c4_i32_2608 : BitVec 32 := 4#32
  let v2550 : BitVec 32 := Scalar.muli v70 c4_i32_2608
  let v2551 : BitVec 32 := Scalar.addi v2549 v2550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2609 : BitVec 32 := 1#32
  let v2552 : BitVec 32 := Scalar.muli v8 c1_i32_2609
  let v2553 : BitVec 32 := Scalar.addi v2551 v2552
  v2553.toNat
def k0_cond48 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c2_i32_593 : BitVec 32 := 2#32
  let v614 : BitVec 32 := Scalar.addi v8 c2_i32_593
  let c4_i32_594 : BitVec 32 := 4#32
  let c0_i32_595 : BitVec 32 := 0#32
  let v615 : BitVec 1 := Scalar.cmpi .eq c4_i32_594 c0_i32_595
  let c1_i32_596 : BitVec 32 := 1#32
  let v616 : BitVec 32 := Scalar.select v615 c1_i32_596 c4_i32_594
  let v617 : BitVec 32 := Scalar.remsi v614 v616
  let c0_i32_598 : BitVec 32 := 0#32
  let v619 : BitVec 1 := Scalar.cmpi .slt v617 c0_i32_598
  let c0_i32_599 : BitVec 32 := 0#32
  let v620 : BitVec 1 := Scalar.cmpi .slt v616 c0_i32_599
  let v621 : BitVec 1 := Scalar.xori v619 v620
  let c0_i32_597 : BitVec 32 := 0#32
  let v618 : BitVec 1 := Scalar.cmpi .ne v617 c0_i32_597
  let v622 : BitVec 1 := Scalar.andi v621 v618
  let v623 : BitVec 32 := Scalar.addi v617 v616
  let v624 : BitVec 32 := Scalar.select v622 v623 v617
  let v927 : BitVec 1 := Scalar.cmpi .eq v653 v624
  let v947 : BitVec 32 := Scalar.extui v927
  let c0_i32_887 : BitVec 32 := 0#32
  let v948 : BitVec 1 := Scalar.cmpi .ne v947 c0_i32_887
  v948

def k0_off73 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_878 : BitVec 32 := 1024#32
  let v943 : BitVec 32 := Scalar.muli v21 c1024_i32_878
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c256_i32_879 : BitVec 32 := 256#32
  let v944 : BitVec 32 := Scalar.muli v653 c256_i32_879
  let v945 : BitVec 32 := Scalar.addi v943 v944
  let c0_i32_880 : BitVec 32 := 0#32
  let v946 : BitVec 32 := Scalar.addi v945 c0_i32_880
  let c0_i32_2610 : BitVec 32 := 0#32
  ![v946.toNat, 0]
def k0_dev48 (d0 : Dev nD) : Nat :=
  let c0_i32_2607 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v71 : BitVec 32 := Scalar.addi v21 c3_i32
  let c4_i32_34 : BitVec 32 := 4#32
  let c0_i32_35 : BitVec 32 := 0#32
  let v72 : BitVec 1 := Scalar.cmpi .eq c4_i32_34 c0_i32_35
  let c1_i32_36 : BitVec 32 := 1#32
  let v73 : BitVec 32 := Scalar.select v72 c1_i32_36 c4_i32_34
  let v74 : BitVec 32 := Scalar.remsi v71 v73
  let c0_i32_38 : BitVec 32 := 0#32
  let v76 : BitVec 1 := Scalar.cmpi .slt v74 c0_i32_38
  let c0_i32_39 : BitVec 32 := 0#32
  let v77 : BitVec 1 := Scalar.cmpi .slt v73 c0_i32_39
  let v78 : BitVec 1 := Scalar.xori v76 v77
  let c0_i32_37 : BitVec 32 := 0#32
  let v75 : BitVec 1 := Scalar.cmpi .ne v74 c0_i32_37
  let v79 : BitVec 1 := Scalar.andi v78 v75
  let v80 : BitVec 32 := Scalar.addi v74 v73
  let v81 : BitVec 32 := Scalar.select v79 v80 v74
  let c0_i32_41 : BitVec 32 := 0#32
  let v83 : BitVec 1 := Scalar.cmpi .sgt v81 c0_i32_41
  let v84 : BitVec 32 := Scalar.extui v83
  let c0_i32_42 : BitVec 32 := 0#32
  let v85 : BitVec 1 := Scalar.cmpi .slt v81 c0_i32_42
  let v86 : BitVec 32 := Scalar.extui v85
  let v87 : BitVec 32 := Scalar.subi v84 v86
  let c2_i32_40 : BitVec 32 := 2#32
  let c0_i32_43 : BitVec 32 := 0#32
  let v88 : BitVec 1 := Scalar.cmpi .sgt c2_i32_40 c0_i32_43
  let v89 : BitVec 32 := Scalar.extui v88
  let c0_i32_44 : BitVec 32 := 0#32
  let v90 : BitVec 1 := Scalar.cmpi .slt c2_i32_40 c0_i32_44
  let v91 : BitVec 32 := Scalar.extui v90
  let v92 : BitVec 32 := Scalar.subi v89 v91
  let v93 : BitVec 1 := Scalar.cmpi .ne v87 v92
  let v94 : BitVec 32 := Scalar.remsi v81 c2_i32_40
  let c0_i32_45 : BitVec 32 := 0#32
  let v95 : BitVec 1 := Scalar.cmpi .ne v94 c0_i32_45
  let v96 : BitVec 1 := Scalar.andi v93 v95
  let v82 : BitVec 32 := Scalar.divsi v81 c2_i32_40
  let c1_i32_46 : BitVec 32 := 1#32
  let v97 : BitVec 32 := Scalar.subi v82 c1_i32_46
  let v98 : BitVec 32 := Scalar.select v96 v97 v82
  let c8_i32_2606 : BitVec 32 := 8#32
  let v2548 : BitVec 32 := Scalar.muli v98 c8_i32_2606
  let v2549 : BitVec 32 := Scalar.addi c0_i32_2607 v2548
  let c2_i32_47 : BitVec 32 := 2#32
  let c0_i32_48 : BitVec 32 := 0#32
  let v99 : BitVec 1 := Scalar.cmpi .eq c2_i32_47 c0_i32_48
  let c1_i32_49 : BitVec 32 := 1#32
  let v100 : BitVec 32 := Scalar.select v99 c1_i32_49 c2_i32_47
  let v101 : BitVec 32 := Scalar.remsi v81 v100
  let c0_i32_51 : BitVec 32 := 0#32
  let v103 : BitVec 1 := Scalar.cmpi .slt v101 c0_i32_51
  let c0_i32_52 : BitVec 32 := 0#32
  let v104 : BitVec 1 := Scalar.cmpi .slt v100 c0_i32_52
  let v105 : BitVec 1 := Scalar.xori v103 v104
  let c0_i32_50 : BitVec 32 := 0#32
  let v102 : BitVec 1 := Scalar.cmpi .ne v101 c0_i32_50
  let v106 : BitVec 1 := Scalar.andi v105 v102
  let v107 : BitVec 32 := Scalar.addi v101 v100
  let v108 : BitVec 32 := Scalar.select v106 v107 v101
  let v109 : BitVec 32 := Scalar.addi v98 v108
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v109 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c4_i32_2608 : BitVec 32 := 4#32
  let v2550 : BitVec 32 := Scalar.muli v119 c4_i32_2608
  let v2551 : BitVec 32 := Scalar.addi v2549 v2550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2609 : BitVec 32 := 1#32
  let v2552 : BitVec 32 := Scalar.muli v8 c1_i32_2609
  let v2553 : BitVec 32 := Scalar.addi v2551 v2552
  v2553.toNat
def k0_cond49 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c3_i32_600 : BitVec 32 := 3#32
  let v625 : BitVec 32 := Scalar.addi v8 c3_i32_600
  let c4_i32_601 : BitVec 32 := 4#32
  let c0_i32_602 : BitVec 32 := 0#32
  let v626 : BitVec 1 := Scalar.cmpi .eq c4_i32_601 c0_i32_602
  let c1_i32_603 : BitVec 32 := 1#32
  let v627 : BitVec 32 := Scalar.select v626 c1_i32_603 c4_i32_601
  let v628 : BitVec 32 := Scalar.remsi v625 v627
  let c0_i32_605 : BitVec 32 := 0#32
  let v630 : BitVec 1 := Scalar.cmpi .slt v628 c0_i32_605
  let c0_i32_606 : BitVec 32 := 0#32
  let v631 : BitVec 1 := Scalar.cmpi .slt v627 c0_i32_606
  let v632 : BitVec 1 := Scalar.xori v630 v631
  let c0_i32_604 : BitVec 32 := 0#32
  let v629 : BitVec 1 := Scalar.cmpi .ne v628 c0_i32_604
  let v633 : BitVec 1 := Scalar.andi v632 v629
  let v634 : BitVec 32 := Scalar.addi v628 v627
  let v635 : BitVec 32 := Scalar.select v633 v634 v628
  let v928 : BitVec 1 := Scalar.cmpi .eq v653 v635
  let v957 : BitVec 32 := Scalar.extui v928
  let c0_i32_900 : BitVec 32 := 0#32
  let v958 : BitVec 1 := Scalar.cmpi .ne v957 c0_i32_900
  v958

def k0_off74 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_891 : BitVec 32 := 1024#32
  let v953 : BitVec 32 := Scalar.muli v21 c1024_i32_891
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c256_i32_892 : BitVec 32 := 256#32
  let v954 : BitVec 32 := Scalar.muli v653 c256_i32_892
  let v955 : BitVec 32 := Scalar.addi v953 v954
  let c0_i32_893 : BitVec 32 := 0#32
  let v956 : BitVec 32 := Scalar.addi v955 c0_i32_893
  let c0_i32_2610 : BitVec 32 := 0#32
  ![v956.toNat, 0]
def k0_dev49 (d0 : Dev nD) : Nat :=
  let c0_i32_2607 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v71 : BitVec 32 := Scalar.addi v21 c3_i32
  let c4_i32_34 : BitVec 32 := 4#32
  let c0_i32_35 : BitVec 32 := 0#32
  let v72 : BitVec 1 := Scalar.cmpi .eq c4_i32_34 c0_i32_35
  let c1_i32_36 : BitVec 32 := 1#32
  let v73 : BitVec 32 := Scalar.select v72 c1_i32_36 c4_i32_34
  let v74 : BitVec 32 := Scalar.remsi v71 v73
  let c0_i32_38 : BitVec 32 := 0#32
  let v76 : BitVec 1 := Scalar.cmpi .slt v74 c0_i32_38
  let c0_i32_39 : BitVec 32 := 0#32
  let v77 : BitVec 1 := Scalar.cmpi .slt v73 c0_i32_39
  let v78 : BitVec 1 := Scalar.xori v76 v77
  let c0_i32_37 : BitVec 32 := 0#32
  let v75 : BitVec 1 := Scalar.cmpi .ne v74 c0_i32_37
  let v79 : BitVec 1 := Scalar.andi v78 v75
  let v80 : BitVec 32 := Scalar.addi v74 v73
  let v81 : BitVec 32 := Scalar.select v79 v80 v74
  let c0_i32_41 : BitVec 32 := 0#32
  let v83 : BitVec 1 := Scalar.cmpi .sgt v81 c0_i32_41
  let v84 : BitVec 32 := Scalar.extui v83
  let c0_i32_42 : BitVec 32 := 0#32
  let v85 : BitVec 1 := Scalar.cmpi .slt v81 c0_i32_42
  let v86 : BitVec 32 := Scalar.extui v85
  let v87 : BitVec 32 := Scalar.subi v84 v86
  let c2_i32_40 : BitVec 32 := 2#32
  let c0_i32_43 : BitVec 32 := 0#32
  let v88 : BitVec 1 := Scalar.cmpi .sgt c2_i32_40 c0_i32_43
  let v89 : BitVec 32 := Scalar.extui v88
  let c0_i32_44 : BitVec 32 := 0#32
  let v90 : BitVec 1 := Scalar.cmpi .slt c2_i32_40 c0_i32_44
  let v91 : BitVec 32 := Scalar.extui v90
  let v92 : BitVec 32 := Scalar.subi v89 v91
  let v93 : BitVec 1 := Scalar.cmpi .ne v87 v92
  let v94 : BitVec 32 := Scalar.remsi v81 c2_i32_40
  let c0_i32_45 : BitVec 32 := 0#32
  let v95 : BitVec 1 := Scalar.cmpi .ne v94 c0_i32_45
  let v96 : BitVec 1 := Scalar.andi v93 v95
  let v82 : BitVec 32 := Scalar.divsi v81 c2_i32_40
  let c1_i32_46 : BitVec 32 := 1#32
  let v97 : BitVec 32 := Scalar.subi v82 c1_i32_46
  let v98 : BitVec 32 := Scalar.select v96 v97 v82
  let c8_i32_2606 : BitVec 32 := 8#32
  let v2548 : BitVec 32 := Scalar.muli v98 c8_i32_2606
  let v2549 : BitVec 32 := Scalar.addi c0_i32_2607 v2548
  let c2_i32_47 : BitVec 32 := 2#32
  let c0_i32_48 : BitVec 32 := 0#32
  let v99 : BitVec 1 := Scalar.cmpi .eq c2_i32_47 c0_i32_48
  let c1_i32_49 : BitVec 32 := 1#32
  let v100 : BitVec 32 := Scalar.select v99 c1_i32_49 c2_i32_47
  let v101 : BitVec 32 := Scalar.remsi v81 v100
  let c0_i32_51 : BitVec 32 := 0#32
  let v103 : BitVec 1 := Scalar.cmpi .slt v101 c0_i32_51
  let c0_i32_52 : BitVec 32 := 0#32
  let v104 : BitVec 1 := Scalar.cmpi .slt v100 c0_i32_52
  let v105 : BitVec 1 := Scalar.xori v103 v104
  let c0_i32_50 : BitVec 32 := 0#32
  let v102 : BitVec 1 := Scalar.cmpi .ne v101 c0_i32_50
  let v106 : BitVec 1 := Scalar.andi v105 v102
  let v107 : BitVec 32 := Scalar.addi v101 v100
  let v108 : BitVec 32 := Scalar.select v106 v107 v101
  let v109 : BitVec 32 := Scalar.addi v98 v108
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v109 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c4_i32_2608 : BitVec 32 := 4#32
  let v2550 : BitVec 32 := Scalar.muli v119 c4_i32_2608
  let v2551 : BitVec 32 := Scalar.addi v2549 v2550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2609 : BitVec 32 := 1#32
  let v2552 : BitVec 32 := Scalar.muli v8 c1_i32_2609
  let v2553 : BitVec 32 := Scalar.addi v2551 v2552
  v2553.toNat
def k0_dev50 (d0 : Dev nD) : Nat :=
  let c0_i32_914 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1_i32_8 : BitVec 32 := 1#32
  let v22 : BitVec 32 := Scalar.addi v21 c1_i32_8
  let c4_i32_9 : BitVec 32 := 4#32
  let c0_i32_10 : BitVec 32 := 0#32
  let v23 : BitVec 1 := Scalar.cmpi .eq c4_i32_9 c0_i32_10
  let c1_i32_11 : BitVec 32 := 1#32
  let v24 : BitVec 32 := Scalar.select v23 c1_i32_11 c4_i32_9
  let v25 : BitVec 32 := Scalar.remsi v22 v24
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let c0_i32_12 : BitVec 32 := 0#32
  let v26 : BitVec 1 := Scalar.cmpi .ne v25 c0_i32_12
  let v30 : BitVec 1 := Scalar.andi v29 v26
  let v31 : BitVec 32 := Scalar.addi v25 v24
  let v32 : BitVec 32 := Scalar.select v30 v31 v25
  let c0_i32_16 : BitVec 32 := 0#32
  let v34 : BitVec 1 := Scalar.cmpi .sgt v32 c0_i32_16
  let v35 : BitVec 32 := Scalar.extui v34
  let c0_i32_17 : BitVec 32 := 0#32
  let v36 : BitVec 1 := Scalar.cmpi .slt v32 c0_i32_17
  let v37 : BitVec 32 := Scalar.extui v36
  let v38 : BitVec 32 := Scalar.subi v35 v37
  let c2_i32_15 : BitVec 32 := 2#32
  let c0_i32_18 : BitVec 32 := 0#32
  let v39 : BitVec 1 := Scalar.cmpi .sgt c2_i32_15 c0_i32_18
  let v40 : BitVec 32 := Scalar.extui v39
  let c0_i32_19 : BitVec 32 := 0#32
  let v41 : BitVec 1 := Scalar.cmpi .slt c2_i32_15 c0_i32_19
  let v42 : BitVec 32 := Scalar.extui v41
  let v43 : BitVec 32 := Scalar.subi v40 v42
  let v44 : BitVec 1 := Scalar.cmpi .ne v38 v43
  let v45 : BitVec 32 := Scalar.remsi v32 c2_i32_15
  let c0_i32_20 : BitVec 32 := 0#32
  let v46 : BitVec 1 := Scalar.cmpi .ne v45 c0_i32_20
  let v47 : BitVec 1 := Scalar.andi v44 v46
  let v33 : BitVec 32 := Scalar.divsi v32 c2_i32_15
  let c1_i32_21 : BitVec 32 := 1#32
  let v48 : BitVec 32 := Scalar.subi v33 c1_i32_21
  let v49 : BitVec 32 := Scalar.select v47 v48 v33
  let c8_i32_913 : BitVec 32 := 8#32
  let v967 : BitVec 32 := Scalar.muli v49 c8_i32_913
  let v968 : BitVec 32 := Scalar.addi c0_i32_914 v967
  let c2_i32_22 : BitVec 32 := 2#32
  let c0_i32_23 : BitVec 32 := 0#32
  let v50 : BitVec 1 := Scalar.cmpi .eq c2_i32_22 c0_i32_23
  let c1_i32_24 : BitVec 32 := 1#32
  let v51 : BitVec 32 := Scalar.select v50 c1_i32_24 c2_i32_22
  let v52 : BitVec 32 := Scalar.remsi v32 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let v60 : BitVec 32 := Scalar.addi v49 v59
  let c2_i32_28 : BitVec 32 := 2#32
  let c0_i32_29 : BitVec 32 := 0#32
  let v61 : BitVec 1 := Scalar.cmpi .eq c2_i32_28 c0_i32_29
  let c1_i32_30 : BitVec 32 := 1#32
  let v62 : BitVec 32 := Scalar.select v61 c1_i32_30 c2_i32_28
  let v63 : BitVec 32 := Scalar.remsi v60 v62
  let c0_i32_32 : BitVec 32 := 0#32
  let v65 : BitVec 1 := Scalar.cmpi .slt v63 c0_i32_32
  let c0_i32_33 : BitVec 32 := 0#32
  let v66 : BitVec 1 := Scalar.cmpi .slt v62 c0_i32_33
  let v67 : BitVec 1 := Scalar.xori v65 v66
  let c0_i32_31 : BitVec 32 := 0#32
  let v64 : BitVec 1 := Scalar.cmpi .ne v63 c0_i32_31
  let v68 : BitVec 1 := Scalar.andi v67 v64
  let v69 : BitVec 32 := Scalar.addi v63 v62
  let v70 : BitVec 32 := Scalar.select v68 v69 v63
  let c4_i32_915 : BitVec 32 := 4#32
  let v969 : BitVec 32 := Scalar.muli v70 c4_i32_915
  let v970 : BitVec 32 := Scalar.addi v968 v969
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_916 : BitVec 32 := 1#32
  let v971 : BitVec 32 := Scalar.muli v8 c1_i32_916
  let v972 : BitVec 32 := Scalar.addi v970 v971
  v972.toNat
def k0_cond50 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let v987 : BitVec 1 := Scalar.cmpi .slt v641 v8
  let v988 : BitVec 32 := Scalar.extui v987
  let c0_i32_927 : BitVec 32 := 0#32
  let v989 : BitVec 1 := Scalar.cmpi .ne v988 c0_i32_927
  v989

def k0_off75 (d0 : Dev nD) : Fin 2 → Nat :=
  let c1_i32_925 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  ![1, v641.toNat]
def k0_off76 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_919 : BitVec 32 := 1024#32
  let v979 : BitVec 32 := Scalar.muli v21 c1024_i32_919
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c256_i32_920 : BitVec 32 := 256#32
  let v980 : BitVec 32 := Scalar.muli v641 c256_i32_920
  let v981 : BitVec 32 := Scalar.addi v979 v980
  let c128_i32_921 : BitVec 32 := 128#32
  let v982 : BitVec 32 := Scalar.addi v981 c128_i32_921
  let c0_i32_2610 : BitVec 32 := 0#32
  ![v982.toNat, 0]
def k0_off77 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32 : BitVec 32 := 1024#32
  let v120 : BitVec 32 := Scalar.muli v21 c1024_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32 : BitVec 32 := 256#32
  let v121 : BitVec 32 := Scalar.muli v8 c256_i32
  let v122 : BitVec 32 := Scalar.addi v120 v121
  let c0_i32_2611 : BitVec 32 := 0#32
  ![v122.toNat, 0]
def k0_cond51 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let v990 : BitVec 1 := Scalar.cmpi .sgt v641 v8
  let v991 : BitVec 32 := Scalar.extui v990
  let c0_i32_930 : BitVec 32 := 0#32
  let v992 : BitVec 1 := Scalar.cmpi .ne v991 c0_i32_930
  v992

def k0_off78 (d0 : Dev nD) : Fin 2 → Nat :=
  let c1_i32_928 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  ![1, v641.toNat]
def k0_off79 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_922 : BitVec 32 := 1024#32
  let v983 : BitVec 32 := Scalar.muli v21 c1024_i32_922
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c256_i32_923 : BitVec 32 := 256#32
  let v984 : BitVec 32 := Scalar.muli v641 c256_i32_923
  let v985 : BitVec 32 := Scalar.addi v983 v984
  let c128_i32_924 : BitVec 32 := 128#32
  let v986 : BitVec 32 := Scalar.addi v985 c128_i32_924
  let c0_i32_2610 : BitVec 32 := 0#32
  ![v986.toNat, 0]
def k0_off80 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32 : BitVec 32 := 1024#32
  let v120 : BitVec 32 := Scalar.muli v21 c1024_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32 : BitVec 32 := 256#32
  let v121 : BitVec 32 := Scalar.muli v8 c256_i32
  let v122 : BitVec 32 := Scalar.addi v120 v121
  let c0_i32_2611 : BitVec 32 := 0#32
  ![v122.toNat, 0]
def k0_cond52 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let v993 : BitVec 1 := Scalar.cmpi .slt v641 v8
  let c3_i32_931 : BitVec 32 := 3#32
  let v994 : BitVec 1 := Scalar.cmpi .slt v8 c3_i32_931
  let v995 : BitVec 1 := Scalar.andi v993 v994
  let v1015 : BitVec 32 := Scalar.extui v995
  let c0_i32_947 : BitVec 32 := 0#32
  let v1016 : BitVec 1 := Scalar.cmpi .ne v1015 c0_i32_947
  v1016

def k0_off81 (d0 : Dev nD) : Fin 2 → Nat :=
  let c1_i32_946 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  ![1, v641.toNat]
def k0_off82 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_935 : BitVec 32 := 1024#32
  let v1000 : BitVec 32 := Scalar.muli v21 c1024_i32_935
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c256_i32_936 : BitVec 32 := 256#32
  let v1001 : BitVec 32 := Scalar.muli v641 c256_i32_936
  let v1002 : BitVec 32 := Scalar.addi v1000 v1001
  let c128_i32_937 : BitVec 32 := 128#32
  let v1003 : BitVec 32 := Scalar.addi v1002 c128_i32_937
  let c0_i32_2610 : BitVec 32 := 0#32
  ![v1003.toNat, 0]
def k0_dev51 (d0 : Dev nD) : Nat :=
  let c0_i32_2607 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2606 : BitVec 32 := 8#32
  let v2548 : BitVec 32 := Scalar.muli v2 c8_i32_2606
  let v2549 : BitVec 32 := Scalar.addi c0_i32_2607 v2548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2608 : BitVec 32 := 4#32
  let v2550 : BitVec 32 := Scalar.muli v5 c4_i32_2608
  let v2551 : BitVec 32 := Scalar.addi v2549 v2550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_938 : BitVec 32 := 1#32
  let v1004 : BitVec 32 := Scalar.addi v8 c1_i32_938
  let c4_i32_939 : BitVec 32 := 4#32
  let c0_i32_940 : BitVec 32 := 0#32
  let v1005 : BitVec 1 := Scalar.cmpi .eq c4_i32_939 c0_i32_940
  let c1_i32_941 : BitVec 32 := 1#32
  let v1006 : BitVec 32 := Scalar.select v1005 c1_i32_941 c4_i32_939
  let v1007 : BitVec 32 := Scalar.remsi v1004 v1006
  let c0_i32_943 : BitVec 32 := 0#32
  let v1009 : BitVec 1 := Scalar.cmpi .slt v1007 c0_i32_943
  let c0_i32_944 : BitVec 32 := 0#32
  let v1010 : BitVec 1 := Scalar.cmpi .slt v1006 c0_i32_944
  let v1011 : BitVec 1 := Scalar.xori v1009 v1010
  let c0_i32_942 : BitVec 32 := 0#32
  let v1008 : BitVec 1 := Scalar.cmpi .ne v1007 c0_i32_942
  let v1012 : BitVec 1 := Scalar.andi v1011 v1008
  let v1013 : BitVec 32 := Scalar.addi v1007 v1006
  let v1014 : BitVec 32 := Scalar.select v1012 v1013 v1007
  let c1_i32_2609 : BitVec 32 := 1#32
  let v2552 : BitVec 32 := Scalar.muli v1014 c1_i32_2609
  let v2553 : BitVec 32 := Scalar.addi v2551 v2552
  v2553.toNat
def k0_cond53 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let v1017 : BitVec 1 := Scalar.cmpi .sgt v641 v8
  let c0_i32_948 : BitVec 32 := 0#32
  let v1018 : BitVec 1 := Scalar.cmpi .sgt v8 c0_i32_948
  let v1019 : BitVec 1 := Scalar.andi v1017 v1018
  let v1039 : BitVec 32 := Scalar.extui v1019
  let c0_i32_964 : BitVec 32 := 0#32
  let v1040 : BitVec 1 := Scalar.cmpi .ne v1039 c0_i32_964
  v1040

def k0_off83 (d0 : Dev nD) : Fin 2 → Nat :=
  let c1_i32_963 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  ![1, v641.toNat]
def k0_off84 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_952 : BitVec 32 := 1024#32
  let v1024 : BitVec 32 := Scalar.muli v21 c1024_i32_952
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c256_i32_953 : BitVec 32 := 256#32
  let v1025 : BitVec 32 := Scalar.muli v641 c256_i32_953
  let v1026 : BitVec 32 := Scalar.addi v1024 v1025
  let c128_i32_954 : BitVec 32 := 128#32
  let v1027 : BitVec 32 := Scalar.addi v1026 c128_i32_954
  let c0_i32_2610 : BitVec 32 := 0#32
  ![v1027.toNat, 0]
def k0_dev52 (d0 : Dev nD) : Nat :=
  let c0_i32_2607 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2606 : BitVec 32 := 8#32
  let v2548 : BitVec 32 := Scalar.muli v2 c8_i32_2606
  let v2549 : BitVec 32 := Scalar.addi c0_i32_2607 v2548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2608 : BitVec 32 := 4#32
  let v2550 : BitVec 32 := Scalar.muli v5 c4_i32_2608
  let v2551 : BitVec 32 := Scalar.addi v2549 v2550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_955 : BitVec 32 := 3#32
  let v1028 : BitVec 32 := Scalar.addi v8 c3_i32_955
  let c4_i32_956 : BitVec 32 := 4#32
  let c0_i32_957 : BitVec 32 := 0#32
  let v1029 : BitVec 1 := Scalar.cmpi .eq c4_i32_956 c0_i32_957
  let c1_i32_958 : BitVec 32 := 1#32
  let v1030 : BitVec 32 := Scalar.select v1029 c1_i32_958 c4_i32_956
  let v1031 : BitVec 32 := Scalar.remsi v1028 v1030
  let c0_i32_960 : BitVec 32 := 0#32
  let v1033 : BitVec 1 := Scalar.cmpi .slt v1031 c0_i32_960
  let c0_i32_961 : BitVec 32 := 0#32
  let v1034 : BitVec 1 := Scalar.cmpi .slt v1030 c0_i32_961
  let v1035 : BitVec 1 := Scalar.xori v1033 v1034
  let c0_i32_959 : BitVec 32 := 0#32
  let v1032 : BitVec 1 := Scalar.cmpi .ne v1031 c0_i32_959
  let v1036 : BitVec 1 := Scalar.andi v1035 v1032
  let v1037 : BitVec 32 := Scalar.addi v1031 v1030
  let v1038 : BitVec 32 := Scalar.select v1036 v1037 v1031
  let c1_i32_2609 : BitVec 32 := 1#32
  let v2552 : BitVec 32 := Scalar.muli v1038 c1_i32_2609
  let v2553 : BitVec 32 := Scalar.addi v2551 v2552
  v2553.toNat
def k0_cond54 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c1_i32_586 : BitVec 32 := 1#32
  let v603 : BitVec 32 := Scalar.addi v8 c1_i32_586
  let c4_i32_587 : BitVec 32 := 4#32
  let c0_i32_588 : BitVec 32 := 0#32
  let v604 : BitVec 1 := Scalar.cmpi .eq c4_i32_587 c0_i32_588
  let c1_i32_589 : BitVec 32 := 1#32
  let v605 : BitVec 32 := Scalar.select v604 c1_i32_589 c4_i32_587
  let v606 : BitVec 32 := Scalar.remsi v603 v605
  let c0_i32_591 : BitVec 32 := 0#32
  let v608 : BitVec 1 := Scalar.cmpi .slt v606 c0_i32_591
  let c0_i32_592 : BitVec 32 := 0#32
  let v609 : BitVec 1 := Scalar.cmpi .slt v605 c0_i32_592
  let v610 : BitVec 1 := Scalar.xori v608 v609
  let c0_i32_590 : BitVec 32 := 0#32
  let v607 : BitVec 1 := Scalar.cmpi .ne v606 c0_i32_590
  let v611 : BitVec 1 := Scalar.andi v610 v607
  let v612 : BitVec 32 := Scalar.addi v606 v605
  let v613 : BitVec 32 := Scalar.select v611 v612 v606
  let v1041 : BitVec 1 := Scalar.cmpi .eq v641 v613
  let v1052 : BitVec 32 := Scalar.extui v1041
  let c0_i32_977 : BitVec 32 := 0#32
  let v1053 : BitVec 1 := Scalar.cmpi .ne v1052 c0_i32_977
  v1053

def k0_off85 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_968 : BitVec 32 := 1024#32
  let v1048 : BitVec 32 := Scalar.muli v21 c1024_i32_968
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c256_i32_969 : BitVec 32 := 256#32
  let v1049 : BitVec 32 := Scalar.muli v641 c256_i32_969
  let v1050 : BitVec 32 := Scalar.addi v1048 v1049
  let c128_i32_970 : BitVec 32 := 128#32
  let v1051 : BitVec 32 := Scalar.addi v1050 c128_i32_970
  let c0_i32_2610 : BitVec 32 := 0#32
  ![v1051.toNat, 0]
def k0_dev53 (d0 : Dev nD) : Nat :=
  let c0_i32_2607 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1_i32_8 : BitVec 32 := 1#32
  let v22 : BitVec 32 := Scalar.addi v21 c1_i32_8
  let c4_i32_9 : BitVec 32 := 4#32
  let c0_i32_10 : BitVec 32 := 0#32
  let v23 : BitVec 1 := Scalar.cmpi .eq c4_i32_9 c0_i32_10
  let c1_i32_11 : BitVec 32 := 1#32
  let v24 : BitVec 32 := Scalar.select v23 c1_i32_11 c4_i32_9
  let v25 : BitVec 32 := Scalar.remsi v22 v24
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let c0_i32_12 : BitVec 32 := 0#32
  let v26 : BitVec 1 := Scalar.cmpi .ne v25 c0_i32_12
  let v30 : BitVec 1 := Scalar.andi v29 v26
  let v31 : BitVec 32 := Scalar.addi v25 v24
  let v32 : BitVec 32 := Scalar.select v30 v31 v25
  let c0_i32_16 : BitVec 32 := 0#32
  let v34 : BitVec 1 := Scalar.cmpi .sgt v32 c0_i32_16
  let v35 : BitVec 32 := Scalar.extui v34
  let c0_i32_17 : BitVec 32 := 0#32
  let v36 : BitVec 1 := Scalar.cmpi .slt v32 c0_i32_17
  let v37 : BitVec 32 := Scalar.extui v36
  let v38 : BitVec 32 := Scalar.subi v35 v37
  let c2_i32_15 : BitVec 32 := 2#32
  let c0_i32_18 : BitVec 32 := 0#32
  let v39 : BitVec 1 := Scalar.cmpi .sgt c2_i32_15 c0_i32_18
  let v40 : BitVec 32 := Scalar.extui v39
  let c0_i32_19 : BitVec 32 := 0#32
  let v41 : BitVec 1 := Scalar.cmpi .slt c2_i32_15 c0_i32_19
  let v42 : BitVec 32 := Scalar.extui v41
  let v43 : BitVec 32 := Scalar.subi v40 v42
  let v44 : BitVec 1 := Scalar.cmpi .ne v38 v43
  let v45 : BitVec 32 := Scalar.remsi v32 c2_i32_15
  let c0_i32_20 : BitVec 32 := 0#32
  let v46 : BitVec 1 := Scalar.cmpi .ne v45 c0_i32_20
  let v47 : BitVec 1 := Scalar.andi v44 v46
  let v33 : BitVec 32 := Scalar.divsi v32 c2_i32_15
  let c1_i32_21 : BitVec 32 := 1#32
  let v48 : BitVec 32 := Scalar.subi v33 c1_i32_21
  let v49 : BitVec 32 := Scalar.select v47 v48 v33
  let c8_i32_2606 : BitVec 32 := 8#32
  let v2548 : BitVec 32 := Scalar.muli v49 c8_i32_2606
  let v2549 : BitVec 32 := Scalar.addi c0_i32_2607 v2548
  let c2_i32_22 : BitVec 32 := 2#32
  let c0_i32_23 : BitVec 32 := 0#32
  let v50 : BitVec 1 := Scalar.cmpi .eq c2_i32_22 c0_i32_23
  let c1_i32_24 : BitVec 32 := 1#32
  let v51 : BitVec 32 := Scalar.select v50 c1_i32_24 c2_i32_22
  let v52 : BitVec 32 := Scalar.remsi v32 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let v60 : BitVec 32 := Scalar.addi v49 v59
  let c2_i32_28 : BitVec 32 := 2#32
  let c0_i32_29 : BitVec 32 := 0#32
  let v61 : BitVec 1 := Scalar.cmpi .eq c2_i32_28 c0_i32_29
  let c1_i32_30 : BitVec 32 := 1#32
  let v62 : BitVec 32 := Scalar.select v61 c1_i32_30 c2_i32_28
  let v63 : BitVec 32 := Scalar.remsi v60 v62
  let c0_i32_32 : BitVec 32 := 0#32
  let v65 : BitVec 1 := Scalar.cmpi .slt v63 c0_i32_32
  let c0_i32_33 : BitVec 32 := 0#32
  let v66 : BitVec 1 := Scalar.cmpi .slt v62 c0_i32_33
  let v67 : BitVec 1 := Scalar.xori v65 v66
  let c0_i32_31 : BitVec 32 := 0#32
  let v64 : BitVec 1 := Scalar.cmpi .ne v63 c0_i32_31
  let v68 : BitVec 1 := Scalar.andi v67 v64
  let v69 : BitVec 32 := Scalar.addi v63 v62
  let v70 : BitVec 32 := Scalar.select v68 v69 v63
  let c4_i32_2608 : BitVec 32 := 4#32
  let v2550 : BitVec 32 := Scalar.muli v70 c4_i32_2608
  let v2551 : BitVec 32 := Scalar.addi v2549 v2550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2609 : BitVec 32 := 1#32
  let v2552 : BitVec 32 := Scalar.muli v8 c1_i32_2609
  let v2553 : BitVec 32 := Scalar.addi v2551 v2552
  v2553.toNat
def k0_cond55 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c2_i32_593 : BitVec 32 := 2#32
  let v614 : BitVec 32 := Scalar.addi v8 c2_i32_593
  let c4_i32_594 : BitVec 32 := 4#32
  let c0_i32_595 : BitVec 32 := 0#32
  let v615 : BitVec 1 := Scalar.cmpi .eq c4_i32_594 c0_i32_595
  let c1_i32_596 : BitVec 32 := 1#32
  let v616 : BitVec 32 := Scalar.select v615 c1_i32_596 c4_i32_594
  let v617 : BitVec 32 := Scalar.remsi v614 v616
  let c0_i32_598 : BitVec 32 := 0#32
  let v619 : BitVec 1 := Scalar.cmpi .slt v617 c0_i32_598
  let c0_i32_599 : BitVec 32 := 0#32
  let v620 : BitVec 1 := Scalar.cmpi .slt v616 c0_i32_599
  let v621 : BitVec 1 := Scalar.xori v619 v620
  let c0_i32_597 : BitVec 32 := 0#32
  let v618 : BitVec 1 := Scalar.cmpi .ne v617 c0_i32_597
  let v622 : BitVec 1 := Scalar.andi v621 v618
  let v623 : BitVec 32 := Scalar.addi v617 v616
  let v624 : BitVec 32 := Scalar.select v622 v623 v617
  let v1042 : BitVec 1 := Scalar.cmpi .eq v641 v624
  let v1062 : BitVec 32 := Scalar.extui v1042
  let c0_i32_990 : BitVec 32 := 0#32
  let v1063 : BitVec 1 := Scalar.cmpi .ne v1062 c0_i32_990
  v1063

def k0_off86 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_981 : BitVec 32 := 1024#32
  let v1058 : BitVec 32 := Scalar.muli v21 c1024_i32_981
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c256_i32_982 : BitVec 32 := 256#32
  let v1059 : BitVec 32 := Scalar.muli v641 c256_i32_982
  let v1060 : BitVec 32 := Scalar.addi v1058 v1059
  let c128_i32_983 : BitVec 32 := 128#32
  let v1061 : BitVec 32 := Scalar.addi v1060 c128_i32_983
  let c0_i32_2610 : BitVec 32 := 0#32
  ![v1061.toNat, 0]
def k0_dev54 (d0 : Dev nD) : Nat :=
  let c0_i32_2607 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v71 : BitVec 32 := Scalar.addi v21 c3_i32
  let c4_i32_34 : BitVec 32 := 4#32
  let c0_i32_35 : BitVec 32 := 0#32
  let v72 : BitVec 1 := Scalar.cmpi .eq c4_i32_34 c0_i32_35
  let c1_i32_36 : BitVec 32 := 1#32
  let v73 : BitVec 32 := Scalar.select v72 c1_i32_36 c4_i32_34
  let v74 : BitVec 32 := Scalar.remsi v71 v73
  let c0_i32_38 : BitVec 32 := 0#32
  let v76 : BitVec 1 := Scalar.cmpi .slt v74 c0_i32_38
  let c0_i32_39 : BitVec 32 := 0#32
  let v77 : BitVec 1 := Scalar.cmpi .slt v73 c0_i32_39
  let v78 : BitVec 1 := Scalar.xori v76 v77
  let c0_i32_37 : BitVec 32 := 0#32
  let v75 : BitVec 1 := Scalar.cmpi .ne v74 c0_i32_37
  let v79 : BitVec 1 := Scalar.andi v78 v75
  let v80 : BitVec 32 := Scalar.addi v74 v73
  let v81 : BitVec 32 := Scalar.select v79 v80 v74
  let c0_i32_41 : BitVec 32 := 0#32
  let v83 : BitVec 1 := Scalar.cmpi .sgt v81 c0_i32_41
  let v84 : BitVec 32 := Scalar.extui v83
  let c0_i32_42 : BitVec 32 := 0#32
  let v85 : BitVec 1 := Scalar.cmpi .slt v81 c0_i32_42
  let v86 : BitVec 32 := Scalar.extui v85
  let v87 : BitVec 32 := Scalar.subi v84 v86
  let c2_i32_40 : BitVec 32 := 2#32
  let c0_i32_43 : BitVec 32 := 0#32
  let v88 : BitVec 1 := Scalar.cmpi .sgt c2_i32_40 c0_i32_43
  let v89 : BitVec 32 := Scalar.extui v88
  let c0_i32_44 : BitVec 32 := 0#32
  let v90 : BitVec 1 := Scalar.cmpi .slt c2_i32_40 c0_i32_44
  let v91 : BitVec 32 := Scalar.extui v90
  let v92 : BitVec 32 := Scalar.subi v89 v91
  let v93 : BitVec 1 := Scalar.cmpi .ne v87 v92
  let v94 : BitVec 32 := Scalar.remsi v81 c2_i32_40
  let c0_i32_45 : BitVec 32 := 0#32
  let v95 : BitVec 1 := Scalar.cmpi .ne v94 c0_i32_45
  let v96 : BitVec 1 := Scalar.andi v93 v95
  let v82 : BitVec 32 := Scalar.divsi v81 c2_i32_40
  let c1_i32_46 : BitVec 32 := 1#32
  let v97 : BitVec 32 := Scalar.subi v82 c1_i32_46
  let v98 : BitVec 32 := Scalar.select v96 v97 v82
  let c8_i32_2606 : BitVec 32 := 8#32
  let v2548 : BitVec 32 := Scalar.muli v98 c8_i32_2606
  let v2549 : BitVec 32 := Scalar.addi c0_i32_2607 v2548
  let c2_i32_47 : BitVec 32 := 2#32
  let c0_i32_48 : BitVec 32 := 0#32
  let v99 : BitVec 1 := Scalar.cmpi .eq c2_i32_47 c0_i32_48
  let c1_i32_49 : BitVec 32 := 1#32
  let v100 : BitVec 32 := Scalar.select v99 c1_i32_49 c2_i32_47
  let v101 : BitVec 32 := Scalar.remsi v81 v100
  let c0_i32_51 : BitVec 32 := 0#32
  let v103 : BitVec 1 := Scalar.cmpi .slt v101 c0_i32_51
  let c0_i32_52 : BitVec 32 := 0#32
  let v104 : BitVec 1 := Scalar.cmpi .slt v100 c0_i32_52
  let v105 : BitVec 1 := Scalar.xori v103 v104
  let c0_i32_50 : BitVec 32 := 0#32
  let v102 : BitVec 1 := Scalar.cmpi .ne v101 c0_i32_50
  let v106 : BitVec 1 := Scalar.andi v105 v102
  let v107 : BitVec 32 := Scalar.addi v101 v100
  let v108 : BitVec 32 := Scalar.select v106 v107 v101
  let v109 : BitVec 32 := Scalar.addi v98 v108
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v109 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c4_i32_2608 : BitVec 32 := 4#32
  let v2550 : BitVec 32 := Scalar.muli v119 c4_i32_2608
  let v2551 : BitVec 32 := Scalar.addi v2549 v2550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2609 : BitVec 32 := 1#32
  let v2552 : BitVec 32 := Scalar.muli v8 c1_i32_2609
  let v2553 : BitVec 32 := Scalar.addi v2551 v2552
  v2553.toNat
def k0_cond56 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c3_i32_600 : BitVec 32 := 3#32
  let v625 : BitVec 32 := Scalar.addi v8 c3_i32_600
  let c4_i32_601 : BitVec 32 := 4#32
  let c0_i32_602 : BitVec 32 := 0#32
  let v626 : BitVec 1 := Scalar.cmpi .eq c4_i32_601 c0_i32_602
  let c1_i32_603 : BitVec 32 := 1#32
  let v627 : BitVec 32 := Scalar.select v626 c1_i32_603 c4_i32_601
  let v628 : BitVec 32 := Scalar.remsi v625 v627
  let c0_i32_605 : BitVec 32 := 0#32
  let v630 : BitVec 1 := Scalar.cmpi .slt v628 c0_i32_605
  let c0_i32_606 : BitVec 32 := 0#32
  let v631 : BitVec 1 := Scalar.cmpi .slt v627 c0_i32_606
  let v632 : BitVec 1 := Scalar.xori v630 v631
  let c0_i32_604 : BitVec 32 := 0#32
  let v629 : BitVec 1 := Scalar.cmpi .ne v628 c0_i32_604
  let v633 : BitVec 1 := Scalar.andi v632 v629
  let v634 : BitVec 32 := Scalar.addi v628 v627
  let v635 : BitVec 32 := Scalar.select v633 v634 v628
  let v1043 : BitVec 1 := Scalar.cmpi .eq v641 v635
  let v1072 : BitVec 32 := Scalar.extui v1043
  let c0_i32_1003 : BitVec 32 := 0#32
  let v1073 : BitVec 1 := Scalar.cmpi .ne v1072 c0_i32_1003
  v1073

def k0_off87 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_994 : BitVec 32 := 1024#32
  let v1068 : BitVec 32 := Scalar.muli v21 c1024_i32_994
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c256_i32_995 : BitVec 32 := 256#32
  let v1069 : BitVec 32 := Scalar.muli v641 c256_i32_995
  let v1070 : BitVec 32 := Scalar.addi v1068 v1069
  let c128_i32_996 : BitVec 32 := 128#32
  let v1071 : BitVec 32 := Scalar.addi v1070 c128_i32_996
  let c0_i32_2610 : BitVec 32 := 0#32
  ![v1071.toNat, 0]
def k0_dev55 (d0 : Dev nD) : Nat :=
  let c0_i32_2607 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v71 : BitVec 32 := Scalar.addi v21 c3_i32
  let c4_i32_34 : BitVec 32 := 4#32
  let c0_i32_35 : BitVec 32 := 0#32
  let v72 : BitVec 1 := Scalar.cmpi .eq c4_i32_34 c0_i32_35
  let c1_i32_36 : BitVec 32 := 1#32
  let v73 : BitVec 32 := Scalar.select v72 c1_i32_36 c4_i32_34
  let v74 : BitVec 32 := Scalar.remsi v71 v73
  let c0_i32_38 : BitVec 32 := 0#32
  let v76 : BitVec 1 := Scalar.cmpi .slt v74 c0_i32_38
  let c0_i32_39 : BitVec 32 := 0#32
  let v77 : BitVec 1 := Scalar.cmpi .slt v73 c0_i32_39
  let v78 : BitVec 1 := Scalar.xori v76 v77
  let c0_i32_37 : BitVec 32 := 0#32
  let v75 : BitVec 1 := Scalar.cmpi .ne v74 c0_i32_37
  let v79 : BitVec 1 := Scalar.andi v78 v75
  let v80 : BitVec 32 := Scalar.addi v74 v73
  let v81 : BitVec 32 := Scalar.select v79 v80 v74
  let c0_i32_41 : BitVec 32 := 0#32
  let v83 : BitVec 1 := Scalar.cmpi .sgt v81 c0_i32_41
  let v84 : BitVec 32 := Scalar.extui v83
  let c0_i32_42 : BitVec 32 := 0#32
  let v85 : BitVec 1 := Scalar.cmpi .slt v81 c0_i32_42
  let v86 : BitVec 32 := Scalar.extui v85
  let v87 : BitVec 32 := Scalar.subi v84 v86
  let c2_i32_40 : BitVec 32 := 2#32
  let c0_i32_43 : BitVec 32 := 0#32
  let v88 : BitVec 1 := Scalar.cmpi .sgt c2_i32_40 c0_i32_43
  let v89 : BitVec 32 := Scalar.extui v88
  let c0_i32_44 : BitVec 32 := 0#32
  let v90 : BitVec 1 := Scalar.cmpi .slt c2_i32_40 c0_i32_44
  let v91 : BitVec 32 := Scalar.extui v90
  let v92 : BitVec 32 := Scalar.subi v89 v91
  let v93 : BitVec 1 := Scalar.cmpi .ne v87 v92
  let v94 : BitVec 32 := Scalar.remsi v81 c2_i32_40
  let c0_i32_45 : BitVec 32 := 0#32
  let v95 : BitVec 1 := Scalar.cmpi .ne v94 c0_i32_45
  let v96 : BitVec 1 := Scalar.andi v93 v95
  let v82 : BitVec 32 := Scalar.divsi v81 c2_i32_40
  let c1_i32_46 : BitVec 32 := 1#32
  let v97 : BitVec 32 := Scalar.subi v82 c1_i32_46
  let v98 : BitVec 32 := Scalar.select v96 v97 v82
  let c8_i32_2606 : BitVec 32 := 8#32
  let v2548 : BitVec 32 := Scalar.muli v98 c8_i32_2606
  let v2549 : BitVec 32 := Scalar.addi c0_i32_2607 v2548
  let c2_i32_47 : BitVec 32 := 2#32
  let c0_i32_48 : BitVec 32 := 0#32
  let v99 : BitVec 1 := Scalar.cmpi .eq c2_i32_47 c0_i32_48
  let c1_i32_49 : BitVec 32 := 1#32
  let v100 : BitVec 32 := Scalar.select v99 c1_i32_49 c2_i32_47
  let v101 : BitVec 32 := Scalar.remsi v81 v100
  let c0_i32_51 : BitVec 32 := 0#32
  let v103 : BitVec 1 := Scalar.cmpi .slt v101 c0_i32_51
  let c0_i32_52 : BitVec 32 := 0#32
  let v104 : BitVec 1 := Scalar.cmpi .slt v100 c0_i32_52
  let v105 : BitVec 1 := Scalar.xori v103 v104
  let c0_i32_50 : BitVec 32 := 0#32
  let v102 : BitVec 1 := Scalar.cmpi .ne v101 c0_i32_50
  let v106 : BitVec 1 := Scalar.andi v105 v102
  let v107 : BitVec 32 := Scalar.addi v101 v100
  let v108 : BitVec 32 := Scalar.select v106 v107 v101
  let v109 : BitVec 32 := Scalar.addi v98 v108
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v109 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c4_i32_2608 : BitVec 32 := 4#32
  let v2550 : BitVec 32 := Scalar.muli v119 c4_i32_2608
  let v2551 : BitVec 32 := Scalar.addi v2549 v2550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2609 : BitVec 32 := 1#32
  let v2552 : BitVec 32 := Scalar.muli v8 c1_i32_2609
  let v2553 : BitVec 32 := Scalar.addi v2551 v2552
  v2553.toNat
def k0_cond57 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let v1082 : BitVec 1 := Scalar.cmpi .slt v647 v8
  let v1083 : BitVec 32 := Scalar.extui v1082
  let c0_i32_1012 : BitVec 32 := 0#32
  let v1084 : BitVec 1 := Scalar.cmpi .ne v1083 c0_i32_1012
  v1084

def k0_off88 (d0 : Dev nD) : Fin 2 → Nat :=
  let c1_i32_1010 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  ![1, v647.toNat]
def k0_off89 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_1004 : BitVec 32 := 1024#32
  let v1074 : BitVec 32 := Scalar.muli v21 c1024_i32_1004
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c256_i32_1005 : BitVec 32 := 256#32
  let v1075 : BitVec 32 := Scalar.muli v647 c256_i32_1005
  let v1076 : BitVec 32 := Scalar.addi v1074 v1075
  let c128_i32_1006 : BitVec 32 := 128#32
  let v1077 : BitVec 32 := Scalar.addi v1076 c128_i32_1006
  let c0_i32_2610 : BitVec 32 := 0#32
  ![v1077.toNat, 0]
def k0_off90 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32 : BitVec 32 := 1024#32
  let v120 : BitVec 32 := Scalar.muli v21 c1024_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32 : BitVec 32 := 256#32
  let v121 : BitVec 32 := Scalar.muli v8 c256_i32
  let v122 : BitVec 32 := Scalar.addi v120 v121
  let c0_i32_2611 : BitVec 32 := 0#32
  ![v122.toNat, 0]
def k0_cond58 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let v1085 : BitVec 1 := Scalar.cmpi .sgt v647 v8
  let v1086 : BitVec 32 := Scalar.extui v1085
  let c0_i32_1015 : BitVec 32 := 0#32
  let v1087 : BitVec 1 := Scalar.cmpi .ne v1086 c0_i32_1015
  v1087

def k0_off91 (d0 : Dev nD) : Fin 2 → Nat :=
  let c1_i32_1013 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  ![1, v647.toNat]
def k0_off92 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_1007 : BitVec 32 := 1024#32
  let v1078 : BitVec 32 := Scalar.muli v21 c1024_i32_1007
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c256_i32_1008 : BitVec 32 := 256#32
  let v1079 : BitVec 32 := Scalar.muli v647 c256_i32_1008
  let v1080 : BitVec 32 := Scalar.addi v1078 v1079
  let c128_i32_1009 : BitVec 32 := 128#32
  let v1081 : BitVec 32 := Scalar.addi v1080 c128_i32_1009
  let c0_i32_2610 : BitVec 32 := 0#32
  ![v1081.toNat, 0]
def k0_off93 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32 : BitVec 32 := 1024#32
  let v120 : BitVec 32 := Scalar.muli v21 c1024_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32 : BitVec 32 := 256#32
  let v121 : BitVec 32 := Scalar.muli v8 c256_i32
  let v122 : BitVec 32 := Scalar.addi v120 v121
  let c0_i32_2611 : BitVec 32 := 0#32
  ![v122.toNat, 0]
def k0_cond59 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let v1088 : BitVec 1 := Scalar.cmpi .slt v647 v8
  let c3_i32_1016 : BitVec 32 := 3#32
  let v1089 : BitVec 1 := Scalar.cmpi .slt v8 c3_i32_1016
  let v1090 : BitVec 1 := Scalar.andi v1088 v1089
  let v1110 : BitVec 32 := Scalar.extui v1090
  let c0_i32_1032 : BitVec 32 := 0#32
  let v1111 : BitVec 1 := Scalar.cmpi .ne v1110 c0_i32_1032
  v1111

def k0_off94 (d0 : Dev nD) : Fin 2 → Nat :=
  let c1_i32_1031 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  ![1, v647.toNat]
def k0_off95 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_1020 : BitVec 32 := 1024#32
  let v1095 : BitVec 32 := Scalar.muli v21 c1024_i32_1020
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c256_i32_1021 : BitVec 32 := 256#32
  let v1096 : BitVec 32 := Scalar.muli v647 c256_i32_1021
  let v1097 : BitVec 32 := Scalar.addi v1095 v1096
  let c128_i32_1022 : BitVec 32 := 128#32
  let v1098 : BitVec 32 := Scalar.addi v1097 c128_i32_1022
  let c0_i32_2610 : BitVec 32 := 0#32
  ![v1098.toNat, 0]
def k0_dev56 (d0 : Dev nD) : Nat :=
  let c0_i32_2607 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2606 : BitVec 32 := 8#32
  let v2548 : BitVec 32 := Scalar.muli v2 c8_i32_2606
  let v2549 : BitVec 32 := Scalar.addi c0_i32_2607 v2548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2608 : BitVec 32 := 4#32
  let v2550 : BitVec 32 := Scalar.muli v5 c4_i32_2608
  let v2551 : BitVec 32 := Scalar.addi v2549 v2550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1023 : BitVec 32 := 1#32
  let v1099 : BitVec 32 := Scalar.addi v8 c1_i32_1023
  let c4_i32_1024 : BitVec 32 := 4#32
  let c0_i32_1025 : BitVec 32 := 0#32
  let v1100 : BitVec 1 := Scalar.cmpi .eq c4_i32_1024 c0_i32_1025
  let c1_i32_1026 : BitVec 32 := 1#32
  let v1101 : BitVec 32 := Scalar.select v1100 c1_i32_1026 c4_i32_1024
  let v1102 : BitVec 32 := Scalar.remsi v1099 v1101
  let c0_i32_1028 : BitVec 32 := 0#32
  let v1104 : BitVec 1 := Scalar.cmpi .slt v1102 c0_i32_1028
  let c0_i32_1029 : BitVec 32 := 0#32
  let v1105 : BitVec 1 := Scalar.cmpi .slt v1101 c0_i32_1029
  let v1106 : BitVec 1 := Scalar.xori v1104 v1105
  let c0_i32_1027 : BitVec 32 := 0#32
  let v1103 : BitVec 1 := Scalar.cmpi .ne v1102 c0_i32_1027
  let v1107 : BitVec 1 := Scalar.andi v1106 v1103
  let v1108 : BitVec 32 := Scalar.addi v1102 v1101
  let v1109 : BitVec 32 := Scalar.select v1107 v1108 v1102
  let c1_i32_2609 : BitVec 32 := 1#32
  let v2552 : BitVec 32 := Scalar.muli v1109 c1_i32_2609
  let v2553 : BitVec 32 := Scalar.addi v2551 v2552
  v2553.toNat
def k0_cond60 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let v1112 : BitVec 1 := Scalar.cmpi .sgt v647 v8
  let c0_i32_1033 : BitVec 32 := 0#32
  let v1113 : BitVec 1 := Scalar.cmpi .sgt v8 c0_i32_1033
  let v1114 : BitVec 1 := Scalar.andi v1112 v1113
  let v1134 : BitVec 32 := Scalar.extui v1114
  let c0_i32_1049 : BitVec 32 := 0#32
  let v1135 : BitVec 1 := Scalar.cmpi .ne v1134 c0_i32_1049
  v1135

def k0_off96 (d0 : Dev nD) : Fin 2 → Nat :=
  let c1_i32_1048 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  ![1, v647.toNat]
def k0_off97 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_1037 : BitVec 32 := 1024#32
  let v1119 : BitVec 32 := Scalar.muli v21 c1024_i32_1037
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c256_i32_1038 : BitVec 32 := 256#32
  let v1120 : BitVec 32 := Scalar.muli v647 c256_i32_1038
  let v1121 : BitVec 32 := Scalar.addi v1119 v1120
  let c128_i32_1039 : BitVec 32 := 128#32
  let v1122 : BitVec 32 := Scalar.addi v1121 c128_i32_1039
  let c0_i32_2610 : BitVec 32 := 0#32
  ![v1122.toNat, 0]
def k0_dev57 (d0 : Dev nD) : Nat :=
  let c0_i32_2607 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2606 : BitVec 32 := 8#32
  let v2548 : BitVec 32 := Scalar.muli v2 c8_i32_2606
  let v2549 : BitVec 32 := Scalar.addi c0_i32_2607 v2548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2608 : BitVec 32 := 4#32
  let v2550 : BitVec 32 := Scalar.muli v5 c4_i32_2608
  let v2551 : BitVec 32 := Scalar.addi v2549 v2550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1040 : BitVec 32 := 3#32
  let v1123 : BitVec 32 := Scalar.addi v8 c3_i32_1040
  let c4_i32_1041 : BitVec 32 := 4#32
  let c0_i32_1042 : BitVec 32 := 0#32
  let v1124 : BitVec 1 := Scalar.cmpi .eq c4_i32_1041 c0_i32_1042
  let c1_i32_1043 : BitVec 32 := 1#32
  let v1125 : BitVec 32 := Scalar.select v1124 c1_i32_1043 c4_i32_1041
  let v1126 : BitVec 32 := Scalar.remsi v1123 v1125
  let c0_i32_1045 : BitVec 32 := 0#32
  let v1128 : BitVec 1 := Scalar.cmpi .slt v1126 c0_i32_1045
  let c0_i32_1046 : BitVec 32 := 0#32
  let v1129 : BitVec 1 := Scalar.cmpi .slt v1125 c0_i32_1046
  let v1130 : BitVec 1 := Scalar.xori v1128 v1129
  let c0_i32_1044 : BitVec 32 := 0#32
  let v1127 : BitVec 1 := Scalar.cmpi .ne v1126 c0_i32_1044
  let v1131 : BitVec 1 := Scalar.andi v1130 v1127
  let v1132 : BitVec 32 := Scalar.addi v1126 v1125
  let v1133 : BitVec 32 := Scalar.select v1131 v1132 v1126
  let c1_i32_2609 : BitVec 32 := 1#32
  let v2552 : BitVec 32 := Scalar.muli v1133 c1_i32_2609
  let v2553 : BitVec 32 := Scalar.addi v2551 v2552
  v2553.toNat
def k0_cond61 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c1_i32_586 : BitVec 32 := 1#32
  let v603 : BitVec 32 := Scalar.addi v8 c1_i32_586
  let c4_i32_587 : BitVec 32 := 4#32
  let c0_i32_588 : BitVec 32 := 0#32
  let v604 : BitVec 1 := Scalar.cmpi .eq c4_i32_587 c0_i32_588
  let c1_i32_589 : BitVec 32 := 1#32
  let v605 : BitVec 32 := Scalar.select v604 c1_i32_589 c4_i32_587
  let v606 : BitVec 32 := Scalar.remsi v603 v605
  let c0_i32_591 : BitVec 32 := 0#32
  let v608 : BitVec 1 := Scalar.cmpi .slt v606 c0_i32_591
  let c0_i32_592 : BitVec 32 := 0#32
  let v609 : BitVec 1 := Scalar.cmpi .slt v605 c0_i32_592
  let v610 : BitVec 1 := Scalar.xori v608 v609
  let c0_i32_590 : BitVec 32 := 0#32
  let v607 : BitVec 1 := Scalar.cmpi .ne v606 c0_i32_590
  let v611 : BitVec 1 := Scalar.andi v610 v607
  let v612 : BitVec 32 := Scalar.addi v606 v605
  let v613 : BitVec 32 := Scalar.select v611 v612 v606
  let v1136 : BitVec 1 := Scalar.cmpi .eq v647 v613
  let v1147 : BitVec 32 := Scalar.extui v1136
  let c0_i32_1062 : BitVec 32 := 0#32
  let v1148 : BitVec 1 := Scalar.cmpi .ne v1147 c0_i32_1062
  v1148

def k0_off98 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_1053 : BitVec 32 := 1024#32
  let v1143 : BitVec 32 := Scalar.muli v21 c1024_i32_1053
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c256_i32_1054 : BitVec 32 := 256#32
  let v1144 : BitVec 32 := Scalar.muli v647 c256_i32_1054
  let v1145 : BitVec 32 := Scalar.addi v1143 v1144
  let c128_i32_1055 : BitVec 32 := 128#32
  let v1146 : BitVec 32 := Scalar.addi v1145 c128_i32_1055
  let c0_i32_2610 : BitVec 32 := 0#32
  ![v1146.toNat, 0]
def k0_dev58 (d0 : Dev nD) : Nat :=
  let c0_i32_2607 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1_i32_8 : BitVec 32 := 1#32
  let v22 : BitVec 32 := Scalar.addi v21 c1_i32_8
  let c4_i32_9 : BitVec 32 := 4#32
  let c0_i32_10 : BitVec 32 := 0#32
  let v23 : BitVec 1 := Scalar.cmpi .eq c4_i32_9 c0_i32_10
  let c1_i32_11 : BitVec 32 := 1#32
  let v24 : BitVec 32 := Scalar.select v23 c1_i32_11 c4_i32_9
  let v25 : BitVec 32 := Scalar.remsi v22 v24
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let c0_i32_12 : BitVec 32 := 0#32
  let v26 : BitVec 1 := Scalar.cmpi .ne v25 c0_i32_12
  let v30 : BitVec 1 := Scalar.andi v29 v26
  let v31 : BitVec 32 := Scalar.addi v25 v24
  let v32 : BitVec 32 := Scalar.select v30 v31 v25
  let c0_i32_16 : BitVec 32 := 0#32
  let v34 : BitVec 1 := Scalar.cmpi .sgt v32 c0_i32_16
  let v35 : BitVec 32 := Scalar.extui v34
  let c0_i32_17 : BitVec 32 := 0#32
  let v36 : BitVec 1 := Scalar.cmpi .slt v32 c0_i32_17
  let v37 : BitVec 32 := Scalar.extui v36
  let v38 : BitVec 32 := Scalar.subi v35 v37
  let c2_i32_15 : BitVec 32 := 2#32
  let c0_i32_18 : BitVec 32 := 0#32
  let v39 : BitVec 1 := Scalar.cmpi .sgt c2_i32_15 c0_i32_18
  let v40 : BitVec 32 := Scalar.extui v39
  let c0_i32_19 : BitVec 32 := 0#32
  let v41 : BitVec 1 := Scalar.cmpi .slt c2_i32_15 c0_i32_19
  let v42 : BitVec 32 := Scalar.extui v41
  let v43 : BitVec 32 := Scalar.subi v40 v42
  let v44 : BitVec 1 := Scalar.cmpi .ne v38 v43
  let v45 : BitVec 32 := Scalar.remsi v32 c2_i32_15
  let c0_i32_20 : BitVec 32 := 0#32
  let v46 : BitVec 1 := Scalar.cmpi .ne v45 c0_i32_20
  let v47 : BitVec 1 := Scalar.andi v44 v46
  let v33 : BitVec 32 := Scalar.divsi v32 c2_i32_15
  let c1_i32_21 : BitVec 32 := 1#32
  let v48 : BitVec 32 := Scalar.subi v33 c1_i32_21
  let v49 : BitVec 32 := Scalar.select v47 v48 v33
  let c8_i32_2606 : BitVec 32 := 8#32
  let v2548 : BitVec 32 := Scalar.muli v49 c8_i32_2606
  let v2549 : BitVec 32 := Scalar.addi c0_i32_2607 v2548
  let c2_i32_22 : BitVec 32 := 2#32
  let c0_i32_23 : BitVec 32 := 0#32
  let v50 : BitVec 1 := Scalar.cmpi .eq c2_i32_22 c0_i32_23
  let c1_i32_24 : BitVec 32 := 1#32
  let v51 : BitVec 32 := Scalar.select v50 c1_i32_24 c2_i32_22
  let v52 : BitVec 32 := Scalar.remsi v32 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let v60 : BitVec 32 := Scalar.addi v49 v59
  let c2_i32_28 : BitVec 32 := 2#32
  let c0_i32_29 : BitVec 32 := 0#32
  let v61 : BitVec 1 := Scalar.cmpi .eq c2_i32_28 c0_i32_29
  let c1_i32_30 : BitVec 32 := 1#32
  let v62 : BitVec 32 := Scalar.select v61 c1_i32_30 c2_i32_28
  let v63 : BitVec 32 := Scalar.remsi v60 v62
  let c0_i32_32 : BitVec 32 := 0#32
  let v65 : BitVec 1 := Scalar.cmpi .slt v63 c0_i32_32
  let c0_i32_33 : BitVec 32 := 0#32
  let v66 : BitVec 1 := Scalar.cmpi .slt v62 c0_i32_33
  let v67 : BitVec 1 := Scalar.xori v65 v66
  let c0_i32_31 : BitVec 32 := 0#32
  let v64 : BitVec 1 := Scalar.cmpi .ne v63 c0_i32_31
  let v68 : BitVec 1 := Scalar.andi v67 v64
  let v69 : BitVec 32 := Scalar.addi v63 v62
  let v70 : BitVec 32 := Scalar.select v68 v69 v63
  let c4_i32_2608 : BitVec 32 := 4#32
  let v2550 : BitVec 32 := Scalar.muli v70 c4_i32_2608
  let v2551 : BitVec 32 := Scalar.addi v2549 v2550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2609 : BitVec 32 := 1#32
  let v2552 : BitVec 32 := Scalar.muli v8 c1_i32_2609
  let v2553 : BitVec 32 := Scalar.addi v2551 v2552
  v2553.toNat
def k0_cond62 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c2_i32_593 : BitVec 32 := 2#32
  let v614 : BitVec 32 := Scalar.addi v8 c2_i32_593
  let c4_i32_594 : BitVec 32 := 4#32
  let c0_i32_595 : BitVec 32 := 0#32
  let v615 : BitVec 1 := Scalar.cmpi .eq c4_i32_594 c0_i32_595
  let c1_i32_596 : BitVec 32 := 1#32
  let v616 : BitVec 32 := Scalar.select v615 c1_i32_596 c4_i32_594
  let v617 : BitVec 32 := Scalar.remsi v614 v616
  let c0_i32_598 : BitVec 32 := 0#32
  let v619 : BitVec 1 := Scalar.cmpi .slt v617 c0_i32_598
  let c0_i32_599 : BitVec 32 := 0#32
  let v620 : BitVec 1 := Scalar.cmpi .slt v616 c0_i32_599
  let v621 : BitVec 1 := Scalar.xori v619 v620
  let c0_i32_597 : BitVec 32 := 0#32
  let v618 : BitVec 1 := Scalar.cmpi .ne v617 c0_i32_597
  let v622 : BitVec 1 := Scalar.andi v621 v618
  let v623 : BitVec 32 := Scalar.addi v617 v616
  let v624 : BitVec 32 := Scalar.select v622 v623 v617
  let v1137 : BitVec 1 := Scalar.cmpi .eq v647 v624
  let v1157 : BitVec 32 := Scalar.extui v1137
  let c0_i32_1075 : BitVec 32 := 0#32
  let v1158 : BitVec 1 := Scalar.cmpi .ne v1157 c0_i32_1075
  v1158

def k0_off99 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_1066 : BitVec 32 := 1024#32
  let v1153 : BitVec 32 := Scalar.muli v21 c1024_i32_1066
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c256_i32_1067 : BitVec 32 := 256#32
  let v1154 : BitVec 32 := Scalar.muli v647 c256_i32_1067
  let v1155 : BitVec 32 := Scalar.addi v1153 v1154
  let c128_i32_1068 : BitVec 32 := 128#32
  let v1156 : BitVec 32 := Scalar.addi v1155 c128_i32_1068
  let c0_i32_2610 : BitVec 32 := 0#32
  ![v1156.toNat, 0]
def k0_dev59 (d0 : Dev nD) : Nat :=
  let c0_i32_2607 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v71 : BitVec 32 := Scalar.addi v21 c3_i32
  let c4_i32_34 : BitVec 32 := 4#32
  let c0_i32_35 : BitVec 32 := 0#32
  let v72 : BitVec 1 := Scalar.cmpi .eq c4_i32_34 c0_i32_35
  let c1_i32_36 : BitVec 32 := 1#32
  let v73 : BitVec 32 := Scalar.select v72 c1_i32_36 c4_i32_34
  let v74 : BitVec 32 := Scalar.remsi v71 v73
  let c0_i32_38 : BitVec 32 := 0#32
  let v76 : BitVec 1 := Scalar.cmpi .slt v74 c0_i32_38
  let c0_i32_39 : BitVec 32 := 0#32
  let v77 : BitVec 1 := Scalar.cmpi .slt v73 c0_i32_39
  let v78 : BitVec 1 := Scalar.xori v76 v77
  let c0_i32_37 : BitVec 32 := 0#32
  let v75 : BitVec 1 := Scalar.cmpi .ne v74 c0_i32_37
  let v79 : BitVec 1 := Scalar.andi v78 v75
  let v80 : BitVec 32 := Scalar.addi v74 v73
  let v81 : BitVec 32 := Scalar.select v79 v80 v74
  let c0_i32_41 : BitVec 32 := 0#32
  let v83 : BitVec 1 := Scalar.cmpi .sgt v81 c0_i32_41
  let v84 : BitVec 32 := Scalar.extui v83
  let c0_i32_42 : BitVec 32 := 0#32
  let v85 : BitVec 1 := Scalar.cmpi .slt v81 c0_i32_42
  let v86 : BitVec 32 := Scalar.extui v85
  let v87 : BitVec 32 := Scalar.subi v84 v86
  let c2_i32_40 : BitVec 32 := 2#32
  let c0_i32_43 : BitVec 32 := 0#32
  let v88 : BitVec 1 := Scalar.cmpi .sgt c2_i32_40 c0_i32_43
  let v89 : BitVec 32 := Scalar.extui v88
  let c0_i32_44 : BitVec 32 := 0#32
  let v90 : BitVec 1 := Scalar.cmpi .slt c2_i32_40 c0_i32_44
  let v91 : BitVec 32 := Scalar.extui v90
  let v92 : BitVec 32 := Scalar.subi v89 v91
  let v93 : BitVec 1 := Scalar.cmpi .ne v87 v92
  let v94 : BitVec 32 := Scalar.remsi v81 c2_i32_40
  let c0_i32_45 : BitVec 32 := 0#32
  let v95 : BitVec 1 := Scalar.cmpi .ne v94 c0_i32_45
  let v96 : BitVec 1 := Scalar.andi v93 v95
  let v82 : BitVec 32 := Scalar.divsi v81 c2_i32_40
  let c1_i32_46 : BitVec 32 := 1#32
  let v97 : BitVec 32 := Scalar.subi v82 c1_i32_46
  let v98 : BitVec 32 := Scalar.select v96 v97 v82
  let c8_i32_2606 : BitVec 32 := 8#32
  let v2548 : BitVec 32 := Scalar.muli v98 c8_i32_2606
  let v2549 : BitVec 32 := Scalar.addi c0_i32_2607 v2548
  let c2_i32_47 : BitVec 32 := 2#32
  let c0_i32_48 : BitVec 32 := 0#32
  let v99 : BitVec 1 := Scalar.cmpi .eq c2_i32_47 c0_i32_48
  let c1_i32_49 : BitVec 32 := 1#32
  let v100 : BitVec 32 := Scalar.select v99 c1_i32_49 c2_i32_47
  let v101 : BitVec 32 := Scalar.remsi v81 v100
  let c0_i32_51 : BitVec 32 := 0#32
  let v103 : BitVec 1 := Scalar.cmpi .slt v101 c0_i32_51
  let c0_i32_52 : BitVec 32 := 0#32
  let v104 : BitVec 1 := Scalar.cmpi .slt v100 c0_i32_52
  let v105 : BitVec 1 := Scalar.xori v103 v104
  let c0_i32_50 : BitVec 32 := 0#32
  let v102 : BitVec 1 := Scalar.cmpi .ne v101 c0_i32_50
  let v106 : BitVec 1 := Scalar.andi v105 v102
  let v107 : BitVec 32 := Scalar.addi v101 v100
  let v108 : BitVec 32 := Scalar.select v106 v107 v101
  let v109 : BitVec 32 := Scalar.addi v98 v108
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v109 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c4_i32_2608 : BitVec 32 := 4#32
  let v2550 : BitVec 32 := Scalar.muli v119 c4_i32_2608
  let v2551 : BitVec 32 := Scalar.addi v2549 v2550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2609 : BitVec 32 := 1#32
  let v2552 : BitVec 32 := Scalar.muli v8 c1_i32_2609
  let v2553 : BitVec 32 := Scalar.addi v2551 v2552
  v2553.toNat
def k0_cond63 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c3_i32_600 : BitVec 32 := 3#32
  let v625 : BitVec 32 := Scalar.addi v8 c3_i32_600
  let c4_i32_601 : BitVec 32 := 4#32
  let c0_i32_602 : BitVec 32 := 0#32
  let v626 : BitVec 1 := Scalar.cmpi .eq c4_i32_601 c0_i32_602
  let c1_i32_603 : BitVec 32 := 1#32
  let v627 : BitVec 32 := Scalar.select v626 c1_i32_603 c4_i32_601
  let v628 : BitVec 32 := Scalar.remsi v625 v627
  let c0_i32_605 : BitVec 32 := 0#32
  let v630 : BitVec 1 := Scalar.cmpi .slt v628 c0_i32_605
  let c0_i32_606 : BitVec 32 := 0#32
  let v631 : BitVec 1 := Scalar.cmpi .slt v627 c0_i32_606
  let v632 : BitVec 1 := Scalar.xori v630 v631
  let c0_i32_604 : BitVec 32 := 0#32
  let v629 : BitVec 1 := Scalar.cmpi .ne v628 c0_i32_604
  let v633 : BitVec 1 := Scalar.andi v632 v629
  let v634 : BitVec 32 := Scalar.addi v628 v627
  let v635 : BitVec 32 := Scalar.select v633 v634 v628
  let v1138 : BitVec 1 := Scalar.cmpi .eq v647 v635
  let v1167 : BitVec 32 := Scalar.extui v1138
  let c0_i32_1088 : BitVec 32 := 0#32
  let v1168 : BitVec 1 := Scalar.cmpi .ne v1167 c0_i32_1088
  v1168

def k0_off100 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_1079 : BitVec 32 := 1024#32
  let v1163 : BitVec 32 := Scalar.muli v21 c1024_i32_1079
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c256_i32_1080 : BitVec 32 := 256#32
  let v1164 : BitVec 32 := Scalar.muli v647 c256_i32_1080
  let v1165 : BitVec 32 := Scalar.addi v1163 v1164
  let c128_i32_1081 : BitVec 32 := 128#32
  let v1166 : BitVec 32 := Scalar.addi v1165 c128_i32_1081
  let c0_i32_2610 : BitVec 32 := 0#32
  ![v1166.toNat, 0]
def k0_dev60 (d0 : Dev nD) : Nat :=
  let c0_i32_2607 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v71 : BitVec 32 := Scalar.addi v21 c3_i32
  let c4_i32_34 : BitVec 32 := 4#32
  let c0_i32_35 : BitVec 32 := 0#32
  let v72 : BitVec 1 := Scalar.cmpi .eq c4_i32_34 c0_i32_35
  let c1_i32_36 : BitVec 32 := 1#32
  let v73 : BitVec 32 := Scalar.select v72 c1_i32_36 c4_i32_34
  let v74 : BitVec 32 := Scalar.remsi v71 v73
  let c0_i32_38 : BitVec 32 := 0#32
  let v76 : BitVec 1 := Scalar.cmpi .slt v74 c0_i32_38
  let c0_i32_39 : BitVec 32 := 0#32
  let v77 : BitVec 1 := Scalar.cmpi .slt v73 c0_i32_39
  let v78 : BitVec 1 := Scalar.xori v76 v77
  let c0_i32_37 : BitVec 32 := 0#32
  let v75 : BitVec 1 := Scalar.cmpi .ne v74 c0_i32_37
  let v79 : BitVec 1 := Scalar.andi v78 v75
  let v80 : BitVec 32 := Scalar.addi v74 v73
  let v81 : BitVec 32 := Scalar.select v79 v80 v74
  let c0_i32_41 : BitVec 32 := 0#32
  let v83 : BitVec 1 := Scalar.cmpi .sgt v81 c0_i32_41
  let v84 : BitVec 32 := Scalar.extui v83
  let c0_i32_42 : BitVec 32 := 0#32
  let v85 : BitVec 1 := Scalar.cmpi .slt v81 c0_i32_42
  let v86 : BitVec 32 := Scalar.extui v85
  let v87 : BitVec 32 := Scalar.subi v84 v86
  let c2_i32_40 : BitVec 32 := 2#32
  let c0_i32_43 : BitVec 32 := 0#32
  let v88 : BitVec 1 := Scalar.cmpi .sgt c2_i32_40 c0_i32_43
  let v89 : BitVec 32 := Scalar.extui v88
  let c0_i32_44 : BitVec 32 := 0#32
  let v90 : BitVec 1 := Scalar.cmpi .slt c2_i32_40 c0_i32_44
  let v91 : BitVec 32 := Scalar.extui v90
  let v92 : BitVec 32 := Scalar.subi v89 v91
  let v93 : BitVec 1 := Scalar.cmpi .ne v87 v92
  let v94 : BitVec 32 := Scalar.remsi v81 c2_i32_40
  let c0_i32_45 : BitVec 32 := 0#32
  let v95 : BitVec 1 := Scalar.cmpi .ne v94 c0_i32_45
  let v96 : BitVec 1 := Scalar.andi v93 v95
  let v82 : BitVec 32 := Scalar.divsi v81 c2_i32_40
  let c1_i32_46 : BitVec 32 := 1#32
  let v97 : BitVec 32 := Scalar.subi v82 c1_i32_46
  let v98 : BitVec 32 := Scalar.select v96 v97 v82
  let c8_i32_2606 : BitVec 32 := 8#32
  let v2548 : BitVec 32 := Scalar.muli v98 c8_i32_2606
  let v2549 : BitVec 32 := Scalar.addi c0_i32_2607 v2548
  let c2_i32_47 : BitVec 32 := 2#32
  let c0_i32_48 : BitVec 32 := 0#32
  let v99 : BitVec 1 := Scalar.cmpi .eq c2_i32_47 c0_i32_48
  let c1_i32_49 : BitVec 32 := 1#32
  let v100 : BitVec 32 := Scalar.select v99 c1_i32_49 c2_i32_47
  let v101 : BitVec 32 := Scalar.remsi v81 v100
  let c0_i32_51 : BitVec 32 := 0#32
  let v103 : BitVec 1 := Scalar.cmpi .slt v101 c0_i32_51
  let c0_i32_52 : BitVec 32 := 0#32
  let v104 : BitVec 1 := Scalar.cmpi .slt v100 c0_i32_52
  let v105 : BitVec 1 := Scalar.xori v103 v104
  let c0_i32_50 : BitVec 32 := 0#32
  let v102 : BitVec 1 := Scalar.cmpi .ne v101 c0_i32_50
  let v106 : BitVec 1 := Scalar.andi v105 v102
  let v107 : BitVec 32 := Scalar.addi v101 v100
  let v108 : BitVec 32 := Scalar.select v106 v107 v101
  let v109 : BitVec 32 := Scalar.addi v98 v108
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v109 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c4_i32_2608 : BitVec 32 := 4#32
  let v2550 : BitVec 32 := Scalar.muli v119 c4_i32_2608
  let v2551 : BitVec 32 := Scalar.addi v2549 v2550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2609 : BitVec 32 := 1#32
  let v2552 : BitVec 32 := Scalar.muli v8 c1_i32_2609
  let v2553 : BitVec 32 := Scalar.addi v2551 v2552
  v2553.toNat
def k0_cond64 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let v1177 : BitVec 1 := Scalar.cmpi .slt v653 v8
  let v1178 : BitVec 32 := Scalar.extui v1177
  let c0_i32_1097 : BitVec 32 := 0#32
  let v1179 : BitVec 1 := Scalar.cmpi .ne v1178 c0_i32_1097
  v1179

def k0_off101 (d0 : Dev nD) : Fin 2 → Nat :=
  let c1_i32_1095 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  ![1, v653.toNat]
def k0_off102 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_1089 : BitVec 32 := 1024#32
  let v1169 : BitVec 32 := Scalar.muli v21 c1024_i32_1089
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c256_i32_1090 : BitVec 32 := 256#32
  let v1170 : BitVec 32 := Scalar.muli v653 c256_i32_1090
  let v1171 : BitVec 32 := Scalar.addi v1169 v1170
  let c128_i32_1091 : BitVec 32 := 128#32
  let v1172 : BitVec 32 := Scalar.addi v1171 c128_i32_1091
  let c0_i32_2610 : BitVec 32 := 0#32
  ![v1172.toNat, 0]
def k0_off103 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32 : BitVec 32 := 1024#32
  let v120 : BitVec 32 := Scalar.muli v21 c1024_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32 : BitVec 32 := 256#32
  let v121 : BitVec 32 := Scalar.muli v8 c256_i32
  let v122 : BitVec 32 := Scalar.addi v120 v121
  let c0_i32_2611 : BitVec 32 := 0#32
  ![v122.toNat, 0]
def k0_cond65 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let v1180 : BitVec 1 := Scalar.cmpi .sgt v653 v8
  let v1181 : BitVec 32 := Scalar.extui v1180
  let c0_i32_1100 : BitVec 32 := 0#32
  let v1182 : BitVec 1 := Scalar.cmpi .ne v1181 c0_i32_1100
  v1182

def k0_off104 (d0 : Dev nD) : Fin 2 → Nat :=
  let c1_i32_1098 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  ![1, v653.toNat]
def k0_off105 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_1092 : BitVec 32 := 1024#32
  let v1173 : BitVec 32 := Scalar.muli v21 c1024_i32_1092
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c256_i32_1093 : BitVec 32 := 256#32
  let v1174 : BitVec 32 := Scalar.muli v653 c256_i32_1093
  let v1175 : BitVec 32 := Scalar.addi v1173 v1174
  let c128_i32_1094 : BitVec 32 := 128#32
  let v1176 : BitVec 32 := Scalar.addi v1175 c128_i32_1094
  let c0_i32_2610 : BitVec 32 := 0#32
  ![v1176.toNat, 0]
def k0_off106 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32 : BitVec 32 := 1024#32
  let v120 : BitVec 32 := Scalar.muli v21 c1024_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32 : BitVec 32 := 256#32
  let v121 : BitVec 32 := Scalar.muli v8 c256_i32
  let v122 : BitVec 32 := Scalar.addi v120 v121
  let c0_i32_2611 : BitVec 32 := 0#32
  ![v122.toNat, 0]
def k0_cond66 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let v1183 : BitVec 1 := Scalar.cmpi .slt v653 v8
  let c3_i32_1101 : BitVec 32 := 3#32
  let v1184 : BitVec 1 := Scalar.cmpi .slt v8 c3_i32_1101
  let v1185 : BitVec 1 := Scalar.andi v1183 v1184
  let v1205 : BitVec 32 := Scalar.extui v1185
  let c0_i32_1117 : BitVec 32 := 0#32
  let v1206 : BitVec 1 := Scalar.cmpi .ne v1205 c0_i32_1117
  v1206

def k0_off107 (d0 : Dev nD) : Fin 2 → Nat :=
  let c1_i32_1116 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  ![1, v653.toNat]
def k0_off108 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_1105 : BitVec 32 := 1024#32
  let v1190 : BitVec 32 := Scalar.muli v21 c1024_i32_1105
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c256_i32_1106 : BitVec 32 := 256#32
  let v1191 : BitVec 32 := Scalar.muli v653 c256_i32_1106
  let v1192 : BitVec 32 := Scalar.addi v1190 v1191
  let c128_i32_1107 : BitVec 32 := 128#32
  let v1193 : BitVec 32 := Scalar.addi v1192 c128_i32_1107
  let c0_i32_2610 : BitVec 32 := 0#32
  ![v1193.toNat, 0]
def k0_dev61 (d0 : Dev nD) : Nat :=
  let c0_i32_2607 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2606 : BitVec 32 := 8#32
  let v2548 : BitVec 32 := Scalar.muli v2 c8_i32_2606
  let v2549 : BitVec 32 := Scalar.addi c0_i32_2607 v2548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2608 : BitVec 32 := 4#32
  let v2550 : BitVec 32 := Scalar.muli v5 c4_i32_2608
  let v2551 : BitVec 32 := Scalar.addi v2549 v2550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1108 : BitVec 32 := 1#32
  let v1194 : BitVec 32 := Scalar.addi v8 c1_i32_1108
  let c4_i32_1109 : BitVec 32 := 4#32
  let c0_i32_1110 : BitVec 32 := 0#32
  let v1195 : BitVec 1 := Scalar.cmpi .eq c4_i32_1109 c0_i32_1110
  let c1_i32_1111 : BitVec 32 := 1#32
  let v1196 : BitVec 32 := Scalar.select v1195 c1_i32_1111 c4_i32_1109
  let v1197 : BitVec 32 := Scalar.remsi v1194 v1196
  let c0_i32_1113 : BitVec 32 := 0#32
  let v1199 : BitVec 1 := Scalar.cmpi .slt v1197 c0_i32_1113
  let c0_i32_1114 : BitVec 32 := 0#32
  let v1200 : BitVec 1 := Scalar.cmpi .slt v1196 c0_i32_1114
  let v1201 : BitVec 1 := Scalar.xori v1199 v1200
  let c0_i32_1112 : BitVec 32 := 0#32
  let v1198 : BitVec 1 := Scalar.cmpi .ne v1197 c0_i32_1112
  let v1202 : BitVec 1 := Scalar.andi v1201 v1198
  let v1203 : BitVec 32 := Scalar.addi v1197 v1196
  let v1204 : BitVec 32 := Scalar.select v1202 v1203 v1197
  let c1_i32_2609 : BitVec 32 := 1#32
  let v2552 : BitVec 32 := Scalar.muli v1204 c1_i32_2609
  let v2553 : BitVec 32 := Scalar.addi v2551 v2552
  v2553.toNat
def k0_cond67 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let v1207 : BitVec 1 := Scalar.cmpi .sgt v653 v8
  let c0_i32_1118 : BitVec 32 := 0#32
  let v1208 : BitVec 1 := Scalar.cmpi .sgt v8 c0_i32_1118
  let v1209 : BitVec 1 := Scalar.andi v1207 v1208
  let v1229 : BitVec 32 := Scalar.extui v1209
  let c0_i32_1134 : BitVec 32 := 0#32
  let v1230 : BitVec 1 := Scalar.cmpi .ne v1229 c0_i32_1134
  v1230

def k0_off109 (d0 : Dev nD) : Fin 2 → Nat :=
  let c1_i32_1133 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  ![1, v653.toNat]
def k0_off110 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_1122 : BitVec 32 := 1024#32
  let v1214 : BitVec 32 := Scalar.muli v21 c1024_i32_1122
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c256_i32_1123 : BitVec 32 := 256#32
  let v1215 : BitVec 32 := Scalar.muli v653 c256_i32_1123
  let v1216 : BitVec 32 := Scalar.addi v1214 v1215
  let c128_i32_1124 : BitVec 32 := 128#32
  let v1217 : BitVec 32 := Scalar.addi v1216 c128_i32_1124
  let c0_i32_2610 : BitVec 32 := 0#32
  ![v1217.toNat, 0]
def k0_dev62 (d0 : Dev nD) : Nat :=
  let c0_i32_2607 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2606 : BitVec 32 := 8#32
  let v2548 : BitVec 32 := Scalar.muli v2 c8_i32_2606
  let v2549 : BitVec 32 := Scalar.addi c0_i32_2607 v2548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2608 : BitVec 32 := 4#32
  let v2550 : BitVec 32 := Scalar.muli v5 c4_i32_2608
  let v2551 : BitVec 32 := Scalar.addi v2549 v2550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1125 : BitVec 32 := 3#32
  let v1218 : BitVec 32 := Scalar.addi v8 c3_i32_1125
  let c4_i32_1126 : BitVec 32 := 4#32
  let c0_i32_1127 : BitVec 32 := 0#32
  let v1219 : BitVec 1 := Scalar.cmpi .eq c4_i32_1126 c0_i32_1127
  let c1_i32_1128 : BitVec 32 := 1#32
  let v1220 : BitVec 32 := Scalar.select v1219 c1_i32_1128 c4_i32_1126
  let v1221 : BitVec 32 := Scalar.remsi v1218 v1220
  let c0_i32_1130 : BitVec 32 := 0#32
  let v1223 : BitVec 1 := Scalar.cmpi .slt v1221 c0_i32_1130
  let c0_i32_1131 : BitVec 32 := 0#32
  let v1224 : BitVec 1 := Scalar.cmpi .slt v1220 c0_i32_1131
  let v1225 : BitVec 1 := Scalar.xori v1223 v1224
  let c0_i32_1129 : BitVec 32 := 0#32
  let v1222 : BitVec 1 := Scalar.cmpi .ne v1221 c0_i32_1129
  let v1226 : BitVec 1 := Scalar.andi v1225 v1222
  let v1227 : BitVec 32 := Scalar.addi v1221 v1220
  let v1228 : BitVec 32 := Scalar.select v1226 v1227 v1221
  let c1_i32_2609 : BitVec 32 := 1#32
  let v2552 : BitVec 32 := Scalar.muli v1228 c1_i32_2609
  let v2553 : BitVec 32 := Scalar.addi v2551 v2552
  v2553.toNat
def k0_cond68 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c1_i32_586 : BitVec 32 := 1#32
  let v603 : BitVec 32 := Scalar.addi v8 c1_i32_586
  let c4_i32_587 : BitVec 32 := 4#32
  let c0_i32_588 : BitVec 32 := 0#32
  let v604 : BitVec 1 := Scalar.cmpi .eq c4_i32_587 c0_i32_588
  let c1_i32_589 : BitVec 32 := 1#32
  let v605 : BitVec 32 := Scalar.select v604 c1_i32_589 c4_i32_587
  let v606 : BitVec 32 := Scalar.remsi v603 v605
  let c0_i32_591 : BitVec 32 := 0#32
  let v608 : BitVec 1 := Scalar.cmpi .slt v606 c0_i32_591
  let c0_i32_592 : BitVec 32 := 0#32
  let v609 : BitVec 1 := Scalar.cmpi .slt v605 c0_i32_592
  let v610 : BitVec 1 := Scalar.xori v608 v609
  let c0_i32_590 : BitVec 32 := 0#32
  let v607 : BitVec 1 := Scalar.cmpi .ne v606 c0_i32_590
  let v611 : BitVec 1 := Scalar.andi v610 v607
  let v612 : BitVec 32 := Scalar.addi v606 v605
  let v613 : BitVec 32 := Scalar.select v611 v612 v606
  let v1231 : BitVec 1 := Scalar.cmpi .eq v653 v613
  let v1242 : BitVec 32 := Scalar.extui v1231
  let c0_i32_1147 : BitVec 32 := 0#32
  let v1243 : BitVec 1 := Scalar.cmpi .ne v1242 c0_i32_1147
  v1243

def k0_off111 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_1138 : BitVec 32 := 1024#32
  let v1238 : BitVec 32 := Scalar.muli v21 c1024_i32_1138
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c256_i32_1139 : BitVec 32 := 256#32
  let v1239 : BitVec 32 := Scalar.muli v653 c256_i32_1139
  let v1240 : BitVec 32 := Scalar.addi v1238 v1239
  let c128_i32_1140 : BitVec 32 := 128#32
  let v1241 : BitVec 32 := Scalar.addi v1240 c128_i32_1140
  let c0_i32_2610 : BitVec 32 := 0#32
  ![v1241.toNat, 0]
def k0_dev63 (d0 : Dev nD) : Nat :=
  let c0_i32_2607 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1_i32_8 : BitVec 32 := 1#32
  let v22 : BitVec 32 := Scalar.addi v21 c1_i32_8
  let c4_i32_9 : BitVec 32 := 4#32
  let c0_i32_10 : BitVec 32 := 0#32
  let v23 : BitVec 1 := Scalar.cmpi .eq c4_i32_9 c0_i32_10
  let c1_i32_11 : BitVec 32 := 1#32
  let v24 : BitVec 32 := Scalar.select v23 c1_i32_11 c4_i32_9
  let v25 : BitVec 32 := Scalar.remsi v22 v24
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let c0_i32_12 : BitVec 32 := 0#32
  let v26 : BitVec 1 := Scalar.cmpi .ne v25 c0_i32_12
  let v30 : BitVec 1 := Scalar.andi v29 v26
  let v31 : BitVec 32 := Scalar.addi v25 v24
  let v32 : BitVec 32 := Scalar.select v30 v31 v25
  let c0_i32_16 : BitVec 32 := 0#32
  let v34 : BitVec 1 := Scalar.cmpi .sgt v32 c0_i32_16
  let v35 : BitVec 32 := Scalar.extui v34
  let c0_i32_17 : BitVec 32 := 0#32
  let v36 : BitVec 1 := Scalar.cmpi .slt v32 c0_i32_17
  let v37 : BitVec 32 := Scalar.extui v36
  let v38 : BitVec 32 := Scalar.subi v35 v37
  let c2_i32_15 : BitVec 32 := 2#32
  let c0_i32_18 : BitVec 32 := 0#32
  let v39 : BitVec 1 := Scalar.cmpi .sgt c2_i32_15 c0_i32_18
  let v40 : BitVec 32 := Scalar.extui v39
  let c0_i32_19 : BitVec 32 := 0#32
  let v41 : BitVec 1 := Scalar.cmpi .slt c2_i32_15 c0_i32_19
  let v42 : BitVec 32 := Scalar.extui v41
  let v43 : BitVec 32 := Scalar.subi v40 v42
  let v44 : BitVec 1 := Scalar.cmpi .ne v38 v43
  let v45 : BitVec 32 := Scalar.remsi v32 c2_i32_15
  let c0_i32_20 : BitVec 32 := 0#32
  let v46 : BitVec 1 := Scalar.cmpi .ne v45 c0_i32_20
  let v47 : BitVec 1 := Scalar.andi v44 v46
  let v33 : BitVec 32 := Scalar.divsi v32 c2_i32_15
  let c1_i32_21 : BitVec 32 := 1#32
  let v48 : BitVec 32 := Scalar.subi v33 c1_i32_21
  let v49 : BitVec 32 := Scalar.select v47 v48 v33
  let c8_i32_2606 : BitVec 32 := 8#32
  let v2548 : BitVec 32 := Scalar.muli v49 c8_i32_2606
  let v2549 : BitVec 32 := Scalar.addi c0_i32_2607 v2548
  let c2_i32_22 : BitVec 32 := 2#32
  let c0_i32_23 : BitVec 32 := 0#32
  let v50 : BitVec 1 := Scalar.cmpi .eq c2_i32_22 c0_i32_23
  let c1_i32_24 : BitVec 32 := 1#32
  let v51 : BitVec 32 := Scalar.select v50 c1_i32_24 c2_i32_22
  let v52 : BitVec 32 := Scalar.remsi v32 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let v60 : BitVec 32 := Scalar.addi v49 v59
  let c2_i32_28 : BitVec 32 := 2#32
  let c0_i32_29 : BitVec 32 := 0#32
  let v61 : BitVec 1 := Scalar.cmpi .eq c2_i32_28 c0_i32_29
  let c1_i32_30 : BitVec 32 := 1#32
  let v62 : BitVec 32 := Scalar.select v61 c1_i32_30 c2_i32_28
  let v63 : BitVec 32 := Scalar.remsi v60 v62
  let c0_i32_32 : BitVec 32 := 0#32
  let v65 : BitVec 1 := Scalar.cmpi .slt v63 c0_i32_32
  let c0_i32_33 : BitVec 32 := 0#32
  let v66 : BitVec 1 := Scalar.cmpi .slt v62 c0_i32_33
  let v67 : BitVec 1 := Scalar.xori v65 v66
  let c0_i32_31 : BitVec 32 := 0#32
  let v64 : BitVec 1 := Scalar.cmpi .ne v63 c0_i32_31
  let v68 : BitVec 1 := Scalar.andi v67 v64
  let v69 : BitVec 32 := Scalar.addi v63 v62
  let v70 : BitVec 32 := Scalar.select v68 v69 v63
  let c4_i32_2608 : BitVec 32 := 4#32
  let v2550 : BitVec 32 := Scalar.muli v70 c4_i32_2608
  let v2551 : BitVec 32 := Scalar.addi v2549 v2550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2609 : BitVec 32 := 1#32
  let v2552 : BitVec 32 := Scalar.muli v8 c1_i32_2609
  let v2553 : BitVec 32 := Scalar.addi v2551 v2552
  v2553.toNat
def k0_cond69 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c2_i32_593 : BitVec 32 := 2#32
  let v614 : BitVec 32 := Scalar.addi v8 c2_i32_593
  let c4_i32_594 : BitVec 32 := 4#32
  let c0_i32_595 : BitVec 32 := 0#32
  let v615 : BitVec 1 := Scalar.cmpi .eq c4_i32_594 c0_i32_595
  let c1_i32_596 : BitVec 32 := 1#32
  let v616 : BitVec 32 := Scalar.select v615 c1_i32_596 c4_i32_594
  let v617 : BitVec 32 := Scalar.remsi v614 v616
  let c0_i32_598 : BitVec 32 := 0#32
  let v619 : BitVec 1 := Scalar.cmpi .slt v617 c0_i32_598
  let c0_i32_599 : BitVec 32 := 0#32
  let v620 : BitVec 1 := Scalar.cmpi .slt v616 c0_i32_599
  let v621 : BitVec 1 := Scalar.xori v619 v620
  let c0_i32_597 : BitVec 32 := 0#32
  let v618 : BitVec 1 := Scalar.cmpi .ne v617 c0_i32_597
  let v622 : BitVec 1 := Scalar.andi v621 v618
  let v623 : BitVec 32 := Scalar.addi v617 v616
  let v624 : BitVec 32 := Scalar.select v622 v623 v617
  let v1232 : BitVec 1 := Scalar.cmpi .eq v653 v624
  let v1252 : BitVec 32 := Scalar.extui v1232
  let c0_i32_1160 : BitVec 32 := 0#32
  let v1253 : BitVec 1 := Scalar.cmpi .ne v1252 c0_i32_1160
  v1253

def k0_off112 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_1151 : BitVec 32 := 1024#32
  let v1248 : BitVec 32 := Scalar.muli v21 c1024_i32_1151
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c256_i32_1152 : BitVec 32 := 256#32
  let v1249 : BitVec 32 := Scalar.muli v653 c256_i32_1152
  let v1250 : BitVec 32 := Scalar.addi v1248 v1249
  let c128_i32_1153 : BitVec 32 := 128#32
  let v1251 : BitVec 32 := Scalar.addi v1250 c128_i32_1153
  let c0_i32_2610 : BitVec 32 := 0#32
  ![v1251.toNat, 0]
def k0_dev64 (d0 : Dev nD) : Nat :=
  let c0_i32_2607 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v71 : BitVec 32 := Scalar.addi v21 c3_i32
  let c4_i32_34 : BitVec 32 := 4#32
  let c0_i32_35 : BitVec 32 := 0#32
  let v72 : BitVec 1 := Scalar.cmpi .eq c4_i32_34 c0_i32_35
  let c1_i32_36 : BitVec 32 := 1#32
  let v73 : BitVec 32 := Scalar.select v72 c1_i32_36 c4_i32_34
  let v74 : BitVec 32 := Scalar.remsi v71 v73
  let c0_i32_38 : BitVec 32 := 0#32
  let v76 : BitVec 1 := Scalar.cmpi .slt v74 c0_i32_38
  let c0_i32_39 : BitVec 32 := 0#32
  let v77 : BitVec 1 := Scalar.cmpi .slt v73 c0_i32_39
  let v78 : BitVec 1 := Scalar.xori v76 v77
  let c0_i32_37 : BitVec 32 := 0#32
  let v75 : BitVec 1 := Scalar.cmpi .ne v74 c0_i32_37
  let v79 : BitVec 1 := Scalar.andi v78 v75
  let v80 : BitVec 32 := Scalar.addi v74 v73
  let v81 : BitVec 32 := Scalar.select v79 v80 v74
  let c0_i32_41 : BitVec 32 := 0#32
  let v83 : BitVec 1 := Scalar.cmpi .sgt v81 c0_i32_41
  let v84 : BitVec 32 := Scalar.extui v83
  let c0_i32_42 : BitVec 32 := 0#32
  let v85 : BitVec 1 := Scalar.cmpi .slt v81 c0_i32_42
  let v86 : BitVec 32 := Scalar.extui v85
  let v87 : BitVec 32 := Scalar.subi v84 v86
  let c2_i32_40 : BitVec 32 := 2#32
  let c0_i32_43 : BitVec 32 := 0#32
  let v88 : BitVec 1 := Scalar.cmpi .sgt c2_i32_40 c0_i32_43
  let v89 : BitVec 32 := Scalar.extui v88
  let c0_i32_44 : BitVec 32 := 0#32
  let v90 : BitVec 1 := Scalar.cmpi .slt c2_i32_40 c0_i32_44
  let v91 : BitVec 32 := Scalar.extui v90
  let v92 : BitVec 32 := Scalar.subi v89 v91
  let v93 : BitVec 1 := Scalar.cmpi .ne v87 v92
  let v94 : BitVec 32 := Scalar.remsi v81 c2_i32_40
  let c0_i32_45 : BitVec 32 := 0#32
  let v95 : BitVec 1 := Scalar.cmpi .ne v94 c0_i32_45
  let v96 : BitVec 1 := Scalar.andi v93 v95
  let v82 : BitVec 32 := Scalar.divsi v81 c2_i32_40
  let c1_i32_46 : BitVec 32 := 1#32
  let v97 : BitVec 32 := Scalar.subi v82 c1_i32_46
  let v98 : BitVec 32 := Scalar.select v96 v97 v82
  let c8_i32_2606 : BitVec 32 := 8#32
  let v2548 : BitVec 32 := Scalar.muli v98 c8_i32_2606
  let v2549 : BitVec 32 := Scalar.addi c0_i32_2607 v2548
  let c2_i32_47 : BitVec 32 := 2#32
  let c0_i32_48 : BitVec 32 := 0#32
  let v99 : BitVec 1 := Scalar.cmpi .eq c2_i32_47 c0_i32_48
  let c1_i32_49 : BitVec 32 := 1#32
  let v100 : BitVec 32 := Scalar.select v99 c1_i32_49 c2_i32_47
  let v101 : BitVec 32 := Scalar.remsi v81 v100
  let c0_i32_51 : BitVec 32 := 0#32
  let v103 : BitVec 1 := Scalar.cmpi .slt v101 c0_i32_51
  let c0_i32_52 : BitVec 32 := 0#32
  let v104 : BitVec 1 := Scalar.cmpi .slt v100 c0_i32_52
  let v105 : BitVec 1 := Scalar.xori v103 v104
  let c0_i32_50 : BitVec 32 := 0#32
  let v102 : BitVec 1 := Scalar.cmpi .ne v101 c0_i32_50
  let v106 : BitVec 1 := Scalar.andi v105 v102
  let v107 : BitVec 32 := Scalar.addi v101 v100
  let v108 : BitVec 32 := Scalar.select v106 v107 v101
  let v109 : BitVec 32 := Scalar.addi v98 v108
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v109 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c4_i32_2608 : BitVec 32 := 4#32
  let v2550 : BitVec 32 := Scalar.muli v119 c4_i32_2608
  let v2551 : BitVec 32 := Scalar.addi v2549 v2550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2609 : BitVec 32 := 1#32
  let v2552 : BitVec 32 := Scalar.muli v8 c1_i32_2609
  let v2553 : BitVec 32 := Scalar.addi v2551 v2552
  v2553.toNat
def k0_cond70 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c3_i32_600 : BitVec 32 := 3#32
  let v625 : BitVec 32 := Scalar.addi v8 c3_i32_600
  let c4_i32_601 : BitVec 32 := 4#32
  let c0_i32_602 : BitVec 32 := 0#32
  let v626 : BitVec 1 := Scalar.cmpi .eq c4_i32_601 c0_i32_602
  let c1_i32_603 : BitVec 32 := 1#32
  let v627 : BitVec 32 := Scalar.select v626 c1_i32_603 c4_i32_601
  let v628 : BitVec 32 := Scalar.remsi v625 v627
  let c0_i32_605 : BitVec 32 := 0#32
  let v630 : BitVec 1 := Scalar.cmpi .slt v628 c0_i32_605
  let c0_i32_606 : BitVec 32 := 0#32
  let v631 : BitVec 1 := Scalar.cmpi .slt v627 c0_i32_606
  let v632 : BitVec 1 := Scalar.xori v630 v631
  let c0_i32_604 : BitVec 32 := 0#32
  let v629 : BitVec 1 := Scalar.cmpi .ne v628 c0_i32_604
  let v633 : BitVec 1 := Scalar.andi v632 v629
  let v634 : BitVec 32 := Scalar.addi v628 v627
  let v635 : BitVec 32 := Scalar.select v633 v634 v628
  let v1233 : BitVec 1 := Scalar.cmpi .eq v653 v635
  let v1262 : BitVec 32 := Scalar.extui v1233
  let c0_i32_1173 : BitVec 32 := 0#32
  let v1263 : BitVec 1 := Scalar.cmpi .ne v1262 c0_i32_1173
  v1263

def k0_off113 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_1164 : BitVec 32 := 1024#32
  let v1258 : BitVec 32 := Scalar.muli v21 c1024_i32_1164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c256_i32_1165 : BitVec 32 := 256#32
  let v1259 : BitVec 32 := Scalar.muli v653 c256_i32_1165
  let v1260 : BitVec 32 := Scalar.addi v1258 v1259
  let c128_i32_1166 : BitVec 32 := 128#32
  let v1261 : BitVec 32 := Scalar.addi v1260 c128_i32_1166
  let c0_i32_2610 : BitVec 32 := 0#32
  ![v1261.toNat, 0]
def k0_dev65 (d0 : Dev nD) : Nat :=
  let c0_i32_2607 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v71 : BitVec 32 := Scalar.addi v21 c3_i32
  let c4_i32_34 : BitVec 32 := 4#32
  let c0_i32_35 : BitVec 32 := 0#32
  let v72 : BitVec 1 := Scalar.cmpi .eq c4_i32_34 c0_i32_35
  let c1_i32_36 : BitVec 32 := 1#32
  let v73 : BitVec 32 := Scalar.select v72 c1_i32_36 c4_i32_34
  let v74 : BitVec 32 := Scalar.remsi v71 v73
  let c0_i32_38 : BitVec 32 := 0#32
  let v76 : BitVec 1 := Scalar.cmpi .slt v74 c0_i32_38
  let c0_i32_39 : BitVec 32 := 0#32
  let v77 : BitVec 1 := Scalar.cmpi .slt v73 c0_i32_39
  let v78 : BitVec 1 := Scalar.xori v76 v77
  let c0_i32_37 : BitVec 32 := 0#32
  let v75 : BitVec 1 := Scalar.cmpi .ne v74 c0_i32_37
  let v79 : BitVec 1 := Scalar.andi v78 v75
  let v80 : BitVec 32 := Scalar.addi v74 v73
  let v81 : BitVec 32 := Scalar.select v79 v80 v74
  let c0_i32_41 : BitVec 32 := 0#32
  let v83 : BitVec 1 := Scalar.cmpi .sgt v81 c0_i32_41
  let v84 : BitVec 32 := Scalar.extui v83
  let c0_i32_42 : BitVec 32 := 0#32
  let v85 : BitVec 1 := Scalar.cmpi .slt v81 c0_i32_42
  let v86 : BitVec 32 := Scalar.extui v85
  let v87 : BitVec 32 := Scalar.subi v84 v86
  let c2_i32_40 : BitVec 32 := 2#32
  let c0_i32_43 : BitVec 32 := 0#32
  let v88 : BitVec 1 := Scalar.cmpi .sgt c2_i32_40 c0_i32_43
  let v89 : BitVec 32 := Scalar.extui v88
  let c0_i32_44 : BitVec 32 := 0#32
  let v90 : BitVec 1 := Scalar.cmpi .slt c2_i32_40 c0_i32_44
  let v91 : BitVec 32 := Scalar.extui v90
  let v92 : BitVec 32 := Scalar.subi v89 v91
  let v93 : BitVec 1 := Scalar.cmpi .ne v87 v92
  let v94 : BitVec 32 := Scalar.remsi v81 c2_i32_40
  let c0_i32_45 : BitVec 32 := 0#32
  let v95 : BitVec 1 := Scalar.cmpi .ne v94 c0_i32_45
  let v96 : BitVec 1 := Scalar.andi v93 v95
  let v82 : BitVec 32 := Scalar.divsi v81 c2_i32_40
  let c1_i32_46 : BitVec 32 := 1#32
  let v97 : BitVec 32 := Scalar.subi v82 c1_i32_46
  let v98 : BitVec 32 := Scalar.select v96 v97 v82
  let c8_i32_2606 : BitVec 32 := 8#32
  let v2548 : BitVec 32 := Scalar.muli v98 c8_i32_2606
  let v2549 : BitVec 32 := Scalar.addi c0_i32_2607 v2548
  let c2_i32_47 : BitVec 32 := 2#32
  let c0_i32_48 : BitVec 32 := 0#32
  let v99 : BitVec 1 := Scalar.cmpi .eq c2_i32_47 c0_i32_48
  let c1_i32_49 : BitVec 32 := 1#32
  let v100 : BitVec 32 := Scalar.select v99 c1_i32_49 c2_i32_47
  let v101 : BitVec 32 := Scalar.remsi v81 v100
  let c0_i32_51 : BitVec 32 := 0#32
  let v103 : BitVec 1 := Scalar.cmpi .slt v101 c0_i32_51
  let c0_i32_52 : BitVec 32 := 0#32
  let v104 : BitVec 1 := Scalar.cmpi .slt v100 c0_i32_52
  let v105 : BitVec 1 := Scalar.xori v103 v104
  let c0_i32_50 : BitVec 32 := 0#32
  let v102 : BitVec 1 := Scalar.cmpi .ne v101 c0_i32_50
  let v106 : BitVec 1 := Scalar.andi v105 v102
  let v107 : BitVec 32 := Scalar.addi v101 v100
  let v108 : BitVec 32 := Scalar.select v106 v107 v101
  let v109 : BitVec 32 := Scalar.addi v98 v108
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v109 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c4_i32_2608 : BitVec 32 := 4#32
  let v2550 : BitVec 32 := Scalar.muli v119 c4_i32_2608
  let v2551 : BitVec 32 := Scalar.addi v2549 v2550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2609 : BitVec 32 := 1#32
  let v2552 : BitVec 32 := Scalar.muli v8 c1_i32_2609
  let v2553 : BitVec 32 := Scalar.addi v2551 v2552
  v2553.toNat
def k0_off114 (d0 : Dev nD) (c1_i32_1174 : BitVec 32) (c0_i32_1183 : BitVec 32) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let v1264 : BitVec 32 := Scalar.subi v21 c1_i32_1174
  let c4_i32_1175 : BitVec 32 := 4#32
  let c0_i32_1176 : BitVec 32 := 0#32
  let v1265 : BitVec 1 := Scalar.cmpi .eq c4_i32_1175 c0_i32_1176
  let c1_i32_1177 : BitVec 32 := 1#32
  let v1266 : BitVec 32 := Scalar.select v1265 c1_i32_1177 c4_i32_1175
  let v1267 : BitVec 32 := Scalar.remsi v1264 v1266
  let c0_i32_1179 : BitVec 32 := 0#32
  let v1269 : BitVec 1 := Scalar.cmpi .slt v1267 c0_i32_1179
  let c0_i32_1180 : BitVec 32 := 0#32
  let v1270 : BitVec 1 := Scalar.cmpi .slt v1266 c0_i32_1180
  let v1271 : BitVec 1 := Scalar.xori v1269 v1270
  let c0_i32_1178 : BitVec 32 := 0#32
  let v1268 : BitVec 1 := Scalar.cmpi .ne v1267 c0_i32_1178
  let v1272 : BitVec 1 := Scalar.andi v1271 v1268
  let v1273 : BitVec 32 := Scalar.addi v1267 v1266
  let v1274 : BitVec 32 := Scalar.select v1272 v1273 v1267
  let c1024_i32_1181 : BitVec 32 := 1024#32
  let v1275 : BitVec 32 := Scalar.muli v1274 c1024_i32_1181
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_1182 : BitVec 32 := 256#32
  let v1276 : BitVec 32 := Scalar.muli v8 c256_i32_1182
  let v1277 : BitVec 32 := Scalar.addi v1275 v1276
  let v1278 : BitVec 32 := Scalar.addi v1277 c0_i32_1183
  let c0_i32_1194 : BitVec 32 := 0#32
  ![v1278.toNat, 0]
def k0_off115 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32 : BitVec 32 := 1024#32
  let v120 : BitVec 32 := Scalar.muli v21 c1024_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32 : BitVec 32 := 256#32
  let v121 : BitVec 32 := Scalar.muli v8 c256_i32
  let v122 : BitVec 32 := Scalar.addi v120 v121
  let c0_i32_1195 : BitVec 32 := 0#32
  ![v122.toNat, 0]
def k0_dev66 (d0 : Dev nD) : Nat :=
  let c0_i32_1216 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1_i32_8 : BitVec 32 := 1#32
  let v22 : BitVec 32 := Scalar.addi v21 c1_i32_8
  let c4_i32_9 : BitVec 32 := 4#32
  let c0_i32_10 : BitVec 32 := 0#32
  let v23 : BitVec 1 := Scalar.cmpi .eq c4_i32_9 c0_i32_10
  let c1_i32_11 : BitVec 32 := 1#32
  let v24 : BitVec 32 := Scalar.select v23 c1_i32_11 c4_i32_9
  let v25 : BitVec 32 := Scalar.remsi v22 v24
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let c0_i32_12 : BitVec 32 := 0#32
  let v26 : BitVec 1 := Scalar.cmpi .ne v25 c0_i32_12
  let v30 : BitVec 1 := Scalar.andi v29 v26
  let v31 : BitVec 32 := Scalar.addi v25 v24
  let v32 : BitVec 32 := Scalar.select v30 v31 v25
  let c0_i32_16 : BitVec 32 := 0#32
  let v34 : BitVec 1 := Scalar.cmpi .sgt v32 c0_i32_16
  let v35 : BitVec 32 := Scalar.extui v34
  let c0_i32_17 : BitVec 32 := 0#32
  let v36 : BitVec 1 := Scalar.cmpi .slt v32 c0_i32_17
  let v37 : BitVec 32 := Scalar.extui v36
  let v38 : BitVec 32 := Scalar.subi v35 v37
  let c2_i32_15 : BitVec 32 := 2#32
  let c0_i32_18 : BitVec 32 := 0#32
  let v39 : BitVec 1 := Scalar.cmpi .sgt c2_i32_15 c0_i32_18
  let v40 : BitVec 32 := Scalar.extui v39
  let c0_i32_19 : BitVec 32 := 0#32
  let v41 : BitVec 1 := Scalar.cmpi .slt c2_i32_15 c0_i32_19
  let v42 : BitVec 32 := Scalar.extui v41
  let v43 : BitVec 32 := Scalar.subi v40 v42
  let v44 : BitVec 1 := Scalar.cmpi .ne v38 v43
  let v45 : BitVec 32 := Scalar.remsi v32 c2_i32_15
  let c0_i32_20 : BitVec 32 := 0#32
  let v46 : BitVec 1 := Scalar.cmpi .ne v45 c0_i32_20
  let v47 : BitVec 1 := Scalar.andi v44 v46
  let v33 : BitVec 32 := Scalar.divsi v32 c2_i32_15
  let c1_i32_21 : BitVec 32 := 1#32
  let v48 : BitVec 32 := Scalar.subi v33 c1_i32_21
  let v49 : BitVec 32 := Scalar.select v47 v48 v33
  let c8_i32_1215 : BitVec 32 := 8#32
  let v1308 : BitVec 32 := Scalar.muli v49 c8_i32_1215
  let v1309 : BitVec 32 := Scalar.addi c0_i32_1216 v1308
  let c2_i32_22 : BitVec 32 := 2#32
  let c0_i32_23 : BitVec 32 := 0#32
  let v50 : BitVec 1 := Scalar.cmpi .eq c2_i32_22 c0_i32_23
  let c1_i32_24 : BitVec 32 := 1#32
  let v51 : BitVec 32 := Scalar.select v50 c1_i32_24 c2_i32_22
  let v52 : BitVec 32 := Scalar.remsi v32 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let v60 : BitVec 32 := Scalar.addi v49 v59
  let c2_i32_28 : BitVec 32 := 2#32
  let c0_i32_29 : BitVec 32 := 0#32
  let v61 : BitVec 1 := Scalar.cmpi .eq c2_i32_28 c0_i32_29
  let c1_i32_30 : BitVec 32 := 1#32
  let v62 : BitVec 32 := Scalar.select v61 c1_i32_30 c2_i32_28
  let v63 : BitVec 32 := Scalar.remsi v60 v62
  let c0_i32_32 : BitVec 32 := 0#32
  let v65 : BitVec 1 := Scalar.cmpi .slt v63 c0_i32_32
  let c0_i32_33 : BitVec 32 := 0#32
  let v66 : BitVec 1 := Scalar.cmpi .slt v62 c0_i32_33
  let v67 : BitVec 1 := Scalar.xori v65 v66
  let c0_i32_31 : BitVec 32 := 0#32
  let v64 : BitVec 1 := Scalar.cmpi .ne v63 c0_i32_31
  let v68 : BitVec 1 := Scalar.andi v67 v64
  let v69 : BitVec 32 := Scalar.addi v63 v62
  let v70 : BitVec 32 := Scalar.select v68 v69 v63
  let c4_i32_1217 : BitVec 32 := 4#32
  let v1310 : BitVec 32 := Scalar.muli v70 c4_i32_1217
  let v1311 : BitVec 32 := Scalar.addi v1309 v1310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1218 : BitVec 32 := 1#32
  let v1312 : BitVec 32 := Scalar.muli v8 c1_i32_1218
  let v1313 : BitVec 32 := Scalar.addi v1311 v1312
  v1313.toNat
def k0_off116 (d0 : Dev nD) (c1_i32_1221 : BitVec 32) (c0_i32_1230 : BitVec 32) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let v1320 : BitVec 32 := Scalar.subi v21 c1_i32_1221
  let c4_i32_1222 : BitVec 32 := 4#32
  let c0_i32_1223 : BitVec 32 := 0#32
  let v1321 : BitVec 1 := Scalar.cmpi .eq c4_i32_1222 c0_i32_1223
  let c1_i32_1224 : BitVec 32 := 1#32
  let v1322 : BitVec 32 := Scalar.select v1321 c1_i32_1224 c4_i32_1222
  let v1323 : BitVec 32 := Scalar.remsi v1320 v1322
  let c0_i32_1226 : BitVec 32 := 0#32
  let v1325 : BitVec 1 := Scalar.cmpi .slt v1323 c0_i32_1226
  let c0_i32_1227 : BitVec 32 := 0#32
  let v1326 : BitVec 1 := Scalar.cmpi .slt v1322 c0_i32_1227
  let v1327 : BitVec 1 := Scalar.xori v1325 v1326
  let c0_i32_1225 : BitVec 32 := 0#32
  let v1324 : BitVec 1 := Scalar.cmpi .ne v1323 c0_i32_1225
  let v1328 : BitVec 1 := Scalar.andi v1327 v1324
  let v1329 : BitVec 32 := Scalar.addi v1323 v1322
  let v1330 : BitVec 32 := Scalar.select v1328 v1329 v1323
  let c1024_i32_1228 : BitVec 32 := 1024#32
  let v1331 : BitVec 32 := Scalar.muli v1330 c1024_i32_1228
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_586 : BitVec 32 := 1#32
  let v603 : BitVec 32 := Scalar.addi v8 c1_i32_586
  let c4_i32_587 : BitVec 32 := 4#32
  let c0_i32_588 : BitVec 32 := 0#32
  let v604 : BitVec 1 := Scalar.cmpi .eq c4_i32_587 c0_i32_588
  let c1_i32_589 : BitVec 32 := 1#32
  let v605 : BitVec 32 := Scalar.select v604 c1_i32_589 c4_i32_587
  let v606 : BitVec 32 := Scalar.remsi v603 v605
  let c0_i32_591 : BitVec 32 := 0#32
  let v608 : BitVec 1 := Scalar.cmpi .slt v606 c0_i32_591
  let c0_i32_592 : BitVec 32 := 0#32
  let v609 : BitVec 1 := Scalar.cmpi .slt v605 c0_i32_592
  let v610 : BitVec 1 := Scalar.xori v608 v609
  let c0_i32_590 : BitVec 32 := 0#32
  let v607 : BitVec 1 := Scalar.cmpi .ne v606 c0_i32_590
  let v611 : BitVec 1 := Scalar.andi v610 v607
  let v612 : BitVec 32 := Scalar.addi v606 v605
  let v613 : BitVec 32 := Scalar.select v611 v612 v606
  let c256_i32_1229 : BitVec 32 := 256#32
  let v1332 : BitVec 32 := Scalar.muli v613 c256_i32_1229
  let v1333 : BitVec 32 := Scalar.addi v1331 v1332
  let v1334 : BitVec 32 := Scalar.addi v1333 c0_i32_1230
  let c0_i32_1241 : BitVec 32 := 0#32
  ![v1334.toNat, 0]
def k0_dev67 (d0 : Dev nD) : Nat :=
  let c0_i32_1263 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1_i32_8 : BitVec 32 := 1#32
  let v22 : BitVec 32 := Scalar.addi v21 c1_i32_8
  let c4_i32_9 : BitVec 32 := 4#32
  let c0_i32_10 : BitVec 32 := 0#32
  let v23 : BitVec 1 := Scalar.cmpi .eq c4_i32_9 c0_i32_10
  let c1_i32_11 : BitVec 32 := 1#32
  let v24 : BitVec 32 := Scalar.select v23 c1_i32_11 c4_i32_9
  let v25 : BitVec 32 := Scalar.remsi v22 v24
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let c0_i32_12 : BitVec 32 := 0#32
  let v26 : BitVec 1 := Scalar.cmpi .ne v25 c0_i32_12
  let v30 : BitVec 1 := Scalar.andi v29 v26
  let v31 : BitVec 32 := Scalar.addi v25 v24
  let v32 : BitVec 32 := Scalar.select v30 v31 v25
  let c0_i32_16 : BitVec 32 := 0#32
  let v34 : BitVec 1 := Scalar.cmpi .sgt v32 c0_i32_16
  let v35 : BitVec 32 := Scalar.extui v34
  let c0_i32_17 : BitVec 32 := 0#32
  let v36 : BitVec 1 := Scalar.cmpi .slt v32 c0_i32_17
  let v37 : BitVec 32 := Scalar.extui v36
  let v38 : BitVec 32 := Scalar.subi v35 v37
  let c2_i32_15 : BitVec 32 := 2#32
  let c0_i32_18 : BitVec 32 := 0#32
  let v39 : BitVec 1 := Scalar.cmpi .sgt c2_i32_15 c0_i32_18
  let v40 : BitVec 32 := Scalar.extui v39
  let c0_i32_19 : BitVec 32 := 0#32
  let v41 : BitVec 1 := Scalar.cmpi .slt c2_i32_15 c0_i32_19
  let v42 : BitVec 32 := Scalar.extui v41
  let v43 : BitVec 32 := Scalar.subi v40 v42
  let v44 : BitVec 1 := Scalar.cmpi .ne v38 v43
  let v45 : BitVec 32 := Scalar.remsi v32 c2_i32_15
  let c0_i32_20 : BitVec 32 := 0#32
  let v46 : BitVec 1 := Scalar.cmpi .ne v45 c0_i32_20
  let v47 : BitVec 1 := Scalar.andi v44 v46
  let v33 : BitVec 32 := Scalar.divsi v32 c2_i32_15
  let c1_i32_21 : BitVec 32 := 1#32
  let v48 : BitVec 32 := Scalar.subi v33 c1_i32_21
  let v49 : BitVec 32 := Scalar.select v47 v48 v33
  let c8_i32_1262 : BitVec 32 := 8#32
  let v1364 : BitVec 32 := Scalar.muli v49 c8_i32_1262
  let v1365 : BitVec 32 := Scalar.addi c0_i32_1263 v1364
  let c2_i32_22 : BitVec 32 := 2#32
  let c0_i32_23 : BitVec 32 := 0#32
  let v50 : BitVec 1 := Scalar.cmpi .eq c2_i32_22 c0_i32_23
  let c1_i32_24 : BitVec 32 := 1#32
  let v51 : BitVec 32 := Scalar.select v50 c1_i32_24 c2_i32_22
  let v52 : BitVec 32 := Scalar.remsi v32 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let v60 : BitVec 32 := Scalar.addi v49 v59
  let c2_i32_28 : BitVec 32 := 2#32
  let c0_i32_29 : BitVec 32 := 0#32
  let v61 : BitVec 1 := Scalar.cmpi .eq c2_i32_28 c0_i32_29
  let c1_i32_30 : BitVec 32 := 1#32
  let v62 : BitVec 32 := Scalar.select v61 c1_i32_30 c2_i32_28
  let v63 : BitVec 32 := Scalar.remsi v60 v62
  let c0_i32_32 : BitVec 32 := 0#32
  let v65 : BitVec 1 := Scalar.cmpi .slt v63 c0_i32_32
  let c0_i32_33 : BitVec 32 := 0#32
  let v66 : BitVec 1 := Scalar.cmpi .slt v62 c0_i32_33
  let v67 : BitVec 1 := Scalar.xori v65 v66
  let c0_i32_31 : BitVec 32 := 0#32
  let v64 : BitVec 1 := Scalar.cmpi .ne v63 c0_i32_31
  let v68 : BitVec 1 := Scalar.andi v67 v64
  let v69 : BitVec 32 := Scalar.addi v63 v62
  let v70 : BitVec 32 := Scalar.select v68 v69 v63
  let c4_i32_1264 : BitVec 32 := 4#32
  let v1366 : BitVec 32 := Scalar.muli v70 c4_i32_1264
  let v1367 : BitVec 32 := Scalar.addi v1365 v1366
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1265 : BitVec 32 := 1#32
  let v1368 : BitVec 32 := Scalar.muli v8 c1_i32_1265
  let v1369 : BitVec 32 := Scalar.addi v1367 v1368
  v1369.toNat
def k0_off117 (d0 : Dev nD) (c1_i32_1268 : BitVec 32) (c2_i32_593 : BitVec 32) (c0_i32_1277 : BitVec 32) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let v1376 : BitVec 32 := Scalar.addi v21 c1_i32_1268
  let c4_i32_1269 : BitVec 32 := 4#32
  let c0_i32_1270 : BitVec 32 := 0#32
  let v1377 : BitVec 1 := Scalar.cmpi .eq c4_i32_1269 c0_i32_1270
  let c1_i32_1271 : BitVec 32 := 1#32
  let v1378 : BitVec 32 := Scalar.select v1377 c1_i32_1271 c4_i32_1269
  let v1379 : BitVec 32 := Scalar.remsi v1376 v1378
  let c0_i32_1273 : BitVec 32 := 0#32
  let v1381 : BitVec 1 := Scalar.cmpi .slt v1379 c0_i32_1273
  let c0_i32_1274 : BitVec 32 := 0#32
  let v1382 : BitVec 1 := Scalar.cmpi .slt v1378 c0_i32_1274
  let v1383 : BitVec 1 := Scalar.xori v1381 v1382
  let c0_i32_1272 : BitVec 32 := 0#32
  let v1380 : BitVec 1 := Scalar.cmpi .ne v1379 c0_i32_1272
  let v1384 : BitVec 1 := Scalar.andi v1383 v1380
  let v1385 : BitVec 32 := Scalar.addi v1379 v1378
  let v1386 : BitVec 32 := Scalar.select v1384 v1385 v1379
  let c1024_i32_1275 : BitVec 32 := 1024#32
  let v1387 : BitVec 32 := Scalar.muli v1386 c1024_i32_1275
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v614 : BitVec 32 := Scalar.addi v8 c2_i32_593
  let c4_i32_594 : BitVec 32 := 4#32
  let c0_i32_595 : BitVec 32 := 0#32
  let v615 : BitVec 1 := Scalar.cmpi .eq c4_i32_594 c0_i32_595
  let c1_i32_596 : BitVec 32 := 1#32
  let v616 : BitVec 32 := Scalar.select v615 c1_i32_596 c4_i32_594
  let v617 : BitVec 32 := Scalar.remsi v614 v616
  let c0_i32_598 : BitVec 32 := 0#32
  let v619 : BitVec 1 := Scalar.cmpi .slt v617 c0_i32_598
  let c0_i32_599 : BitVec 32 := 0#32
  let v620 : BitVec 1 := Scalar.cmpi .slt v616 c0_i32_599
  let v621 : BitVec 1 := Scalar.xori v619 v620
  let c0_i32_597 : BitVec 32 := 0#32
  let v618 : BitVec 1 := Scalar.cmpi .ne v617 c0_i32_597
  let v622 : BitVec 1 := Scalar.andi v621 v618
  let v623 : BitVec 32 := Scalar.addi v617 v616
  let v624 : BitVec 32 := Scalar.select v622 v623 v617
  let c256_i32_1276 : BitVec 32 := 256#32
  let v1388 : BitVec 32 := Scalar.muli v624 c256_i32_1276
  let v1389 : BitVec 32 := Scalar.addi v1387 v1388
  let v1390 : BitVec 32 := Scalar.addi v1389 c0_i32_1277
  let c0_i32_1288 : BitVec 32 := 0#32
  ![v1390.toNat, 0]
def k0_dev68 (d0 : Dev nD) : Nat :=
  let c0_i32_1310 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v71 : BitVec 32 := Scalar.addi v21 c3_i32
  let c4_i32_34 : BitVec 32 := 4#32
  let c0_i32_35 : BitVec 32 := 0#32
  let v72 : BitVec 1 := Scalar.cmpi .eq c4_i32_34 c0_i32_35
  let c1_i32_36 : BitVec 32 := 1#32
  let v73 : BitVec 32 := Scalar.select v72 c1_i32_36 c4_i32_34
  let v74 : BitVec 32 := Scalar.remsi v71 v73
  let c0_i32_38 : BitVec 32 := 0#32
  let v76 : BitVec 1 := Scalar.cmpi .slt v74 c0_i32_38
  let c0_i32_39 : BitVec 32 := 0#32
  let v77 : BitVec 1 := Scalar.cmpi .slt v73 c0_i32_39
  let v78 : BitVec 1 := Scalar.xori v76 v77
  let c0_i32_37 : BitVec 32 := 0#32
  let v75 : BitVec 1 := Scalar.cmpi .ne v74 c0_i32_37
  let v79 : BitVec 1 := Scalar.andi v78 v75
  let v80 : BitVec 32 := Scalar.addi v74 v73
  let v81 : BitVec 32 := Scalar.select v79 v80 v74
  let c0_i32_41 : BitVec 32 := 0#32
  let v83 : BitVec 1 := Scalar.cmpi .sgt v81 c0_i32_41
  let v84 : BitVec 32 := Scalar.extui v83
  let c0_i32_42 : BitVec 32 := 0#32
  let v85 : BitVec 1 := Scalar.cmpi .slt v81 c0_i32_42
  let v86 : BitVec 32 := Scalar.extui v85
  let v87 : BitVec 32 := Scalar.subi v84 v86
  let c2_i32_40 : BitVec 32 := 2#32
  let c0_i32_43 : BitVec 32 := 0#32
  let v88 : BitVec 1 := Scalar.cmpi .sgt c2_i32_40 c0_i32_43
  let v89 : BitVec 32 := Scalar.extui v88
  let c0_i32_44 : BitVec 32 := 0#32
  let v90 : BitVec 1 := Scalar.cmpi .slt c2_i32_40 c0_i32_44
  let v91 : BitVec 32 := Scalar.extui v90
  let v92 : BitVec 32 := Scalar.subi v89 v91
  let v93 : BitVec 1 := Scalar.cmpi .ne v87 v92
  let v94 : BitVec 32 := Scalar.remsi v81 c2_i32_40
  let c0_i32_45 : BitVec 32 := 0#32
  let v95 : BitVec 1 := Scalar.cmpi .ne v94 c0_i32_45
  let v96 : BitVec 1 := Scalar.andi v93 v95
  let v82 : BitVec 32 := Scalar.divsi v81 c2_i32_40
  let c1_i32_46 : BitVec 32 := 1#32
  let v97 : BitVec 32 := Scalar.subi v82 c1_i32_46
  let v98 : BitVec 32 := Scalar.select v96 v97 v82
  let c8_i32_1309 : BitVec 32 := 8#32
  let v1420 : BitVec 32 := Scalar.muli v98 c8_i32_1309
  let v1421 : BitVec 32 := Scalar.addi c0_i32_1310 v1420
  let c2_i32_47 : BitVec 32 := 2#32
  let c0_i32_48 : BitVec 32 := 0#32
  let v99 : BitVec 1 := Scalar.cmpi .eq c2_i32_47 c0_i32_48
  let c1_i32_49 : BitVec 32 := 1#32
  let v100 : BitVec 32 := Scalar.select v99 c1_i32_49 c2_i32_47
  let v101 : BitVec 32 := Scalar.remsi v81 v100
  let c0_i32_51 : BitVec 32 := 0#32
  let v103 : BitVec 1 := Scalar.cmpi .slt v101 c0_i32_51
  let c0_i32_52 : BitVec 32 := 0#32
  let v104 : BitVec 1 := Scalar.cmpi .slt v100 c0_i32_52
  let v105 : BitVec 1 := Scalar.xori v103 v104
  let c0_i32_50 : BitVec 32 := 0#32
  let v102 : BitVec 1 := Scalar.cmpi .ne v101 c0_i32_50
  let v106 : BitVec 1 := Scalar.andi v105 v102
  let v107 : BitVec 32 := Scalar.addi v101 v100
  let v108 : BitVec 32 := Scalar.select v106 v107 v101
  let v109 : BitVec 32 := Scalar.addi v98 v108
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v109 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c4_i32_1311 : BitVec 32 := 4#32
  let v1422 : BitVec 32 := Scalar.muli v119 c4_i32_1311
  let v1423 : BitVec 32 := Scalar.addi v1421 v1422
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1312 : BitVec 32 := 1#32
  let v1424 : BitVec 32 := Scalar.muli v8 c1_i32_1312
  let v1425 : BitVec 32 := Scalar.addi v1423 v1424
  v1425.toNat
def k0_dev69 (d0 : Dev nD) : Nat :=
  let c0_i32_1357 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v71 : BitVec 32 := Scalar.addi v21 c3_i32
  let c4_i32_34 : BitVec 32 := 4#32
  let c0_i32_35 : BitVec 32 := 0#32
  let v72 : BitVec 1 := Scalar.cmpi .eq c4_i32_34 c0_i32_35
  let c1_i32_36 : BitVec 32 := 1#32
  let v73 : BitVec 32 := Scalar.select v72 c1_i32_36 c4_i32_34
  let v74 : BitVec 32 := Scalar.remsi v71 v73
  let c0_i32_38 : BitVec 32 := 0#32
  let v76 : BitVec 1 := Scalar.cmpi .slt v74 c0_i32_38
  let c0_i32_39 : BitVec 32 := 0#32
  let v77 : BitVec 1 := Scalar.cmpi .slt v73 c0_i32_39
  let v78 : BitVec 1 := Scalar.xori v76 v77
  let c0_i32_37 : BitVec 32 := 0#32
  let v75 : BitVec 1 := Scalar.cmpi .ne v74 c0_i32_37
  let v79 : BitVec 1 := Scalar.andi v78 v75
  let v80 : BitVec 32 := Scalar.addi v74 v73
  let v81 : BitVec 32 := Scalar.select v79 v80 v74
  let c0_i32_41 : BitVec 32 := 0#32
  let v83 : BitVec 1 := Scalar.cmpi .sgt v81 c0_i32_41
  let v84 : BitVec 32 := Scalar.extui v83
  let c0_i32_42 : BitVec 32 := 0#32
  let v85 : BitVec 1 := Scalar.cmpi .slt v81 c0_i32_42
  let v86 : BitVec 32 := Scalar.extui v85
  let v87 : BitVec 32 := Scalar.subi v84 v86
  let c2_i32_40 : BitVec 32 := 2#32
  let c0_i32_43 : BitVec 32 := 0#32
  let v88 : BitVec 1 := Scalar.cmpi .sgt c2_i32_40 c0_i32_43
  let v89 : BitVec 32 := Scalar.extui v88
  let c0_i32_44 : BitVec 32 := 0#32
  let v90 : BitVec 1 := Scalar.cmpi .slt c2_i32_40 c0_i32_44
  let v91 : BitVec 32 := Scalar.extui v90
  let v92 : BitVec 32 := Scalar.subi v89 v91
  let v93 : BitVec 1 := Scalar.cmpi .ne v87 v92
  let v94 : BitVec 32 := Scalar.remsi v81 c2_i32_40
  let c0_i32_45 : BitVec 32 := 0#32
  let v95 : BitVec 1 := Scalar.cmpi .ne v94 c0_i32_45
  let v96 : BitVec 1 := Scalar.andi v93 v95
  let v82 : BitVec 32 := Scalar.divsi v81 c2_i32_40
  let c1_i32_46 : BitVec 32 := 1#32
  let v97 : BitVec 32 := Scalar.subi v82 c1_i32_46
  let v98 : BitVec 32 := Scalar.select v96 v97 v82
  let c8_i32_1356 : BitVec 32 := 8#32
  let v1476 : BitVec 32 := Scalar.muli v98 c8_i32_1356
  let v1477 : BitVec 32 := Scalar.addi c0_i32_1357 v1476
  let c2_i32_47 : BitVec 32 := 2#32
  let c0_i32_48 : BitVec 32 := 0#32
  let v99 : BitVec 1 := Scalar.cmpi .eq c2_i32_47 c0_i32_48
  let c1_i32_49 : BitVec 32 := 1#32
  let v100 : BitVec 32 := Scalar.select v99 c1_i32_49 c2_i32_47
  let v101 : BitVec 32 := Scalar.remsi v81 v100
  let c0_i32_51 : BitVec 32 := 0#32
  let v103 : BitVec 1 := Scalar.cmpi .slt v101 c0_i32_51
  let c0_i32_52 : BitVec 32 := 0#32
  let v104 : BitVec 1 := Scalar.cmpi .slt v100 c0_i32_52
  let v105 : BitVec 1 := Scalar.xori v103 v104
  let c0_i32_50 : BitVec 32 := 0#32
  let v102 : BitVec 1 := Scalar.cmpi .ne v101 c0_i32_50
  let v106 : BitVec 1 := Scalar.andi v105 v102
  let v107 : BitVec 32 := Scalar.addi v101 v100
  let v108 : BitVec 32 := Scalar.select v106 v107 v101
  let v109 : BitVec 32 := Scalar.addi v98 v108
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v109 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c4_i32_1358 : BitVec 32 := 4#32
  let v1478 : BitVec 32 := Scalar.muli v119 c4_i32_1358
  let v1479 : BitVec 32 := Scalar.addi v1477 v1478
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1359 : BitVec 32 := 1#32
  let v1480 : BitVec 32 := Scalar.muli v8 c1_i32_1359
  let v1481 : BitVec 32 := Scalar.addi v1479 v1480
  v1481.toNat
def k0_dev70 (d0 : Dev nD) : Nat :=
  let c0_i32_1404 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1_i32_8 : BitVec 32 := 1#32
  let v22 : BitVec 32 := Scalar.addi v21 c1_i32_8
  let c4_i32_9 : BitVec 32 := 4#32
  let c0_i32_10 : BitVec 32 := 0#32
  let v23 : BitVec 1 := Scalar.cmpi .eq c4_i32_9 c0_i32_10
  let c1_i32_11 : BitVec 32 := 1#32
  let v24 : BitVec 32 := Scalar.select v23 c1_i32_11 c4_i32_9
  let v25 : BitVec 32 := Scalar.remsi v22 v24
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let c0_i32_12 : BitVec 32 := 0#32
  let v26 : BitVec 1 := Scalar.cmpi .ne v25 c0_i32_12
  let v30 : BitVec 1 := Scalar.andi v29 v26
  let v31 : BitVec 32 := Scalar.addi v25 v24
  let v32 : BitVec 32 := Scalar.select v30 v31 v25
  let c0_i32_16 : BitVec 32 := 0#32
  let v34 : BitVec 1 := Scalar.cmpi .sgt v32 c0_i32_16
  let v35 : BitVec 32 := Scalar.extui v34
  let c0_i32_17 : BitVec 32 := 0#32
  let v36 : BitVec 1 := Scalar.cmpi .slt v32 c0_i32_17
  let v37 : BitVec 32 := Scalar.extui v36
  let v38 : BitVec 32 := Scalar.subi v35 v37
  let c2_i32_15 : BitVec 32 := 2#32
  let c0_i32_18 : BitVec 32 := 0#32
  let v39 : BitVec 1 := Scalar.cmpi .sgt c2_i32_15 c0_i32_18
  let v40 : BitVec 32 := Scalar.extui v39
  let c0_i32_19 : BitVec 32 := 0#32
  let v41 : BitVec 1 := Scalar.cmpi .slt c2_i32_15 c0_i32_19
  let v42 : BitVec 32 := Scalar.extui v41
  let v43 : BitVec 32 := Scalar.subi v40 v42
  let v44 : BitVec 1 := Scalar.cmpi .ne v38 v43
  let v45 : BitVec 32 := Scalar.remsi v32 c2_i32_15
  let c0_i32_20 : BitVec 32 := 0#32
  let v46 : BitVec 1 := Scalar.cmpi .ne v45 c0_i32_20
  let v47 : BitVec 1 := Scalar.andi v44 v46
  let v33 : BitVec 32 := Scalar.divsi v32 c2_i32_15
  let c1_i32_21 : BitVec 32 := 1#32
  let v48 : BitVec 32 := Scalar.subi v33 c1_i32_21
  let v49 : BitVec 32 := Scalar.select v47 v48 v33
  let c8_i32_1403 : BitVec 32 := 8#32
  let v1532 : BitVec 32 := Scalar.muli v49 c8_i32_1403
  let v1533 : BitVec 32 := Scalar.addi c0_i32_1404 v1532
  let c2_i32_22 : BitVec 32 := 2#32
  let c0_i32_23 : BitVec 32 := 0#32
  let v50 : BitVec 1 := Scalar.cmpi .eq c2_i32_22 c0_i32_23
  let c1_i32_24 : BitVec 32 := 1#32
  let v51 : BitVec 32 := Scalar.select v50 c1_i32_24 c2_i32_22
  let v52 : BitVec 32 := Scalar.remsi v32 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let v60 : BitVec 32 := Scalar.addi v49 v59
  let c2_i32_28 : BitVec 32 := 2#32
  let c0_i32_29 : BitVec 32 := 0#32
  let v61 : BitVec 1 := Scalar.cmpi .eq c2_i32_28 c0_i32_29
  let c1_i32_30 : BitVec 32 := 1#32
  let v62 : BitVec 32 := Scalar.select v61 c1_i32_30 c2_i32_28
  let v63 : BitVec 32 := Scalar.remsi v60 v62
  let c0_i32_32 : BitVec 32 := 0#32
  let v65 : BitVec 1 := Scalar.cmpi .slt v63 c0_i32_32
  let c0_i32_33 : BitVec 32 := 0#32
  let v66 : BitVec 1 := Scalar.cmpi .slt v62 c0_i32_33
  let v67 : BitVec 1 := Scalar.xori v65 v66
  let c0_i32_31 : BitVec 32 := 0#32
  let v64 : BitVec 1 := Scalar.cmpi .ne v63 c0_i32_31
  let v68 : BitVec 1 := Scalar.andi v67 v64
  let v69 : BitVec 32 := Scalar.addi v63 v62
  let v70 : BitVec 32 := Scalar.select v68 v69 v63
  let c4_i32_1405 : BitVec 32 := 4#32
  let v1534 : BitVec 32 := Scalar.muli v70 c4_i32_1405
  let v1535 : BitVec 32 := Scalar.addi v1533 v1534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1406 : BitVec 32 := 1#32
  let v1536 : BitVec 32 := Scalar.muli v8 c1_i32_1406
  let v1537 : BitVec 32 := Scalar.addi v1535 v1536
  v1537.toNat
def k0_dev71 (d0 : Dev nD) : Nat :=
  let c0_i32_1451 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1_i32_8 : BitVec 32 := 1#32
  let v22 : BitVec 32 := Scalar.addi v21 c1_i32_8
  let c4_i32_9 : BitVec 32 := 4#32
  let c0_i32_10 : BitVec 32 := 0#32
  let v23 : BitVec 1 := Scalar.cmpi .eq c4_i32_9 c0_i32_10
  let c1_i32_11 : BitVec 32 := 1#32
  let v24 : BitVec 32 := Scalar.select v23 c1_i32_11 c4_i32_9
  let v25 : BitVec 32 := Scalar.remsi v22 v24
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let c0_i32_12 : BitVec 32 := 0#32
  let v26 : BitVec 1 := Scalar.cmpi .ne v25 c0_i32_12
  let v30 : BitVec 1 := Scalar.andi v29 v26
  let v31 : BitVec 32 := Scalar.addi v25 v24
  let v32 : BitVec 32 := Scalar.select v30 v31 v25
  let c0_i32_16 : BitVec 32 := 0#32
  let v34 : BitVec 1 := Scalar.cmpi .sgt v32 c0_i32_16
  let v35 : BitVec 32 := Scalar.extui v34
  let c0_i32_17 : BitVec 32 := 0#32
  let v36 : BitVec 1 := Scalar.cmpi .slt v32 c0_i32_17
  let v37 : BitVec 32 := Scalar.extui v36
  let v38 : BitVec 32 := Scalar.subi v35 v37
  let c2_i32_15 : BitVec 32 := 2#32
  let c0_i32_18 : BitVec 32 := 0#32
  let v39 : BitVec 1 := Scalar.cmpi .sgt c2_i32_15 c0_i32_18
  let v40 : BitVec 32 := Scalar.extui v39
  let c0_i32_19 : BitVec 32 := 0#32
  let v41 : BitVec 1 := Scalar.cmpi .slt c2_i32_15 c0_i32_19
  let v42 : BitVec 32 := Scalar.extui v41
  let v43 : BitVec 32 := Scalar.subi v40 v42
  let v44 : BitVec 1 := Scalar.cmpi .ne v38 v43
  let v45 : BitVec 32 := Scalar.remsi v32 c2_i32_15
  let c0_i32_20 : BitVec 32 := 0#32
  let v46 : BitVec 1 := Scalar.cmpi .ne v45 c0_i32_20
  let v47 : BitVec 1 := Scalar.andi v44 v46
  let v33 : BitVec 32 := Scalar.divsi v32 c2_i32_15
  let c1_i32_21 : BitVec 32 := 1#32
  let v48 : BitVec 32 := Scalar.subi v33 c1_i32_21
  let v49 : BitVec 32 := Scalar.select v47 v48 v33
  let c8_i32_1450 : BitVec 32 := 8#32
  let v1588 : BitVec 32 := Scalar.muli v49 c8_i32_1450
  let v1589 : BitVec 32 := Scalar.addi c0_i32_1451 v1588
  let c2_i32_22 : BitVec 32 := 2#32
  let c0_i32_23 : BitVec 32 := 0#32
  let v50 : BitVec 1 := Scalar.cmpi .eq c2_i32_22 c0_i32_23
  let c1_i32_24 : BitVec 32 := 1#32
  let v51 : BitVec 32 := Scalar.select v50 c1_i32_24 c2_i32_22
  let v52 : BitVec 32 := Scalar.remsi v32 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let v60 : BitVec 32 := Scalar.addi v49 v59
  let c2_i32_28 : BitVec 32 := 2#32
  let c0_i32_29 : BitVec 32 := 0#32
  let v61 : BitVec 1 := Scalar.cmpi .eq c2_i32_28 c0_i32_29
  let c1_i32_30 : BitVec 32 := 1#32
  let v62 : BitVec 32 := Scalar.select v61 c1_i32_30 c2_i32_28
  let v63 : BitVec 32 := Scalar.remsi v60 v62
  let c0_i32_32 : BitVec 32 := 0#32
  let v65 : BitVec 1 := Scalar.cmpi .slt v63 c0_i32_32
  let c0_i32_33 : BitVec 32 := 0#32
  let v66 : BitVec 1 := Scalar.cmpi .slt v62 c0_i32_33
  let v67 : BitVec 1 := Scalar.xori v65 v66
  let c0_i32_31 : BitVec 32 := 0#32
  let v64 : BitVec 1 := Scalar.cmpi .ne v63 c0_i32_31
  let v68 : BitVec 1 := Scalar.andi v67 v64
  let v69 : BitVec 32 := Scalar.addi v63 v62
  let v70 : BitVec 32 := Scalar.select v68 v69 v63
  let c4_i32_1452 : BitVec 32 := 4#32
  let v1590 : BitVec 32 := Scalar.muli v70 c4_i32_1452
  let v1591 : BitVec 32 := Scalar.addi v1589 v1590
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1453 : BitVec 32 := 1#32
  let v1592 : BitVec 32 := Scalar.muli v8 c1_i32_1453
  let v1593 : BitVec 32 := Scalar.addi v1591 v1592
  v1593.toNat
def k0_dev72 (d0 : Dev nD) : Nat :=
  let c0_i32_1498 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v71 : BitVec 32 := Scalar.addi v21 c3_i32
  let c4_i32_34 : BitVec 32 := 4#32
  let c0_i32_35 : BitVec 32 := 0#32
  let v72 : BitVec 1 := Scalar.cmpi .eq c4_i32_34 c0_i32_35
  let c1_i32_36 : BitVec 32 := 1#32
  let v73 : BitVec 32 := Scalar.select v72 c1_i32_36 c4_i32_34
  let v74 : BitVec 32 := Scalar.remsi v71 v73
  let c0_i32_38 : BitVec 32 := 0#32
  let v76 : BitVec 1 := Scalar.cmpi .slt v74 c0_i32_38
  let c0_i32_39 : BitVec 32 := 0#32
  let v77 : BitVec 1 := Scalar.cmpi .slt v73 c0_i32_39
  let v78 : BitVec 1 := Scalar.xori v76 v77
  let c0_i32_37 : BitVec 32 := 0#32
  let v75 : BitVec 1 := Scalar.cmpi .ne v74 c0_i32_37
  let v79 : BitVec 1 := Scalar.andi v78 v75
  let v80 : BitVec 32 := Scalar.addi v74 v73
  let v81 : BitVec 32 := Scalar.select v79 v80 v74
  let c0_i32_41 : BitVec 32 := 0#32
  let v83 : BitVec 1 := Scalar.cmpi .sgt v81 c0_i32_41
  let v84 : BitVec 32 := Scalar.extui v83
  let c0_i32_42 : BitVec 32 := 0#32
  let v85 : BitVec 1 := Scalar.cmpi .slt v81 c0_i32_42
  let v86 : BitVec 32 := Scalar.extui v85
  let v87 : BitVec 32 := Scalar.subi v84 v86
  let c2_i32_40 : BitVec 32 := 2#32
  let c0_i32_43 : BitVec 32 := 0#32
  let v88 : BitVec 1 := Scalar.cmpi .sgt c2_i32_40 c0_i32_43
  let v89 : BitVec 32 := Scalar.extui v88
  let c0_i32_44 : BitVec 32 := 0#32
  let v90 : BitVec 1 := Scalar.cmpi .slt c2_i32_40 c0_i32_44
  let v91 : BitVec 32 := Scalar.extui v90
  let v92 : BitVec 32 := Scalar.subi v89 v91
  let v93 : BitVec 1 := Scalar.cmpi .ne v87 v92
  let v94 : BitVec 32 := Scalar.remsi v81 c2_i32_40
  let c0_i32_45 : BitVec 32 := 0#32
  let v95 : BitVec 1 := Scalar.cmpi .ne v94 c0_i32_45
  let v96 : BitVec 1 := Scalar.andi v93 v95
  let v82 : BitVec 32 := Scalar.divsi v81 c2_i32_40
  let c1_i32_46 : BitVec 32 := 1#32
  let v97 : BitVec 32 := Scalar.subi v82 c1_i32_46
  let v98 : BitVec 32 := Scalar.select v96 v97 v82
  let c8_i32_1497 : BitVec 32 := 8#32
  let v1644 : BitVec 32 := Scalar.muli v98 c8_i32_1497
  let v1645 : BitVec 32 := Scalar.addi c0_i32_1498 v1644
  let c2_i32_47 : BitVec 32 := 2#32
  let c0_i32_48 : BitVec 32 := 0#32
  let v99 : BitVec 1 := Scalar.cmpi .eq c2_i32_47 c0_i32_48
  let c1_i32_49 : BitVec 32 := 1#32
  let v100 : BitVec 32 := Scalar.select v99 c1_i32_49 c2_i32_47
  let v101 : BitVec 32 := Scalar.remsi v81 v100
  let c0_i32_51 : BitVec 32 := 0#32
  let v103 : BitVec 1 := Scalar.cmpi .slt v101 c0_i32_51
  let c0_i32_52 : BitVec 32 := 0#32
  let v104 : BitVec 1 := Scalar.cmpi .slt v100 c0_i32_52
  let v105 : BitVec 1 := Scalar.xori v103 v104
  let c0_i32_50 : BitVec 32 := 0#32
  let v102 : BitVec 1 := Scalar.cmpi .ne v101 c0_i32_50
  let v106 : BitVec 1 := Scalar.andi v105 v102
  let v107 : BitVec 32 := Scalar.addi v101 v100
  let v108 : BitVec 32 := Scalar.select v106 v107 v101
  let v109 : BitVec 32 := Scalar.addi v98 v108
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v109 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c4_i32_1499 : BitVec 32 := 4#32
  let v1646 : BitVec 32 := Scalar.muli v119 c4_i32_1499
  let v1647 : BitVec 32 := Scalar.addi v1645 v1646
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1500 : BitVec 32 := 1#32
  let v1648 : BitVec 32 := Scalar.muli v8 c1_i32_1500
  let v1649 : BitVec 32 := Scalar.addi v1647 v1648
  v1649.toNat
def k0_dev73 (d0 : Dev nD) : Nat :=
  let c0_i32_1545 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v71 : BitVec 32 := Scalar.addi v21 c3_i32
  let c4_i32_34 : BitVec 32 := 4#32
  let c0_i32_35 : BitVec 32 := 0#32
  let v72 : BitVec 1 := Scalar.cmpi .eq c4_i32_34 c0_i32_35
  let c1_i32_36 : BitVec 32 := 1#32
  let v73 : BitVec 32 := Scalar.select v72 c1_i32_36 c4_i32_34
  let v74 : BitVec 32 := Scalar.remsi v71 v73
  let c0_i32_38 : BitVec 32 := 0#32
  let v76 : BitVec 1 := Scalar.cmpi .slt v74 c0_i32_38
  let c0_i32_39 : BitVec 32 := 0#32
  let v77 : BitVec 1 := Scalar.cmpi .slt v73 c0_i32_39
  let v78 : BitVec 1 := Scalar.xori v76 v77
  let c0_i32_37 : BitVec 32 := 0#32
  let v75 : BitVec 1 := Scalar.cmpi .ne v74 c0_i32_37
  let v79 : BitVec 1 := Scalar.andi v78 v75
  let v80 : BitVec 32 := Scalar.addi v74 v73
  let v81 : BitVec 32 := Scalar.select v79 v80 v74
  let c0_i32_41 : BitVec 32 := 0#32
  let v83 : BitVec 1 := Scalar.cmpi .sgt v81 c0_i32_41
  let v84 : BitVec 32 := Scalar.extui v83
  let c0_i32_42 : BitVec 32 := 0#32
  let v85 : BitVec 1 := Scalar.cmpi .slt v81 c0_i32_42
  let v86 : BitVec 32 := Scalar.extui v85
  let v87 : BitVec 32 := Scalar.subi v84 v86
  let c2_i32_40 : BitVec 32 := 2#32
  let c0_i32_43 : BitVec 32 := 0#32
  let v88 : BitVec 1 := Scalar.cmpi .sgt c2_i32_40 c0_i32_43
  let v89 : BitVec 32 := Scalar.extui v88
  let c0_i32_44 : BitVec 32 := 0#32
  let v90 : BitVec 1 := Scalar.cmpi .slt c2_i32_40 c0_i32_44
  let v91 : BitVec 32 := Scalar.extui v90
  let v92 : BitVec 32 := Scalar.subi v89 v91
  let v93 : BitVec 1 := Scalar.cmpi .ne v87 v92
  let v94 : BitVec 32 := Scalar.remsi v81 c2_i32_40
  let c0_i32_45 : BitVec 32 := 0#32
  let v95 : BitVec 1 := Scalar.cmpi .ne v94 c0_i32_45
  let v96 : BitVec 1 := Scalar.andi v93 v95
  let v82 : BitVec 32 := Scalar.divsi v81 c2_i32_40
  let c1_i32_46 : BitVec 32 := 1#32
  let v97 : BitVec 32 := Scalar.subi v82 c1_i32_46
  let v98 : BitVec 32 := Scalar.select v96 v97 v82
  let c8_i32_1544 : BitVec 32 := 8#32
  let v1700 : BitVec 32 := Scalar.muli v98 c8_i32_1544
  let v1701 : BitVec 32 := Scalar.addi c0_i32_1545 v1700
  let c2_i32_47 : BitVec 32 := 2#32
  let c0_i32_48 : BitVec 32 := 0#32
  let v99 : BitVec 1 := Scalar.cmpi .eq c2_i32_47 c0_i32_48
  let c1_i32_49 : BitVec 32 := 1#32
  let v100 : BitVec 32 := Scalar.select v99 c1_i32_49 c2_i32_47
  let v101 : BitVec 32 := Scalar.remsi v81 v100
  let c0_i32_51 : BitVec 32 := 0#32
  let v103 : BitVec 1 := Scalar.cmpi .slt v101 c0_i32_51
  let c0_i32_52 : BitVec 32 := 0#32
  let v104 : BitVec 1 := Scalar.cmpi .slt v100 c0_i32_52
  let v105 : BitVec 1 := Scalar.xori v103 v104
  let c0_i32_50 : BitVec 32 := 0#32
  let v102 : BitVec 1 := Scalar.cmpi .ne v101 c0_i32_50
  let v106 : BitVec 1 := Scalar.andi v105 v102
  let v107 : BitVec 32 := Scalar.addi v101 v100
  let v108 : BitVec 32 := Scalar.select v106 v107 v101
  let v109 : BitVec 32 := Scalar.addi v98 v108
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v109 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c4_i32_1546 : BitVec 32 := 4#32
  let v1702 : BitVec 32 := Scalar.muli v119 c4_i32_1546
  let v1703 : BitVec 32 := Scalar.addi v1701 v1702
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1547 : BitVec 32 := 1#32
  let v1704 : BitVec 32 := Scalar.muli v8 c1_i32_1547
  let v1705 : BitVec 32 := Scalar.addi v1703 v1704
  v1705.toNat
def k0_dev74 (d0 : Dev nD) : Nat :=
  let c0_i32_1680 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1_i32_8 : BitVec 32 := 1#32
  let v22 : BitVec 32 := Scalar.addi v21 c1_i32_8
  let c4_i32_9 : BitVec 32 := 4#32
  let c0_i32_10 : BitVec 32 := 0#32
  let v23 : BitVec 1 := Scalar.cmpi .eq c4_i32_9 c0_i32_10
  let c1_i32_11 : BitVec 32 := 1#32
  let v24 : BitVec 32 := Scalar.select v23 c1_i32_11 c4_i32_9
  let v25 : BitVec 32 := Scalar.remsi v22 v24
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let c0_i32_12 : BitVec 32 := 0#32
  let v26 : BitVec 1 := Scalar.cmpi .ne v25 c0_i32_12
  let v30 : BitVec 1 := Scalar.andi v29 v26
  let v31 : BitVec 32 := Scalar.addi v25 v24
  let v32 : BitVec 32 := Scalar.select v30 v31 v25
  let c0_i32_16 : BitVec 32 := 0#32
  let v34 : BitVec 1 := Scalar.cmpi .sgt v32 c0_i32_16
  let v35 : BitVec 32 := Scalar.extui v34
  let c0_i32_17 : BitVec 32 := 0#32
  let v36 : BitVec 1 := Scalar.cmpi .slt v32 c0_i32_17
  let v37 : BitVec 32 := Scalar.extui v36
  let v38 : BitVec 32 := Scalar.subi v35 v37
  let c2_i32_15 : BitVec 32 := 2#32
  let c0_i32_18 : BitVec 32 := 0#32
  let v39 : BitVec 1 := Scalar.cmpi .sgt c2_i32_15 c0_i32_18
  let v40 : BitVec 32 := Scalar.extui v39
  let c0_i32_19 : BitVec 32 := 0#32
  let v41 : BitVec 1 := Scalar.cmpi .slt c2_i32_15 c0_i32_19
  let v42 : BitVec 32 := Scalar.extui v41
  let v43 : BitVec 32 := Scalar.subi v40 v42
  let v44 : BitVec 1 := Scalar.cmpi .ne v38 v43
  let v45 : BitVec 32 := Scalar.remsi v32 c2_i32_15
  let c0_i32_20 : BitVec 32 := 0#32
  let v46 : BitVec 1 := Scalar.cmpi .ne v45 c0_i32_20
  let v47 : BitVec 1 := Scalar.andi v44 v46
  let v33 : BitVec 32 := Scalar.divsi v32 c2_i32_15
  let c1_i32_21 : BitVec 32 := 1#32
  let v48 : BitVec 32 := Scalar.subi v33 c1_i32_21
  let v49 : BitVec 32 := Scalar.select v47 v48 v33
  let c8_i32_1679 : BitVec 32 := 8#32
  let v1856 : BitVec 32 := Scalar.muli v49 c8_i32_1679
  let v1857 : BitVec 32 := Scalar.addi c0_i32_1680 v1856
  let c2_i32_22 : BitVec 32 := 2#32
  let c0_i32_23 : BitVec 32 := 0#32
  let v50 : BitVec 1 := Scalar.cmpi .eq c2_i32_22 c0_i32_23
  let c1_i32_24 : BitVec 32 := 1#32
  let v51 : BitVec 32 := Scalar.select v50 c1_i32_24 c2_i32_22
  let v52 : BitVec 32 := Scalar.remsi v32 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let v60 : BitVec 32 := Scalar.addi v49 v59
  let c2_i32_28 : BitVec 32 := 2#32
  let c0_i32_29 : BitVec 32 := 0#32
  let v61 : BitVec 1 := Scalar.cmpi .eq c2_i32_28 c0_i32_29
  let c1_i32_30 : BitVec 32 := 1#32
  let v62 : BitVec 32 := Scalar.select v61 c1_i32_30 c2_i32_28
  let v63 : BitVec 32 := Scalar.remsi v60 v62
  let c0_i32_32 : BitVec 32 := 0#32
  let v65 : BitVec 1 := Scalar.cmpi .slt v63 c0_i32_32
  let c0_i32_33 : BitVec 32 := 0#32
  let v66 : BitVec 1 := Scalar.cmpi .slt v62 c0_i32_33
  let v67 : BitVec 1 := Scalar.xori v65 v66
  let c0_i32_31 : BitVec 32 := 0#32
  let v64 : BitVec 1 := Scalar.cmpi .ne v63 c0_i32_31
  let v68 : BitVec 1 := Scalar.andi v67 v64
  let v69 : BitVec 32 := Scalar.addi v63 v62
  let v70 : BitVec 32 := Scalar.select v68 v69 v63
  let c4_i32_1681 : BitVec 32 := 4#32
  let v1858 : BitVec 32 := Scalar.muli v70 c4_i32_1681
  let v1859 : BitVec 32 := Scalar.addi v1857 v1858
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1682 : BitVec 32 := 1#32
  let v1860 : BitVec 32 := Scalar.muli v8 c1_i32_1682
  let v1861 : BitVec 32 := Scalar.addi v1859 v1860
  v1861.toNat
def k0_dev75 (d0 : Dev nD) : Nat :=
  let c0_i32_1727 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1_i32_8 : BitVec 32 := 1#32
  let v22 : BitVec 32 := Scalar.addi v21 c1_i32_8
  let c4_i32_9 : BitVec 32 := 4#32
  let c0_i32_10 : BitVec 32 := 0#32
  let v23 : BitVec 1 := Scalar.cmpi .eq c4_i32_9 c0_i32_10
  let c1_i32_11 : BitVec 32 := 1#32
  let v24 : BitVec 32 := Scalar.select v23 c1_i32_11 c4_i32_9
  let v25 : BitVec 32 := Scalar.remsi v22 v24
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let c0_i32_12 : BitVec 32 := 0#32
  let v26 : BitVec 1 := Scalar.cmpi .ne v25 c0_i32_12
  let v30 : BitVec 1 := Scalar.andi v29 v26
  let v31 : BitVec 32 := Scalar.addi v25 v24
  let v32 : BitVec 32 := Scalar.select v30 v31 v25
  let c0_i32_16 : BitVec 32 := 0#32
  let v34 : BitVec 1 := Scalar.cmpi .sgt v32 c0_i32_16
  let v35 : BitVec 32 := Scalar.extui v34
  let c0_i32_17 : BitVec 32 := 0#32
  let v36 : BitVec 1 := Scalar.cmpi .slt v32 c0_i32_17
  let v37 : BitVec 32 := Scalar.extui v36
  let v38 : BitVec 32 := Scalar.subi v35 v37
  let c2_i32_15 : BitVec 32 := 2#32
  let c0_i32_18 : BitVec 32 := 0#32
  let v39 : BitVec 1 := Scalar.cmpi .sgt c2_i32_15 c0_i32_18
  let v40 : BitVec 32 := Scalar.extui v39
  let c0_i32_19 : BitVec 32 := 0#32
  let v41 : BitVec 1 := Scalar.cmpi .slt c2_i32_15 c0_i32_19
  let v42 : BitVec 32 := Scalar.extui v41
  let v43 : BitVec 32 := Scalar.subi v40 v42
  let v44 : BitVec 1 := Scalar.cmpi .ne v38 v43
  let v45 : BitVec 32 := Scalar.remsi v32 c2_i32_15
  let c0_i32_20 : BitVec 32 := 0#32
  let v46 : BitVec 1 := Scalar.cmpi .ne v45 c0_i32_20
  let v47 : BitVec 1 := Scalar.andi v44 v46
  let v33 : BitVec 32 := Scalar.divsi v32 c2_i32_15
  let c1_i32_21 : BitVec 32 := 1#32
  let v48 : BitVec 32 := Scalar.subi v33 c1_i32_21
  let v49 : BitVec 32 := Scalar.select v47 v48 v33
  let c8_i32_1726 : BitVec 32 := 8#32
  let v1912 : BitVec 32 := Scalar.muli v49 c8_i32_1726
  let v1913 : BitVec 32 := Scalar.addi c0_i32_1727 v1912
  let c2_i32_22 : BitVec 32 := 2#32
  let c0_i32_23 : BitVec 32 := 0#32
  let v50 : BitVec 1 := Scalar.cmpi .eq c2_i32_22 c0_i32_23
  let c1_i32_24 : BitVec 32 := 1#32
  let v51 : BitVec 32 := Scalar.select v50 c1_i32_24 c2_i32_22
  let v52 : BitVec 32 := Scalar.remsi v32 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let v60 : BitVec 32 := Scalar.addi v49 v59
  let c2_i32_28 : BitVec 32 := 2#32
  let c0_i32_29 : BitVec 32 := 0#32
  let v61 : BitVec 1 := Scalar.cmpi .eq c2_i32_28 c0_i32_29
  let c1_i32_30 : BitVec 32 := 1#32
  let v62 : BitVec 32 := Scalar.select v61 c1_i32_30 c2_i32_28
  let v63 : BitVec 32 := Scalar.remsi v60 v62
  let c0_i32_32 : BitVec 32 := 0#32
  let v65 : BitVec 1 := Scalar.cmpi .slt v63 c0_i32_32
  let c0_i32_33 : BitVec 32 := 0#32
  let v66 : BitVec 1 := Scalar.cmpi .slt v62 c0_i32_33
  let v67 : BitVec 1 := Scalar.xori v65 v66
  let c0_i32_31 : BitVec 32 := 0#32
  let v64 : BitVec 1 := Scalar.cmpi .ne v63 c0_i32_31
  let v68 : BitVec 1 := Scalar.andi v67 v64
  let v69 : BitVec 32 := Scalar.addi v63 v62
  let v70 : BitVec 32 := Scalar.select v68 v69 v63
  let c4_i32_1728 : BitVec 32 := 4#32
  let v1914 : BitVec 32 := Scalar.muli v70 c4_i32_1728
  let v1915 : BitVec 32 := Scalar.addi v1913 v1914
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1729 : BitVec 32 := 1#32
  let v1916 : BitVec 32 := Scalar.muli v8 c1_i32_1729
  let v1917 : BitVec 32 := Scalar.addi v1915 v1916
  v1917.toNat
def k0_dev76 (d0 : Dev nD) : Nat :=
  let c0_i32_1774 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v71 : BitVec 32 := Scalar.addi v21 c3_i32
  let c4_i32_34 : BitVec 32 := 4#32
  let c0_i32_35 : BitVec 32 := 0#32
  let v72 : BitVec 1 := Scalar.cmpi .eq c4_i32_34 c0_i32_35
  let c1_i32_36 : BitVec 32 := 1#32
  let v73 : BitVec 32 := Scalar.select v72 c1_i32_36 c4_i32_34
  let v74 : BitVec 32 := Scalar.remsi v71 v73
  let c0_i32_38 : BitVec 32 := 0#32
  let v76 : BitVec 1 := Scalar.cmpi .slt v74 c0_i32_38
  let c0_i32_39 : BitVec 32 := 0#32
  let v77 : BitVec 1 := Scalar.cmpi .slt v73 c0_i32_39
  let v78 : BitVec 1 := Scalar.xori v76 v77
  let c0_i32_37 : BitVec 32 := 0#32
  let v75 : BitVec 1 := Scalar.cmpi .ne v74 c0_i32_37
  let v79 : BitVec 1 := Scalar.andi v78 v75
  let v80 : BitVec 32 := Scalar.addi v74 v73
  let v81 : BitVec 32 := Scalar.select v79 v80 v74
  let c0_i32_41 : BitVec 32 := 0#32
  let v83 : BitVec 1 := Scalar.cmpi .sgt v81 c0_i32_41
  let v84 : BitVec 32 := Scalar.extui v83
  let c0_i32_42 : BitVec 32 := 0#32
  let v85 : BitVec 1 := Scalar.cmpi .slt v81 c0_i32_42
  let v86 : BitVec 32 := Scalar.extui v85
  let v87 : BitVec 32 := Scalar.subi v84 v86
  let c2_i32_40 : BitVec 32 := 2#32
  let c0_i32_43 : BitVec 32 := 0#32
  let v88 : BitVec 1 := Scalar.cmpi .sgt c2_i32_40 c0_i32_43
  let v89 : BitVec 32 := Scalar.extui v88
  let c0_i32_44 : BitVec 32 := 0#32
  let v90 : BitVec 1 := Scalar.cmpi .slt c2_i32_40 c0_i32_44
  let v91 : BitVec 32 := Scalar.extui v90
  let v92 : BitVec 32 := Scalar.subi v89 v91
  let v93 : BitVec 1 := Scalar.cmpi .ne v87 v92
  let v94 : BitVec 32 := Scalar.remsi v81 c2_i32_40
  let c0_i32_45 : BitVec 32 := 0#32
  let v95 : BitVec 1 := Scalar.cmpi .ne v94 c0_i32_45
  let v96 : BitVec 1 := Scalar.andi v93 v95
  let v82 : BitVec 32 := Scalar.divsi v81 c2_i32_40
  let c1_i32_46 : BitVec 32 := 1#32
  let v97 : BitVec 32 := Scalar.subi v82 c1_i32_46
  let v98 : BitVec 32 := Scalar.select v96 v97 v82
  let c8_i32_1773 : BitVec 32 := 8#32
  let v1968 : BitVec 32 := Scalar.muli v98 c8_i32_1773
  let v1969 : BitVec 32 := Scalar.addi c0_i32_1774 v1968
  let c2_i32_47 : BitVec 32 := 2#32
  let c0_i32_48 : BitVec 32 := 0#32
  let v99 : BitVec 1 := Scalar.cmpi .eq c2_i32_47 c0_i32_48
  let c1_i32_49 : BitVec 32 := 1#32
  let v100 : BitVec 32 := Scalar.select v99 c1_i32_49 c2_i32_47
  let v101 : BitVec 32 := Scalar.remsi v81 v100
  let c0_i32_51 : BitVec 32 := 0#32
  let v103 : BitVec 1 := Scalar.cmpi .slt v101 c0_i32_51
  let c0_i32_52 : BitVec 32 := 0#32
  let v104 : BitVec 1 := Scalar.cmpi .slt v100 c0_i32_52
  let v105 : BitVec 1 := Scalar.xori v103 v104
  let c0_i32_50 : BitVec 32 := 0#32
  let v102 : BitVec 1 := Scalar.cmpi .ne v101 c0_i32_50
  let v106 : BitVec 1 := Scalar.andi v105 v102
  let v107 : BitVec 32 := Scalar.addi v101 v100
  let v108 : BitVec 32 := Scalar.select v106 v107 v101
  let v109 : BitVec 32 := Scalar.addi v98 v108
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v109 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c4_i32_1775 : BitVec 32 := 4#32
  let v1970 : BitVec 32 := Scalar.muli v119 c4_i32_1775
  let v1971 : BitVec 32 := Scalar.addi v1969 v1970
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1776 : BitVec 32 := 1#32
  let v1972 : BitVec 32 := Scalar.muli v8 c1_i32_1776
  let v1973 : BitVec 32 := Scalar.addi v1971 v1972
  v1973.toNat
def k0_dev77 (d0 : Dev nD) : Nat :=
  let c0_i32_1821 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v71 : BitVec 32 := Scalar.addi v21 c3_i32
  let c4_i32_34 : BitVec 32 := 4#32
  let c0_i32_35 : BitVec 32 := 0#32
  let v72 : BitVec 1 := Scalar.cmpi .eq c4_i32_34 c0_i32_35
  let c1_i32_36 : BitVec 32 := 1#32
  let v73 : BitVec 32 := Scalar.select v72 c1_i32_36 c4_i32_34
  let v74 : BitVec 32 := Scalar.remsi v71 v73
  let c0_i32_38 : BitVec 32 := 0#32
  let v76 : BitVec 1 := Scalar.cmpi .slt v74 c0_i32_38
  let c0_i32_39 : BitVec 32 := 0#32
  let v77 : BitVec 1 := Scalar.cmpi .slt v73 c0_i32_39
  let v78 : BitVec 1 := Scalar.xori v76 v77
  let c0_i32_37 : BitVec 32 := 0#32
  let v75 : BitVec 1 := Scalar.cmpi .ne v74 c0_i32_37
  let v79 : BitVec 1 := Scalar.andi v78 v75
  let v80 : BitVec 32 := Scalar.addi v74 v73
  let v81 : BitVec 32 := Scalar.select v79 v80 v74
  let c0_i32_41 : BitVec 32 := 0#32
  let v83 : BitVec 1 := Scalar.cmpi .sgt v81 c0_i32_41
  let v84 : BitVec 32 := Scalar.extui v83
  let c0_i32_42 : BitVec 32 := 0#32
  let v85 : BitVec 1 := Scalar.cmpi .slt v81 c0_i32_42
  let v86 : BitVec 32 := Scalar.extui v85
  let v87 : BitVec 32 := Scalar.subi v84 v86
  let c2_i32_40 : BitVec 32 := 2#32
  let c0_i32_43 : BitVec 32 := 0#32
  let v88 : BitVec 1 := Scalar.cmpi .sgt c2_i32_40 c0_i32_43
  let v89 : BitVec 32 := Scalar.extui v88
  let c0_i32_44 : BitVec 32 := 0#32
  let v90 : BitVec 1 := Scalar.cmpi .slt c2_i32_40 c0_i32_44
  let v91 : BitVec 32 := Scalar.extui v90
  let v92 : BitVec 32 := Scalar.subi v89 v91
  let v93 : BitVec 1 := Scalar.cmpi .ne v87 v92
  let v94 : BitVec 32 := Scalar.remsi v81 c2_i32_40
  let c0_i32_45 : BitVec 32 := 0#32
  let v95 : BitVec 1 := Scalar.cmpi .ne v94 c0_i32_45
  let v96 : BitVec 1 := Scalar.andi v93 v95
  let v82 : BitVec 32 := Scalar.divsi v81 c2_i32_40
  let c1_i32_46 : BitVec 32 := 1#32
  let v97 : BitVec 32 := Scalar.subi v82 c1_i32_46
  let v98 : BitVec 32 := Scalar.select v96 v97 v82
  let c8_i32_1820 : BitVec 32 := 8#32
  let v2024 : BitVec 32 := Scalar.muli v98 c8_i32_1820
  let v2025 : BitVec 32 := Scalar.addi c0_i32_1821 v2024
  let c2_i32_47 : BitVec 32 := 2#32
  let c0_i32_48 : BitVec 32 := 0#32
  let v99 : BitVec 1 := Scalar.cmpi .eq c2_i32_47 c0_i32_48
  let c1_i32_49 : BitVec 32 := 1#32
  let v100 : BitVec 32 := Scalar.select v99 c1_i32_49 c2_i32_47
  let v101 : BitVec 32 := Scalar.remsi v81 v100
  let c0_i32_51 : BitVec 32 := 0#32
  let v103 : BitVec 1 := Scalar.cmpi .slt v101 c0_i32_51
  let c0_i32_52 : BitVec 32 := 0#32
  let v104 : BitVec 1 := Scalar.cmpi .slt v100 c0_i32_52
  let v105 : BitVec 1 := Scalar.xori v103 v104
  let c0_i32_50 : BitVec 32 := 0#32
  let v102 : BitVec 1 := Scalar.cmpi .ne v101 c0_i32_50
  let v106 : BitVec 1 := Scalar.andi v105 v102
  let v107 : BitVec 32 := Scalar.addi v101 v100
  let v108 : BitVec 32 := Scalar.select v106 v107 v101
  let v109 : BitVec 32 := Scalar.addi v98 v108
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v109 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c4_i32_1822 : BitVec 32 := 4#32
  let v2026 : BitVec 32 := Scalar.muli v119 c4_i32_1822
  let v2027 : BitVec 32 := Scalar.addi v2025 v2026
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1823 : BitVec 32 := 1#32
  let v2028 : BitVec 32 := Scalar.muli v8 c1_i32_1823
  let v2029 : BitVec 32 := Scalar.addi v2027 v2028
  v2029.toNat
def k0_dev78 (d0 : Dev nD) : Nat :=
  let c0_i32_1868 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1_i32_8 : BitVec 32 := 1#32
  let v22 : BitVec 32 := Scalar.addi v21 c1_i32_8
  let c4_i32_9 : BitVec 32 := 4#32
  let c0_i32_10 : BitVec 32 := 0#32
  let v23 : BitVec 1 := Scalar.cmpi .eq c4_i32_9 c0_i32_10
  let c1_i32_11 : BitVec 32 := 1#32
  let v24 : BitVec 32 := Scalar.select v23 c1_i32_11 c4_i32_9
  let v25 : BitVec 32 := Scalar.remsi v22 v24
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let c0_i32_12 : BitVec 32 := 0#32
  let v26 : BitVec 1 := Scalar.cmpi .ne v25 c0_i32_12
  let v30 : BitVec 1 := Scalar.andi v29 v26
  let v31 : BitVec 32 := Scalar.addi v25 v24
  let v32 : BitVec 32 := Scalar.select v30 v31 v25
  let c0_i32_16 : BitVec 32 := 0#32
  let v34 : BitVec 1 := Scalar.cmpi .sgt v32 c0_i32_16
  let v35 : BitVec 32 := Scalar.extui v34
  let c0_i32_17 : BitVec 32 := 0#32
  let v36 : BitVec 1 := Scalar.cmpi .slt v32 c0_i32_17
  let v37 : BitVec 32 := Scalar.extui v36
  let v38 : BitVec 32 := Scalar.subi v35 v37
  let c2_i32_15 : BitVec 32 := 2#32
  let c0_i32_18 : BitVec 32 := 0#32
  let v39 : BitVec 1 := Scalar.cmpi .sgt c2_i32_15 c0_i32_18
  let v40 : BitVec 32 := Scalar.extui v39
  let c0_i32_19 : BitVec 32 := 0#32
  let v41 : BitVec 1 := Scalar.cmpi .slt c2_i32_15 c0_i32_19
  let v42 : BitVec 32 := Scalar.extui v41
  let v43 : BitVec 32 := Scalar.subi v40 v42
  let v44 : BitVec 1 := Scalar.cmpi .ne v38 v43
  let v45 : BitVec 32 := Scalar.remsi v32 c2_i32_15
  let c0_i32_20 : BitVec 32 := 0#32
  let v46 : BitVec 1 := Scalar.cmpi .ne v45 c0_i32_20
  let v47 : BitVec 1 := Scalar.andi v44 v46
  let v33 : BitVec 32 := Scalar.divsi v32 c2_i32_15
  let c1_i32_21 : BitVec 32 := 1#32
  let v48 : BitVec 32 := Scalar.subi v33 c1_i32_21
  let v49 : BitVec 32 := Scalar.select v47 v48 v33
  let c8_i32_1867 : BitVec 32 := 8#32
  let v2080 : BitVec 32 := Scalar.muli v49 c8_i32_1867
  let v2081 : BitVec 32 := Scalar.addi c0_i32_1868 v2080
  let c2_i32_22 : BitVec 32 := 2#32
  let c0_i32_23 : BitVec 32 := 0#32
  let v50 : BitVec 1 := Scalar.cmpi .eq c2_i32_22 c0_i32_23
  let c1_i32_24 : BitVec 32 := 1#32
  let v51 : BitVec 32 := Scalar.select v50 c1_i32_24 c2_i32_22
  let v52 : BitVec 32 := Scalar.remsi v32 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let v60 : BitVec 32 := Scalar.addi v49 v59
  let c2_i32_28 : BitVec 32 := 2#32
  let c0_i32_29 : BitVec 32 := 0#32
  let v61 : BitVec 1 := Scalar.cmpi .eq c2_i32_28 c0_i32_29
  let c1_i32_30 : BitVec 32 := 1#32
  let v62 : BitVec 32 := Scalar.select v61 c1_i32_30 c2_i32_28
  let v63 : BitVec 32 := Scalar.remsi v60 v62
  let c0_i32_32 : BitVec 32 := 0#32
  let v65 : BitVec 1 := Scalar.cmpi .slt v63 c0_i32_32
  let c0_i32_33 : BitVec 32 := 0#32
  let v66 : BitVec 1 := Scalar.cmpi .slt v62 c0_i32_33
  let v67 : BitVec 1 := Scalar.xori v65 v66
  let c0_i32_31 : BitVec 32 := 0#32
  let v64 : BitVec 1 := Scalar.cmpi .ne v63 c0_i32_31
  let v68 : BitVec 1 := Scalar.andi v67 v64
  let v69 : BitVec 32 := Scalar.addi v63 v62
  let v70 : BitVec 32 := Scalar.select v68 v69 v63
  let c4_i32_1869 : BitVec 32 := 4#32
  let v2082 : BitVec 32 := Scalar.muli v70 c4_i32_1869
  let v2083 : BitVec 32 := Scalar.addi v2081 v2082
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1870 : BitVec 32 := 1#32
  let v2084 : BitVec 32 := Scalar.muli v8 c1_i32_1870
  let v2085 : BitVec 32 := Scalar.addi v2083 v2084
  v2085.toNat
def k0_dev79 (d0 : Dev nD) : Nat :=
  let c0_i32_1915 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1_i32_8 : BitVec 32 := 1#32
  let v22 : BitVec 32 := Scalar.addi v21 c1_i32_8
  let c4_i32_9 : BitVec 32 := 4#32
  let c0_i32_10 : BitVec 32 := 0#32
  let v23 : BitVec 1 := Scalar.cmpi .eq c4_i32_9 c0_i32_10
  let c1_i32_11 : BitVec 32 := 1#32
  let v24 : BitVec 32 := Scalar.select v23 c1_i32_11 c4_i32_9
  let v25 : BitVec 32 := Scalar.remsi v22 v24
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let c0_i32_12 : BitVec 32 := 0#32
  let v26 : BitVec 1 := Scalar.cmpi .ne v25 c0_i32_12
  let v30 : BitVec 1 := Scalar.andi v29 v26
  let v31 : BitVec 32 := Scalar.addi v25 v24
  let v32 : BitVec 32 := Scalar.select v30 v31 v25
  let c0_i32_16 : BitVec 32 := 0#32
  let v34 : BitVec 1 := Scalar.cmpi .sgt v32 c0_i32_16
  let v35 : BitVec 32 := Scalar.extui v34
  let c0_i32_17 : BitVec 32 := 0#32
  let v36 : BitVec 1 := Scalar.cmpi .slt v32 c0_i32_17
  let v37 : BitVec 32 := Scalar.extui v36
  let v38 : BitVec 32 := Scalar.subi v35 v37
  let c2_i32_15 : BitVec 32 := 2#32
  let c0_i32_18 : BitVec 32 := 0#32
  let v39 : BitVec 1 := Scalar.cmpi .sgt c2_i32_15 c0_i32_18
  let v40 : BitVec 32 := Scalar.extui v39
  let c0_i32_19 : BitVec 32 := 0#32
  let v41 : BitVec 1 := Scalar.cmpi .slt c2_i32_15 c0_i32_19
  let v42 : BitVec 32 := Scalar.extui v41
  let v43 : BitVec 32 := Scalar.subi v40 v42
  let v44 : BitVec 1 := Scalar.cmpi .ne v38 v43
  let v45 : BitVec 32 := Scalar.remsi v32 c2_i32_15
  let c0_i32_20 : BitVec 32 := 0#32
  let v46 : BitVec 1 := Scalar.cmpi .ne v45 c0_i32_20
  let v47 : BitVec 1 := Scalar.andi v44 v46
  let v33 : BitVec 32 := Scalar.divsi v32 c2_i32_15
  let c1_i32_21 : BitVec 32 := 1#32
  let v48 : BitVec 32 := Scalar.subi v33 c1_i32_21
  let v49 : BitVec 32 := Scalar.select v47 v48 v33
  let c8_i32_1914 : BitVec 32 := 8#32
  let v2136 : BitVec 32 := Scalar.muli v49 c8_i32_1914
  let v2137 : BitVec 32 := Scalar.addi c0_i32_1915 v2136
  let c2_i32_22 : BitVec 32 := 2#32
  let c0_i32_23 : BitVec 32 := 0#32
  let v50 : BitVec 1 := Scalar.cmpi .eq c2_i32_22 c0_i32_23
  let c1_i32_24 : BitVec 32 := 1#32
  let v51 : BitVec 32 := Scalar.select v50 c1_i32_24 c2_i32_22
  let v52 : BitVec 32 := Scalar.remsi v32 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let v60 : BitVec 32 := Scalar.addi v49 v59
  let c2_i32_28 : BitVec 32 := 2#32
  let c0_i32_29 : BitVec 32 := 0#32
  let v61 : BitVec 1 := Scalar.cmpi .eq c2_i32_28 c0_i32_29
  let c1_i32_30 : BitVec 32 := 1#32
  let v62 : BitVec 32 := Scalar.select v61 c1_i32_30 c2_i32_28
  let v63 : BitVec 32 := Scalar.remsi v60 v62
  let c0_i32_32 : BitVec 32 := 0#32
  let v65 : BitVec 1 := Scalar.cmpi .slt v63 c0_i32_32
  let c0_i32_33 : BitVec 32 := 0#32
  let v66 : BitVec 1 := Scalar.cmpi .slt v62 c0_i32_33
  let v67 : BitVec 1 := Scalar.xori v65 v66
  let c0_i32_31 : BitVec 32 := 0#32
  let v64 : BitVec 1 := Scalar.cmpi .ne v63 c0_i32_31
  let v68 : BitVec 1 := Scalar.andi v67 v64
  let v69 : BitVec 32 := Scalar.addi v63 v62
  let v70 : BitVec 32 := Scalar.select v68 v69 v63
  let c4_i32_1916 : BitVec 32 := 4#32
  let v2138 : BitVec 32 := Scalar.muli v70 c4_i32_1916
  let v2139 : BitVec 32 := Scalar.addi v2137 v2138
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1917 : BitVec 32 := 1#32
  let v2140 : BitVec 32 := Scalar.muli v8 c1_i32_1917
  let v2141 : BitVec 32 := Scalar.addi v2139 v2140
  v2141.toNat
def k0_dev80 (d0 : Dev nD) : Nat :=
  let c0_i32_1962 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v71 : BitVec 32 := Scalar.addi v21 c3_i32
  let c4_i32_34 : BitVec 32 := 4#32
  let c0_i32_35 : BitVec 32 := 0#32
  let v72 : BitVec 1 := Scalar.cmpi .eq c4_i32_34 c0_i32_35
  let c1_i32_36 : BitVec 32 := 1#32
  let v73 : BitVec 32 := Scalar.select v72 c1_i32_36 c4_i32_34
  let v74 : BitVec 32 := Scalar.remsi v71 v73
  let c0_i32_38 : BitVec 32 := 0#32
  let v76 : BitVec 1 := Scalar.cmpi .slt v74 c0_i32_38
  let c0_i32_39 : BitVec 32 := 0#32
  let v77 : BitVec 1 := Scalar.cmpi .slt v73 c0_i32_39
  let v78 : BitVec 1 := Scalar.xori v76 v77
  let c0_i32_37 : BitVec 32 := 0#32
  let v75 : BitVec 1 := Scalar.cmpi .ne v74 c0_i32_37
  let v79 : BitVec 1 := Scalar.andi v78 v75
  let v80 : BitVec 32 := Scalar.addi v74 v73
  let v81 : BitVec 32 := Scalar.select v79 v80 v74
  let c0_i32_41 : BitVec 32 := 0#32
  let v83 : BitVec 1 := Scalar.cmpi .sgt v81 c0_i32_41
  let v84 : BitVec 32 := Scalar.extui v83
  let c0_i32_42 : BitVec 32 := 0#32
  let v85 : BitVec 1 := Scalar.cmpi .slt v81 c0_i32_42
  let v86 : BitVec 32 := Scalar.extui v85
  let v87 : BitVec 32 := Scalar.subi v84 v86
  let c2_i32_40 : BitVec 32 := 2#32
  let c0_i32_43 : BitVec 32 := 0#32
  let v88 : BitVec 1 := Scalar.cmpi .sgt c2_i32_40 c0_i32_43
  let v89 : BitVec 32 := Scalar.extui v88
  let c0_i32_44 : BitVec 32 := 0#32
  let v90 : BitVec 1 := Scalar.cmpi .slt c2_i32_40 c0_i32_44
  let v91 : BitVec 32 := Scalar.extui v90
  let v92 : BitVec 32 := Scalar.subi v89 v91
  let v93 : BitVec 1 := Scalar.cmpi .ne v87 v92
  let v94 : BitVec 32 := Scalar.remsi v81 c2_i32_40
  let c0_i32_45 : BitVec 32 := 0#32
  let v95 : BitVec 1 := Scalar.cmpi .ne v94 c0_i32_45
  let v96 : BitVec 1 := Scalar.andi v93 v95
  let v82 : BitVec 32 := Scalar.divsi v81 c2_i32_40
  let c1_i32_46 : BitVec 32 := 1#32
  let v97 : BitVec 32 := Scalar.subi v82 c1_i32_46
  let v98 : BitVec 32 := Scalar.select v96 v97 v82
  let c8_i32_1961 : BitVec 32 := 8#32
  let v2192 : BitVec 32 := Scalar.muli v98 c8_i32_1961
  let v2193 : BitVec 32 := Scalar.addi c0_i32_1962 v2192
  let c2_i32_47 : BitVec 32 := 2#32
  let c0_i32_48 : BitVec 32 := 0#32
  let v99 : BitVec 1 := Scalar.cmpi .eq c2_i32_47 c0_i32_48
  let c1_i32_49 : BitVec 32 := 1#32
  let v100 : BitVec 32 := Scalar.select v99 c1_i32_49 c2_i32_47
  let v101 : BitVec 32 := Scalar.remsi v81 v100
  let c0_i32_51 : BitVec 32 := 0#32
  let v103 : BitVec 1 := Scalar.cmpi .slt v101 c0_i32_51
  let c0_i32_52 : BitVec 32 := 0#32
  let v104 : BitVec 1 := Scalar.cmpi .slt v100 c0_i32_52
  let v105 : BitVec 1 := Scalar.xori v103 v104
  let c0_i32_50 : BitVec 32 := 0#32
  let v102 : BitVec 1 := Scalar.cmpi .ne v101 c0_i32_50
  let v106 : BitVec 1 := Scalar.andi v105 v102
  let v107 : BitVec 32 := Scalar.addi v101 v100
  let v108 : BitVec 32 := Scalar.select v106 v107 v101
  let v109 : BitVec 32 := Scalar.addi v98 v108
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v109 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c4_i32_1963 : BitVec 32 := 4#32
  let v2194 : BitVec 32 := Scalar.muli v119 c4_i32_1963
  let v2195 : BitVec 32 := Scalar.addi v2193 v2194
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1964 : BitVec 32 := 1#32
  let v2196 : BitVec 32 := Scalar.muli v8 c1_i32_1964
  let v2197 : BitVec 32 := Scalar.addi v2195 v2196
  v2197.toNat
def k0_dev81 (d0 : Dev nD) : Nat :=
  let c0_i32_2009 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c3_i32 : BitVec 32 := 3#32
  let v71 : BitVec 32 := Scalar.addi v21 c3_i32
  let c4_i32_34 : BitVec 32 := 4#32
  let c0_i32_35 : BitVec 32 := 0#32
  let v72 : BitVec 1 := Scalar.cmpi .eq c4_i32_34 c0_i32_35
  let c1_i32_36 : BitVec 32 := 1#32
  let v73 : BitVec 32 := Scalar.select v72 c1_i32_36 c4_i32_34
  let v74 : BitVec 32 := Scalar.remsi v71 v73
  let c0_i32_38 : BitVec 32 := 0#32
  let v76 : BitVec 1 := Scalar.cmpi .slt v74 c0_i32_38
  let c0_i32_39 : BitVec 32 := 0#32
  let v77 : BitVec 1 := Scalar.cmpi .slt v73 c0_i32_39
  let v78 : BitVec 1 := Scalar.xori v76 v77
  let c0_i32_37 : BitVec 32 := 0#32
  let v75 : BitVec 1 := Scalar.cmpi .ne v74 c0_i32_37
  let v79 : BitVec 1 := Scalar.andi v78 v75
  let v80 : BitVec 32 := Scalar.addi v74 v73
  let v81 : BitVec 32 := Scalar.select v79 v80 v74
  let c0_i32_41 : BitVec 32 := 0#32
  let v83 : BitVec 1 := Scalar.cmpi .sgt v81 c0_i32_41
  let v84 : BitVec 32 := Scalar.extui v83
  let c0_i32_42 : BitVec 32 := 0#32
  let v85 : BitVec 1 := Scalar.cmpi .slt v81 c0_i32_42
  let v86 : BitVec 32 := Scalar.extui v85
  let v87 : BitVec 32 := Scalar.subi v84 v86
  let c2_i32_40 : BitVec 32 := 2#32
  let c0_i32_43 : BitVec 32 := 0#32
  let v88 : BitVec 1 := Scalar.cmpi .sgt c2_i32_40 c0_i32_43
  let v89 : BitVec 32 := Scalar.extui v88
  let c0_i32_44 : BitVec 32 := 0#32
  let v90 : BitVec 1 := Scalar.cmpi .slt c2_i32_40 c0_i32_44
  let v91 : BitVec 32 := Scalar.extui v90
  let v92 : BitVec 32 := Scalar.subi v89 v91
  let v93 : BitVec 1 := Scalar.cmpi .ne v87 v92
  let v94 : BitVec 32 := Scalar.remsi v81 c2_i32_40
  let c0_i32_45 : BitVec 32 := 0#32
  let v95 : BitVec 1 := Scalar.cmpi .ne v94 c0_i32_45
  let v96 : BitVec 1 := Scalar.andi v93 v95
  let v82 : BitVec 32 := Scalar.divsi v81 c2_i32_40
  let c1_i32_46 : BitVec 32 := 1#32
  let v97 : BitVec 32 := Scalar.subi v82 c1_i32_46
  let v98 : BitVec 32 := Scalar.select v96 v97 v82
  let c8_i32_2008 : BitVec 32 := 8#32
  let v2248 : BitVec 32 := Scalar.muli v98 c8_i32_2008
  let v2249 : BitVec 32 := Scalar.addi c0_i32_2009 v2248
  let c2_i32_47 : BitVec 32 := 2#32
  let c0_i32_48 : BitVec 32 := 0#32
  let v99 : BitVec 1 := Scalar.cmpi .eq c2_i32_47 c0_i32_48
  let c1_i32_49 : BitVec 32 := 1#32
  let v100 : BitVec 32 := Scalar.select v99 c1_i32_49 c2_i32_47
  let v101 : BitVec 32 := Scalar.remsi v81 v100
  let c0_i32_51 : BitVec 32 := 0#32
  let v103 : BitVec 1 := Scalar.cmpi .slt v101 c0_i32_51
  let c0_i32_52 : BitVec 32 := 0#32
  let v104 : BitVec 1 := Scalar.cmpi .slt v100 c0_i32_52
  let v105 : BitVec 1 := Scalar.xori v103 v104
  let c0_i32_50 : BitVec 32 := 0#32
  let v102 : BitVec 1 := Scalar.cmpi .ne v101 c0_i32_50
  let v106 : BitVec 1 := Scalar.andi v105 v102
  let v107 : BitVec 32 := Scalar.addi v101 v100
  let v108 : BitVec 32 := Scalar.select v106 v107 v101
  let v109 : BitVec 32 := Scalar.addi v98 v108
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v109 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c4_i32_2010 : BitVec 32 := 4#32
  let v2250 : BitVec 32 := Scalar.muli v119 c4_i32_2010
  let v2251 : BitVec 32 := Scalar.addi v2249 v2250
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2011 : BitVec 32 := 1#32
  let v2252 : BitVec 32 := Scalar.muli v8 c1_i32_2011
  let v2253 : BitVec 32 := Scalar.addi v2251 v2252
  v2253.toNat
def k0_cond71 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_107 : BitVec 32 := 0#32
  let v190 : BitVec 1 := Scalar.cmpi .eq v8 c0_i32_107
  let v2432 : BitVec 32 := Scalar.extui v190
  let c0_i32_2270 : BitVec 32 := 0#32
  let v2433 : BitVec 1 := Scalar.cmpi .ne v2432 c0_i32_2270
  v2433

def k0_off118 (d0 : Dev nD) : Fin 3 → Nat :=
  let c0_i32_2265 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_105 : BitVec 32 := 1024#32
  let v187 : BitVec 32 := Scalar.muli v21 c1024_i32_105
  let c768_i32 : BitVec 32 := 768#32
  let v188 : BitVec 32 := Scalar.addi v187 c768_i32
  let c0_i32_106 : BitVec 32 := 0#32
  let v189 : BitVec 32 := Scalar.addi v188 c0_i32_106
  let c0_i32_2608 : BitVec 32 := 0#32
  ![0, v189.toNat, 0]
def k0_cond72 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_117 : BitVec 32 := 0#32
  let v196 : BitVec 1 := Scalar.cmpi .eq v8 c0_i32_117
  let v2434 : BitVec 32 := Scalar.extui v196
  let c0_i32_2277 : BitVec 32 := 0#32
  let v2435 : BitVec 1 := Scalar.cmpi .ne v2434 c0_i32_2277
  v2435

def k0_off119 (d0 : Dev nD) : Fin 3 → Nat :=
  let c0_i32_2272 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_115 : BitVec 32 := 1024#32
  let v193 : BitVec 32 := Scalar.muli v21 c1024_i32_115
  let c512_i32 : BitVec 32 := 512#32
  let v194 : BitVec 32 := Scalar.addi v193 c512_i32
  let c0_i32_116 : BitVec 32 := 0#32
  let v195 : BitVec 32 := Scalar.addi v194 c0_i32_116
  let c0_i32_2608 : BitVec 32 := 0#32
  ![0, v195.toNat, 0]
def k0_cond73 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_128 : BitVec 32 := 0#32
  let v202 : BitVec 1 := Scalar.cmpi .eq v8 c0_i32_128
  let v2436 : BitVec 32 := Scalar.extui v202
  let c0_i32_2284 : BitVec 32 := 0#32
  let v2437 : BitVec 1 := Scalar.cmpi .ne v2436 c0_i32_2284
  v2437

def k0_off120 (d0 : Dev nD) : Fin 3 → Nat :=
  let c0_i32_2279 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_125 : BitVec 32 := 1024#32
  let v199 : BitVec 32 := Scalar.muli v21 c1024_i32_125
  let c256_i32_126 : BitVec 32 := 256#32
  let v200 : BitVec 32 := Scalar.addi v199 c256_i32_126
  let c0_i32_127 : BitVec 32 := 0#32
  let v201 : BitVec 32 := Scalar.addi v200 c0_i32_127
  let c0_i32_2608 : BitVec 32 := 0#32
  ![0, v201.toNat, 0]
def k0_cond74 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_139 : BitVec 32 := 1#32
  let v208 : BitVec 1 := Scalar.cmpi .eq v8 c1_i32_139
  let v2438 : BitVec 32 := Scalar.extui v208
  let c0_i32_2291 : BitVec 32 := 0#32
  let v2439 : BitVec 1 := Scalar.cmpi .ne v2438 c0_i32_2291
  v2439

def k0_off121 (d0 : Dev nD) : Fin 3 → Nat :=
  let c0_i32_2286 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_136 : BitVec 32 := 1024#32
  let v205 : BitVec 32 := Scalar.muli v21 c1024_i32_136
  let c0_i32_137 : BitVec 32 := 0#32
  let v206 : BitVec 32 := Scalar.addi v205 c0_i32_137
  let c0_i32_138 : BitVec 32 := 0#32
  let v207 : BitVec 32 := Scalar.addi v206 c0_i32_138
  let c0_i32_2608 : BitVec 32 := 0#32
  ![0, v207.toNat, 0]
def k0_cond75 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_150 : BitVec 32 := 2#32
  let v214 : BitVec 1 := Scalar.cmpi .eq v8 c2_i32_150
  let v2440 : BitVec 32 := Scalar.extui v214
  let c0_i32_2298 : BitVec 32 := 0#32
  let v2441 : BitVec 1 := Scalar.cmpi .ne v2440 c0_i32_2298
  v2441

def k0_off122 (d0 : Dev nD) : Fin 3 → Nat :=
  let c0_i32_2293 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_147 : BitVec 32 := 1024#32
  let v211 : BitVec 32 := Scalar.muli v21 c1024_i32_147
  let c768_i32_148 : BitVec 32 := 768#32
  let v212 : BitVec 32 := Scalar.addi v211 c768_i32_148
  let c0_i32_149 : BitVec 32 := 0#32
  let v213 : BitVec 32 := Scalar.addi v212 c0_i32_149
  let c0_i32_2608 : BitVec 32 := 0#32
  ![0, v213.toNat, 0]
def k0_cond76 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_161 : BitVec 32 := 3#32
  let v220 : BitVec 1 := Scalar.cmpi .eq v8 c3_i32_161
  let v2442 : BitVec 32 := Scalar.extui v220
  let c0_i32_2305 : BitVec 32 := 0#32
  let v2443 : BitVec 1 := Scalar.cmpi .ne v2442 c0_i32_2305
  v2443

def k0_off123 (d0 : Dev nD) : Fin 3 → Nat :=
  let c0_i32_2300 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_158 : BitVec 32 := 1024#32
  let v217 : BitVec 32 := Scalar.muli v21 c1024_i32_158
  let c0_i32_159 : BitVec 32 := 0#32
  let v218 : BitVec 32 := Scalar.addi v217 c0_i32_159
  let c0_i32_160 : BitVec 32 := 0#32
  let v219 : BitVec 32 := Scalar.addi v218 c0_i32_160
  let c0_i32_2608 : BitVec 32 := 0#32
  ![0, v219.toNat, 0]
def k0_cond77 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_172 : BitVec 32 := 3#32
  let v226 : BitVec 1 := Scalar.cmpi .eq v8 c3_i32_172
  let v2444 : BitVec 32 := Scalar.extui v226
  let c0_i32_2312 : BitVec 32 := 0#32
  let v2445 : BitVec 1 := Scalar.cmpi .ne v2444 c0_i32_2312
  v2445

def k0_off124 (d0 : Dev nD) : Fin 3 → Nat :=
  let c0_i32_2307 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_169 : BitVec 32 := 1024#32
  let v223 : BitVec 32 := Scalar.muli v21 c1024_i32_169
  let c256_i32_170 : BitVec 32 := 256#32
  let v224 : BitVec 32 := Scalar.addi v223 c256_i32_170
  let c0_i32_171 : BitVec 32 := 0#32
  let v225 : BitVec 32 := Scalar.addi v224 c0_i32_171
  let c0_i32_2608 : BitVec 32 := 0#32
  ![0, v225.toNat, 0]
def k0_cond78 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_183 : BitVec 32 := 3#32
  let v232 : BitVec 1 := Scalar.cmpi .eq v8 c3_i32_183
  let v2446 : BitVec 32 := Scalar.extui v232
  let c0_i32_2319 : BitVec 32 := 0#32
  let v2447 : BitVec 1 := Scalar.cmpi .ne v2446 c0_i32_2319
  v2447

def k0_off125 (d0 : Dev nD) : Fin 3 → Nat :=
  let c0_i32_2314 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_180 : BitVec 32 := 1024#32
  let v229 : BitVec 32 := Scalar.muli v21 c1024_i32_180
  let c512_i32_181 : BitVec 32 := 512#32
  let v230 : BitVec 32 := Scalar.addi v229 c512_i32_181
  let c0_i32_182 : BitVec 32 := 0#32
  let v231 : BitVec 32 := Scalar.addi v230 c0_i32_182
  let c0_i32_2608 : BitVec 32 := 0#32
  ![0, v231.toNat, 0]
def k0_cond79 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_193 : BitVec 32 := 0#32
  let v238 : BitVec 1 := Scalar.cmpi .eq v8 c0_i32_193
  let v2448 : BitVec 32 := Scalar.extui v238
  let c0_i32_2326 : BitVec 32 := 0#32
  let v2449 : BitVec 1 := Scalar.cmpi .ne v2448 c0_i32_2326
  v2449

def k0_off126 (d0 : Dev nD) : Fin 3 → Nat :=
  let c0_i32_2321 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_191 : BitVec 32 := 1024#32
  let v235 : BitVec 32 := Scalar.muli v21 c1024_i32_191
  let c768_i32_192 : BitVec 32 := 768#32
  let v236 : BitVec 32 := Scalar.addi v235 c768_i32_192
  let c128_i32 : BitVec 32 := 128#32
  let v237 : BitVec 32 := Scalar.addi v236 c128_i32
  let c0_i32_2608 : BitVec 32 := 0#32
  ![0, v237.toNat, 0]
def k0_cond80 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_204 : BitVec 32 := 0#32
  let v244 : BitVec 1 := Scalar.cmpi .eq v8 c0_i32_204
  let v2450 : BitVec 32 := Scalar.extui v244
  let c0_i32_2333 : BitVec 32 := 0#32
  let v2451 : BitVec 1 := Scalar.cmpi .ne v2450 c0_i32_2333
  v2451

def k0_off127 (d0 : Dev nD) : Fin 3 → Nat :=
  let c0_i32_2328 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_201 : BitVec 32 := 1024#32
  let v241 : BitVec 32 := Scalar.muli v21 c1024_i32_201
  let c512_i32_202 : BitVec 32 := 512#32
  let v242 : BitVec 32 := Scalar.addi v241 c512_i32_202
  let c128_i32_203 : BitVec 32 := 128#32
  let v243 : BitVec 32 := Scalar.addi v242 c128_i32_203
  let c0_i32_2608 : BitVec 32 := 0#32
  ![0, v243.toNat, 0]
def k0_cond81 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_215 : BitVec 32 := 0#32
  let v250 : BitVec 1 := Scalar.cmpi .eq v8 c0_i32_215
  let v2452 : BitVec 32 := Scalar.extui v250
  let c0_i32_2340 : BitVec 32 := 0#32
  let v2453 : BitVec 1 := Scalar.cmpi .ne v2452 c0_i32_2340
  v2453

def k0_off128 (d0 : Dev nD) : Fin 3 → Nat :=
  let c0_i32_2335 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_212 : BitVec 32 := 1024#32
  let v247 : BitVec 32 := Scalar.muli v21 c1024_i32_212
  let c256_i32_213 : BitVec 32 := 256#32
  let v248 : BitVec 32 := Scalar.addi v247 c256_i32_213
  let c128_i32_214 : BitVec 32 := 128#32
  let v249 : BitVec 32 := Scalar.addi v248 c128_i32_214
  let c0_i32_2608 : BitVec 32 := 0#32
  ![0, v249.toNat, 0]
def k0_cond82 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_226 : BitVec 32 := 1#32
  let v256 : BitVec 1 := Scalar.cmpi .eq v8 c1_i32_226
  let v2454 : BitVec 32 := Scalar.extui v256
  let c0_i32_2347 : BitVec 32 := 0#32
  let v2455 : BitVec 1 := Scalar.cmpi .ne v2454 c0_i32_2347
  v2455

def k0_off129 (d0 : Dev nD) : Fin 3 → Nat :=
  let c0_i32_2342 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_223 : BitVec 32 := 1024#32
  let v253 : BitVec 32 := Scalar.muli v21 c1024_i32_223
  let c0_i32_224 : BitVec 32 := 0#32
  let v254 : BitVec 32 := Scalar.addi v253 c0_i32_224
  let c128_i32_225 : BitVec 32 := 128#32
  let v255 : BitVec 32 := Scalar.addi v254 c128_i32_225
  let c0_i32_2608 : BitVec 32 := 0#32
  ![0, v255.toNat, 0]
def k0_cond83 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_237 : BitVec 32 := 2#32
  let v262 : BitVec 1 := Scalar.cmpi .eq v8 c2_i32_237
  let v2456 : BitVec 32 := Scalar.extui v262
  let c0_i32_2354 : BitVec 32 := 0#32
  let v2457 : BitVec 1 := Scalar.cmpi .ne v2456 c0_i32_2354
  v2457

def k0_off130 (d0 : Dev nD) : Fin 3 → Nat :=
  let c0_i32_2349 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_234 : BitVec 32 := 1024#32
  let v259 : BitVec 32 := Scalar.muli v21 c1024_i32_234
  let c768_i32_235 : BitVec 32 := 768#32
  let v260 : BitVec 32 := Scalar.addi v259 c768_i32_235
  let c128_i32_236 : BitVec 32 := 128#32
  let v261 : BitVec 32 := Scalar.addi v260 c128_i32_236
  let c0_i32_2608 : BitVec 32 := 0#32
  ![0, v261.toNat, 0]
def k0_cond84 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_248 : BitVec 32 := 3#32
  let v268 : BitVec 1 := Scalar.cmpi .eq v8 c3_i32_248
  let v2458 : BitVec 32 := Scalar.extui v268
  let c0_i32_2361 : BitVec 32 := 0#32
  let v2459 : BitVec 1 := Scalar.cmpi .ne v2458 c0_i32_2361
  v2459

def k0_off131 (d0 : Dev nD) : Fin 3 → Nat :=
  let c0_i32_2356 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_245 : BitVec 32 := 1024#32
  let v265 : BitVec 32 := Scalar.muli v21 c1024_i32_245
  let c0_i32_246 : BitVec 32 := 0#32
  let v266 : BitVec 32 := Scalar.addi v265 c0_i32_246
  let c128_i32_247 : BitVec 32 := 128#32
  let v267 : BitVec 32 := Scalar.addi v266 c128_i32_247
  let c0_i32_2608 : BitVec 32 := 0#32
  ![0, v267.toNat, 0]
def k0_cond85 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_259 : BitVec 32 := 3#32
  let v274 : BitVec 1 := Scalar.cmpi .eq v8 c3_i32_259
  let v2460 : BitVec 32 := Scalar.extui v274
  let c0_i32_2368 : BitVec 32 := 0#32
  let v2461 : BitVec 1 := Scalar.cmpi .ne v2460 c0_i32_2368
  v2461

def k0_off132 (d0 : Dev nD) : Fin 3 → Nat :=
  let c0_i32_2363 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_256 : BitVec 32 := 1024#32
  let v271 : BitVec 32 := Scalar.muli v21 c1024_i32_256
  let c256_i32_257 : BitVec 32 := 256#32
  let v272 : BitVec 32 := Scalar.addi v271 c256_i32_257
  let c128_i32_258 : BitVec 32 := 128#32
  let v273 : BitVec 32 := Scalar.addi v272 c128_i32_258
  let c0_i32_2608 : BitVec 32 := 0#32
  ![0, v273.toNat, 0]
def k0_cond86 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_270 : BitVec 32 := 3#32
  let v280 : BitVec 1 := Scalar.cmpi .eq v8 c3_i32_270
  let v2462 : BitVec 32 := Scalar.extui v280
  let c0_i32_2375 : BitVec 32 := 0#32
  let v2463 : BitVec 1 := Scalar.cmpi .ne v2462 c0_i32_2375
  v2463

def k0_off133 (d0 : Dev nD) : Fin 3 → Nat :=
  let c0_i32_2370 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_267 : BitVec 32 := 1024#32
  let v277 : BitVec 32 := Scalar.muli v21 c1024_i32_267
  let c512_i32_268 : BitVec 32 := 512#32
  let v278 : BitVec 32 := Scalar.addi v277 c512_i32_268
  let c128_i32_269 : BitVec 32 := 128#32
  let v279 : BitVec 32 := Scalar.addi v278 c128_i32_269
  let c0_i32_2608 : BitVec 32 := 0#32
  ![0, v279.toNat, 0]
def k0_cond91 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_397 : BitVec 32 := 3#32
  let v399 : BitVec 1 := Scalar.cmpi .slt v8 c3_i32_397
  let v2472 : BitVec 32 := Scalar.extui v399
  let c0_i32_2406 : BitVec 32 := 0#32
  let v2473 : BitVec 1 := Scalar.cmpi .ne v2472 c0_i32_2406
  v2473

def k0_off134 (d0 : Dev nD) : Fin 2 → Nat :=
  let c0_i32_2404 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![0, v8.toNat]
def k0_off135 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_398 : BitVec 32 := 1024#32
  let v400 : BitVec 32 := Scalar.muli v21 c1024_i32_398
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_399 : BitVec 32 := 256#32
  let v401 : BitVec 32 := Scalar.muli v8 c256_i32_399
  let v402 : BitVec 32 := Scalar.addi v400 v401
  let c0_i32_400 : BitVec 32 := 0#32
  let v403 : BitVec 32 := Scalar.addi v402 c0_i32_400
  let c0_i32_2607 : BitVec 32 := 0#32
  ![v403.toNat, 0]
def k0_cond92 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_414 : BitVec 32 := 0#32
  let v421 : BitVec 1 := Scalar.cmpi .sgt v8 c0_i32_414
  let v2474 : BitVec 32 := Scalar.extui v421
  let c0_i32_2409 : BitVec 32 := 0#32
  let v2475 : BitVec 1 := Scalar.cmpi .ne v2474 c0_i32_2409
  v2475

def k0_off136 (d0 : Dev nD) : Fin 2 → Nat :=
  let c0_i32_2407 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![0, v8.toNat]
def k0_off137 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_415 : BitVec 32 := 1024#32
  let v422 : BitVec 32 := Scalar.muli v21 c1024_i32_415
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_416 : BitVec 32 := 256#32
  let v423 : BitVec 32 := Scalar.muli v8 c256_i32_416
  let v424 : BitVec 32 := Scalar.addi v422 v423
  let c0_i32_417 : BitVec 32 := 0#32
  let v425 : BitVec 32 := Scalar.addi v424 c0_i32_417
  let c0_i32_2607 : BitVec 32 := 0#32
  ![v425.toNat, 0]
def k0_cond97 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_552 : BitVec 32 := 3#32
  let v559 : BitVec 1 := Scalar.cmpi .slt v8 c3_i32_552
  let v2484 : BitVec 32 := Scalar.extui v559
  let c0_i32_2440 : BitVec 32 := 0#32
  let v2485 : BitVec 1 := Scalar.cmpi .ne v2484 c0_i32_2440
  v2485

def k0_off138 (d0 : Dev nD) : Fin 2 → Nat :=
  let c1_i32_2438 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![1, v8.toNat]
def k0_off139 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_553 : BitVec 32 := 1024#32
  let v560 : BitVec 32 := Scalar.muli v21 c1024_i32_553
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_554 : BitVec 32 := 256#32
  let v561 : BitVec 32 := Scalar.muli v8 c256_i32_554
  let v562 : BitVec 32 := Scalar.addi v560 v561
  let c128_i32_555 : BitVec 32 := 128#32
  let v563 : BitVec 32 := Scalar.addi v562 c128_i32_555
  let c0_i32_2607 : BitVec 32 := 0#32
  ![v563.toNat, 0]
def k0_cond98 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_569 : BitVec 32 := 0#32
  let v581 : BitVec 1 := Scalar.cmpi .sgt v8 c0_i32_569
  let v2486 : BitVec 32 := Scalar.extui v581
  let c0_i32_2443 : BitVec 32 := 0#32
  let v2487 : BitVec 1 := Scalar.cmpi .ne v2486 c0_i32_2443
  v2487

def k0_off140 (d0 : Dev nD) : Fin 2 → Nat :=
  let c1_i32_2441 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![1, v8.toNat]
def k0_off141 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_570 : BitVec 32 := 1024#32
  let v582 : BitVec 32 := Scalar.muli v21 c1024_i32_570
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_571 : BitVec 32 := 256#32
  let v583 : BitVec 32 := Scalar.muli v8 c256_i32_571
  let v584 : BitVec 32 := Scalar.addi v582 v583
  let c128_i32_572 : BitVec 32 := 128#32
  let v585 : BitVec 32 := Scalar.addi v584 c128_i32_572
  let c0_i32_2607 : BitVec 32 := 0#32
  ![v585.toNat, 0]
def k0_cond99 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let v688 : BitVec 1 := Scalar.cmpi .slt v641 v8
  let c3_i32_658 : BitVec 32 := 3#32
  let v689 : BitVec 1 := Scalar.cmpi .slt v8 c3_i32_658
  let v690 : BitVec 1 := Scalar.andi v688 v689
  let v2488 : BitVec 32 := Scalar.extui v690
  let c0_i32_2446 : BitVec 32 := 0#32
  let v2489 : BitVec 1 := Scalar.cmpi .ne v2488 c0_i32_2446
  v2489

def k0_off142 (d0 : Dev nD) : Fin 2 → Nat :=
  let c0_i32_2444 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  ![0, v641.toNat]
def k0_off143 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_659 : BitVec 32 := 1024#32
  let v691 : BitVec 32 := Scalar.muli v21 c1024_i32_659
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c256_i32_660 : BitVec 32 := 256#32
  let v692 : BitVec 32 := Scalar.muli v641 c256_i32_660
  let v693 : BitVec 32 := Scalar.addi v691 v692
  let c0_i32_661 : BitVec 32 := 0#32
  let v694 : BitVec 32 := Scalar.addi v693 c0_i32_661
  let c0_i32_2607 : BitVec 32 := 0#32
  ![v694.toNat, 0]
def k0_cond100 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let v712 : BitVec 1 := Scalar.cmpi .sgt v641 v8
  let c0_i32_675 : BitVec 32 := 0#32
  let v713 : BitVec 1 := Scalar.cmpi .sgt v8 c0_i32_675
  let v714 : BitVec 1 := Scalar.andi v712 v713
  let v2490 : BitVec 32 := Scalar.extui v714
  let c0_i32_2449 : BitVec 32 := 0#32
  let v2491 : BitVec 1 := Scalar.cmpi .ne v2490 c0_i32_2449
  v2491

def k0_off144 (d0 : Dev nD) : Fin 2 → Nat :=
  let c0_i32_2447 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  ![0, v641.toNat]
def k0_off145 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_676 : BitVec 32 := 1024#32
  let v715 : BitVec 32 := Scalar.muli v21 c1024_i32_676
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c256_i32_677 : BitVec 32 := 256#32
  let v716 : BitVec 32 := Scalar.muli v641 c256_i32_677
  let v717 : BitVec 32 := Scalar.addi v715 v716
  let c0_i32_678 : BitVec 32 := 0#32
  let v718 : BitVec 32 := Scalar.addi v717 c0_i32_678
  let c0_i32_2607 : BitVec 32 := 0#32
  ![v718.toNat, 0]
def k0_cond101 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c1_i32_586 : BitVec 32 := 1#32
  let v603 : BitVec 32 := Scalar.addi v8 c1_i32_586
  let c4_i32_587 : BitVec 32 := 4#32
  let c0_i32_588 : BitVec 32 := 0#32
  let v604 : BitVec 1 := Scalar.cmpi .eq c4_i32_587 c0_i32_588
  let c1_i32_589 : BitVec 32 := 1#32
  let v605 : BitVec 32 := Scalar.select v604 c1_i32_589 c4_i32_587
  let v606 : BitVec 32 := Scalar.remsi v603 v605
  let c0_i32_591 : BitVec 32 := 0#32
  let v608 : BitVec 1 := Scalar.cmpi .slt v606 c0_i32_591
  let c0_i32_592 : BitVec 32 := 0#32
  let v609 : BitVec 1 := Scalar.cmpi .slt v605 c0_i32_592
  let v610 : BitVec 1 := Scalar.xori v608 v609
  let c0_i32_590 : BitVec 32 := 0#32
  let v607 : BitVec 1 := Scalar.cmpi .ne v606 c0_i32_590
  let v611 : BitVec 1 := Scalar.andi v610 v607
  let v612 : BitVec 32 := Scalar.addi v606 v605
  let v613 : BitVec 32 := Scalar.select v611 v612 v606
  let v736 : BitVec 1 := Scalar.cmpi .eq v641 v613
  let v2492 : BitVec 32 := Scalar.extui v736
  let c0_i32_2456 : BitVec 32 := 0#32
  let v2493 : BitVec 1 := Scalar.cmpi .ne v2492 c0_i32_2456
  v2493

def k0_off146 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_692 : BitVec 32 := 1024#32
  let v739 : BitVec 32 := Scalar.muli v21 c1024_i32_692
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c256_i32_693 : BitVec 32 := 256#32
  let v740 : BitVec 32 := Scalar.muli v641 c256_i32_693
  let v741 : BitVec 32 := Scalar.addi v739 v740
  let c0_i32_694 : BitVec 32 := 0#32
  let v742 : BitVec 32 := Scalar.addi v741 c0_i32_694
  let c0_i32_2607 : BitVec 32 := 0#32
  ![v742.toNat, 0]
def k0_cond102 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c2_i32_593 : BitVec 32 := 2#32
  let v614 : BitVec 32 := Scalar.addi v8 c2_i32_593
  let c4_i32_594 : BitVec 32 := 4#32
  let c0_i32_595 : BitVec 32 := 0#32
  let v615 : BitVec 1 := Scalar.cmpi .eq c4_i32_594 c0_i32_595
  let c1_i32_596 : BitVec 32 := 1#32
  let v616 : BitVec 32 := Scalar.select v615 c1_i32_596 c4_i32_594
  let v617 : BitVec 32 := Scalar.remsi v614 v616
  let c0_i32_598 : BitVec 32 := 0#32
  let v619 : BitVec 1 := Scalar.cmpi .slt v617 c0_i32_598
  let c0_i32_599 : BitVec 32 := 0#32
  let v620 : BitVec 1 := Scalar.cmpi .slt v616 c0_i32_599
  let v621 : BitVec 1 := Scalar.xori v619 v620
  let c0_i32_597 : BitVec 32 := 0#32
  let v618 : BitVec 1 := Scalar.cmpi .ne v617 c0_i32_597
  let v622 : BitVec 1 := Scalar.andi v621 v618
  let v623 : BitVec 32 := Scalar.addi v617 v616
  let v624 : BitVec 32 := Scalar.select v622 v623 v617
  let v737 : BitVec 1 := Scalar.cmpi .eq v641 v624
  let v2494 : BitVec 32 := Scalar.extui v737
  let c0_i32_2463 : BitVec 32 := 0#32
  let v2495 : BitVec 1 := Scalar.cmpi .ne v2494 c0_i32_2463
  v2495

def k0_off147 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_705 : BitVec 32 := 1024#32
  let v749 : BitVec 32 := Scalar.muli v21 c1024_i32_705
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c256_i32_706 : BitVec 32 := 256#32
  let v750 : BitVec 32 := Scalar.muli v641 c256_i32_706
  let v751 : BitVec 32 := Scalar.addi v749 v750
  let c0_i32_707 : BitVec 32 := 0#32
  let v752 : BitVec 32 := Scalar.addi v751 c0_i32_707
  let c0_i32_2607 : BitVec 32 := 0#32
  ![v752.toNat, 0]
def k0_cond103 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c3_i32_600 : BitVec 32 := 3#32
  let v625 : BitVec 32 := Scalar.addi v8 c3_i32_600
  let c4_i32_601 : BitVec 32 := 4#32
  let c0_i32_602 : BitVec 32 := 0#32
  let v626 : BitVec 1 := Scalar.cmpi .eq c4_i32_601 c0_i32_602
  let c1_i32_603 : BitVec 32 := 1#32
  let v627 : BitVec 32 := Scalar.select v626 c1_i32_603 c4_i32_601
  let v628 : BitVec 32 := Scalar.remsi v625 v627
  let c0_i32_605 : BitVec 32 := 0#32
  let v630 : BitVec 1 := Scalar.cmpi .slt v628 c0_i32_605
  let c0_i32_606 : BitVec 32 := 0#32
  let v631 : BitVec 1 := Scalar.cmpi .slt v627 c0_i32_606
  let v632 : BitVec 1 := Scalar.xori v630 v631
  let c0_i32_604 : BitVec 32 := 0#32
  let v629 : BitVec 1 := Scalar.cmpi .ne v628 c0_i32_604
  let v633 : BitVec 1 := Scalar.andi v632 v629
  let v634 : BitVec 32 := Scalar.addi v628 v627
  let v635 : BitVec 32 := Scalar.select v633 v634 v628
  let v738 : BitVec 1 := Scalar.cmpi .eq v641 v635
  let v2496 : BitVec 32 := Scalar.extui v738
  let c0_i32_2470 : BitVec 32 := 0#32
  let v2497 : BitVec 1 := Scalar.cmpi .ne v2496 c0_i32_2470
  v2497

def k0_off148 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_718 : BitVec 32 := 1024#32
  let v759 : BitVec 32 := Scalar.muli v21 c1024_i32_718
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c256_i32_719 : BitVec 32 := 256#32
  let v760 : BitVec 32 := Scalar.muli v641 c256_i32_719
  let v761 : BitVec 32 := Scalar.addi v759 v760
  let c0_i32_720 : BitVec 32 := 0#32
  let v762 : BitVec 32 := Scalar.addi v761 c0_i32_720
  let c0_i32_2607 : BitVec 32 := 0#32
  ![v762.toNat, 0]
def k0_cond104 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let v783 : BitVec 1 := Scalar.cmpi .slt v647 v8
  let c3_i32_743 : BitVec 32 := 3#32
  let v784 : BitVec 1 := Scalar.cmpi .slt v8 c3_i32_743
  let v785 : BitVec 1 := Scalar.andi v783 v784
  let v2498 : BitVec 32 := Scalar.extui v785
  let c0_i32_2473 : BitVec 32 := 0#32
  let v2499 : BitVec 1 := Scalar.cmpi .ne v2498 c0_i32_2473
  v2499

def k0_off149 (d0 : Dev nD) : Fin 2 → Nat :=
  let c0_i32_2471 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  ![0, v647.toNat]
def k0_off150 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_744 : BitVec 32 := 1024#32
  let v786 : BitVec 32 := Scalar.muli v21 c1024_i32_744
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c256_i32_745 : BitVec 32 := 256#32
  let v787 : BitVec 32 := Scalar.muli v647 c256_i32_745
  let v788 : BitVec 32 := Scalar.addi v786 v787
  let c0_i32_746 : BitVec 32 := 0#32
  let v789 : BitVec 32 := Scalar.addi v788 c0_i32_746
  let c0_i32_2607 : BitVec 32 := 0#32
  ![v789.toNat, 0]
def k0_cond105 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let v807 : BitVec 1 := Scalar.cmpi .sgt v647 v8
  let c0_i32_760 : BitVec 32 := 0#32
  let v808 : BitVec 1 := Scalar.cmpi .sgt v8 c0_i32_760
  let v809 : BitVec 1 := Scalar.andi v807 v808
  let v2500 : BitVec 32 := Scalar.extui v809
  let c0_i32_2476 : BitVec 32 := 0#32
  let v2501 : BitVec 1 := Scalar.cmpi .ne v2500 c0_i32_2476
  v2501

def k0_off151 (d0 : Dev nD) : Fin 2 → Nat :=
  let c0_i32_2474 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  ![0, v647.toNat]
def k0_off152 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_761 : BitVec 32 := 1024#32
  let v810 : BitVec 32 := Scalar.muli v21 c1024_i32_761
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c256_i32_762 : BitVec 32 := 256#32
  let v811 : BitVec 32 := Scalar.muli v647 c256_i32_762
  let v812 : BitVec 32 := Scalar.addi v810 v811
  let c0_i32_763 : BitVec 32 := 0#32
  let v813 : BitVec 32 := Scalar.addi v812 c0_i32_763
  let c0_i32_2607 : BitVec 32 := 0#32
  ![v813.toNat, 0]
def k0_cond106 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c1_i32_586 : BitVec 32 := 1#32
  let v603 : BitVec 32 := Scalar.addi v8 c1_i32_586
  let c4_i32_587 : BitVec 32 := 4#32
  let c0_i32_588 : BitVec 32 := 0#32
  let v604 : BitVec 1 := Scalar.cmpi .eq c4_i32_587 c0_i32_588
  let c1_i32_589 : BitVec 32 := 1#32
  let v605 : BitVec 32 := Scalar.select v604 c1_i32_589 c4_i32_587
  let v606 : BitVec 32 := Scalar.remsi v603 v605
  let c0_i32_591 : BitVec 32 := 0#32
  let v608 : BitVec 1 := Scalar.cmpi .slt v606 c0_i32_591
  let c0_i32_592 : BitVec 32 := 0#32
  let v609 : BitVec 1 := Scalar.cmpi .slt v605 c0_i32_592
  let v610 : BitVec 1 := Scalar.xori v608 v609
  let c0_i32_590 : BitVec 32 := 0#32
  let v607 : BitVec 1 := Scalar.cmpi .ne v606 c0_i32_590
  let v611 : BitVec 1 := Scalar.andi v610 v607
  let v612 : BitVec 32 := Scalar.addi v606 v605
  let v613 : BitVec 32 := Scalar.select v611 v612 v606
  let v831 : BitVec 1 := Scalar.cmpi .eq v647 v613
  let v2502 : BitVec 32 := Scalar.extui v831
  let c0_i32_2483 : BitVec 32 := 0#32
  let v2503 : BitVec 1 := Scalar.cmpi .ne v2502 c0_i32_2483
  v2503

def k0_off153 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_777 : BitVec 32 := 1024#32
  let v834 : BitVec 32 := Scalar.muli v21 c1024_i32_777
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c256_i32_778 : BitVec 32 := 256#32
  let v835 : BitVec 32 := Scalar.muli v647 c256_i32_778
  let v836 : BitVec 32 := Scalar.addi v834 v835
  let c0_i32_779 : BitVec 32 := 0#32
  let v837 : BitVec 32 := Scalar.addi v836 c0_i32_779
  let c0_i32_2607 : BitVec 32 := 0#32
  ![v837.toNat, 0]
def k0_cond107 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c2_i32_593 : BitVec 32 := 2#32
  let v614 : BitVec 32 := Scalar.addi v8 c2_i32_593
  let c4_i32_594 : BitVec 32 := 4#32
  let c0_i32_595 : BitVec 32 := 0#32
  let v615 : BitVec 1 := Scalar.cmpi .eq c4_i32_594 c0_i32_595
  let c1_i32_596 : BitVec 32 := 1#32
  let v616 : BitVec 32 := Scalar.select v615 c1_i32_596 c4_i32_594
  let v617 : BitVec 32 := Scalar.remsi v614 v616
  let c0_i32_598 : BitVec 32 := 0#32
  let v619 : BitVec 1 := Scalar.cmpi .slt v617 c0_i32_598
  let c0_i32_599 : BitVec 32 := 0#32
  let v620 : BitVec 1 := Scalar.cmpi .slt v616 c0_i32_599
  let v621 : BitVec 1 := Scalar.xori v619 v620
  let c0_i32_597 : BitVec 32 := 0#32
  let v618 : BitVec 1 := Scalar.cmpi .ne v617 c0_i32_597
  let v622 : BitVec 1 := Scalar.andi v621 v618
  let v623 : BitVec 32 := Scalar.addi v617 v616
  let v624 : BitVec 32 := Scalar.select v622 v623 v617
  let v832 : BitVec 1 := Scalar.cmpi .eq v647 v624
  let v2504 : BitVec 32 := Scalar.extui v832
  let c0_i32_2490 : BitVec 32 := 0#32
  let v2505 : BitVec 1 := Scalar.cmpi .ne v2504 c0_i32_2490
  v2505

def k0_off154 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_790 : BitVec 32 := 1024#32
  let v844 : BitVec 32 := Scalar.muli v21 c1024_i32_790
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c256_i32_791 : BitVec 32 := 256#32
  let v845 : BitVec 32 := Scalar.muli v647 c256_i32_791
  let v846 : BitVec 32 := Scalar.addi v844 v845
  let c0_i32_792 : BitVec 32 := 0#32
  let v847 : BitVec 32 := Scalar.addi v846 c0_i32_792
  let c0_i32_2607 : BitVec 32 := 0#32
  ![v847.toNat, 0]
def k0_cond108 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c3_i32_600 : BitVec 32 := 3#32
  let v625 : BitVec 32 := Scalar.addi v8 c3_i32_600
  let c4_i32_601 : BitVec 32 := 4#32
  let c0_i32_602 : BitVec 32 := 0#32
  let v626 : BitVec 1 := Scalar.cmpi .eq c4_i32_601 c0_i32_602
  let c1_i32_603 : BitVec 32 := 1#32
  let v627 : BitVec 32 := Scalar.select v626 c1_i32_603 c4_i32_601
  let v628 : BitVec 32 := Scalar.remsi v625 v627
  let c0_i32_605 : BitVec 32 := 0#32
  let v630 : BitVec 1 := Scalar.cmpi .slt v628 c0_i32_605
  let c0_i32_606 : BitVec 32 := 0#32
  let v631 : BitVec 1 := Scalar.cmpi .slt v627 c0_i32_606
  let v632 : BitVec 1 := Scalar.xori v630 v631
  let c0_i32_604 : BitVec 32 := 0#32
  let v629 : BitVec 1 := Scalar.cmpi .ne v628 c0_i32_604
  let v633 : BitVec 1 := Scalar.andi v632 v629
  let v634 : BitVec 32 := Scalar.addi v628 v627
  let v635 : BitVec 32 := Scalar.select v633 v634 v628
  let v833 : BitVec 1 := Scalar.cmpi .eq v647 v635
  let v2506 : BitVec 32 := Scalar.extui v833
  let c0_i32_2497 : BitVec 32 := 0#32
  let v2507 : BitVec 1 := Scalar.cmpi .ne v2506 c0_i32_2497
  v2507

def k0_off155 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_803 : BitVec 32 := 1024#32
  let v854 : BitVec 32 := Scalar.muli v21 c1024_i32_803
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c256_i32_804 : BitVec 32 := 256#32
  let v855 : BitVec 32 := Scalar.muli v647 c256_i32_804
  let v856 : BitVec 32 := Scalar.addi v854 v855
  let c0_i32_805 : BitVec 32 := 0#32
  let v857 : BitVec 32 := Scalar.addi v856 c0_i32_805
  let c0_i32_2607 : BitVec 32 := 0#32
  ![v857.toNat, 0]
def k0_cond109 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let v878 : BitVec 1 := Scalar.cmpi .slt v653 v8
  let c3_i32_828 : BitVec 32 := 3#32
  let v879 : BitVec 1 := Scalar.cmpi .slt v8 c3_i32_828
  let v880 : BitVec 1 := Scalar.andi v878 v879
  let v2508 : BitVec 32 := Scalar.extui v880
  let c0_i32_2500 : BitVec 32 := 0#32
  let v2509 : BitVec 1 := Scalar.cmpi .ne v2508 c0_i32_2500
  v2509

def k0_off156 (d0 : Dev nD) : Fin 2 → Nat :=
  let c0_i32_2498 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  ![0, v653.toNat]
def k0_off157 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_829 : BitVec 32 := 1024#32
  let v881 : BitVec 32 := Scalar.muli v21 c1024_i32_829
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c256_i32_830 : BitVec 32 := 256#32
  let v882 : BitVec 32 := Scalar.muli v653 c256_i32_830
  let v883 : BitVec 32 := Scalar.addi v881 v882
  let c0_i32_831 : BitVec 32 := 0#32
  let v884 : BitVec 32 := Scalar.addi v883 c0_i32_831
  let c0_i32_2607 : BitVec 32 := 0#32
  ![v884.toNat, 0]
def k0_cond110 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let v902 : BitVec 1 := Scalar.cmpi .sgt v653 v8
  let c0_i32_845 : BitVec 32 := 0#32
  let v903 : BitVec 1 := Scalar.cmpi .sgt v8 c0_i32_845
  let v904 : BitVec 1 := Scalar.andi v902 v903
  let v2510 : BitVec 32 := Scalar.extui v904
  let c0_i32_2503 : BitVec 32 := 0#32
  let v2511 : BitVec 1 := Scalar.cmpi .ne v2510 c0_i32_2503
  v2511

def k0_off158 (d0 : Dev nD) : Fin 2 → Nat :=
  let c0_i32_2501 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  ![0, v653.toNat]
def k0_off159 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_846 : BitVec 32 := 1024#32
  let v905 : BitVec 32 := Scalar.muli v21 c1024_i32_846
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c256_i32_847 : BitVec 32 := 256#32
  let v906 : BitVec 32 := Scalar.muli v653 c256_i32_847
  let v907 : BitVec 32 := Scalar.addi v905 v906
  let c0_i32_848 : BitVec 32 := 0#32
  let v908 : BitVec 32 := Scalar.addi v907 c0_i32_848
  let c0_i32_2607 : BitVec 32 := 0#32
  ![v908.toNat, 0]
def k0_cond111 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c1_i32_586 : BitVec 32 := 1#32
  let v603 : BitVec 32 := Scalar.addi v8 c1_i32_586
  let c4_i32_587 : BitVec 32 := 4#32
  let c0_i32_588 : BitVec 32 := 0#32
  let v604 : BitVec 1 := Scalar.cmpi .eq c4_i32_587 c0_i32_588
  let c1_i32_589 : BitVec 32 := 1#32
  let v605 : BitVec 32 := Scalar.select v604 c1_i32_589 c4_i32_587
  let v606 : BitVec 32 := Scalar.remsi v603 v605
  let c0_i32_591 : BitVec 32 := 0#32
  let v608 : BitVec 1 := Scalar.cmpi .slt v606 c0_i32_591
  let c0_i32_592 : BitVec 32 := 0#32
  let v609 : BitVec 1 := Scalar.cmpi .slt v605 c0_i32_592
  let v610 : BitVec 1 := Scalar.xori v608 v609
  let c0_i32_590 : BitVec 32 := 0#32
  let v607 : BitVec 1 := Scalar.cmpi .ne v606 c0_i32_590
  let v611 : BitVec 1 := Scalar.andi v610 v607
  let v612 : BitVec 32 := Scalar.addi v606 v605
  let v613 : BitVec 32 := Scalar.select v611 v612 v606
  let v926 : BitVec 1 := Scalar.cmpi .eq v653 v613
  let v2512 : BitVec 32 := Scalar.extui v926
  let c0_i32_2510 : BitVec 32 := 0#32
  let v2513 : BitVec 1 := Scalar.cmpi .ne v2512 c0_i32_2510
  v2513

def k0_off160 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_862 : BitVec 32 := 1024#32
  let v929 : BitVec 32 := Scalar.muli v21 c1024_i32_862
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c256_i32_863 : BitVec 32 := 256#32
  let v930 : BitVec 32 := Scalar.muli v653 c256_i32_863
  let v931 : BitVec 32 := Scalar.addi v929 v930
  let c0_i32_864 : BitVec 32 := 0#32
  let v932 : BitVec 32 := Scalar.addi v931 c0_i32_864
  let c0_i32_2607 : BitVec 32 := 0#32
  ![v932.toNat, 0]
def k0_cond112 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c2_i32_593 : BitVec 32 := 2#32
  let v614 : BitVec 32 := Scalar.addi v8 c2_i32_593
  let c4_i32_594 : BitVec 32 := 4#32
  let c0_i32_595 : BitVec 32 := 0#32
  let v615 : BitVec 1 := Scalar.cmpi .eq c4_i32_594 c0_i32_595
  let c1_i32_596 : BitVec 32 := 1#32
  let v616 : BitVec 32 := Scalar.select v615 c1_i32_596 c4_i32_594
  let v617 : BitVec 32 := Scalar.remsi v614 v616
  let c0_i32_598 : BitVec 32 := 0#32
  let v619 : BitVec 1 := Scalar.cmpi .slt v617 c0_i32_598
  let c0_i32_599 : BitVec 32 := 0#32
  let v620 : BitVec 1 := Scalar.cmpi .slt v616 c0_i32_599
  let v621 : BitVec 1 := Scalar.xori v619 v620
  let c0_i32_597 : BitVec 32 := 0#32
  let v618 : BitVec 1 := Scalar.cmpi .ne v617 c0_i32_597
  let v622 : BitVec 1 := Scalar.andi v621 v618
  let v623 : BitVec 32 := Scalar.addi v617 v616
  let v624 : BitVec 32 := Scalar.select v622 v623 v617
  let v927 : BitVec 1 := Scalar.cmpi .eq v653 v624
  let v2514 : BitVec 32 := Scalar.extui v927
  let c0_i32_2517 : BitVec 32 := 0#32
  let v2515 : BitVec 1 := Scalar.cmpi .ne v2514 c0_i32_2517
  v2515

def k0_off161 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_875 : BitVec 32 := 1024#32
  let v939 : BitVec 32 := Scalar.muli v21 c1024_i32_875
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c256_i32_876 : BitVec 32 := 256#32
  let v940 : BitVec 32 := Scalar.muli v653 c256_i32_876
  let v941 : BitVec 32 := Scalar.addi v939 v940
  let c0_i32_877 : BitVec 32 := 0#32
  let v942 : BitVec 32 := Scalar.addi v941 c0_i32_877
  let c0_i32_2607 : BitVec 32 := 0#32
  ![v942.toNat, 0]
def k0_cond113 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c3_i32_600 : BitVec 32 := 3#32
  let v625 : BitVec 32 := Scalar.addi v8 c3_i32_600
  let c4_i32_601 : BitVec 32 := 4#32
  let c0_i32_602 : BitVec 32 := 0#32
  let v626 : BitVec 1 := Scalar.cmpi .eq c4_i32_601 c0_i32_602
  let c1_i32_603 : BitVec 32 := 1#32
  let v627 : BitVec 32 := Scalar.select v626 c1_i32_603 c4_i32_601
  let v628 : BitVec 32 := Scalar.remsi v625 v627
  let c0_i32_605 : BitVec 32 := 0#32
  let v630 : BitVec 1 := Scalar.cmpi .slt v628 c0_i32_605
  let c0_i32_606 : BitVec 32 := 0#32
  let v631 : BitVec 1 := Scalar.cmpi .slt v627 c0_i32_606
  let v632 : BitVec 1 := Scalar.xori v630 v631
  let c0_i32_604 : BitVec 32 := 0#32
  let v629 : BitVec 1 := Scalar.cmpi .ne v628 c0_i32_604
  let v633 : BitVec 1 := Scalar.andi v632 v629
  let v634 : BitVec 32 := Scalar.addi v628 v627
  let v635 : BitVec 32 := Scalar.select v633 v634 v628
  let v928 : BitVec 1 := Scalar.cmpi .eq v653 v635
  let v2516 : BitVec 32 := Scalar.extui v928
  let c0_i32_2524 : BitVec 32 := 0#32
  let v2517 : BitVec 1 := Scalar.cmpi .ne v2516 c0_i32_2524
  v2517

def k0_off162 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_888 : BitVec 32 := 1024#32
  let v949 : BitVec 32 := Scalar.muli v21 c1024_i32_888
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c256_i32_889 : BitVec 32 := 256#32
  let v950 : BitVec 32 := Scalar.muli v653 c256_i32_889
  let v951 : BitVec 32 := Scalar.addi v949 v950
  let c0_i32_890 : BitVec 32 := 0#32
  let v952 : BitVec 32 := Scalar.addi v951 c0_i32_890
  let c0_i32_2607 : BitVec 32 := 0#32
  ![v952.toNat, 0]
def k0_cond114 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let v993 : BitVec 1 := Scalar.cmpi .slt v641 v8
  let c3_i32_931 : BitVec 32 := 3#32
  let v994 : BitVec 1 := Scalar.cmpi .slt v8 c3_i32_931
  let v995 : BitVec 1 := Scalar.andi v993 v994
  let v2518 : BitVec 32 := Scalar.extui v995
  let c0_i32_2527 : BitVec 32 := 0#32
  let v2519 : BitVec 1 := Scalar.cmpi .ne v2518 c0_i32_2527
  v2519

def k0_off163 (d0 : Dev nD) : Fin 2 → Nat :=
  let c1_i32_2525 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  ![1, v641.toNat]
def k0_off164 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_932 : BitVec 32 := 1024#32
  let v996 : BitVec 32 := Scalar.muli v21 c1024_i32_932
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c256_i32_933 : BitVec 32 := 256#32
  let v997 : BitVec 32 := Scalar.muli v641 c256_i32_933
  let v998 : BitVec 32 := Scalar.addi v996 v997
  let c128_i32_934 : BitVec 32 := 128#32
  let v999 : BitVec 32 := Scalar.addi v998 c128_i32_934
  let c0_i32_2607 : BitVec 32 := 0#32
  ![v999.toNat, 0]
def k0_cond115 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let v1017 : BitVec 1 := Scalar.cmpi .sgt v641 v8
  let c0_i32_948 : BitVec 32 := 0#32
  let v1018 : BitVec 1 := Scalar.cmpi .sgt v8 c0_i32_948
  let v1019 : BitVec 1 := Scalar.andi v1017 v1018
  let v2520 : BitVec 32 := Scalar.extui v1019
  let c0_i32_2530 : BitVec 32 := 0#32
  let v2521 : BitVec 1 := Scalar.cmpi .ne v2520 c0_i32_2530
  v2521

def k0_off165 (d0 : Dev nD) : Fin 2 → Nat :=
  let c1_i32_2528 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  ![1, v641.toNat]
def k0_off166 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_949 : BitVec 32 := 1024#32
  let v1020 : BitVec 32 := Scalar.muli v21 c1024_i32_949
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c256_i32_950 : BitVec 32 := 256#32
  let v1021 : BitVec 32 := Scalar.muli v641 c256_i32_950
  let v1022 : BitVec 32 := Scalar.addi v1020 v1021
  let c128_i32_951 : BitVec 32 := 128#32
  let v1023 : BitVec 32 := Scalar.addi v1022 c128_i32_951
  let c0_i32_2607 : BitVec 32 := 0#32
  ![v1023.toNat, 0]
def k0_cond116 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c1_i32_586 : BitVec 32 := 1#32
  let v603 : BitVec 32 := Scalar.addi v8 c1_i32_586
  let c4_i32_587 : BitVec 32 := 4#32
  let c0_i32_588 : BitVec 32 := 0#32
  let v604 : BitVec 1 := Scalar.cmpi .eq c4_i32_587 c0_i32_588
  let c1_i32_589 : BitVec 32 := 1#32
  let v605 : BitVec 32 := Scalar.select v604 c1_i32_589 c4_i32_587
  let v606 : BitVec 32 := Scalar.remsi v603 v605
  let c0_i32_591 : BitVec 32 := 0#32
  let v608 : BitVec 1 := Scalar.cmpi .slt v606 c0_i32_591
  let c0_i32_592 : BitVec 32 := 0#32
  let v609 : BitVec 1 := Scalar.cmpi .slt v605 c0_i32_592
  let v610 : BitVec 1 := Scalar.xori v608 v609
  let c0_i32_590 : BitVec 32 := 0#32
  let v607 : BitVec 1 := Scalar.cmpi .ne v606 c0_i32_590
  let v611 : BitVec 1 := Scalar.andi v610 v607
  let v612 : BitVec 32 := Scalar.addi v606 v605
  let v613 : BitVec 32 := Scalar.select v611 v612 v606
  let v1041 : BitVec 1 := Scalar.cmpi .eq v641 v613
  let v2522 : BitVec 32 := Scalar.extui v1041
  let c0_i32_2537 : BitVec 32 := 0#32
  let v2523 : BitVec 1 := Scalar.cmpi .ne v2522 c0_i32_2537
  v2523

def k0_off167 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_965 : BitVec 32 := 1024#32
  let v1044 : BitVec 32 := Scalar.muli v21 c1024_i32_965
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c256_i32_966 : BitVec 32 := 256#32
  let v1045 : BitVec 32 := Scalar.muli v641 c256_i32_966
  let v1046 : BitVec 32 := Scalar.addi v1044 v1045
  let c128_i32_967 : BitVec 32 := 128#32
  let v1047 : BitVec 32 := Scalar.addi v1046 c128_i32_967
  let c0_i32_2607 : BitVec 32 := 0#32
  ![v1047.toNat, 0]
def k0_cond117 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c2_i32_593 : BitVec 32 := 2#32
  let v614 : BitVec 32 := Scalar.addi v8 c2_i32_593
  let c4_i32_594 : BitVec 32 := 4#32
  let c0_i32_595 : BitVec 32 := 0#32
  let v615 : BitVec 1 := Scalar.cmpi .eq c4_i32_594 c0_i32_595
  let c1_i32_596 : BitVec 32 := 1#32
  let v616 : BitVec 32 := Scalar.select v615 c1_i32_596 c4_i32_594
  let v617 : BitVec 32 := Scalar.remsi v614 v616
  let c0_i32_598 : BitVec 32 := 0#32
  let v619 : BitVec 1 := Scalar.cmpi .slt v617 c0_i32_598
  let c0_i32_599 : BitVec 32 := 0#32
  let v620 : BitVec 1 := Scalar.cmpi .slt v616 c0_i32_599
  let v621 : BitVec 1 := Scalar.xori v619 v620
  let c0_i32_597 : BitVec 32 := 0#32
  let v618 : BitVec 1 := Scalar.cmpi .ne v617 c0_i32_597
  let v622 : BitVec 1 := Scalar.andi v621 v618
  let v623 : BitVec 32 := Scalar.addi v617 v616
  let v624 : BitVec 32 := Scalar.select v622 v623 v617
  let v1042 : BitVec 1 := Scalar.cmpi .eq v641 v624
  let v2524 : BitVec 32 := Scalar.extui v1042
  let c0_i32_2544 : BitVec 32 := 0#32
  let v2525 : BitVec 1 := Scalar.cmpi .ne v2524 c0_i32_2544
  v2525

def k0_off168 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_978 : BitVec 32 := 1024#32
  let v1054 : BitVec 32 := Scalar.muli v21 c1024_i32_978
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c256_i32_979 : BitVec 32 := 256#32
  let v1055 : BitVec 32 := Scalar.muli v641 c256_i32_979
  let v1056 : BitVec 32 := Scalar.addi v1054 v1055
  let c128_i32_980 : BitVec 32 := 128#32
  let v1057 : BitVec 32 := Scalar.addi v1056 c128_i32_980
  let c0_i32_2607 : BitVec 32 := 0#32
  ![v1057.toNat, 0]
def k0_cond118 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c3_i32_600 : BitVec 32 := 3#32
  let v625 : BitVec 32 := Scalar.addi v8 c3_i32_600
  let c4_i32_601 : BitVec 32 := 4#32
  let c0_i32_602 : BitVec 32 := 0#32
  let v626 : BitVec 1 := Scalar.cmpi .eq c4_i32_601 c0_i32_602
  let c1_i32_603 : BitVec 32 := 1#32
  let v627 : BitVec 32 := Scalar.select v626 c1_i32_603 c4_i32_601
  let v628 : BitVec 32 := Scalar.remsi v625 v627
  let c0_i32_605 : BitVec 32 := 0#32
  let v630 : BitVec 1 := Scalar.cmpi .slt v628 c0_i32_605
  let c0_i32_606 : BitVec 32 := 0#32
  let v631 : BitVec 1 := Scalar.cmpi .slt v627 c0_i32_606
  let v632 : BitVec 1 := Scalar.xori v630 v631
  let c0_i32_604 : BitVec 32 := 0#32
  let v629 : BitVec 1 := Scalar.cmpi .ne v628 c0_i32_604
  let v633 : BitVec 1 := Scalar.andi v632 v629
  let v634 : BitVec 32 := Scalar.addi v628 v627
  let v635 : BitVec 32 := Scalar.select v633 v634 v628
  let v1043 : BitVec 1 := Scalar.cmpi .eq v641 v635
  let v2526 : BitVec 32 := Scalar.extui v1043
  let c0_i32_2551 : BitVec 32 := 0#32
  let v2527 : BitVec 1 := Scalar.cmpi .ne v2526 c0_i32_2551
  v2527

def k0_off169 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_991 : BitVec 32 := 1024#32
  let v1064 : BitVec 32 := Scalar.muli v21 c1024_i32_991
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_607 : BitVec 32 := 0#32
  let v636 : BitVec 1 := Scalar.cmpi .eq v8 c0_i32_607
  let c1_i32_613 : BitVec 32 := 1#32
  let c1_i32_608 : BitVec 32 := 1#32
  let v637 : BitVec 1 := Scalar.cmpi .eq v8 c1_i32_608
  let c0_i32_612 : BitVec 32 := 0#32
  let c2_i32_609 : BitVec 32 := 2#32
  let v638 : BitVec 1 := Scalar.cmpi .eq v8 c2_i32_609
  let c1_i32_610 : BitVec 32 := 1#32
  let c2_i32_611 : BitVec 32 := 2#32
  let v639 : BitVec 32 := Scalar.select v638 c1_i32_610 c2_i32_611
  let v640 : BitVec 32 := Scalar.select v637 c0_i32_612 v639
  let v641 : BitVec 32 := Scalar.select v636 c1_i32_613 v640
  let c256_i32_992 : BitVec 32 := 256#32
  let v1065 : BitVec 32 := Scalar.muli v641 c256_i32_992
  let v1066 : BitVec 32 := Scalar.addi v1064 v1065
  let c128_i32_993 : BitVec 32 := 128#32
  let v1067 : BitVec 32 := Scalar.addi v1066 c128_i32_993
  let c0_i32_2607 : BitVec 32 := 0#32
  ![v1067.toNat, 0]
def k0_cond119 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let v1088 : BitVec 1 := Scalar.cmpi .slt v647 v8
  let c3_i32_1016 : BitVec 32 := 3#32
  let v1089 : BitVec 1 := Scalar.cmpi .slt v8 c3_i32_1016
  let v1090 : BitVec 1 := Scalar.andi v1088 v1089
  let v2528 : BitVec 32 := Scalar.extui v1090
  let c0_i32_2554 : BitVec 32 := 0#32
  let v2529 : BitVec 1 := Scalar.cmpi .ne v2528 c0_i32_2554
  v2529

def k0_off170 (d0 : Dev nD) : Fin 2 → Nat :=
  let c1_i32_2552 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  ![1, v647.toNat]
def k0_off171 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_1017 : BitVec 32 := 1024#32
  let v1091 : BitVec 32 := Scalar.muli v21 c1024_i32_1017
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c256_i32_1018 : BitVec 32 := 256#32
  let v1092 : BitVec 32 := Scalar.muli v647 c256_i32_1018
  let v1093 : BitVec 32 := Scalar.addi v1091 v1092
  let c128_i32_1019 : BitVec 32 := 128#32
  let v1094 : BitVec 32 := Scalar.addi v1093 c128_i32_1019
  let c0_i32_2607 : BitVec 32 := 0#32
  ![v1094.toNat, 0]
def k0_cond120 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let v1112 : BitVec 1 := Scalar.cmpi .sgt v647 v8
  let c0_i32_1033 : BitVec 32 := 0#32
  let v1113 : BitVec 1 := Scalar.cmpi .sgt v8 c0_i32_1033
  let v1114 : BitVec 1 := Scalar.andi v1112 v1113
  let v2530 : BitVec 32 := Scalar.extui v1114
  let c0_i32_2557 : BitVec 32 := 0#32
  let v2531 : BitVec 1 := Scalar.cmpi .ne v2530 c0_i32_2557
  v2531

def k0_off172 (d0 : Dev nD) : Fin 2 → Nat :=
  let c1_i32_2555 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  ![1, v647.toNat]
def k0_off173 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_1034 : BitVec 32 := 1024#32
  let v1115 : BitVec 32 := Scalar.muli v21 c1024_i32_1034
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c256_i32_1035 : BitVec 32 := 256#32
  let v1116 : BitVec 32 := Scalar.muli v647 c256_i32_1035
  let v1117 : BitVec 32 := Scalar.addi v1115 v1116
  let c128_i32_1036 : BitVec 32 := 128#32
  let v1118 : BitVec 32 := Scalar.addi v1117 c128_i32_1036
  let c0_i32_2607 : BitVec 32 := 0#32
  ![v1118.toNat, 0]
def k0_cond121 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c1_i32_586 : BitVec 32 := 1#32
  let v603 : BitVec 32 := Scalar.addi v8 c1_i32_586
  let c4_i32_587 : BitVec 32 := 4#32
  let c0_i32_588 : BitVec 32 := 0#32
  let v604 : BitVec 1 := Scalar.cmpi .eq c4_i32_587 c0_i32_588
  let c1_i32_589 : BitVec 32 := 1#32
  let v605 : BitVec 32 := Scalar.select v604 c1_i32_589 c4_i32_587
  let v606 : BitVec 32 := Scalar.remsi v603 v605
  let c0_i32_591 : BitVec 32 := 0#32
  let v608 : BitVec 1 := Scalar.cmpi .slt v606 c0_i32_591
  let c0_i32_592 : BitVec 32 := 0#32
  let v609 : BitVec 1 := Scalar.cmpi .slt v605 c0_i32_592
  let v610 : BitVec 1 := Scalar.xori v608 v609
  let c0_i32_590 : BitVec 32 := 0#32
  let v607 : BitVec 1 := Scalar.cmpi .ne v606 c0_i32_590
  let v611 : BitVec 1 := Scalar.andi v610 v607
  let v612 : BitVec 32 := Scalar.addi v606 v605
  let v613 : BitVec 32 := Scalar.select v611 v612 v606
  let v1136 : BitVec 1 := Scalar.cmpi .eq v647 v613
  let v2532 : BitVec 32 := Scalar.extui v1136
  let c0_i32_2564 : BitVec 32 := 0#32
  let v2533 : BitVec 1 := Scalar.cmpi .ne v2532 c0_i32_2564
  v2533

def k0_off174 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_1050 : BitVec 32 := 1024#32
  let v1139 : BitVec 32 := Scalar.muli v21 c1024_i32_1050
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c256_i32_1051 : BitVec 32 := 256#32
  let v1140 : BitVec 32 := Scalar.muli v647 c256_i32_1051
  let v1141 : BitVec 32 := Scalar.addi v1139 v1140
  let c128_i32_1052 : BitVec 32 := 128#32
  let v1142 : BitVec 32 := Scalar.addi v1141 c128_i32_1052
  let c0_i32_2607 : BitVec 32 := 0#32
  ![v1142.toNat, 0]
def k0_cond122 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c2_i32_593 : BitVec 32 := 2#32
  let v614 : BitVec 32 := Scalar.addi v8 c2_i32_593
  let c4_i32_594 : BitVec 32 := 4#32
  let c0_i32_595 : BitVec 32 := 0#32
  let v615 : BitVec 1 := Scalar.cmpi .eq c4_i32_594 c0_i32_595
  let c1_i32_596 : BitVec 32 := 1#32
  let v616 : BitVec 32 := Scalar.select v615 c1_i32_596 c4_i32_594
  let v617 : BitVec 32 := Scalar.remsi v614 v616
  let c0_i32_598 : BitVec 32 := 0#32
  let v619 : BitVec 1 := Scalar.cmpi .slt v617 c0_i32_598
  let c0_i32_599 : BitVec 32 := 0#32
  let v620 : BitVec 1 := Scalar.cmpi .slt v616 c0_i32_599
  let v621 : BitVec 1 := Scalar.xori v619 v620
  let c0_i32_597 : BitVec 32 := 0#32
  let v618 : BitVec 1 := Scalar.cmpi .ne v617 c0_i32_597
  let v622 : BitVec 1 := Scalar.andi v621 v618
  let v623 : BitVec 32 := Scalar.addi v617 v616
  let v624 : BitVec 32 := Scalar.select v622 v623 v617
  let v1137 : BitVec 1 := Scalar.cmpi .eq v647 v624
  let v2534 : BitVec 32 := Scalar.extui v1137
  let c0_i32_2571 : BitVec 32 := 0#32
  let v2535 : BitVec 1 := Scalar.cmpi .ne v2534 c0_i32_2571
  v2535

def k0_off175 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_1063 : BitVec 32 := 1024#32
  let v1149 : BitVec 32 := Scalar.muli v21 c1024_i32_1063
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c256_i32_1064 : BitVec 32 := 256#32
  let v1150 : BitVec 32 := Scalar.muli v647 c256_i32_1064
  let v1151 : BitVec 32 := Scalar.addi v1149 v1150
  let c128_i32_1065 : BitVec 32 := 128#32
  let v1152 : BitVec 32 := Scalar.addi v1151 c128_i32_1065
  let c0_i32_2607 : BitVec 32 := 0#32
  ![v1152.toNat, 0]
def k0_cond123 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c3_i32_600 : BitVec 32 := 3#32
  let v625 : BitVec 32 := Scalar.addi v8 c3_i32_600
  let c4_i32_601 : BitVec 32 := 4#32
  let c0_i32_602 : BitVec 32 := 0#32
  let v626 : BitVec 1 := Scalar.cmpi .eq c4_i32_601 c0_i32_602
  let c1_i32_603 : BitVec 32 := 1#32
  let v627 : BitVec 32 := Scalar.select v626 c1_i32_603 c4_i32_601
  let v628 : BitVec 32 := Scalar.remsi v625 v627
  let c0_i32_605 : BitVec 32 := 0#32
  let v630 : BitVec 1 := Scalar.cmpi .slt v628 c0_i32_605
  let c0_i32_606 : BitVec 32 := 0#32
  let v631 : BitVec 1 := Scalar.cmpi .slt v627 c0_i32_606
  let v632 : BitVec 1 := Scalar.xori v630 v631
  let c0_i32_604 : BitVec 32 := 0#32
  let v629 : BitVec 1 := Scalar.cmpi .ne v628 c0_i32_604
  let v633 : BitVec 1 := Scalar.andi v632 v629
  let v634 : BitVec 32 := Scalar.addi v628 v627
  let v635 : BitVec 32 := Scalar.select v633 v634 v628
  let v1138 : BitVec 1 := Scalar.cmpi .eq v647 v635
  let v2536 : BitVec 32 := Scalar.extui v1138
  let c0_i32_2578 : BitVec 32 := 0#32
  let v2537 : BitVec 1 := Scalar.cmpi .ne v2536 c0_i32_2578
  v2537

def k0_off176 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_1076 : BitVec 32 := 1024#32
  let v1159 : BitVec 32 := Scalar.muli v21 c1024_i32_1076
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_614 : BitVec 32 := 0#32
  let v642 : BitVec 1 := Scalar.cmpi .eq v8 c0_i32_614
  let c2_i32_620 : BitVec 32 := 2#32
  let c1_i32_615 : BitVec 32 := 1#32
  let v643 : BitVec 1 := Scalar.cmpi .eq v8 c1_i32_615
  let c2_i32_619 : BitVec 32 := 2#32
  let c2_i32_616 : BitVec 32 := 2#32
  let v644 : BitVec 1 := Scalar.cmpi .eq v8 c2_i32_616
  let c3_i32_617 : BitVec 32 := 3#32
  let c1_i32_618 : BitVec 32 := 1#32
  let v645 : BitVec 32 := Scalar.select v644 c3_i32_617 c1_i32_618
  let v646 : BitVec 32 := Scalar.select v643 c2_i32_619 v645
  let v647 : BitVec 32 := Scalar.select v642 c2_i32_620 v646
  let c256_i32_1077 : BitVec 32 := 256#32
  let v1160 : BitVec 32 := Scalar.muli v647 c256_i32_1077
  let v1161 : BitVec 32 := Scalar.addi v1159 v1160
  let c128_i32_1078 : BitVec 32 := 128#32
  let v1162 : BitVec 32 := Scalar.addi v1161 c128_i32_1078
  let c0_i32_2607 : BitVec 32 := 0#32
  ![v1162.toNat, 0]
def k0_cond124 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let v1183 : BitVec 1 := Scalar.cmpi .slt v653 v8
  let c3_i32_1101 : BitVec 32 := 3#32
  let v1184 : BitVec 1 := Scalar.cmpi .slt v8 c3_i32_1101
  let v1185 : BitVec 1 := Scalar.andi v1183 v1184
  let v2538 : BitVec 32 := Scalar.extui v1185
  let c0_i32_2581 : BitVec 32 := 0#32
  let v2539 : BitVec 1 := Scalar.cmpi .ne v2538 c0_i32_2581
  v2539

def k0_off177 (d0 : Dev nD) : Fin 2 → Nat :=
  let c1_i32_2579 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  ![1, v653.toNat]
def k0_off178 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_1102 : BitVec 32 := 1024#32
  let v1186 : BitVec 32 := Scalar.muli v21 c1024_i32_1102
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c256_i32_1103 : BitVec 32 := 256#32
  let v1187 : BitVec 32 := Scalar.muli v653 c256_i32_1103
  let v1188 : BitVec 32 := Scalar.addi v1186 v1187
  let c128_i32_1104 : BitVec 32 := 128#32
  let v1189 : BitVec 32 := Scalar.addi v1188 c128_i32_1104
  let c0_i32_2607 : BitVec 32 := 0#32
  ![v1189.toNat, 0]
def k0_cond125 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let v1207 : BitVec 1 := Scalar.cmpi .sgt v653 v8
  let c0_i32_1118 : BitVec 32 := 0#32
  let v1208 : BitVec 1 := Scalar.cmpi .sgt v8 c0_i32_1118
  let v1209 : BitVec 1 := Scalar.andi v1207 v1208
  let v2540 : BitVec 32 := Scalar.extui v1209
  let c0_i32_2584 : BitVec 32 := 0#32
  let v2541 : BitVec 1 := Scalar.cmpi .ne v2540 c0_i32_2584
  v2541

def k0_off179 (d0 : Dev nD) : Fin 2 → Nat :=
  let c1_i32_2582 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  ![1, v653.toNat]
def k0_off180 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_1119 : BitVec 32 := 1024#32
  let v1210 : BitVec 32 := Scalar.muli v21 c1024_i32_1119
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c256_i32_1120 : BitVec 32 := 256#32
  let v1211 : BitVec 32 := Scalar.muli v653 c256_i32_1120
  let v1212 : BitVec 32 := Scalar.addi v1210 v1211
  let c128_i32_1121 : BitVec 32 := 128#32
  let v1213 : BitVec 32 := Scalar.addi v1212 c128_i32_1121
  let c0_i32_2607 : BitVec 32 := 0#32
  ![v1213.toNat, 0]
def k0_cond126 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c1_i32_586 : BitVec 32 := 1#32
  let v603 : BitVec 32 := Scalar.addi v8 c1_i32_586
  let c4_i32_587 : BitVec 32 := 4#32
  let c0_i32_588 : BitVec 32 := 0#32
  let v604 : BitVec 1 := Scalar.cmpi .eq c4_i32_587 c0_i32_588
  let c1_i32_589 : BitVec 32 := 1#32
  let v605 : BitVec 32 := Scalar.select v604 c1_i32_589 c4_i32_587
  let v606 : BitVec 32 := Scalar.remsi v603 v605
  let c0_i32_591 : BitVec 32 := 0#32
  let v608 : BitVec 1 := Scalar.cmpi .slt v606 c0_i32_591
  let c0_i32_592 : BitVec 32 := 0#32
  let v609 : BitVec 1 := Scalar.cmpi .slt v605 c0_i32_592
  let v610 : BitVec 1 := Scalar.xori v608 v609
  let c0_i32_590 : BitVec 32 := 0#32
  let v607 : BitVec 1 := Scalar.cmpi .ne v606 c0_i32_590
  let v611 : BitVec 1 := Scalar.andi v610 v607
  let v612 : BitVec 32 := Scalar.addi v606 v605
  let v613 : BitVec 32 := Scalar.select v611 v612 v606
  let v1231 : BitVec 1 := Scalar.cmpi .eq v653 v613
  let v2542 : BitVec 32 := Scalar.extui v1231
  let c0_i32_2591 : BitVec 32 := 0#32
  let v2543 : BitVec 1 := Scalar.cmpi .ne v2542 c0_i32_2591
  v2543

def k0_off181 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_1135 : BitVec 32 := 1024#32
  let v1234 : BitVec 32 := Scalar.muli v21 c1024_i32_1135
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c256_i32_1136 : BitVec 32 := 256#32
  let v1235 : BitVec 32 := Scalar.muli v653 c256_i32_1136
  let v1236 : BitVec 32 := Scalar.addi v1234 v1235
  let c128_i32_1137 : BitVec 32 := 128#32
  let v1237 : BitVec 32 := Scalar.addi v1236 c128_i32_1137
  let c0_i32_2607 : BitVec 32 := 0#32
  ![v1237.toNat, 0]
def k0_cond127 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c2_i32_593 : BitVec 32 := 2#32
  let v614 : BitVec 32 := Scalar.addi v8 c2_i32_593
  let c4_i32_594 : BitVec 32 := 4#32
  let c0_i32_595 : BitVec 32 := 0#32
  let v615 : BitVec 1 := Scalar.cmpi .eq c4_i32_594 c0_i32_595
  let c1_i32_596 : BitVec 32 := 1#32
  let v616 : BitVec 32 := Scalar.select v615 c1_i32_596 c4_i32_594
  let v617 : BitVec 32 := Scalar.remsi v614 v616
  let c0_i32_598 : BitVec 32 := 0#32
  let v619 : BitVec 1 := Scalar.cmpi .slt v617 c0_i32_598
  let c0_i32_599 : BitVec 32 := 0#32
  let v620 : BitVec 1 := Scalar.cmpi .slt v616 c0_i32_599
  let v621 : BitVec 1 := Scalar.xori v619 v620
  let c0_i32_597 : BitVec 32 := 0#32
  let v618 : BitVec 1 := Scalar.cmpi .ne v617 c0_i32_597
  let v622 : BitVec 1 := Scalar.andi v621 v618
  let v623 : BitVec 32 := Scalar.addi v617 v616
  let v624 : BitVec 32 := Scalar.select v622 v623 v617
  let v1232 : BitVec 1 := Scalar.cmpi .eq v653 v624
  let v2544 : BitVec 32 := Scalar.extui v1232
  let c0_i32_2598 : BitVec 32 := 0#32
  let v2545 : BitVec 1 := Scalar.cmpi .ne v2544 c0_i32_2598
  v2545

def k0_off182 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_1148 : BitVec 32 := 1024#32
  let v1244 : BitVec 32 := Scalar.muli v21 c1024_i32_1148
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c256_i32_1149 : BitVec 32 := 256#32
  let v1245 : BitVec 32 := Scalar.muli v653 c256_i32_1149
  let v1246 : BitVec 32 := Scalar.addi v1244 v1245
  let c128_i32_1150 : BitVec 32 := 128#32
  let v1247 : BitVec 32 := Scalar.addi v1246 c128_i32_1150
  let c0_i32_2607 : BitVec 32 := 0#32
  ![v1247.toNat, 0]
def k0_cond128 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c3_i32_600 : BitVec 32 := 3#32
  let v625 : BitVec 32 := Scalar.addi v8 c3_i32_600
  let c4_i32_601 : BitVec 32 := 4#32
  let c0_i32_602 : BitVec 32 := 0#32
  let v626 : BitVec 1 := Scalar.cmpi .eq c4_i32_601 c0_i32_602
  let c1_i32_603 : BitVec 32 := 1#32
  let v627 : BitVec 32 := Scalar.select v626 c1_i32_603 c4_i32_601
  let v628 : BitVec 32 := Scalar.remsi v625 v627
  let c0_i32_605 : BitVec 32 := 0#32
  let v630 : BitVec 1 := Scalar.cmpi .slt v628 c0_i32_605
  let c0_i32_606 : BitVec 32 := 0#32
  let v631 : BitVec 1 := Scalar.cmpi .slt v627 c0_i32_606
  let v632 : BitVec 1 := Scalar.xori v630 v631
  let c0_i32_604 : BitVec 32 := 0#32
  let v629 : BitVec 1 := Scalar.cmpi .ne v628 c0_i32_604
  let v633 : BitVec 1 := Scalar.andi v632 v629
  let v634 : BitVec 32 := Scalar.addi v628 v627
  let v635 : BitVec 32 := Scalar.select v633 v634 v628
  let v1233 : BitVec 1 := Scalar.cmpi .eq v653 v635
  let v2546 : BitVec 32 := Scalar.extui v1233
  let c0_i32_2605 : BitVec 32 := 0#32
  let v2547 : BitVec 1 := Scalar.cmpi .ne v2546 c0_i32_2605
  v2547

def k0_off183 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v2 v5
  let c2_i32_3 : BitVec 32 := 2#32
  let c0_i32 : BitVec 32 := 0#32
  let v11 : BitVec 1 := Scalar.cmpi .eq c2_i32_3 c0_i32
  let c1_i32_4 : BitVec 32 := 1#32
  let v12 : BitVec 32 := Scalar.select v11 c1_i32_4 c2_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.addi v9 v20
  let c1024_i32_1161 : BitVec 32 := 1024#32
  let v1254 : BitVec 32 := Scalar.muli v21 c1024_i32_1161
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_621 : BitVec 32 := 0#32
  let v648 : BitVec 1 := Scalar.cmpi .eq v8 c0_i32_621
  let c3_i32_627 : BitVec 32 := 3#32
  let c1_i32_622 : BitVec 32 := 1#32
  let v649 : BitVec 1 := Scalar.cmpi .eq v8 c1_i32_622
  let c3_i32_626 : BitVec 32 := 3#32
  let c2_i32_623 : BitVec 32 := 2#32
  let v650 : BitVec 1 := Scalar.cmpi .eq v8 c2_i32_623
  let c0_i32_624 : BitVec 32 := 0#32
  let c0_i32_625 : BitVec 32 := 0#32
  let v651 : BitVec 32 := Scalar.select v650 c0_i32_624 c0_i32_625
  let v652 : BitVec 32 := Scalar.select v649 c3_i32_626 v651
  let v653 : BitVec 32 := Scalar.select v648 c3_i32_627 v652
  let c256_i32_1162 : BitVec 32 := 256#32
  let v1255 : BitVec 32 := Scalar.muli v653 c256_i32_1162
  let v1256 : BitVec 32 := Scalar.addi v1254 v1255
  let c128_i32_1163 : BitVec 32 := 128#32
  let v1257 : BitVec 32 := Scalar.addi v1256 c128_i32_1163
  let c0_i32_2607 : BitVec 32 := 0#32
  ![v1257.toNat, 0]
abbrev stage0_0 : Fin 1 → Memref sig .tc .vmem S4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x4096, .f32⟩
  | .hbm, ⟨18, _⟩ => ⟨S4096x4096, .f32⟩
  | .hbm, ⟨19, _⟩ => ⟨S1x4096, .f32⟩
  | .hbm, ⟨20, _⟩ => ⟨S4096x4096, .f32⟩
  | .hbm, ⟨21, _⟩ => ⟨S4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Run.Keys.lean ====
/-
# The devices, the messages and the order of their levels

The mesh is x = 2, y = 2, z = 4 and device number 8x + 4y + z. The four (x, y) places form a ring: place r has
x = r / 2 and y = (r / 2 + r % 2) % 2. A device is named by its ring place `rOf` and its z coordinate `zOf`.

A message is named by its sender and a send key `SK`; the receiver names it by a receive key `RK`. `dst` and `src`
say for each message where it lands and which region it reads, `org` says for each receive key who sends it.
-/
module

public import proofs.«01_k».proof.Proof.Gen.KernelIdeal

@[expose] public section

namespace Cert.KernelIdeal.AllReduce

open Idealize.ShloMosaic

/-- The z coordinate of a device. -/
def zOf (c : Dev nD) : Fin 4 := ⟨c.val % 4, Nat.mod_lt _ (by decide)⟩
/-- The ring place of a device: `2 x + (x + y) % 2`. -/
def rOf (c : Dev nD) : Fin 4 := ⟨(2 * (c.val / 8) + (c.val / 8 + c.val / 4 % 2) % 2) % 4, Nat.mod_lt _ (by decide)⟩
/-- The device at ring place `r` and coordinate `z`. -/
def mk (r z : Fin 4) : Dev nD := ⟨8 * (r.val / 2) + 4 * ((r.val / 2 + r.val % 2) % 2) + z.val, by revert r z; decide⟩

theorem mk_rz : ∀ c : Dev nD, mk (rOf c) (zOf c) = c := by decide
theorem rOf_mk : ∀ r z : Fin 4, rOf (mk r z) = r := by decide
theorem zOf_mk : ∀ r z : Fin 4, zOf (mk r z) = z := by decide

/-- Send keys, one per send semaphore of a device: reduce-scatter (subtile, index), the chain up, the chain down
    (subtile, piece), the ring forward and backward (subtile, hop, which of the two pieces). -/
inductive SK
  | rs (st : Fin 2) (i : Fin 3)
  | up (st : Fin 2) (o : Fin 4)
  | dn (st : Fin 2) (o : Fin 4)
  | cw (st : Fin 2) (h : Fin 3) (k : Fin 2)
  | cc (st : Fin 2) (h : Fin 3) (k : Fin 2)

/-- Receive keys, one per receive semaphore: as the send keys, but the reduce-scatter receives by slot. -/
inductive RK
  | rs (st : Fin 2) (s : Fin 4)
  | up (st : Fin 2) (o : Fin 4)
  | dn (st : Fin 2) (o : Fin 4)
  | cw (st : Fin 2) (h : Fin 3) (k : Fin 2)
  | cc (st : Fin 2) (h : Fin 3) (k : Fin 2)

/-- Regions of 128 rows: of the partial input by quarter piece, of the residual input, a receive slot, a forward
    buffer, and of the output by quarter, piece and subtile. -/
inductive Rg
  | part (j : Fin 4) (st : Fin 2)
  | res (st : Fin 2)
  | slot (s : Fin 4) (st : Fin 2)
  | fwd (i : Fin 2) (st : Fin 2)
  | out (q j : Fin 4) (st : Fin 2)

/-- The number of a send key's semaphore. -/
def SK.sem : SK → ℕ
  | .rs st i => 1 + 3 * st.val + i.val
  | .up st o => 15 + 4 * st.val + o.val
  | .dn st o => 31 + 4 * st.val + o.val
  | .cw st h k => 47 + 6 * st.val + 2 * h.val + k.val
  | .cc st h k => 71 + 6 * st.val + 2 * h.val + k.val
/-- The number of a receive key's semaphore. -/
def RK.sem : RK → ℕ
  | .rs st s => 7 + 4 * st.val + s.val
  | .up st o => 23 + 4 * st.val + o.val
  | .dn st o => 39 + 4 * st.val + o.val
  | .cw st h k => 59 + 6 * st.val + 2 * h.val + k.val
  | .cc st h k => 83 + 6 * st.val + 2 * h.val + k.val
/-- A number for each region. -/
def Rg.num : Rg → ℕ
  | .part j st => 2 * j.val + st.val
  | .res st => 8 + st.val
  | .slot s st => 10 + 2 * s.val + st.val
  | .fwd i st => 18 + 2 * i.val + st.val
  | .out q j st => 22 + 8 * q.val + 2 * j.val + st.val

theorem SK.sem_inj {a b : SK} (h : a.sem = b.sem) : a = b := by
  cases a <;> cases b <;> simp only [SK.sem] at h <;> first | (exfalso; omega) | (congr 1 <;> apply Fin.ext <;> omega)
theorem RK.sem_inj {a b : RK} (h : a.sem = b.sem) : a = b := by
  cases a <;> cases b <;> simp only [RK.sem] at h <;> first | (exfalso; omega) | (congr 1 <;> apply Fin.ext <;> omega)
theorem Rg.num_inj {a b : Rg} (h : a.num = b.num) : a = b := by
  cases a <;> cases b <;> simp only [Rg.num] at h <;> first | (exfalso; omega) | (congr 1 <;> apply Fin.ext <;> omega)

instance : DecidableEq SK := fun a b => if h : a.sem = b.sem then .isTrue (SK.sem_inj h) else .isFalse fun e => h (by rw [e])
instance : DecidableEq RK := fun a b => if h : a.sem = b.sem then .isTrue (RK.sem_inj h) else .isFalse fun e => h (by rw [e])
instance : DecidableEq Rg := fun a b => if h : a.num = b.num then .isTrue (Rg.num_inj h) else .isFalse fun e => h (by rw [e])

theorem SK.sem_lt (x : SK) : x.sem < 97 := by cases x <;> simp only [SK.sem] <;> omega
theorem RK.sem_lt (y : RK) : y.sem < 97 := by cases y <;> simp only [RK.sem] <;> omega

/-- All send keys, receive keys and regions, listed. -/
def SK.all : List SK :=
  (List.finRange 2).flatMap fun st => (List.finRange 3).map (SK.rs st) ++ (List.finRange 4).map (SK.up st) ++ (List.finRange 4).map (SK.dn st)
    ++ (List.finRange 3).flatMap fun h => (List.finRange 2).flatMap fun k => [SK.cw st h k, SK.cc st h k]
def RK.all : List RK :=
  (List.finRange 2).flatMap fun st => (List.finRange 4).map (RK.rs st) ++ (List.finRange 4).map (RK.up st) ++ (List.finRange 4).map (RK.dn st)
    ++ (List.finRange 3).flatMap fun h => (List.finRange 2).flatMap fun k => [RK.cw st h k, RK.cc st h k]
def Rg.all : List Rg :=
  (List.finRange 2).flatMap fun st => [Rg.res st] ++ (List.finRange 4).map (Rg.part · st) ++ (List.finRange 4).map (Rg.slot · st)
    ++ (List.finRange 2).map (Rg.fwd · st) ++ (List.finRange 4).flatMap fun q => (List.finRange 4).map (Rg.out q · st)

instance : Fintype SK := ⟨⟨SK.all, by decide +kernel⟩, fun x => by
  show x ∈ SK.all
  cases x <;> simp [SK.all]⟩
instance : Fintype RK := ⟨⟨RK.all, by decide +kernel⟩, fun x => by
  show x ∈ RK.all
  cases x <;> simp [RK.all]⟩
instance : Fintype Rg := ⟨⟨Rg.all, by decide +kernel⟩, fun x => by
  show x ∈ Rg.all
  cases x <;> simp [Rg.all]⟩

/-! ## Who sends what to whom -/

/-- Whether device `c` sends under key `x`: the chain up carries the pieces at or below its coordinate, the chain
    down those at or above. -/
def act (c : Dev nD) : SK → Bool
  | .rs .. => true
  | .up _ o => decide (o ≤ zOf c ∧ (zOf c).val < 3)
  | .dn _ o => decide (zOf c ≤ o ∧ 0 < (zOf c).val)
  | .cw .. => true
  | .cc .. => true

/-- Whether device `c` receives under key `y`. -/
def inc (c : Dev nD) : RK → Bool
  | .rs _ s => decide (s.val < 2 ∨ zOf c = 1 ∨ zOf c = 2)
  | .up _ o => decide (o < zOf c)
  | .dn _ o => decide (zOf c < o)
  | .cw .. => true
  | .cc .. => true

/-- The coordinate a reduce-scatter message goes to, and its slot there. -/
def rsTo (z : Fin 4) (i : Fin 3) : Fin 4 × Fin 4 :=
  match z, i with
  | 0, 0 => (1, 3) | 0, 1 => (1, 2) | 0, 2 => (1, 0)
  | 1, 0 => (0, 0) | 1, 1 => (3, 1) | 1, 2 => (2, 1)
  | 2, 0 => (3, 0) | 2, 1 => (0, 1) | 2, 2 => (1, 1)
  | 3, 0 => (2, 3) | 3, 1 => (2, 2) | 3, 2 => (2, 0)
/-- The coordinate and index a slot is filled from. -/
def rsFrom (z s : Fin 4) : Fin 4 × Fin 3 :=
  match z, s with
  | 0, 0 => (1, 0) | 0, 1 => (2, 1)
  | 1, 0 => (0, 2) | 1, 1 => (2, 2) | 1, 2 => (0, 1) | 1, 3 => (0, 0)
  | 2, 0 => (3, 2) | 2, 1 => (1, 2) | 2, 2 => (3, 1) | 2, 3 => (3, 0)
  | 3, 0 => (2, 0) | 3, 1 => (1, 1)
  | _, _ => (0, 0)

/-- Where the message `x` of device `c` lands. -/
def dst (c : Dev nD) : SK → Dev nD × RK
  | .rs st i => (mk (rOf c) (rsTo (zOf c) i).1, .rs st (rsTo (zOf c) i).2)
  | .up st o => (mk (rOf c) (zOf c + 1), .up st o)
  | .dn st o => (mk (rOf c) (zOf c - 1), .dn st o)
  | .cw st h k => (mk (rOf c + 1) (zOf c), .cw st h k)
  | .cc st h k => (mk (rOf c - 1) (zOf c), .cc st h k)

/-- Which message arrives at device `c` under key `y`. -/
def org (c : Dev nD) : RK → Dev nD × SK
  | .rs st s => (mk (rOf c) (rsFrom (zOf c) s).1, .rs st (rsFrom (zOf c) s).2)
  | .up st o => (mk (rOf c) (zOf c - 1), .up st o)
  | .dn st o => (mk (rOf c) (zOf c + 1), .dn st o)
  | .cw st h k => (mk (rOf c - 1) (zOf c), .cw st h k)
  | .cc st h k => (mk (rOf c + 1) (zOf c), .cc st h k)

/-- The region the message `x` of device `c` reads. -/
def src (c : Dev nD) : SK → Rg
  | .rs st i =>
    match zOf c, i with
    | 0, 0 => .part 3 st | 0, 1 => .part 2 st | 0, 2 => .part 1 st
    | 1, 0 => .part 0 st | 1, 1 => .fwd 0 st | 1, 2 => .fwd 1 st
    | 2, 0 => .part 3 st | 2, 1 => .fwd 0 st | 2, 2 => .fwd 1 st
    | 3, 0 => .part 0 st | 3, 1 => .part 1 st | 3, 2 => .part 2 st
  | .up st o => .out (rOf c) o st
  | .dn st o => .out (rOf c) o st
  | .cw st h k => .out (rOf c - h.castSucc) (zOf c + k.castLE (by decide)) st
  | .cc st h k => .out (rOf c + h.castSucc) (zOf c + 2 + k.castLE (by decide)) st

/-- The region a message lands in. -/
def land (c : Dev nD) : RK → Rg
  | .rs st s => .slot s st
  | .up st o => .out (rOf c) o st
  | .dn st o => .out (rOf c) o st
  | .cw st h k => .out (rOf c - 1 - h.castSucc) (zOf c + k.castLE (by decide)) st
  | .cc st h k => .out (rOf c + 1 + h.castSucc) (zOf c + 2 + k.castLE (by decide)) st

/-- The five devices a device signals at the barrier: the three others of its z line and its two ring neighbours. -/
def peer (c : Dev nD) : Fin 5 → Dev nD
  | 0 => mk (rOf c) (zOf c + 1)
  | 1 => mk (rOf c) (zOf c + 2)
  | 2 => mk (rOf c) (zOf c + 3)
  | 3 => mk (rOf c + 1) (zOf c)
  | 4 => mk (rOf c - 1) (zOf c)

/-- The devices that signal `c`, which are the ones it signals. -/
def peers (c : Dev nD) : Finset (Dev nD) := Finset.univ.image (peer c)

theorem peer_inj : ∀ c : Dev nD, Function.Injective (peer c) := by decide +kernel
theorem mem_peers : ∀ c d : Dev nD, d ∈ peers c ↔ c ∈ peers d := by decide +kernel
theorem card_peers : ∀ c : Dev nD, (peers c).card = 5 := by decide +kernel
theorem dst_spec : ∀ (c : Dev nD) (x : SK), act c x = true →
    inc (dst c x).1 (dst c x).2 = true ∧ org (dst c x).1 (dst c x).2 = (c, x) ∧ (dst c x).1 ∈ peers c := by decide +kernel
theorem org_spec : ∀ (c : Dev nD) (y : RK), inc c y = true →
    act (org c y).1 (org c y).2 = true ∧ dst (org c y).1 (org c y).2 = (c, y) := by decide +kernel

/-- The level of a receive semaphore: every message is sent after messages of lower levels only. -/
def lvR (c : Dev nD) : RK → ℕ
  | .rs st s => if s = 1 then 3 + st.val else 2
  | .up st o => 4 + st.val + ((zOf c).val - 1 - o.val)
  | .dn st o => 4 + st.val + (o.val - 1 - (zOf c).val)
  | .cw st h _ => if h = 0 then 8 else 8 + h.val + 2 * st.val
  | .cc st h _ => if h = 0 then 8 else 8 + h.val + 2 * st.val

end Cert.KernelIdeal.AllReduce
end
-- ==== Proof.Run.Base.lean ====
/-
# The memrefs, the values and the protocol's schedule

Every region is 128 rows of one buffer. `val m c r` is what region `r` of device `c` holds once it is filled.
-/
module

public import proofs.«01_k».proof.Proof.Run.Keys
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Memref
public import Idealize.ShloMosaic.Lib.MemrefSat
public import Idealize.ShloMosaic.Lib.Transfers
public import Idealize.ShloMosaic.Lib.Tactic

@[expose] public section

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

/-- The ghost state: the pipeline's rounds, the protocol's rounds, and counters for the local copies. -/
abbrev UU : Type := UR sig nD τ × (URounds (GSem nD τ sig) (Dev nD) × Counters)

local notation "𝕄" => MT nD τ sig Unit (Elt F) ℕ UU ℕ

/-! ## Memrefs -/

/-- The first row of a piece: quarter `q`, piece `j`, subtile `st`. -/
abbrev prow (q j : Fin 4) (st : Fin 2) : ℕ := q.val * 1024 + j.val * 256 + st.val * 128

theorem prow_le (q j : Fin 4) (st : Fin 2) : prow q j st + 128 ≤ 4096 := by unfold prow; omega

theorem inbA {row : ℕ} (h : row + 128 ≤ 4096) : ∀ a, (![0, row, 0] : Fin 3 → ℕ) a + S1x128x4096.size a ≤ S1x4096x4096.size a := by
  intro a; fin_cases a
  · show 0 + 1 ≤ 1; omega
  · show row + 128 ≤ 4096; exact h
  · show 0 + 4096 ≤ 4096; omega
theorem inbB {row : ℕ} (h : row + 128 ≤ 4096) : ∀ a, (![row, 0] : Fin 2 → ℕ) a + S128x4096.size a ≤ S4096x4096.size a := by
  intro a; fin_cases a
  · show row + 128 ≤ 4096; exact h
  · show 0 + 4096 ≤ 4096; omega
theorem inbS {s row : ℕ} (hs : s < 4) (h : row + 128 ≤ 256) : ∀ a, (![s, row, 0] : Fin 3 → ℕ) a + S1x128x4096.size a ≤ S4x256x4096.size a := by
  intro a; fin_cases a
  · show s + 1 ≤ 4; omega
  · show row + 128 ≤ 256; exact h
  · show 0 + 4096 ≤ 4096; omega
theorem inbF {s row : ℕ} (hs : s < 2) (h : row + 128 ≤ 256) : ∀ a, (![s, row, 0] : Fin 3 → ℕ) a + S1x128x4096.size a ≤ S2x256x4096.size a := by
  intro a; fin_cases a
  · show s + 1 ≤ 2; omega
  · show row + 128 ≤ 256; exact h
  · show 0 + 4096 ≤ 4096; omega

/-- 128 rows of the partial input. -/
abbrev memA (off : Fin 3 → ℕ) (h : ∀ a, off a + S1x128x4096.size a ≤ S1x4096x4096.size a) : Memref sig .tc .hbm S128x4096 .f32 :=
  ((Memref.whole main_arg0 : Memref sig .tc .hbm S1x4096x4096 .f32).slice (Rect.unit (s := S1x4096x4096) off S1x128x4096.size h) (fun _ => rfl)).squeeze
    S128x4096 squeezes_S1x128x4096_S128x4096
/-- 128 rows of the residual input. -/
abbrev memB (off : Fin 2 → ℕ) (h : ∀ a, off a + S128x4096.size a ≤ S4096x4096.size a) : Memref sig .tc .hbm S128x4096 .f32 :=
  (Memref.whole main_arg1 : Memref sig .tc .hbm S4096x4096 .f32).slice (Rect.unit (s := S4096x4096) off S128x4096.size h) (fun _ => rfl)
/-- 128 rows of the output. -/
abbrev memO (off : Fin 2 → ℕ) (h : ∀ a, off a + S128x4096.size a ≤ S4096x4096.size a) : Memref sig .tc .hbm S128x4096 .f32 :=
  (Memref.whole main_v1_0 : Memref sig .tc .hbm S4096x4096 .f32).slice (Rect.unit (s := S4096x4096) off S128x4096.size h) (fun _ => rfl)
/-- 128 rows of a receive slot. -/
abbrev memS (off : Fin 3 → ℕ) (h : ∀ a, off a + S1x128x4096.size a ≤ S4x256x4096.size a) : Memref sig .tc .hbm S128x4096 .f32 :=
  ((Memref.whole main_v1_1 : Memref sig .tc .hbm S4x256x4096 .f32).slice (Rect.unit (s := S4x256x4096) off S1x128x4096.size h) (fun _ => rfl)).squeeze
    S128x4096 squeezes_S1x128x4096_S128x4096
/-- 128 rows of a forward buffer. -/
abbrev memW (off : Fin 3 → ℕ) (h : ∀ a, off a + S1x128x4096.size a ≤ S2x256x4096.size a) : Memref sig .tc .hbm S128x4096 .f32 :=
  ((Memref.whole main_v1_2 : Memref sig .tc .hbm S2x256x4096 .f32).slice (Rect.unit (s := S2x256x4096) off S1x128x4096.size h) (fun _ => rfl)).squeeze
    S128x4096 squeezes_S1x128x4096_S128x4096

/-- The memref of a region, as device `c` addresses it. -/
def rgM (c : Dev nD) : Rg → Memref sig .tc .hbm S128x4096 .f32
  | .part j st => memA ![0, prow (rOf c) j st, 0] (inbA (prow_le _ _ _))
  | .res st => memB ![prow (rOf c) (zOf c) st, 0] (inbB (prow_le _ _ _))
  | .slot s st => memS ![s.val, st.val * 128, 0] (inbS s.isLt (by omega))
  | .fwd i st => memW ![i.val, st.val * 128, 0] (inbF i.isLt (by omega))
  | .out q j st => memO ![prow q j st, 0] (inbB (prow_le _ _ _))

/-- The four scratch tiles in VMEM: the two operands, the accumulator, the output tile. -/
inductive Scr
  | a | b | acc | o
deriving DecidableEq

instance : Fintype Scr := ⟨{.a, .b, .acc, .o}, fun x => by cases x <;> decide⟩

def scrR : Scr → Ref sig .tc
  | .a => cc0_scratch11
  | .b => cc0_scratch12
  | .acc => cc0_scratch13
  | .o => cc0_scratch14

/-- The memref of a scratch tile. -/
def scrM : Scr → Memref sig .tc .vmem S128x4096 .f32
  | .a => Memref.whole cc0_scratch11
  | .b => Memref.whole cc0_scratch12
  | .acc => Memref.whole cc0_scratch13
  | .o => Memref.whole cc0_scratch14

/-- The credit of one tile's transfer. -/
def NB : ℕ := (rgM 0 (.out 0 0 0)).view.dmaCredit
theorem NB_pos : 0 < NB := View.dmaCredit_pos _ (by decide)

theorem credit_rg (c : Dev nD) (r : Rg) : (rgM c r).view.dmaCredit = NB := by cases r <;> rfl
theorem credit_scr (b : Scr) : (scrM b).view.dmaCredit = NB := by cases b <;> rfl
theorem credit_A (off : Fin 3 → ℕ) (h) : (memA off h).view.dmaCredit = NB := rfl
theorem credit_B (off : Fin 2 → ℕ) (h) : (memB off h).view.dmaCredit = NB := rfl
theorem credit_O (off : Fin 2 → ℕ) (h) : (memO off h).view.dmaCredit = NB := rfl
theorem credit_S (off : Fin 3 → ℕ) (h) : (memS off h).view.dmaCredit = NB := rfl
theorem credit_W (off : Fin 3 → ℕ) (h) : (memW off h).view.dmaCredit = NB := rfl
attribute [irreducible] NB

/-! ## Values -/

variable (m : (ℓ : Loc nD τ sig) → Buf (Elt F) ℓ)

/-- A tile of 128 rows. -/
abbrev Tile (F : FTy → Type) [FloatOps F] : Type := S128x4096.Idx → Elt F .f32

/-- A tile of the device's partial input. -/
def pv (c : Dev nD) (j : Fin 4) (st : Fin 2) : Tile F :=
  (rgM c (.part j st)).view.read (Elt F) (m ((c : Thread nD τ).loc main_arg0))
/-- The tile of the residual the device adds. -/
def rv (c : Dev nD) (st : Fin 2) : Tile F :=
  (rgM c (.res st)).view.read (Elt F) (m ((c : Thread nD τ).loc main_arg1))
/-- The staged gamma. -/
def gv (c : Dev nD) : S4096.Idx → Elt F .f32 := (win0_0.blk (0 : Fin 1)).view.read (Elt F) (m ((c : Thread nD τ).loc main_arg2))

/-- The sum of two tiles, as the kernel stores it. -/
def addT (a b : Tile F) : Tile F := k0_pay1 a b
/-- The normalised tile, as the kernel stores it. -/
def normT (y : Tile F) (g : S4096.Idx → Elt F .f32) : Tile F := k0_pay13 (k0_pay12 y g)

/-- A tile of the partial input by region (anything for another region). -/
def pvR (c : Dev nD) : Rg → Tile F
  | .part j st => pv m c j st
  | _ => pv m c 0 0
/-- What a slot filled from a partial input holds. -/
def sv0 (c : Dev nD) (s : Fin 4) (st : Fin 2) : Tile F := pvR m (org c (.rs st s)).1 (src (org c (.rs st s)).1 (org c (.rs st s)).2)
/-- The piece of its own partial that device `c` adds in the combine step for forward buffer `i`. -/
def fwdPart (c : Dev nD) (i : Fin 2) : Fin 4 := if zOf c = 1 then 3 - i.castLE (by decide) else i.castLE (by decide)
/-- What a forward buffer holds: the incoming slot plus the device's own piece. -/
def fv (c : Dev nD) (i : Fin 2) (st : Fin 2) : Tile F := addT (sv0 m c (3 - i.castLE (by decide)) st) (pv m c (fwdPart c i) st)
/-- What a message of the reduce-scatter carries, by the region it reads. -/
def carried (c : Dev nD) : Rg → Tile F
  | .fwd i st => fv m c i st
  | r => pvR m c r
/-- What a slot holds. -/
def sv (c : Dev nD) (s : Fin 4) (st : Fin 2) : Tile F := carried m (org c (.rs st s)).1 (src (org c (.rs st s)).1 (org c (.rs st s)).2)
/-- The sum device `c` normalises. -/
def accv (c : Dev nD) (st : Fin 2) : Tile F :=
  addT (addT (addT (pv m c (zOf c) st) (rv m c st)) (sv m c 0 st)) (sv m c 1 st)
/-- The tile of the output device `c` computes. -/
def yv (c : Dev nD) (st : Fin 2) : Tile F := normT (accv m c st) (gv m c)

/-- What each region holds. -/
def val (c : Dev nD) : Rg → Tile F
  | .part j st => pv m c j st
  | .res st => rv m c st
  | .slot s st => sv m c s st
  | .fwd i st => fv m c i st
  | .out q j st => yv m (mk q j) st

/-- A message carries to the region it lands in what that region is to hold. -/
theorem land_src : ∀ (c : Dev nD) (x : SK), act c x = true →
    land (dst c x).1 (dst c x).2 = src c x ∨ ∃ st i, x = .rs st i := by
  intro c x h
  cases x with
  | rs st i => exact .inr ⟨st, i, rfl⟩
  | up st o => left; revert h; revert c st o; decide +kernel
  | dn st o => left; revert h; revert c st o; decide +kernel
  | cw st h' k => left; revert h; revert c st h' k; decide +kernel
  | cc st h' k => left; revert h; revert c st h' k; decide +kernel

theorem src_out (c : Dev nD) (x : SK) (h : ∀ st i, x ≠ .rs st i) : ∃ q j st, src c x = .out q j st := by
  cases x with
  | rs st i => exact absurd rfl (h st i)
  | up st o => exact ⟨_, _, _, rfl⟩
  | dn st o => exact ⟨_, _, _, rfl⟩
  | cw st h' k => exact ⟨_, _, _, rfl⟩
  | cc st h' k => exact ⟨_, _, _, rfl⟩

theorem src_rs : ∀ (c : Dev nD) (st : Fin 2) (i : Fin 3), (∃ j, src c (.rs st i) = .part j st) ∨ (∃ j, src c (.rs st i) = .fwd j st) := by
  decide +kernel

theorem val_land (c : Dev nD) (x : SK) (h : act c x = true) : val m (dst c x).1 (land (dst c x).1 (dst c x).2) = val m c (src c x) := by
  by_cases hx : ∃ st i, x = .rs st i
  · obtain ⟨st, i, rfl⟩ := hx
    have e := (dst_spec c (.rs st i) h).2.1
    show sv m _ (rsTo (zOf c) i).2 st = _
    unfold sv
    have e' : org (dst c (.rs st i)).1 (.rs st (rsTo (zOf c) i).2) = (c, .rs st i) := e
    rw [e']
    rcases src_rs c st i with ⟨j, hj⟩ | ⟨j, hj⟩ <;> rw [hj] <;> rfl
  · have e := (land_src c x h).resolve_right hx
    obtain ⟨q, j, st, hs⟩ := src_out c x (fun st i hh => hx ⟨st, i, hh⟩)
    rw [e, hs]; rfl

/-- The slots that a forward buffer is made of come from partial inputs. -/
theorem sv_sv0 (c : Dev nD) (s : Fin 4) (st : Fin 2) (h : inc c (.rs st s) = true) (hs : s ≠ 1) : sv m c s st = sv0 m c s st := by
  have : ∀ (c : Dev nD) (s : Fin 4) (st : Fin 2), inc c (.rs st s) = true → s ≠ 1 →
      ∃ j, src (org c (.rs st s)).1 (org c (.rs st s)).2 = .part j st := by decide +kernel
  obtain ⟨j, hj⟩ := this c s st h hs
  unfold sv sv0; rw [hj]; rfl

end Cert.KernelIdeal.AllReduce
end
end
-- ==== Proof.Run.Protocol.lean ====
/-
# The cells of the protocol and their schedule

Every device has one barrier cell, one cell per send key and one per receive key. Each cell has a single round. A
signal of device `d` at the barrier of `c` hands over the regions of `d` into which `c` will write; a message hands
its receiver the filled region.
-/
module

public import proofs.«01_k».proof.Proof.Run.Base

@[expose] public section

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Embeddings of the three parts of the ghost state -/

abbrev EP : Emb (UR sig nD τ) (MT nD τ sig Unit (Elt F) ℕ UU ℕ) := embL
/-- The protocol's rounds name a duty by the device that pays it. -/
abbrev UD : Type := URounds (GSem nD τ sig) (Dev nD)
def ER : Emb UD (MT nD τ sig Unit (Elt F) ℕ UU ℕ) :=
  ((Emb.inl : Emb UD (UD × Counters)).trans (Emb.inr : Emb (UD × Counters) UU)).trans
    (uEmb (nD := nD) (sig := sig) (Ix := Unit) (Val := Elt F) (Name := ℕ) (U := UU) (Lvl := ℕ)).toEmb
instance ER_landsIn : (ER : Emb UD 𝕄).LandsIn (upEmb : UEmb _ 𝕄) := by unfold ER; infer_instance

/-! ## Cells -/

/-- A device's cells: the barrier, one per send key, one per receive key. -/
inductive CK
  | bar
  | s (x : SK)
  | r (y : RK)
deriving DecidableEq

def CK.eqv : CK ≃ Option (SK ⊕ RK) where
  toFun | .bar => none | .s x => some (.inl x) | .r y => some (.inr y)
  invFun | none => .bar | some (.inl x) => .s x | some (.inr y) => .r y
  left_inv k := by cases k <;> rfl
  right_inv k := by rcases k with _ | _ | _ <;> rfl
instance : Fintype CK := Fintype.ofEquiv _ CK.eqv.symm

abbrev barS : Sem sig := (SemArray.scalar (sig.barrier 0 rfl) : Sems sig S_).sem
abbrev sS (x : SK) : DmaSem sig := (⟨x.sem, x.sem_lt⟩ : Fin 97)
abbrev rS (y : RK) : DmaSem sig := (⟨y.sem, y.sem_lt⟩ : Fin 97)

/-- The semaphore of a cell. -/
def csem : CK → SemLoc sig
  | .bar => .reg barS
  | .s x => .dma (sS x)
  | .r y => .dma (rS y)
abbrev cell (c : Dev nD) (k : CK) : GSem nD τ sig := ((c : Thread nD τ), csem k)

theorem sem_ne (x : SK) (y : RK) : x.sem ≠ y.sem := by
  cases x <;> cases y <;> simp only [SK.sem, RK.sem] <;> omega

theorem csem_inj : Function.Injective csem := by
  intro a b h
  cases a with
  | bar => cases b with
    | bar => rfl
    | s x => cases h
    | r x => cases h
  | s x => cases b with
    | bar => cases h
    | s x' =>
      have h1 := SemLoc.dma.inj h
      exact congrArg CK.s (SK.sem_inj (congrArg Fin.val h1))
    | r y => exact absurd (congrArg Fin.val (SemLoc.dma.inj h)) (sem_ne x y)
  | r y => cases b with
    | bar => cases h
    | s x => exact absurd (congrArg Fin.val (SemLoc.dma.inj h)).symm (sem_ne x y)
    | r y' => exact congrArg CK.r (RK.sem_inj (congrArg Fin.val (SemLoc.dma.inj h)))

theorem cell_inj : Function.Injective (fun p : Dev nD × CK => cell p.1 p.2) := by
  rintro ⟨c, k⟩ ⟨c', k'⟩ h
  have h1 : (c : Thread nD τ) = (c' : Thread nD τ) := congrArg Prod.fst h
  have h2 : csem k = csem k' := congrArg Prod.snd h
  have h3 : c = c' := congrArg Prod.fst h1
  rw [h3, csem_inj h2]

open Classical in
/-- The cell key of a semaphore, if it belongs to the protocol. -/
def keyOf (s : SemLoc sig) : Option CK := if h : ∃ k, csem k = s then some h.choose else none

theorem keyOf_csem (k : CK) : keyOf (csem k) = some k := by
  have h : ∃ k', csem k' = csem k := ⟨k, rfl⟩
  unfold keyOf
  rw [dif_pos h]
  exact congrArg some (csem_inj h.choose_spec)
theorem keyOf_none {s : SemLoc sig} (h : ∀ k, csem k ≠ s) : keyOf s = none := by
  unfold keyOf
  exact dif_neg fun ⟨k, hk⟩ => h k hk

/-- The two semaphores of the local copies. -/
abbrev lS (s : Fin 2) : DmaSem sig := (⟨95 + s.val, by omega⟩ : Fin 97)
theorem keyOf_local (s : Fin 2) : keyOf (.dma (lS s)) = none := keyOf_none fun k h => by
  cases k with
  | bar => cases h
  | s x =>
    have := congrArg Fin.val (SemLoc.dma.inj h)
    cases x <;> simp only [SK.sem] at this <;> omega
  | r x =>
    have := congrArg Fin.val (SemLoc.dma.inj h)
    cases x <;> simp only [RK.sem] at this <;> omega

/-! ## The schedule -/

variable (m : (ℓ : Loc nD τ sig) → Buf (Elt F) ℓ)

/-- A region of device `c`, whole, with the contents `X`. -/
abbrev full (c : Dev nD) (r : Rg) (X : Tile F) : sProp 𝕄 := owns (c : Thread nD τ) (rgM c r) fullShare X
/-- A region of device `c`, whole, with any contents. -/
def raw (c : Dev nD) (r : Rg) : sProp 𝕄 := iprop(∃ X : Tile F, full c r X)

/-- The region message `x` of device `c` lands in, if `c` sends under `x`: any contents. -/
def landing (c : Dev nD) (x : SK) : sProp 𝕄 := raw (F := F) (dst c x).1 (land (dst c x).1 (dst c x).2)
/-- What the signal of `d` hands to `c`: the regions of `d` in which messages of `c` land. -/
def barPay (d c : Dev nD) : sProp 𝕄 :=
  bigSep Finset.univ fun x : SK => if act c x = true ∧ (dst c x).1 = d then landing (F := F) c x else iprop(emp)

def duties (c : Dev nD) : CK → Finset (Dev nD)
  | .bar => peers c
  | .s x => if act c x = true then {c} else ∅
  | .r y => if inc c y = true then {(org c y).1} else ∅
def amt : CK → ℕ
  | .bar => 1
  | _ => NB
theorem amt_pos : ∀ k, 0 < amt k
  | .bar => Nat.one_pos
  | .s _ => NB_pos
  | .r _ => NB_pos
def pay (c : Dev nD) (d : Dev nD) : CK → sProp 𝕄
  | .bar => barPay (F := F) d c
  | .s x => iprop(emp)
  | .r y => full c (land c y) (val m c (land c y))

instance raw_storable (c : Dev nD) (r : Rg) : BI.Storable (upEmb : UEmb _ 𝕄) (raw (F := F) c r) := by unfold raw; infer_instance
instance landing_storable (c : Dev nD) (x : SK) : BI.Storable (upEmb : UEmb _ 𝕄) (landing (F := F) c x) := by unfold landing; infer_instance
instance barPay_storable (d c : Dev nD) : BI.Storable (upEmb : UEmb _ 𝕄) (barPay (F := F) d c) := by
  unfold barPay
  have : ∀ x : SK, BI.Storable (upEmb : UEmb _ 𝕄) (if act c x = true ∧ (dst c x).1 = d then landing (F := F) c x else iprop(emp)) := by
    intro x; split <;> infer_instance
  infer_instance
instance pay_storable (c d : Dev nD) (k : CK) : BI.Storable (upEmb : UEmb _ 𝕄) (pay m c d k) := by
  cases k <;> unfold pay <;> infer_instance

/-- The protocol: one round per cell. -/
def sched : Schedule (GSem nD τ sig) (Dev nD) 𝕄 where
  duties g r := if r = 0 ∧ g.1.2 = .tc then (keyOf g.2).elim ∅ (duties g.1.1) else ∅
  unitless _ := False
  amount g _ _ := (keyOf g.2).elim 1 amt
  payload g _ d := (keyOf g.2).elim iprop(emp) (pay m g.1.1 d)
  amount_pos g _ _ _ := by
    rcases keyOf g.2 with _ | k
    · exact Nat.one_pos
    · exact amt_pos k

instance sched_payload_storable (g : GSem nD τ sig) (r : ℕ) (d : Dev nD) :
    BI.Storable (upEmb : UEmb _ 𝕄) ((sched m).payload g r d) := by
  show BI.Storable upEmb ((keyOf g.2).elim iprop(emp) (pay m g.1.1 d))
  rcases keyOf g.2 with _ | k
  · show BI.Storable upEmb (iprop(emp) : sProp 𝕄); infer_instance
  · show BI.Storable upEmb (pay m g.1.1 d k); infer_instance

theorem duties_eq (c : Dev nD) (k : CK) : (sched m).duties (cell c k) 0 = duties c k := by
  show (if (0 = 0 ∧ ((c : Thread nD τ)).2 = .tc) then (keyOf (csem k)).elim ∅ (duties c) else ∅) = _
  rw [if_pos ⟨rfl, rfl⟩, keyOf_csem]; rfl
theorem duties_later (g : GSem nD τ sig) (r : ℕ) (h : 1 ≤ r) : (sched m).duties g r = ∅ := if_neg fun h' => by omega
theorem amount_eq (c : Dev nD) (k : CK) (r : ℕ) (d : Dev nD) : (sched m).amount (cell c k) r d = amt k := by
  show (keyOf (csem k)).elim 1 amt = _
  rw [keyOf_csem]; rfl
theorem payload_eq (c : Dev nD) (k : CK) (r : ℕ) (d : Dev nD) : (sched m).payload (cell c k) r d = pay m c d k := by
  show (keyOf (csem k)).elim iprop(emp) (pay m c d) = _
  rw [keyOf_csem]; rfl

/-- What a cell's round expects in all. -/
def total (c : Dev nD) : CK → ℕ
  | .bar => 5
  | .s x => if act c x = true then NB else 0
  | .r y => if inc c y = true then NB else 0
theorem expect_eq (c : Dev nD) (k : CK) : (sched m).expect (cell c k) 0 = total c k := by
  unfold Schedule.expect Schedule.amountOf
  rw [duties_eq, Finset.sum_congr rfl fun d _ => amount_eq m c k 0 d, Finset.sum_const, smul_eq_mul]
  cases k with
  | bar => show (peers c).card * 1 = 5; rw [card_peers]
  | s x =>
    show (if act c x = true then {c} else ∅ : Finset (Dev nD)).card * NB = if act c x = true then NB else 0
    split
    · show 1 * NB = NB; rw [one_mul]
    · show 0 * NB = 0; rw [zero_mul]
  | r y =>
    show (if inc c y = true then {(org c y).1} else ∅ : Finset (Dev nD)).card * NB = if inc c y = true then NB else 0
    split
    · show 1 * NB = NB; rw [one_mul]
    · show 0 * NB = 0; rw [zero_mul]

/-! ## Levels -/

def lvl (c : Dev nD) : CK → ℕ
  | .bar => 1
  | .s _ => 0
  | .r y => lvR c y
def L (g : GSem nD τ sig) : Finset Unit := if g.1.2 = .tc then {()} else ∅
def lv (g : GSem nD τ sig) (_ : Unit) : ℕ := (keyOf g.2).elim 0 (lvl g.1.1)

theorem L_tc (c : Dev nD) (sm : SemLoc sig) : L ((c : Thread nD τ), sm) = {()} := if_pos rfl
theorem L_of_ne (g : GSem nD τ sig) (h : g.1.2 ≠ .tc) : L g = ∅ := if_neg h
theorem lv_cell (c : Dev nD) (k : CK) : lv (cell c k) () = lvl c k := by
  unfold lv; rw [keyOf_csem]; rfl

/-- A device may wait on its semaphore `sm` if all it owes lies above. -/
theorem mayWait (c : Dev nD) (sm : SemLoc sig) (b : ℕ) (hb : lv ((c : Thread nD τ), sm) () ≤ b) (O : CellTallies nD τ sig Unit)
    (hO : ∀ g, 0 < O g () → ∃ d k, g = cell d k ∧ b < lvl d k) : (levAts L lv : sProp 𝕄) ⊢ MayWait (c : Thread nD τ) sm () O :=
  MayOwe.of_cut (L := L) (lev := lv) b
    (fun p hp => by rw [Finset.mem_singleton.mp hp, L_tc]; exact Finset.mem_singleton_self _)
    (fun g u hg => by obtain ⟨d, k, rfl, _⟩ := hO g hg; rw [L_tc]; exact Finset.mem_singleton_self _)
    (fun p hp => by rw [Finset.mem_singleton.mp hp]; exact hb)
    (fun g u hg => by obtain ⟨d, k, rfl, h⟩ := hO g hg; rw [lv_cell]; exact h)

end Cert.KernelIdeal.AllReduce
end
end
-- ==== Proof.Run.Commands.lean ====
/-
# The commands of a device and their check

What a device does is written as a list of commands: signals, the barrier wait, sends, waits, local copies, loads and
stores, each with the regions and the tiles it is about. `adv` advances the state of a device by one command and
refuses a command that the protocol does not allow there; `ok` runs a whole list. The check of the real list is a
computation.
-/
module

public import proofs.«01_k».proof.Proof.Run.Protocol

@[expose] public section

namespace Cert.KernelIdeal.AllReduce

open Cert.KernelIdeal Cert.KernelIdeal.Gen
open Idealize.ShloMosaic

/-- What a scratch tile holds: a region's value, a sum, a normalised tile. -/
inductive Ex
  | rg (r : Rg)
  | add (a b : Ex)
  | norm (a : Ex)
deriving DecidableEq

/-- The commands. -/
inductive Cmd
  | sig (i : Fin 5)
  | bar
  | send (x : SK) (r r' : Rg)
  | wrecv (y : RK)
  | wsend (x : SK)
  | cpIn (s : Fin 2) (b : Scr) (r : Rg)
  | cpOut (s : Fin 2) (r : Rg)
  | wloc (s : Fin 2)
  | ld (b : Scr) (e : Ex)
  | ldx (b : Scr)
  | ldg
  | st (b : Scr) (e : Ex)

/-- The commands of a branch taken if the word is one. -/
def when (b : BitVec 1) (l : List Cmd) : List Cmd := if b = 1#1 then l else []

def SK.eqb (x y : SK) : Bool := Nat.beq x.sem y.sem
def RK.eqb (x y : RK) : Bool := Nat.beq x.sem y.sem
def Rg.eqb (x y : Rg) : Bool := Nat.beq x.num y.num
theorem SK.eqb_iff {x y : SK} : x.eqb y = true ↔ x = y :=
  ⟨fun h => SK.sem_inj (Nat.eq_of_beq_eq_true h), fun h => by subst h; exact Nat.beq_refl _⟩
theorem RK.eqb_iff {x y : RK} : x.eqb y = true ↔ x = y :=
  ⟨fun h => RK.sem_inj (Nat.eq_of_beq_eq_true h), fun h => by subst h; exact Nat.beq_refl _⟩
theorem Rg.eqb_iff {x y : Rg} : x.eqb y = true ↔ x = y :=
  ⟨fun h => Rg.num_inj (Nat.eq_of_beq_eq_true h), fun h => by subst h; exact Nat.beq_refl _⟩

/-! ## What is still to come -/

def hasSend (x : SK) : List Cmd → Bool
  | [] => false
  | .send x' _ _ :: l => x.eqb x' || hasSend x l
  | _ :: l => hasSend x l
def hasWsend (x : SK) : List Cmd → Bool
  | [] => false
  | .wsend x' :: l => x.eqb x' || hasWsend x l
  | _ :: l => hasWsend x l
def hasWrecv (y : RK) : List Cmd → Bool
  | [] => false
  | .wrecv y' :: l => y.eqb y' || hasWrecv y l
  | _ :: l => hasWrecv y l
def hasSig (i : Fin 5) : List Cmd → Bool
  | [] => false
  | .sig i' :: l => decide (i = i') || hasSig i l
  | _ :: l => hasSig i l
def hasBar : List Cmd → Bool
  | [] => false
  | .bar :: _ => true
  | _ :: l => hasBar l
def hasOut (r : Rg) : List Cmd → Bool
  | [] => false
  | .cpOut _ r' :: l => r.eqb r' || hasOut r l
  | _ :: l => hasOut r l
/-- Every send to come satisfies `p`. -/
def allSends (p : SK → Bool) : List Cmd → Bool
  | [] => true
  | .send x _ _ :: l => p x && allSends p l
  | _ :: l => allSends p l
/-- A signal is to come. -/
def anySig : List Cmd → Bool
  | [] => false
  | .sig _ :: _ => true
  | _ :: l => anySig l

/-! ## The state of a device -/

/-- A scratch tile: any contents, a known tile, or the target or source of a copy in flight. -/
inductive SV
  | any
  | val (e : Ex)
  | fly
deriving DecidableEq

def SV.isFly : SV → Bool
  | .fly => true
  | _ => false

/-- A local copy in flight: from a region into a scratch tile, or from the output tile into a region. -/
inductive Fl
  | inn (b : Scr) (r : Rg)
  | out (r : Rg)

structure St where
  held : List Rg
  a : SV
  b : SV
  acc : SV
  o : SV
  l0 : Option Fl
  l1 : Option Fl

def St.scr (σ : St) : Scr → SV
  | .a => σ.a
  | .b => σ.b
  | .acc => σ.acc
  | .o => σ.o
def St.loc (σ : St) (s : Fin 2) : Option Fl := if s = 0 then σ.l0 else σ.l1
def St.setScr (σ : St) (b : Scr) (v : SV) : St :=
  match b with
  | .a => { σ with a := v }
  | .b => { σ with b := v }
  | .acc => { σ with acc := v }
  | .o => { σ with o := v }
def St.setLoc (σ : St) (s : Fin 2) (v : Option Fl) : St := if s = 0 then { σ with l0 := v } else { σ with l1 := v }
def St.hold (σ : St) (r : Rg) : St := { σ with held := r :: σ.held }
def St.has (σ : St) (r : Rg) : Bool := σ.held.any r.eqb

/-- The expression a region written by the device itself is to hold. -/
def defEx (c : Dev nD) : Rg → Option Ex
  | .fwd i st =>
    if zOf c = 1 ∨ zOf c = 2 then
      some (.add (.rg (.slot (3 - i.castLE (by decide)) st)) (.rg (.part (fwdPart c i) st)))
    else none
  | .out q j st =>
    if q = rOf c ∧ j = zOf c then
      some (.norm (.add (.add (.add (.rg (.part (zOf c) st)) (.rg (.res st))) (.rg (.slot 0 st))) (.rg (.slot 1 st))))
    else none
  | _ => none

/-- The state after a command that `l` follows, or nothing if the command is refused. -/
def adv (c : Dev nD) (l : List Cmd) (σ : St) : Cmd → Option St
  | .sig i => if hasSig i l = false then some σ else none
  | .bar => if anySig l = false ∧ hasBar l = false ∧ allSends (act c) l = true then some σ else none
  | .send x r r' =>
    if act c x = true ∧ hasBar l = false ∧ hasSend x l = false ∧ hasWsend x l = true
        ∧ r = src c x ∧ r' = land (dst c x).1 (dst c x).2 ∧ σ.has r = true then some σ else none
  | .wrecv y =>
    if inc c y = true ∧ hasWrecv y l = false ∧ anySig l = false
        ∧ allSends (fun x => Nat.blt (lvR c y) (lvR (dst c x).1 (dst c x).2)) l = true then some (σ.hold (land c y)) else none
  | .wsend x => if act c x = true ∧ hasWsend x l = false ∧ hasSend x l = false then some σ else none
  | .cpIn s b r =>
    if (σ.loc s).isNone = true ∧ σ.has r = true ∧ (σ.scr b).isFly = false then
      some ((σ.setScr b .fly).setLoc s (some (.inn b r))) else none
  | .cpOut s r =>
    match defEx c r with
    | none => none
    | some e =>
      if (σ.loc s).isNone = true ∧ σ.o = .val e ∧ σ.has r = false ∧ hasOut r l = false then
        some ((σ.setScr .o .fly).setLoc s (some (.out r))) else none
  | .wloc s =>
    match σ.loc s with
    | none => none
    | some (.inn b r) => some ((σ.setScr b (.val (.rg r))).setLoc s none)
    | some (.out r) => some (((σ.setScr .o .any).hold r).setLoc s none)
  | .ld b e => if σ.scr b = .val e then some σ else none
  | .ldx b => if (σ.scr b).isFly = false then some σ else none
  | .ldg => some σ
  | .st b e => if (σ.scr b).isFly = false then some (σ.setScr b (.val e)) else none

/-- At the end every tile of the output is there and nothing is in flight. -/
def fin (σ : St) : Bool :=
  ((List.finRange 4).all fun q => (List.finRange 4).all fun j => (List.finRange 2).all fun st => σ.has (.out q j st))
    && !σ.a.isFly && !σ.b.isFly && !σ.acc.isFly && !σ.o.isFly && σ.l0.isNone && σ.l1.isNone

/-- Whether the commands are allowed one after another and end well. -/
def ok (c : Dev nD) (σ : St) : List Cmd → Bool
  | [] => fin σ
  | x :: l =>
    match adv c l σ x with
    | none => false
    | some σ' => ok c σ' l

/-- At the start a device holds its two inputs. -/
def st0 : St :=
  { held := [.res 0, .res 1, .part 0 0, .part 0 1, .part 1 0, .part 1 1, .part 2 0, .part 2 1, .part 3 0, .part 3 1]
    a := .any, b := .any, acc := .any, o := .any, l0 := none, l1 := none }

/-! ## Short names for the commands of the real list -/

/-- The piece the device receives `i`-th along its z line. -/
def ordz (c : Dev nD) (i : Fin 3) : Fin 4 :=
  match zOf c, i with
  | 0, 0 => 1 | 0, 1 => 2 | 0, 2 => 3
  | 1, 0 => 0 | 1, 1 => 2 | 1, 2 => 3
  | 2, 0 => 1 | 2, 1 => 3 | 2, 2 => 0
  | 3, 0 => 2 | 3, 1 => 1 | 3, 2 => 0

abbrev upS (c : Dev nD) (st : Fin 2) (o : Fin 4) : Cmd := .send (.up st o) (.out (rOf c) o st) (.out (rOf c) o st)
abbrev dnS (c : Dev nD) (st : Fin 2) (o : Fin 4) : Cmd := .send (.dn st o) (.out (rOf c) o st) (.out (rOf c) o st)
abbrev cwS (c : Dev nD) (st : Fin 2) (h : Fin 3) (k : Fin 2) : Cmd :=
  .send (.cw st h k) (.out (rOf c - h.castSucc) (zOf c + k.castLE (by decide)) st) (.out (rOf c - h.castSucc) (zOf c + k.castLE (by decide)) st)
abbrev ccS (c : Dev nD) (st : Fin 2) (h : Fin 3) (k : Fin 2) : Cmd :=
  .send (.cc st h k) (.out (rOf c + h.castSucc) (zOf c + 2 + k.castLE (by decide)) st) (.out (rOf c + h.castSucc) (zOf c + 2 + k.castLE (by decide)) st)

end Cert.KernelIdeal.AllReduce
end
-- ==== Proof.Run.Lists.lean ====
/-
# The list of commands of a device

One list for each part of the kernel's body, in the order of the body, and the check of the whole.
-/
module

public import proofs.«01_k».proof.Proof.Run.Commands

@[expose] public section

set_option maxRecDepth 100000

namespace Cert.KernelIdeal.AllReduce

open Cert.KernelIdeal Cert.KernelIdeal.Gen
open Idealize.ShloMosaic

/-! Part by part. -/

def L1 (c : Dev nD) : List Cmd := [.wrecv (.rs 0 3), .cpIn 0 .a (.slot 3 0), .cpIn 1 .b (.part 3 0)]
def L2 (c : Dev nD) : List Cmd := [.wloc 0, .wloc 1, .ld .a (.rg (.slot 3 0)), .ld .b (.rg (.part 3 0)), .ldx .o, .st .o (.add (.rg (.slot 3 0)) (.rg (.part 3 0))), .cpOut 0 (.fwd 0 0), .wloc 0]
def L3 (c : Dev nD) : List Cmd := [.wrecv (.rs 0 2), .cpIn 0 .a (.slot 2 0), .cpIn 1 .b (.part 2 0)]
def L4 (c : Dev nD) : List Cmd := [.wloc 0, .wloc 1, .ld .a (.rg (.slot 2 0)), .ld .b (.rg (.part 2 0)), .ldx .o, .st .o (.add (.rg (.slot 2 0)) (.rg (.part 2 0))), .cpOut 0 (.fwd 1 0), .wloc 0]
def L5 (c : Dev nD) : List Cmd := [.wrecv (.rs 0 3), .cpIn 0 .a (.slot 3 0), .cpIn 1 .b (.part 0 0)]
def L6 (c : Dev nD) : List Cmd := [.wloc 0, .wloc 1, .ld .a (.rg (.slot 3 0)), .ld .b (.rg (.part 0 0)), .ldx .o, .st .o (.add (.rg (.slot 3 0)) (.rg (.part 0 0))), .cpOut 0 (.fwd 0 0), .wloc 0]
def L7 (c : Dev nD) : List Cmd := [.wrecv (.rs 0 2), .cpIn 0 .a (.slot 2 0), .cpIn 1 .b (.part 1 0)]
def L8 (c : Dev nD) : List Cmd := [.wloc 0, .wloc 1, .ld .a (.rg (.slot 2 0)), .ld .b (.rg (.part 1 0)), .ldx .o, .st .o (.add (.rg (.slot 2 0)) (.rg (.part 1 0))), .cpOut 0 (.fwd 1 0), .wloc 0]
def L9 (c : Dev nD) : List Cmd := [.wrecv (.rs 1 3), .cpIn 0 .a (.slot 3 1), .cpIn 1 .b (.part 3 1)]
def L10 (c : Dev nD) : List Cmd := [.wloc 0, .wloc 1, .ld .a (.rg (.slot 3 1)), .ld .b (.rg (.part 3 1)), .ldx .o, .st .o (.add (.rg (.slot 3 1)) (.rg (.part 3 1))), .cpOut 0 (.fwd 0 1), .wloc 0]
def L11 (c : Dev nD) : List Cmd := [.wrecv (.rs 1 2), .cpIn 0 .a (.slot 2 1), .cpIn 1 .b (.part 2 1)]
def L12 (c : Dev nD) : List Cmd := [.wloc 0, .wloc 1, .ld .a (.rg (.slot 2 1)), .ld .b (.rg (.part 2 1)), .ldx .o, .st .o (.add (.rg (.slot 2 1)) (.rg (.part 2 1))), .cpOut 0 (.fwd 1 1), .wloc 0]
def L13 (c : Dev nD) : List Cmd := [.wrecv (.rs 1 3), .cpIn 0 .a (.slot 3 1), .cpIn 1 .b (.part 0 1)]
def L14 (c : Dev nD) : List Cmd := [.wloc 0, .wloc 1, .ld .a (.rg (.slot 3 1)), .ld .b (.rg (.part 0 1)), .ldx .o, .st .o (.add (.rg (.slot 3 1)) (.rg (.part 0 1))), .cpOut 0 (.fwd 0 1), .wloc 0]
def L15 (c : Dev nD) : List Cmd := [.wrecv (.rs 1 2), .cpIn 0 .a (.slot 2 1), .cpIn 1 .b (.part 1 1)]
def L16 (c : Dev nD) : List Cmd := [.wloc 0, .wloc 1, .ld .a (.rg (.slot 2 1)), .ld .b (.rg (.part 1 1)), .ldx .o, .st .o (.add (.rg (.slot 2 1)) (.rg (.part 1 1))), .cpOut 0 (.fwd 1 1), .wloc 0]
def L17 (c : Dev nD) : List Cmd := []
def L18 (c : Dev nD) : List Cmd := []
def L19 (c : Dev nD) : List Cmd := []
def L20 (c : Dev nD) : List Cmd := [.sig 0]
def L21 (c : Dev nD) : List Cmd := [.sig 1, .sig 2, .sig 3]
def L22 (c : Dev nD) : List Cmd := [.sig 4, .bar] ++ (when (k0_cond1 c) [.send (.rs 0 0) (.part 3 0) (.slot 3 0)] ++ (when (k0_cond2 c) [.send (.rs 0 1) (.part 2 0) (.slot 2 0)]))
def L23 (c : Dev nD) : List Cmd := when (k0_cond3 c) [.send (.rs 0 2) (.part 1 0) (.slot 0 0)] ++ (when (k0_cond4 c) [.send (.rs 0 0) (.part 0 0) (.slot 0 0)] ++ (when (k0_cond5 c) [.send (.rs 0 0) (.part 3 0) (.slot 0 0)] ++ (when (k0_cond6 c) [.send (.rs 0 0) (.part 0 0) (.slot 3 0)])))
def L24 (c : Dev nD) : List Cmd := when (k0_cond7 c) [.send (.rs 0 1) (.part 1 0) (.slot 2 0)] ++ (when (k0_cond8 c) [.send (.rs 0 2) (.part 2 0) (.slot 0 0)] ++ (when (k0_cond9 c) [.send (.rs 1 0) (.part 3 1) (.slot 3 1)]))
def L25 (c : Dev nD) : List Cmd := when (k0_cond10 c) [.send (.rs 1 1) (.part 2 1) (.slot 2 1)] ++ (when (k0_cond11 c) [.send (.rs 1 2) (.part 1 1) (.slot 0 1)] ++ (when (k0_cond12 c) [.send (.rs 1 0) (.part 0 1) (.slot 0 1)]))
def L26 (c : Dev nD) : List Cmd := when (k0_cond13 c) [.send (.rs 1 0) (.part 3 1) (.slot 0 1)] ++ (when (k0_cond14 c) [.send (.rs 1 0) (.part 0 1) (.slot 3 1)] ++ (when (k0_cond15 c) [.send (.rs 1 1) (.part 1 1) (.slot 2 1)] ++ (when (k0_cond16 c) [.send (.rs 1 2) (.part 2 1) (.slot 0 1)])))
def L27 (c : Dev nD) : List Cmd := when (k0_cond17 c) (L1 c ++ (L2 c ++ ([.send (.rs 0 1) (.fwd 0 0) (.slot 1 0)]))) ++ (when (k0_cond18 c) (L3 c ++ (L4 c ++ ([.send (.rs 0 2) (.fwd 1 0) (.slot 1 0)]))) ++ (when (k0_cond19 c) (L5 c ++ (L6 c ++ ([.send (.rs 0 1) (.fwd 0 0) (.slot 1 0)]))) ++ (when (k0_cond20 c) (L7 c ++ (L8 c ++ ([.send (.rs 0 2) (.fwd 1 0) (.slot 1 0)]))) ++ ([.cpIn 0 .a (.part (zOf c) 0)]))))
def L28 (c : Dev nD) : List Cmd := [.cpIn 1 .b (.res 0), .wloc 0, .wloc 1, .ld .a (.rg (.part (zOf c) 0)), .ld .b (.rg (.res 0)), .ldx .acc, .st .acc (.add (.rg (.part (zOf c) 0)) (.rg (.res 0))), .wrecv (.rs 0 0)]
def L29 (c : Dev nD) : List Cmd := [.cpIn 0 .a (.slot 0 0), .wloc 0, .ld .acc (.add (.rg (.part (zOf c) 0)) (.rg (.res 0))), .ld .a (.rg (.slot 0 0)), .ldx .acc, .st .acc (.add (.add (.rg (.part (zOf c) 0)) (.rg (.res 0))) (.rg (.slot 0 0)))]
def L30 (c : Dev nD) : List Cmd := [.wrecv (.rs 0 1), .cpIn 0 .a (.slot 1 0), .wloc 0, .ld .acc (.add (.add (.rg (.part (zOf c) 0)) (.rg (.res 0))) (.rg (.slot 0 0))), .ld .a (.rg (.slot 1 0)), .ldx .acc, .st .acc (.add (.add (.add (.rg (.part (zOf c) 0)) (.rg (.res 0))) (.rg (.slot 0 0))) (.rg (.slot 1 0))), .ld .acc (.add (.add (.add (.rg (.part (zOf c) 0)) (.rg (.res 0))) (.rg (.slot 0 0))) (.rg (.slot 1 0))), .ldg, .ldx .o]
def L31 (c : Dev nD) : List Cmd := [.st .o (.norm (.add (.add (.add (.rg (.part (zOf c) 0)) (.rg (.res 0))) (.rg (.slot 0 0))) (.rg (.slot 1 0)))), .cpOut 0 (.out (rOf c) (zOf c) 0), .wloc 0] ++ (when (k0_cond21 c) [upS c 0 (zOf c)])
def L32 (c : Dev nD) : List Cmd := when (k0_cond22 c) [dnS c 0 (zOf c)] ++ (when (k0_cond23 c) (L9 c ++ (L10 c ++ ([.send (.rs 1 1) (.fwd 0 1) (.slot 1 1)]))) ++ (when (k0_cond24 c) (L11 c ++ (L12 c ++ ([.send (.rs 1 2) (.fwd 1 1) (.slot 1 1)])))))
def L33 (c : Dev nD) : List Cmd := when (k0_cond25 c) (L13 c ++ (L14 c ++ ([.send (.rs 1 1) (.fwd 0 1) (.slot 1 1)]))) ++ (when (k0_cond26 c) (L15 c ++ (L16 c ++ ([.send (.rs 1 2) (.fwd 1 1) (.slot 1 1)]))) ++ ([.cpIn 0 .a (.part (zOf c) 1), .cpIn 1 .b (.res 1), .wloc 0, .wloc 1, .ld .a (.rg (.part (zOf c) 1)), .ld .b (.rg (.res 1))]))
def L34 (c : Dev nD) : List Cmd := [.ldx .acc, .st .acc (.add (.rg (.part (zOf c) 1)) (.rg (.res 1))), .wrecv (.rs 1 0), .cpIn 0 .a (.slot 0 1), .wloc 0, .ld .acc (.add (.rg (.part (zOf c) 1)) (.rg (.res 1)))]
def L35 (c : Dev nD) : List Cmd := [.ld .a (.rg (.slot 0 1)), .ldx .acc, .st .acc (.add (.add (.rg (.part (zOf c) 1)) (.rg (.res 1))) (.rg (.slot 0 1))), .wrecv (.rs 1 1), .cpIn 0 .a (.slot 1 1), .wloc 0]
def L36 (c : Dev nD) : List Cmd := [.ld .acc (.add (.add (.rg (.part (zOf c) 1)) (.rg (.res 1))) (.rg (.slot 0 1))), .ld .a (.rg (.slot 1 1)), .ldx .acc, .st .acc (.add (.add (.add (.rg (.part (zOf c) 1)) (.rg (.res 1))) (.rg (.slot 0 1))) (.rg (.slot 1 1))), .ld .acc (.add (.add (.add (.rg (.part (zOf c) 1)) (.rg (.res 1))) (.rg (.slot 0 1))) (.rg (.slot 1 1))), .ldg, .ldx .o, .st .o (.norm (.add (.add (.add (.rg (.part (zOf c) 1)) (.rg (.res 1))) (.rg (.slot 0 1))) (.rg (.slot 1 1)))), .cpOut 0 (.out (rOf c) (zOf c) 1), .wloc 0]
def L37 (c : Dev nD) : List Cmd := when (k0_cond27 c) [upS c 1 (zOf c)]
def L38 (c : Dev nD) : List Cmd := when (k0_cond28 c) [dnS c 1 (zOf c)]
def L39 (c : Dev nD) : List Cmd := []
def L40 (c : Dev nD) : List Cmd := [cwS c 0 0 0] ++ (when (k0_cond29 c) [.wrecv (.up 0 (ordz c 0))] ++ (when (k0_cond30 c) [.wrecv (.dn 0 (ordz c 0))]))
def L41 (c : Dev nD) : List Cmd := when (k0_cond31 c) [upS c 0 (ordz c 0)]
def L42 (c : Dev nD) : List Cmd := when (k0_cond32 c) [dnS c 0 (ordz c 0)] ++ (when (k0_cond33 c) [cwS c 0 0 1])
def L43 (c : Dev nD) : List Cmd := when (k0_cond34 c) [ccS c 0 0 0] ++ (when (k0_cond35 c) [ccS c 0 0 1] ++ (when (k0_cond36 c) [.wrecv (.up 0 (ordz c 1))] ++ (when (k0_cond37 c) [.wrecv (.dn 0 (ordz c 1))])))
def L44 (c : Dev nD) : List Cmd := when (k0_cond38 c) [upS c 0 (ordz c 1)]
def L45 (c : Dev nD) : List Cmd := when (k0_cond39 c) [dnS c 0 (ordz c 1)] ++ (when (k0_cond40 c) [cwS c 0 0 1])
def L46 (c : Dev nD) : List Cmd := when (k0_cond41 c) [ccS c 0 0 0] ++ (when (k0_cond42 c) [ccS c 0 0 1] ++ (when (k0_cond43 c) [.wrecv (.up 0 (ordz c 2))]))
def L47 (c : Dev nD) : List Cmd := when (k0_cond44 c) [.wrecv (.dn 0 (ordz c 2))] ++ (when (k0_cond45 c) [upS c 0 (ordz c 2)])
def L48 (c : Dev nD) : List Cmd := when (k0_cond46 c) [dnS c 0 (ordz c 2)] ++ (when (k0_cond47 c) [cwS c 0 0 1])
def L49 (c : Dev nD) : List Cmd := when (k0_cond48 c) [ccS c 0 0 0] ++ (when (k0_cond49 c) [ccS c 0 0 1])
def L50 (c : Dev nD) : List Cmd := [cwS c 1 0 0] ++ (when (k0_cond50 c) [.wrecv (.up 1 (ordz c 0))] ++ (when (k0_cond51 c) [.wrecv (.dn 1 (ordz c 0))]))
def L51 (c : Dev nD) : List Cmd := when (k0_cond52 c) [upS c 1 (ordz c 0)]
def L52 (c : Dev nD) : List Cmd := when (k0_cond53 c) [dnS c 1 (ordz c 0)] ++ (when (k0_cond54 c) [cwS c 1 0 1])
def L53 (c : Dev nD) : List Cmd := when (k0_cond55 c) [ccS c 1 0 0] ++ (when (k0_cond56 c) [ccS c 1 0 1] ++ (when (k0_cond57 c) [.wrecv (.up 1 (ordz c 1))] ++ (when (k0_cond58 c) [.wrecv (.dn 1 (ordz c 1))])))
def L54 (c : Dev nD) : List Cmd := when (k0_cond59 c) [upS c 1 (ordz c 1)]
def L55 (c : Dev nD) : List Cmd := when (k0_cond60 c) [dnS c 1 (ordz c 1)] ++ (when (k0_cond61 c) [cwS c 1 0 1])
def L56 (c : Dev nD) : List Cmd := when (k0_cond62 c) [ccS c 1 0 0] ++ (when (k0_cond63 c) [ccS c 1 0 1] ++ (when (k0_cond64 c) [.wrecv (.up 1 (ordz c 2))]))
def L57 (c : Dev nD) : List Cmd := when (k0_cond65 c) [.wrecv (.dn 1 (ordz c 2))] ++ (when (k0_cond66 c) [upS c 1 (ordz c 2)])
def L58 (c : Dev nD) : List Cmd := when (k0_cond67 c) [dnS c 1 (ordz c 2)] ++ (when (k0_cond68 c) [cwS c 1 0 1])
def L59 (c : Dev nD) : List Cmd := when (k0_cond69 c) [ccS c 1 0 0] ++ (when (k0_cond70 c) [ccS c 1 0 1])
def L60 (c : Dev nD) : List Cmd := [.wrecv (.cw 0 0 0)]
def L61 (c : Dev nD) : List Cmd := [cwS c 0 1 0]
def L62 (c : Dev nD) : List Cmd := [.wrecv (.cw 0 0 1)]
def L63 (c : Dev nD) : List Cmd := [cwS c 0 1 1]
def L64 (c : Dev nD) : List Cmd := [.wrecv (.cc 0 0 0), ccS c 0 1 0]
def L65 (c : Dev nD) : List Cmd := [.wrecv (.cc 0 0 1)]
def L66 (c : Dev nD) : List Cmd := [ccS c 0 1 1]
def L67 (c : Dev nD) : List Cmd := [.wrecv (.cw 0 1 0)]
def L68 (c : Dev nD) : List Cmd := [cwS c 0 2 0]
def L69 (c : Dev nD) : List Cmd := [.wrecv (.cw 0 1 1)]
def L70 (c : Dev nD) : List Cmd := [cwS c 0 2 1]
def L71 (c : Dev nD) : List Cmd := [.wrecv (.cc 0 1 0), ccS c 0 2 0]
def L72 (c : Dev nD) : List Cmd := [.wrecv (.cc 0 1 1)]
def L73 (c : Dev nD) : List Cmd := [ccS c 0 2 1]
def L74 (c : Dev nD) : List Cmd := [.wrecv (.cw 0 2 0)]
def L75 (c : Dev nD) : List Cmd := [.wrecv (.cc 0 2 0)]
def L76 (c : Dev nD) : List Cmd := [.wrecv (.cw 0 2 1), .wrecv (.cc 0 2 1)]
def L77 (c : Dev nD) : List Cmd := [.wrecv (.cw 1 0 0)]
def L78 (c : Dev nD) : List Cmd := [cwS c 1 1 0]
def L79 (c : Dev nD) : List Cmd := [.wrecv (.cw 1 0 1)]
def L80 (c : Dev nD) : List Cmd := [cwS c 1 1 1]
def L81 (c : Dev nD) : List Cmd := [.wrecv (.cc 1 0 0)]
def L82 (c : Dev nD) : List Cmd := [ccS c 1 1 0, .wrecv (.cc 1 0 1)]
def L83 (c : Dev nD) : List Cmd := [ccS c 1 1 1]
def L84 (c : Dev nD) : List Cmd := [.wrecv (.cw 1 1 0)]
def L85 (c : Dev nD) : List Cmd := [cwS c 1 2 0]
def L86 (c : Dev nD) : List Cmd := [.wrecv (.cw 1 1 1)]
def L87 (c : Dev nD) : List Cmd := [cwS c 1 2 1]
def L88 (c : Dev nD) : List Cmd := [.wrecv (.cc 1 1 0)]
def L89 (c : Dev nD) : List Cmd := [ccS c 1 2 0, .wrecv (.cc 1 1 1)]
def L90 (c : Dev nD) : List Cmd := [ccS c 1 2 1]
def L91 (c : Dev nD) : List Cmd := [.wrecv (.cw 1 2 0)]
def L92 (c : Dev nD) : List Cmd := [.wrecv (.cc 1 2 0)]
def L93 (c : Dev nD) : List Cmd := [.wrecv (.cw 1 2 1)]
def L94 (c : Dev nD) : List Cmd := [.wrecv (.cc 1 2 1), .wsend (.cw 0 0 0), .wsend (.cw 1 0 0), .wsend (.cw 0 1 0)]
def L95 (c : Dev nD) : List Cmd := [.wsend (.cw 0 1 1), .wsend (.cc 0 1 0), .wsend (.cc 0 1 1), .wsend (.cw 0 2 0), .wsend (.cw 0 2 1)]
def L96 (c : Dev nD) : List Cmd := [.wsend (.cc 0 2 0), .wsend (.cc 0 2 1), .wsend (.cw 1 1 0), .wsend (.cw 1 1 1)]
def L97 (c : Dev nD) : List Cmd := [.wsend (.cc 1 1 0), .wsend (.cc 1 1 1), .wsend (.cw 1 2 0), .wsend (.cw 1 2 1)]
def L98 (c : Dev nD) : List Cmd := [.wsend (.cc 1 2 0), .wsend (.cc 1 2 1)] ++ (when (k0_cond71 c) [.wsend (.rs 0 0)] ++ (when (k0_cond72 c) [.wsend (.rs 0 1)] ++ (when (k0_cond73 c) [.wsend (.rs 0 2)] ++ (when (k0_cond74 c) [.wsend (.rs 0 0)]))))
def L99 (c : Dev nD) : List Cmd := when (k0_cond75 c) [.wsend (.rs 0 0)] ++ (when (k0_cond76 c) [.wsend (.rs 0 0)] ++ (when (k0_cond77 c) [.wsend (.rs 0 1)] ++ (when (k0_cond78 c) [.wsend (.rs 0 2)] ++ (when (k0_cond79 c) [.wsend (.rs 1 0)] ++ (when (k0_cond80 c) [.wsend (.rs 1 1)])))))
def L100 (c : Dev nD) : List Cmd := when (k0_cond81 c) [.wsend (.rs 1 2)] ++ (when (k0_cond82 c) [.wsend (.rs 1 0)] ++ (when (k0_cond83 c) [.wsend (.rs 1 0)] ++ (when (k0_cond84 c) [.wsend (.rs 1 0)] ++ (when (k0_cond85 c) [.wsend (.rs 1 1)] ++ (when (k0_cond86 c) [.wsend (.rs 1 2)])))))
def L101 (c : Dev nD) : List Cmd := when (k0_cond17 c) [.wsend (.rs 0 1)] ++ (when (k0_cond18 c) [.wsend (.rs 0 2)] ++ (when (k0_cond19 c) [.wsend (.rs 0 1)] ++ (when (k0_cond20 c) [.wsend (.rs 0 2)] ++ (when (k0_cond91 c) [.wsend (.up 0 (zOf c))] ++ (when (k0_cond92 c) [.wsend (.dn 0 (zOf c))])))))
def L102 (c : Dev nD) : List Cmd := when (k0_cond23 c) [.wsend (.rs 1 1)] ++ (when (k0_cond24 c) [.wsend (.rs 1 2)] ++ (when (k0_cond25 c) [.wsend (.rs 1 1)] ++ (when (k0_cond26 c) [.wsend (.rs 1 2)] ++ (when (k0_cond97 c) [.wsend (.up 1 (zOf c))] ++ (when (k0_cond98 c) [.wsend (.dn 1 (zOf c))] ++ (when (k0_cond99 c) [.wsend (.up 0 (ordz c 0))] ++ (when (k0_cond100 c) [.wsend (.dn 0 (ordz c 0))])))))))
def L103 (c : Dev nD) : List Cmd := when (k0_cond101 c) [.wsend (.cw 0 0 1)] ++ (when (k0_cond102 c) [.wsend (.cc 0 0 0)] ++ (when (k0_cond103 c) [.wsend (.cc 0 0 1)] ++ (when (k0_cond104 c) [.wsend (.up 0 (ordz c 1))] ++ (when (k0_cond105 c) [.wsend (.dn 0 (ordz c 1))] ++ (when (k0_cond106 c) [.wsend (.cw 0 0 1)] ++ (when (k0_cond107 c) [.wsend (.cc 0 0 0)]))))))
def L104 (c : Dev nD) : List Cmd := when (k0_cond108 c) [.wsend (.cc 0 0 1)] ++ (when (k0_cond109 c) [.wsend (.up 0 (ordz c 2))] ++ (when (k0_cond110 c) [.wsend (.dn 0 (ordz c 2))] ++ (when (k0_cond111 c) [.wsend (.cw 0 0 1)] ++ (when (k0_cond112 c) [.wsend (.cc 0 0 0)] ++ (when (k0_cond113 c) [.wsend (.cc 0 0 1)] ++ (when (k0_cond114 c) [.wsend (.up 1 (ordz c 0))]))))))
def L105 (c : Dev nD) : List Cmd := when (k0_cond115 c) [.wsend (.dn 1 (ordz c 0))] ++ (when (k0_cond116 c) [.wsend (.cw 1 0 1)] ++ (when (k0_cond117 c) [.wsend (.cc 1 0 0)] ++ (when (k0_cond118 c) [.wsend (.cc 1 0 1)] ++ (when (k0_cond119 c) [.wsend (.up 1 (ordz c 1))] ++ (when (k0_cond120 c) [.wsend (.dn 1 (ordz c 1))] ++ (when (k0_cond121 c) [.wsend (.cw 1 0 1)]))))))
def L106 (c : Dev nD) : List Cmd :=
  L17 c ++ (L18 c ++ (L19 c ++ (L20 c ++ (L21 c ++ (L22 c ++ (L23 c ++ (L24 c ++ (L25 c ++ (L26 c ++ (L27 c ++ (L28 c ++ (
  L29 c ++ (L30 c ++ (L31 c ++ (L32 c ++ (L33 c ++ (L34 c ++ (L35 c ++ (L36 c ++ (L37 c ++ (L38 c ++ (L39 c ++ (L40 c ++ (
  L41 c ++ (L42 c ++ (L43 c ++ (L44 c ++ (L45 c ++ (L46 c ++ (L47 c ++ (L48 c ++ (L49 c ++ (L50 c ++ (L51 c ++ (L52 c ++ (
  L53 c ++ (L54 c ++ (L55 c ++ (L56 c ++ (L57 c ++ (L58 c ++ (L59 c ++ (L60 c ++ (L61 c ++ (L62 c ++ (L63 c ++ (L64 c ++ (
  L65 c ++ (L66 c ++ (L67 c ++ (L68 c ++ (L69 c ++ (L70 c ++ (L71 c ++ (L72 c ++ (L73 c ++ (L74 c ++ (L75 c ++ (L76 c)))))))))))))))))))))))))))))))))))))))))))))))))))))))))))
def L107 (c : Dev nD) : List Cmd :=
  L77 c ++ (L78 c ++ (L79 c ++ (L80 c ++ (L81 c ++ (L82 c ++ (L83 c ++ (L84 c ++ (L85 c ++ (L86 c ++ (L87 c ++ (L88 c ++ (
  L89 c ++ (L90 c ++ (L91 c ++ (L92 c ++ (L93 c ++ (L94 c ++ (L95 c ++ (L96 c ++ (L97 c ++ (L98 c ++ (L99 c ++ (L100 c ++ (
  L101 c ++ (L102 c ++ (L103 c ++ (L104 c ++ (L105 c ++ (when (k0_cond122 c) [.wsend (.cc 1 0 0)] ++ (
  when (k0_cond123 c) [.wsend (.cc 1 0 1)] ++ (when (k0_cond124 c) [.wsend (.up 1 (ordz c 2))] ++ (
  when (k0_cond125 c) [.wsend (.dn 1 (ordz c 2))]))))))))))))))))))))))))))))))))

/-- All commands of a device. -/
def cmds (c : Dev nD) : List Cmd :=
  L106 c ++ (L107 c ++ (when (k0_cond126 c) [.wsend (.cw 1 0 1)] ++ (when (k0_cond127 c) [.wsend (.cc 1 0 0)] ++ (
  when (k0_cond128 c) [.wsend (.cc 1 0 1)]))))

/-- The commands of every device are allowed one after another. -/
theorem ok_cmds : ∀ c : Dev nD, ok c st0 (cmds c) = true := by decide +kernel

/-- A device sends under exactly the keys it is to send under, and so on. -/
theorem hasSend_cmds : ∀ (c : Dev nD) (x : SK), hasSend x (cmds c) = act c x := by decide +kernel
theorem hasWrecv_cmds : ∀ (c : Dev nD) (y : RK), hasWrecv y (cmds c) = inc c y := by decide +kernel
theorem hasSig_cmds : ∀ (c : Dev nD) (i : Fin 5), hasSig i (cmds c) = true := by decide +kernel
theorem hasBar_cmds : ∀ c : Dev nD, hasBar (cmds c) = true := by decide +kernel
/-- The regions a device writes itself. -/
def own (c : Dev nD) : Rg → Bool
  | .fwd _ _ => decide (zOf c = 1 ∨ zOf c = 2)
  | .out q j _ => decide (q = rOf c ∧ j = zOf c)
  | _ => false
theorem hasOut_cmds : ∀ (c : Dev nD) (r : Rg), hasOut r (cmds c) = own c r := by decide +kernel

end Cert.KernelIdeal.AllReduce
end
-- ==== Proof.Run.Inv.lean ====
/-
# What a device holds between two commands

`I m K c σ l` is what device `c` holds in state `σ` when the commands `l` are still to come: for every semaphore either
the right to use it, if a command of `l` does, or its counter at zero; for every region and scratch tile what the state
says of it; and what it still owes.
-/
module

public import proofs.«01_k».proof.Proof.Run.Lists

@[expose] public section

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

abbrev 𝒱₀ : Variants := Variants.none

/-- The weakest precondition of a program run by device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What is owed -/

/-- A device owes the credit of every send and the unit of every signal still to come. -/
def oweL (c : Dev nD) (sd : SK → Bool) (sg : Fin 5 → Bool) : CellTallies nD τ sig Unit :=
  (∑ x, if sd x = true then tallyAt (cell (dst c x).1 (.r (dst c x).2)) () NB else 0)
    + ∑ i, if sg i = true then tallyAt (cell (peer c i) .bar) () 1 else 0

theorem sum_turn {X A : Type} [Fintype X] [DecidableEq X] [AddCommMonoid A] (p p' : X → Bool) (t : X → A) (x : X)
    (hx' : p' x = true) (hx : p x = false) (h : ∀ y, y ≠ x → p' y = p y) :
    (∑ y, if p' y = true then t y else 0) = (∑ y, if p y = true then t y else 0) + t x := by
  rw [← Finset.add_sum_erase _ _ (Finset.mem_univ x), ← Finset.add_sum_erase _ (fun y => if p y = true then t y else 0) (Finset.mem_univ x)]
  simp only [hx', hx, if_true, Bool.false_eq_true, if_false, zero_add]
  rw [add_comm]
  congr 1
  exact Finset.sum_congr rfl fun y hy => by rw [h y (Finset.ne_of_mem_erase hy)]

theorem oweL_send (c : Dev nD) (sd sd' : SK → Bool) (sg : Fin 5 → Bool) (x : SK) (hx' : sd' x = true) (hx : sd x = false)
    (h : ∀ y, y ≠ x → sd' y = sd y) :
    oweL c sd' sg = oweL c sd sg + tallyAt (cell (dst c x).1 (.r (dst c x).2)) () NB := by
  unfold oweL
  rw [sum_turn sd sd' (fun x => tallyAt (cell (dst c x).1 (.r (dst c x).2)) () NB) x hx' hx h, add_right_comm]
theorem oweL_sig (c : Dev nD) (sd : SK → Bool) (sg sg' : Fin 5 → Bool) (i : Fin 5) (hx' : sg' i = true) (hx : sg i = false)
    (h : ∀ y, y ≠ i → sg' y = sg y) :
    oweL c sd sg' = oweL c sd sg + tallyAt (cell (peer c i) .bar) () 1 := by
  unfold oweL
  rw [sum_turn sg sg' (fun i => tallyAt (cell (peer c i) .bar) () 1) i hx' hx h, add_assoc]

theorem tally_pos {g g' : GSem nD τ sig} {n : ℕ} (h : 0 < (tallyAt g () n : CellTallies nD τ sig Unit) g' ()) : g' = g := by
  by_contra hne
  rw [tallyAt_ne_cell hne] at h
  exact lt_irrefl _ h

theorem sum_pos {X : Type} (s : Finset X) (f : X → CellTallies nD τ sig Unit) (g : GSem nD τ sig) (h : 0 < (∑ x ∈ s, f x) g ()) :
    ∃ x, 0 < f x g () := by
  classical
  induction s using Finset.induction_on with
  | empty => rw [Finset.sum_empty] at h; exact absurd h (lt_irrefl _)
  | insert a s ha ih =>
    rw [Finset.sum_insert ha] at h
    have h' : 0 < f a g () + (∑ x ∈ s, f x) g () := h
    by_cases h0 : 0 < f a g ()
    · exact ⟨a, h0⟩
    · exact ih (by omega)

theorem oweL_pos (c : Dev nD) (sd : SK → Bool) (sg : Fin 5 → Bool) (g : GSem nD τ sig) (h : 0 < oweL c sd sg g ()) :
    (∃ x, sd x = true ∧ g = cell (dst c x).1 (.r (dst c x).2)) ∨ ∃ i, sg i = true ∧ g = cell (peer c i) .bar := by
  have h' : 0 < (∑ x, if sd x = true then (tallyAt (cell (dst c x).1 (.r (dst c x).2)) () NB : CellTallies nD τ sig Unit) else 0) g ()
      + (∑ i, if sg i = true then (tallyAt (cell (peer c i) .bar) () 1 : CellTallies nD τ sig Unit) else 0) g () := h
  rcases Nat.eq_zero_or_pos ((∑ x, if sd x = true then (tallyAt (cell (dst c x).1 (.r (dst c x).2)) () NB : CellTallies nD τ sig Unit) else 0) g ()) with h0 | h0
  · rw [h0, zero_add] at h'
    obtain ⟨i, hi⟩ := sum_pos _ _ _ h'
    by_cases hs : sg i = true
    · rw [if_pos hs] at hi; exact .inr ⟨i, hs, tally_pos hi⟩
    · rw [if_neg hs] at hi; exact absurd hi (lt_irrefl _)
  · obtain ⟨x, hx⟩ := sum_pos _ _ _ h0
    by_cases hs : sd x = true
    · rw [if_pos hs] at hx; exact .inl ⟨x, hs, tally_pos hx⟩
    · rw [if_neg hs] at hx; exact absurd hx (lt_irrefl _)

theorem mayWaitL (c : Dev nD) (sm : SemLoc sig) (b : ℕ) (hb : lv ((c : Thread nD τ), sm) () ≤ b) (sd : SK → Bool) (sg : Fin 5 → Bool)
    (hs : ∀ x, sd x = true → b < lvR (dst c x).1 (dst c x).2) (hg : ∀ i, sg i = true → b < 1) :
    (levAts L lv : sProp 𝕄) ⊢ MayWait (c : Thread nD τ) sm () (oweL c sd sg) :=
  mayWait c sm b hb _ fun g h => by
    rcases oweL_pos c sd sg g h with ⟨x, hx, rfl⟩ | ⟨i, hi, rfl⟩
    · exact ⟨_, _, rfl, hs x hx⟩
    · exact ⟨_, _, rfl, hg i hi⟩

/-! ## The resources -/

theorem bigSep_get {X : Type} [Fintype X] [DecidableEq X] (Φ : X → sProp 𝕄) (x : X) : bigSep Finset.univ Φ ⊢ Φ x := by
  refine (bigSep_univ_update (Φ := Φ) (Ψ := Φ) x (fun _ _ => rfl)).trans ?_
  iintro ⟨H, -⟩
  iexact H

variable (m : (ℓ : Loc nD τ sig) → Buf (Elt F) ℓ) (K : Dev nD × CK → ℕ)

/-- What every device knows: the invariants of all cells, that each has reached its round, the levels. -/
def ctx : sProp 𝕄 :=
  iprop(bigSep Finset.univ (fun p : Dev nD × CK => cellInv ER (sched m) (K p) (cell p.1 p.2))
    ∗ bigSep Finset.univ (fun p : Dev nD × CK => reached (D := Dev nD) ER (cell p.1 p.2) 0) ∗ (levAts L lv : sProp 𝕄))
instance ctx_persistent : BI.Persistent (ctx m K) := by unfold ctx; infer_instance

theorem ctx_inv (c : Dev nD) (k : CK) : ctx m K ⊢ cellInv ER (sched m) (K (c, k)) (cell c k) := by
  unfold ctx
  iintro ⟨#H, -, -⟩
  iapply (bigSep_get (fun p : Dev nD × CK => cellInv ER (sched m) (K p) (cell p.1 p.2)) (c, k)) $$ H
theorem ctx_reached (c : Dev nD) (k : CK) : ctx m K ⊢ reached (D := Dev nD) ER (cell c k) 0 := by
  unfold ctx
  iintro ⟨-, #H, -⟩
  iapply (bigSep_get (fun p : Dev nD × CK => reached (D := Dev nD) ER (cell p.1 p.2) 0) (c, k)) $$ H
theorem ctx_lev : ctx m K ⊢ (levAts L lv : sProp 𝕄) := by
  unfold ctx
  iintro ⟨-, -, H⟩
  iexact H

abbrev pos (c : Dev nD) (k : CK) : sProp 𝕄 := atPos (D := Dev nD) ER (cell c k) 0 ∅ 0
abbrev crd (c : Dev nD) (k : CK) (n : ℕ) : sProp 𝕄 := cred (tallyAt (cell c k) () n)
abbrev tok (c : Dev nD) (k : CK) (d : Dev nD) : sProp 𝕄 := dutyTok ER (cell c k) 0 d
abbrev zero (c : Dev nD) (k : CK) : sProp 𝕄 := semVal (cell c k) 0

/-- What a state's expression stands for. -/
def ev (c : Dev nD) : Ex → Tile F
  | .rg r => val m c r
  | .add a b => addT (ev c a) (ev c b)
  | .norm a => normT (ev c a) (gv m c)

def sendRes (c : Dev nD) (l : List Cmd) (x : SK) : sProp 𝕄 :=
  if hasSend x l = true then iprop(pos c (.s x) ∗ tok c (.s x) c ∗ tok (dst c x).1 (.r (dst c x).2) c)
  else if hasWsend x l = true then iprop(pos c (.s x) ∗ crd c (.s x) NB) else zero c (.s x)
def landRes (c : Dev nD) (l : List Cmd) (x : SK) : sProp 𝕄 :=
  if hasSend x l = true ∧ hasBar l = false then landing c x else iprop(emp)
def recvRes (c : Dev nD) (l : List Cmd) (y : RK) : sProp 𝕄 :=
  if hasWrecv y l = true then iprop(pos c (.r y) ∗ crd c (.r y) NB) else zero c (.r y)
def sigRes (c : Dev nD) (l : List Cmd) (i : Fin 5) : sProp 𝕄 :=
  if hasSig i l = true then iprop(tok (peer c i) .bar c ∗ barPay c (peer c i)) else iprop(emp)
def barRes (c : Dev nD) (l : List Cmd) : sProp 𝕄 :=
  if hasBar l = true then iprop(pos c .bar ∗ crd c .bar 5) else zero c .bar
/-- A region the state holds: some share of it, with its value. -/
def heldR (c : Dev nD) (r : Rg) : sProp 𝕄 := iprop(∃ q, owns (c : Thread nD τ) (rgM c r) q (val m c r))
def rgRes (c : Dev nD) (σ : St) (l : List Cmd) (r : Rg) : sProp 𝕄 :=
  if σ.has r = true then heldR m c r else if hasOut r l = true then raw c r else iprop(emp)
def svRes (c : Dev nD) (b : Scr) : SV → sProp 𝕄
  | .any => iprop(∃ X : Tile F, owns (c : Thread nD τ) (scrM b) fullShare X)
  | .val e => owns (c : Thread nD τ) (scrM b) fullShare (ev m c e)
  | .fly => iprop(emp)
def flRes (c : Dev nD) : Fl → sProp 𝕄
  | .inn b r => owns (c : Thread nD τ) (scrM b) fullShare (val m c r)
  | .out r => iprop(full c r (val m c r) ∗ ∃ X : Tile F, owns (c : Thread nD τ) (scrM .o) fullShare X)
def locRes (c : Dev nD) (s : Fin 2) : Option Fl → sProp 𝕄
  | none => semVal ((c : Thread nD τ), .dma (lS s)) 0
  | some f => iprop(∃ D : sProp 𝕄, ⌜D ⊢ flRes m c f⌝ ∗ Flight countersEmb (c : Thread nD τ) (.dma (lS s)) () NB D)

/-- The staged gamma's memref. -/
abbrev gamM : Memref sig .tc .vmem S4096 .f32 := Memref.whole cc0_stg0_0

def I (c : Dev nD) (σ : St) (l : List Cmd) : sProp 𝕄 :=
  iprop(ctx m K
    ∗ (∃ W, owes (c : Thread nD τ) (oweL c (fun x => hasSend x l) (fun i => hasSig i l)) W)
    ∗ bigSep Finset.univ (sendRes c l) ∗ bigSep Finset.univ (landRes c l) ∗ bigSep Finset.univ (recvRes c l)
    ∗ bigSep Finset.univ (sigRes c l) ∗ barRes c l ∗ bigSep Finset.univ (rgRes m c σ l)
    ∗ bigSep Finset.univ (fun b => svRes m c b (σ.scr b)) ∗ bigSep Finset.univ (fun s => locRes m c s (σ.loc s))
    ∗ owns (c : Thread nD τ) gamM fullShare (gv m c))

end Cert.KernelIdeal.AllReduce
end
end
-- ==== Proof.Run.Ghost.lean ====
/-
# What the protocol starts from

The counters of all message cells and of the barrier are put under their invariants, and every device is given its
positions and the tokens of the duties it pays.
-/
module

public import proofs.«01_k».proof.Proof.Run.Inv

@[expose] public section

set_option maxRecDepth 8192

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ)

theorem drop (P : sProp 𝕄) : P ⊢ (iprop(emp) : sProp 𝕄) := by iintro -; iempintro

/-! ## Cells and semaphores listed -/

def CK.sum : Unit ⊕ (SK ⊕ RK) ≃ CK where
  toFun | .inl _ => .bar | .inr (.inl x) => .s x | .inr (.inr y) => .r y
  invFun | .bar => .inl () | .s x => .inr (.inl x) | .r y => .inr (.inr y)
  left_inv k := by rcases k with _ | _ | _ <;> rfl
  right_inv k := by cases k <;> rfl

theorem bigSep_CK (Φ : CK → sProp 𝕄) :
    bigSep Finset.univ Φ = iprop(Φ .bar ∗ bigSep Finset.univ (fun x => Φ (.s x)) ∗ bigSep Finset.univ (fun y => Φ (.r y))) := by
  rw [bigSep_univ_equiv CK.sum, bigSep_univ_sum, bigSep_univ_sum, Finset.univ_unique, bigSep_singleton]
  rfl

/-- The kernel's own semaphores: one per message key, two for local copies. -/
def osem : (SK ⊕ RK) ⊕ Fin 2 → SemLoc sig
  | .inl (.inl x) => csem (.s x)
  | .inl (.inr y) => csem (.r y)
  | .inr s => .dma (lS s)

theorem osem_inj : Function.Injective osem := by
  have hk : ∀ (s : Fin 2) (k : CK), csem k ≠ .dma (lS s) := fun s k h => by
    have h1 := keyOf_csem k
    rw [h, keyOf_local] at h1
    cases h1
  have hs : ∀ {a b : CK}, csem a = csem b → a = b := fun h => csem_inj h
  rintro ((x | y) | s) ((x' | y') | s') h
  · exact congrArg (fun x => Sum.inl (Sum.inl x)) (CK.s.inj (hs (a := .s x) (b := .s x') h))
  · exact CK.noConfusion (hs (a := .s x) (b := .r y') h)
  · exact absurd h (hk s' (.s x))
  · exact CK.noConfusion (hs (a := .r y) (b := .s x') h)
  · exact congrArg (fun x => Sum.inl (Sum.inr x)) (CK.r.inj (hs (a := .r y) (b := .r y') h))
  · exact absurd h (hk s' (.r y))
  · exact absurd h.symm (hk s (.s x'))
  · exact absurd h.symm (hk s (.r y'))
  · have h1 := congrArg Fin.val (SemLoc.dma.inj h)
    have h2 : 95 + s.val = 95 + s'.val := h1
    exact congrArg Sum.inr (Fin.ext (by omega))

theorem sem_pos (k : (SK ⊕ RK) ⊕ Fin 2) : ∃ n, ∃ h : n < 97, 0 < n ∧ osem k = .dma (⟨n, h⟩ : Fin 97) := by
  rcases k with (x | y) | s
  · exact ⟨x.sem, x.sem_lt, by cases x <;> simp only [SK.sem] <;> omega, rfl⟩
  · exact ⟨y.sem, y.sem_lt, by cases y <;> simp only [RK.sem] <;> omega, rfl⟩
  · exact ⟨95 + s.val, by omega, by omega, rfl⟩

theorem ownSemFacts : Pipeline.OwnSemFacts cfg0.spec osem where
  isScoped k := by
    obtain ⟨n, h, h0, e⟩ := sem_pos k
    rw [e]
    have : ∀ i : Fin 97, (SemLoc.dma (sig := sig) i).isScoped .tc = true := by decide +kernel
    exact this ⟨n, h⟩
  inj := osem_inj
  disj k w s := by
    obtain ⟨n, h, h0, e⟩ := sem_pos k
    rw [e]
    intro h1
    have h2 := congrArg Fin.val (SemLoc.dma.inj h1)
    have h3 : ∀ (w : Fin cfg0.W) (s : Fin (cfg0.spec w).nbuf), (((cfg0.spec w).sem s : DmaSem sig) : Fin 97).val = 0 := by decide +kernel
    have h4 : n = 0 := h2.trans (h3 w s)
    omega

abbrev ownS (c : Dev nD) : sProp 𝕄 := Pipeline.ownSems0 (Ix := Unit) (Name := ℕ) (U := UU) (Lvl := ℕ) (Val := Elt F) (τ := τ) osem c

theorem ownS_eq (c : Dev nD) : (ownS c : sProp 𝕄)
    = iprop((bigSep Finset.univ (fun x => zero c (.s x)) ∗ bigSep Finset.univ (fun y => zero c (.r y)))
        ∗ bigSep Finset.univ (fun s => semVal ((c : Thread nD τ), .dma (lS s)) 0)) := by
  unfold ownS Pipeline.ownSems0
  rw [bigSep_univ_sum, bigSep_univ_sum]
  rfl
/-- The barrier is the one semaphore that outlives the kernel. -/
theorem unscoped_eq (c : Dev nD) : (unscopedSems0 c : sProp 𝕄) = zero c .bar := by
  unfold unscopedSems0
  rw [bigSep_eq_bigSepL_of_eq [SemLoc.reg barS] (by decide +kernel) (by decide +kernel)]
  rfl

/-! ## Cells and tokens of the launch -/

def cellsAll : Finset (GSem nD τ sig) := Finset.univ.map ⟨fun p : Dev nD × CK => cell p.1 p.2, cell_inj⟩

/-- A device pays one unit at each peer's barrier, at each of its send cells, and at each cell its messages arrive at. -/
def tokOf (p : Dev nD × (Fin 5 ⊕ (SK ⊕ SK))) : GSem nD τ sig × ℕ × Dev nD :=
  match p.2 with
  | .inl i => (cell (peer p.1 i) .bar, 0, p.1)
  | .inr (.inl x) => (cell p.1 (.s x), 0, p.1)
  | .inr (.inr x) => (cell (dst p.1 x).1 (.r (dst p.1 x).2), 0, p.1)

theorem org_dst : ∀ (c : Dev nD) (x : SK), org (dst c x).1 (dst c x).2 = (c, x) := by decide +kernel

theorem tokOf_inj : Function.Injective tokOf := by
  rintro ⟨c, j⟩ ⟨c', j'⟩ h
  have h1 : c = c' := by
    have := congrArg (fun t : GSem nD τ sig × ℕ × Dev nD => t.2.2) h
    rcases j with _ | _ | _ <;> rcases j' with _ | _ | _ <;> exact this
  subst h1
  have key : ∀ {d d' : Dev nD} {k k' : CK}, cell d k = cell d' k' → d = d' ∧ k = k' := fun h => by
    have := cell_inj (a₁ := (_, _)) (a₂ := (_, _)) h
    exact ⟨congrArg Prod.fst this, congrArg Prod.snd this⟩
  have h2 := congrArg (fun t : GSem nD τ sig × ℕ × Dev nD => t.1) h
  rcases j with i | x | x <;> rcases j' with i' | x' | x'
  · rw [peer_inj c (key h2).1]
  · exact CK.noConfusion (key h2).2
  · exact CK.noConfusion (key h2).2
  · exact CK.noConfusion (key h2).2
  · rw [CK.s.inj (key h2).2]
  · exact CK.noConfusion (key h2).2
  · exact CK.noConfusion (key h2).2
  · exact CK.noConfusion (key h2).2
  · have h3 : (dst c x).1 = (dst c x').1 := (key h2).1
    have h4 : (dst c x).2 = (dst c x').2 := CK.r.inj (key h2).2
    have h5 : dst c x = dst c x' := Prod.ext h3 h4
    have h6 := org_dst c x
    rw [h5, org_dst] at h6
    have h7 : x' = x := congrArg Prod.snd h6
    rw [h7]

def toksAll : Finset (GSem nD τ sig × ℕ × Dev nD) := Finset.univ.map ⟨tokOf, tokOf_inj⟩

def u₀ : UU := (initOf (Pipeline.cells cfgs cellOf_inj) (Pipeline.launchToks cfgs cellOf_inj), (initOf cellsAll toksAll, 1))

/-- The tokens of the duties device `c` pays. -/
def toks (c : Dev nD) : sProp 𝕄 :=
  iprop(bigSep Finset.univ (fun i => tok (peer c i) .bar c) ∗ bigSep Finset.univ (fun x => tok c (.s x) c)
    ∗ bigSep Finset.univ (fun x => tok (dst c x).1 (.r (dst c x).2) c))

/-- What a device has before the invariants are made. -/
def G (c : Dev nD) : sProp 𝕄 :=
  iprop((bigSep Finset.univ fun k : CK => roundState ER (sched m) (cell c k) 0)
    ∗ (bigSep Finset.univ fun k : CK => reached (D := Dev nD) ER (cell c k) 0)
    ∗ (bigSep Finset.univ fun k : CK => pos c k) ∗ toks c)

/-- What it has after: its positions, its tokens, the two counters of its local copies. -/
def mine (c : Dev nD) : sProp 𝕄 :=
  iprop((bigSep Finset.univ fun k : CK => pos c k) ∗ toks c ∗ bigSep Finset.univ (fun s => semVal ((c : Thread nD τ), .dma (lS s)) 0))
def invs (K : Dev nD × CK → ℕ) : sProp 𝕄 :=
  iprop(bigSep Finset.univ (fun p : Dev nD × CK => cellInv ER (sched m) (K p) (cell p.1 p.2))
    ∗ bigSep Finset.univ (fun p : Dev nD × CK => reached (D := Dev nD) ER (cell p.1 p.2) 0))
instance invs_persistent (K : Dev nD × CK → ℕ) : BI.Persistent (invs m K) := by unfold invs; infer_instance
def G' (c : Dev nD) : sProp 𝕄 := iprop(∃ K, invs m K ∗ mine c)

theorem fund_cells : BI.own (ER (initOf cellsAll toksAll)) ⊢ (|==> bigSep Finset.univ (G m) : sProp 𝕄) := by
  have hX (Φ : GSem nD τ sig → sProp 𝕄) : bigSep cellsAll Φ = bigSep Finset.univ fun c : Dev nD => bigSep Finset.univ fun k : CK => Φ (cell c k) := by
    unfold cellsAll; rw [bigSep_map, bigSep_univ_prod]; rfl
  have hT : bigSep toksAll (fun x => (dutyTok ER x.1 x.2.1 x.2.2 : sProp 𝕄)) = bigSep Finset.univ fun c : Dev nD => toks c := by
    unfold toksAll
    rw [bigSep_map, bigSep_univ_prod]
    exact bigSep_congr fun c _ => by unfold toks; rw [bigSep_univ_sum, bigSep_univ_sum]; rfl
  iintro HX
  imod (Rounds.fund ER (sched m) cellsAll toksAll) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G
  simp only [bigSep_sep']
  isplitl [Hst]; · iexact Hst
  isplitl [Hr]; · iexact Hr
  isplitl [Hat]; · iexact Hat
  iexact Htok

theorem fund_all : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave HX := (show BI.own (embR (initOf cellsAll toksAll, (1 : Counters)))
      ⊢ (iprop(BI.own (ER (initOf cellsAll toksAll)) ∗ emp) : sProp 𝕄) from
        (own_pair_emb (embR (A := UR sig nD τ) (B := UD × Counters)) (initOf cellsAll toksAll) (1 : Counters)).trans (sep_mono_right (drop _))) $$ HX
  icases HX with ⟨HX, -⟩
  imod (fund_cells m) $$ HX with HG
  imodintro
  isplitl [HP] <;> iassumption

theorem alloc (c : Dev nD) :
    iprop(ownS c ∗ unscopedSems0 c ∗ G m c)
      ⊢ |={Set.univ}=> iprop((bigSep Finset.univ fun k => iprop(∃ κ : ℕ, cellInv ER (sched m) κ (cell c k)))
          ∗ (bigSep Finset.univ fun k : CK => reached (D := Dev nD) ER (cell c k) 0) ∗ mine c) := by
  rw [ownS_eq, unscoped_eq]
  unfold G mine
  iintro ⟨⟨⟨HS, HR⟩, Hl⟩, HB, Hst, Hre, Hat, Htok⟩
  imod (show iprop((bigSep Finset.univ fun k : CK => zero c k) ∗ bigSep Finset.univ fun k : CK => roundState ER (sched m) (cell c k) 0)
      ⊢ (|={Set.univ}=> bigSep Finset.univ fun k => iprop(∃ κ : ℕ, cellInv ER (sched m) κ (cell c k)) : sProp 𝕄) from by
        rw [← bigSep_sep']
        exact (bigSep_mono fun k _ => (Rounds.body_intro ER (sched m) (cell c k)).trans inv_alloc).trans (bigSep_fupd _ _)) $$ [HS HR HB Hst] with Hinv
  · isplitl [HS HR HB]
    · rw [bigSep_CK]
      isplitl [HB]; · iexact HB
      isplitl [HS] <;> iassumption
    iexact Hst
  imodintro
  isplitl [Hinv]; · iexact Hinv
  isplitl [Hre]; · iexact Hre
  isplitl [Hat]; · iexact Hat
  isplitl [Htok] <;> iassumption

theorem spread {X : Type} [DecidableEq X] {S : Finset X} {R : sProp 𝕄} [BI.Persistent R] {Φ Ψ : X → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

theorem share_out :
    (bigSep Finset.univ fun c : Dev nD => iprop((bigSep Finset.univ fun k => iprop(∃ κ : ℕ, cellInv ER (sched m) κ (cell c k)))
          ∗ (bigSep Finset.univ fun k : CK => reached (D := Dev nD) ER (cell c k) 0) ∗ mine c) : sProp 𝕄)
      ⊢ bigSep Finset.univ (G' m) := by
  rw [bigSep_sep', bigSep_sep', ← bigSep_univ_prod (fun p : Dev nD × CK => iprop(∃ κ : ℕ, cellInv ER (sched m) κ (cell p.1 p.2))),
    ← bigSep_univ_prod (fun p : Dev nD × CK => (reached (D := Dev nD) ER (cell p.1 p.2) 0 : sProp 𝕄))]
  iintro ⟨HI, #HR, Hm⟩
  ihave HK := (BI.bigSep_exists_pi Finset.univ (fun (p : Dev nD × CK) (κ : ℕ) => (cellInv ER (sched m) κ (cell p.1 p.2) : sProp 𝕄))) $$ HI
  icases HK with ⟨%K, #HI⟩
  iapply (spread (R := invs m K) (Φ := mine) fun c => by
    unfold G'
    iintro ⟨H1, H2⟩
    iexists K
    isplitl [H1] <;> iassumption)
  isplitr
  · unfold invs
    isplitl; · iexact HI
    iexact HR
  iexact Hm

theorem glob : (bigSep Finset.univ fun c => iprop(ownS c ∗ unscopedSems0 c ∗ G m c) : sProp 𝕄) ⊢ |={Set.univ}=> bigSep Finset.univ (G' m) :=
  ((bigSep_mono fun c _ => alloc m c).trans (bigSep_fupd _ _)).trans (BI.fupd_mono (share_out m))

/-! ## The credit of the launch -/

/-- What device `c` owes at the start: every message it sends, every signal. -/
def owe₀ (c : Dev nD) : CellTallies nD τ sig Unit := oweL c (act c) (fun _ => true)

theorem sum_apply {X : Type} [Fintype X] (p : X → Bool) (t : X → GSem nD τ sig) (n : ℕ) (g : GSem nD τ sig) :
    (∑ x, if p x = true then (tallyAt (t x) () n : CellTallies nD τ sig Unit) else 0) g () = ∑ x, if p x = true ∧ g = t x then n else 0 := by
  classical
  suffices h : ∀ s : Finset X, (∑ x ∈ s, if p x = true then (tallyAt (t x) () n : CellTallies nD τ sig Unit) else 0) g ()
      = ∑ x ∈ s, if p x = true ∧ g = t x then n else 0 from h Finset.univ
  intro s
  induction s using Finset.induction_on with
  | empty => rfl
  | insert a s ha ih =>
    rw [Finset.sum_insert ha, Finset.sum_insert ha, ← ih, Pi.add_apply, Finsupp.add_apply]
    congr 1
    by_cases hp : p a = true
    · rw [if_pos hp, tallyAt_apply]
      simp only [hp, true_and, and_true]
    · rw [if_neg hp, if_neg (fun h => hp h.1)]
      rfl

theorem owe_apply (d c : Dev nD) (k : CK) : owe₀ d (cell c k) ()
    = (∑ x, if act d x = true ∧ (c, k) = ((dst d x).1, CK.r (dst d x).2) then NB else 0)
      + ∑ i, if (c, k) = (peer d i, CK.bar) then 1 else 0 := by
  have e : ∀ (d' : Dev nD) (k' : CK), cell c k = cell d' k' ↔ (c, k) = (d', k') :=
    fun d' k' => ⟨fun h => cell_inj (a₁ := (c, k)) (a₂ := (d', k')) h, fun h => by cases h; rfl⟩
  unfold owe₀ oweL
  rw [Pi.add_apply, Finsupp.add_apply, sum_apply, sum_apply]
  simp only [e, true_and]

theorem bar_units : ∀ c : Dev nD, (∑ d : Dev nD, ∑ i : Fin 5, if c = peer d i then 1 else 0) = 5 := by decide +kernel
theorem act_of_inc : ∀ (c : Dev nD) (y : RK), inc c y = true →
    act (org c y).1 (org c y).2 = true ∧ dst (org c y).1 (org c y).2 = (c, y) := by decide +kernel

theorem credit_bar (c : Dev nD) : (∑ d : Dev nD, owe₀ d (cell c .bar) ()) = 5 := by
  rw [← bar_units c]
  refine Finset.sum_congr rfl fun d _ => ?_
  rw [owe_apply]
  have h1 : ∀ x : SK, ¬(act d x = true ∧ (c, CK.bar) = ((dst d x).1, CK.r (dst d x).2)) := fun x h => CK.noConfusion (congrArg Prod.snd h.2)
  rw [Finset.sum_congr rfl fun x _ => if_neg (h1 x), Finset.sum_const_zero, zero_add]
  refine Finset.sum_congr rfl fun i _ => ?_
  simp only [Prod.mk.injEq, and_true]

theorem credit_recv (c : Dev nD) (y : RK) (h : inc c y = true) : (∑ d : Dev nD, owe₀ d (cell c (.r y)) ()) = NB := by
  have h0 : ∀ d, owe₀ d (cell c (.r y)) () = ∑ x, if (d, x) = org c y then NB else 0 := fun d => by
    rw [owe_apply]
    have h1 : ∀ i : Fin 5, ¬((c, CK.r y) = (peer d i, CK.bar)) := fun i h => CK.noConfusion (congrArg Prod.snd h)
    rw [Finset.sum_congr rfl fun i _ => if_neg (h1 i), Finset.sum_const_zero, add_zero]
    refine Finset.sum_congr rfl fun x _ => if_congr ⟨fun h2 => ?_, fun h2 => ?_⟩ rfl rfl
    · have h3 := org_dst d x
      have h4 : (c, y) = dst d x := by
        have := h2.2
        simp only [Prod.mk.injEq, CK.r.injEq] at this
        exact Prod.ext this.1 this.2
      rw [← h4] at h3
      exact h3.symm
    · obtain ⟨h3, h4⟩ := act_of_inc c y h
      rw [← h2] at h3 h4
      have h4' : dst d x = (c, y) := h4
      exact ⟨h3, by rw [h4']⟩
  rw [Finset.sum_congr rfl fun d _ => h0 d]
  have h5 := Finset.sum_product' (Finset.univ : Finset (Dev nD)) (Finset.univ : Finset SK) (fun d x => if (d, x) = org c y then NB else 0)
  rw [← h5]
  rw [Finset.sum_congr rfl (g := fun p : Dev nD × SK => if p = org c y then NB else 0) fun p _ => rfl, Finset.sum_ite_eq', if_pos (Finset.mem_product.mpr ⟨Finset.mem_univ _, Finset.mem_univ _⟩)]

theorem credit_at (c : Dev nD) (k : CK) (n : ℕ) (h : (∑ d : Dev nD, owe₀ d (cell c k) ()) = n) :
    tallyOn (cell c k) (launchCredit (Pipeline.owing owe₀) 0 (cell c k)) = (tallyAt (cell c k) () n : CellTallies nD τ sig Unit) := by
  unfold tallyAt
  refine congrArg _ (Finsupp.ext fun u => ?_)
  cases u
  rw [Pipeline.launchCredit_owing, Finsupp.single_eq_same, h]

theorem credits (c : Dev nD) : (Pipeline.launchCred owe₀ c : sProp 𝕄)
    ⊢ iprop(crd c .bar 5 ∗ bigSep Finset.univ (fun y : RK => if inc c y = true then crd c (.r y) NB else iprop(emp))) := by
  unfold Pipeline.launchCred
  refine Laws.entails_trans (bigSep_along (J := CK) (fun k => some (csem k)) (fun j j' i h h' => csem_inj (Option.some.inj (h.trans h'.symm))) _) ?_
  rw [bigSep_CK]
  refine BI.sep_mono (Entails.of_eq (congrArg cred (credit_at c .bar 5 (credit_bar c)))) ?_
  refine (BI.sep_and.trans BI.and_elimR).trans (bigSep_mono fun y _ => ?_)
  by_cases h : inc c y = true
  · rw [if_pos h]
    exact Entails.of_eq (congrArg cred (credit_at c (.r y) NB (credit_recv c y h)))
  · rw [if_neg h]
    exact drop _

end Cert.KernelIdeal.AllReduce
end
end
-- ==== Proof.Run.Start.lean ====
/-
# What a device starts from

The arrays of a device are cut into the regions of 128 rows. The regions other devices write go into the payments of
the barrier signals; with the rest, the tokens and the credits the device stands before its first command.
-/
module

public import proofs.«01_k».proof.Proof.Run.Ghost

@[expose] public section

set_option maxRecDepth 8192

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ)

/-! ## Cutting an array into regions -/

theorem cut {T : Type} [Fintype T] (ℓ : Loc nD τ sig) (q : PosShare TreeShare) (f : Buf (Elt F) ℓ) (S : T → Finset (Idx ℓ))
    (h : ∀ t t', t ≠ t' → Disjoint (S t) (S t')) : (ℓ ↦{q} f : sProp 𝕄) ⊢ bigSep Finset.univ fun t => ℓ ↦[S t]{q} f := by
  classical
  rw [← pointsTo_biUnion Finset.univ S fun t _ t' _ hn => h t t' hn]
  exact (pointsTo_split_subset (Finset.subset_univ _)).1.trans (BI.sep_and.trans BI.and_elimL)

theorem mem_set2 (b : Ref sig .tc) (off size : Fin b.ty.shape.rank → ℕ) (inb) (i : b.ty.shape.Idx)
    (hi : i ∈ ((View.whole b).slice (Rect.unit off size inb)).set) (a) : off a ≤ i a ∧ (i a : ℕ) < off a + size a := by
  rw [View.set_slice_whole] at hi
  exact Rect.mem_set_unit.mp hi a

/-- Regions whose rows or planes lie apart have no element in common. -/
theorem apartA {off off' : Fin 3 → ℕ} {h h'} (a : Fin 3) (d : off a + S1x128x4096.size a ≤ off' a ∨ off' a + S1x128x4096.size a ≤ off a) :
    Disjoint (memA off h).view.set (memA off' h').view.set := by
  rw [Finset.disjoint_left]
  intro i hi hi'
  have e : ∀ off h, (memA off h).view.set = ((View.whole main_arg0).slice (Rect.unit (s := S1x4096x4096) off S1x128x4096.size h)).set :=
    fun off h => View.set_reshape _ _
  have h1 := mem_set2 main_arg0 off S1x128x4096.size h i (Finset.ext_iff.mp (e off h) i |>.mp hi) a
  have h2 := mem_set2 main_arg0 off' S1x128x4096.size h' i (Finset.ext_iff.mp (e off' h') i |>.mp hi') a
  omega
theorem apartS {off off' : Fin 3 → ℕ} {h h'} (a : Fin 3) (d : off a + S1x128x4096.size a ≤ off' a ∨ off' a + S1x128x4096.size a ≤ off a) :
    Disjoint (memS off h).view.set (memS off' h').view.set := by
  rw [Finset.disjoint_left]
  intro i hi hi'
  have e : ∀ off h, (memS off h).view.set = ((View.whole main_v1_1).slice (Rect.unit (s := S4x256x4096) off S1x128x4096.size h)).set :=
    fun off h => View.set_reshape _ _
  have h1 := mem_set2 main_v1_1 off S1x128x4096.size h i (Finset.ext_iff.mp (e off h) i |>.mp hi) a
  have h2 := mem_set2 main_v1_1 off' S1x128x4096.size h' i (Finset.ext_iff.mp (e off' h') i |>.mp hi') a
  omega
theorem apartW {off off' : Fin 3 → ℕ} {h h'} (a : Fin 3) (d : off a + S1x128x4096.size a ≤ off' a ∨ off' a + S1x128x4096.size a ≤ off a) :
    Disjoint (memW off h).view.set (memW off' h').view.set := by
  rw [Finset.disjoint_left]
  intro i hi hi'
  have e : ∀ off h, (memW off h).view.set = ((View.whole main_v1_2).slice (Rect.unit (s := S2x256x4096) off S1x128x4096.size h)).set :=
    fun off h => View.set_reshape _ _
  have h1 := mem_set2 main_v1_2 off S1x128x4096.size h i (Finset.ext_iff.mp (e off h) i |>.mp hi) a
  have h2 := mem_set2 main_v1_2 off' S1x128x4096.size h' i (Finset.ext_iff.mp (e off' h') i |>.mp hi') a
  omega
theorem apartB {off off' : Fin 2 → ℕ} {h h'} (a : Fin 2) (d : off a + S128x4096.size a ≤ off' a ∨ off' a + S128x4096.size a ≤ off a) :
    Disjoint (memB off h).view.set (memB off' h').view.set := by
  rw [Finset.disjoint_left]
  intro i hi hi'
  have h1 := mem_set2 main_arg1 off S128x4096.size h i hi a
  have h2 := mem_set2 main_arg1 off' S128x4096.size h' i hi' a
  omega
theorem apartO {off off' : Fin 2 → ℕ} {h h'} (a : Fin 2) (d : off a + S128x4096.size a ≤ off' a ∨ off' a + S128x4096.size a ≤ off a) :
    Disjoint (memO off h).view.set (memO off' h').view.set := by
  rw [Finset.disjoint_left]
  intro i hi hi'
  have h1 := mem_set2 main_v1_0 off S128x4096.size h i hi a
  have h2 := mem_set2 main_v1_0 off' S128x4096.size h' i hi' a
  omega

def Rg.sum : ((Fin 4 × Fin 2) ⊕ Fin 2) ⊕ (((Fin 4 × Fin 2) ⊕ (Fin 2 × Fin 2)) ⊕ (Fin 4 × Fin 4 × Fin 2)) ≃ Rg where
  toFun
    | .inl (.inl (j, st)) => .part j st
    | .inl (.inr st) => .res st
    | .inr (.inl (.inl (s, st))) => .slot s st
    | .inr (.inl (.inr (i, st))) => .fwd i st
    | .inr (.inr (q, j, st)) => .out q j st
  invFun
    | .part j st => .inl (.inl (j, st))
    | .res st => .inl (.inr st)
    | .slot s st => .inr (.inl (.inl (s, st)))
    | .fwd i st => .inr (.inl (.inr (i, st)))
    | .out q j st => .inr (.inr (q, j, st))
  left_inv k := by rcases k with (⟨_, _⟩ | _) | ((⟨_, _⟩ | ⟨_, _⟩) | ⟨_, _, _⟩) <;> rfl
  right_inv k := by cases k <;> rfl

theorem bigSep_Rg (Φ : Rg → sProp 𝕄) : bigSep Finset.univ Φ =
    iprop((bigSep Finset.univ (fun t : Fin 4 × Fin 2 => Φ (.part t.1 t.2)) ∗ bigSep Finset.univ (fun st => Φ (.res st)))
      ∗ (bigSep Finset.univ (fun t : Fin 4 × Fin 2 => Φ (.slot t.1 t.2)) ∗ bigSep Finset.univ (fun t : Fin 2 × Fin 2 => Φ (.fwd t.1 t.2)))
      ∗ bigSep Finset.univ (fun t : Fin 4 × Fin 4 × Fin 2 => Φ (.out t.1 t.2.1 t.2.2))) := by
  rw [bigSep_univ_equiv Rg.sum, bigSep_univ_sum, bigSep_univ_sum, bigSep_univ_sum, bigSep_univ_sum]
  rfl

/-- A region at the start: the inputs held, the others with any contents. -/
def rg0 (c : Dev nD) (r : Rg) : sProp 𝕄 := if st0.has r = true then heldR m c r else raw c r

theorem raw_intro (c : Dev nD) (r : Rg) (f) :
    ((rgM c r).view.loc (c : Thread nD τ) ↦[(rgM c r).view.set]{fullShare} f : sProp 𝕄) ⊢ raw c r := by
  unfold raw full
  iintro H
  iexists _
  iapply (owns_intro (c : Thread nD τ) (rgM c r) fullShare f) $$ H

theorem held_intro (c : Dev nD) (r : Rg) (q : PosShare TreeShare) (f) :
    ((rgM c r).view.loc (c : Thread nD τ) ↦[(rgM c r).view.set]{q} f : sProp 𝕄)
      ⊢ iprop(∃ q, owns (c : Thread nD τ) (rgM c r) q ((rgM c r).view.read (Elt F) f)) := by
  iintro H
  iexists q
  iapply (owns_intro (c : Thread nD τ) (rgM c r) q f) $$ H

theorem parts (c : Dev nD) : (((c : Thread nD τ).loc main_arg0) ↦{fullShare.right} m ((c : Thread nD τ).loc main_arg0) : sProp 𝕄)
    ⊢ bigSep Finset.univ (fun t : Fin 4 × Fin 2 => rg0 m c (.part t.1 t.2)) := by
  refine (cut ((c : Thread nD τ).loc main_arg0) fullShare.right (m ((c : Thread nD τ).loc main_arg0)) (fun t : Fin 4 × Fin 2 => (rgM c (.part t.1 t.2)).view.set) ?_).trans
    (bigSep_mono fun t _ => ?_)
  · rintro ⟨j, st⟩ ⟨j', st'⟩ hn
    refine apartA 1 ?_
    show prow (rOf c) j st + 128 ≤ prow (rOf c) j' st' ∨ prow (rOf c) j' st' + 128 ≤ prow (rOf c) j st
    have : ¬(j.val = j'.val ∧ st.val = st'.val) := fun h => hn (Prod.ext (Fin.ext h.1) (Fin.ext h.2))
    unfold prow; omega
  · have h : st0.has (.part t.1 t.2) = true := by revert t; decide +kernel
    unfold rg0 heldR
    rw [if_pos h]
    exact held_intro c (.part t.1 t.2) fullShare.right (m ((c : Thread nD τ).loc main_arg0))

theorem ress (c : Dev nD) : (((c : Thread nD τ).loc main_arg1) ↦{fullShare.right} m ((c : Thread nD τ).loc main_arg1) : sProp 𝕄)
    ⊢ bigSep Finset.univ (fun st : Fin 2 => rg0 m c (.res st)) := by
  refine (cut ((c : Thread nD τ).loc main_arg1) fullShare.right (m ((c : Thread nD τ).loc main_arg1)) (fun st : Fin 2 => (rgM c (.res st)).view.set) ?_).trans
    (bigSep_mono fun t _ => ?_)
  · intro st st' hn
    refine apartB 0 ?_
    show prow (rOf c) (zOf c) st + 128 ≤ prow (rOf c) (zOf c) st' ∨ prow (rOf c) (zOf c) st' + 128 ≤ prow (rOf c) (zOf c) st
    have : ¬(st.val = st'.val) := fun h => hn (Fin.ext h)
    unfold prow; omega
  · have h : st0.has (.res t) = true := by revert t; decide +kernel
    unfold rg0 heldR
    rw [if_pos h]
    exact held_intro c (.res t) fullShare.right (m ((c : Thread nD τ).loc main_arg1))

theorem slots (c : Dev nD) (f) : (((c : Thread nD τ).loc main_v1_1) ↦{fullShare} f : sProp 𝕄)
    ⊢ bigSep Finset.univ (fun t : Fin 4 × Fin 2 => rg0 m c (.slot t.1 t.2)) := by
  refine (cut ((c : Thread nD τ).loc main_v1_1) fullShare f (fun t : Fin 4 × Fin 2 => (rgM c (.slot t.1 t.2)).view.set) ?_).trans
    (bigSep_mono fun t _ => ?_)
  · rintro ⟨j, st⟩ ⟨j', st'⟩ hn
    by_cases hj : j = j'
    · refine apartS 1 ?_
      show st.val * 128 + 128 ≤ st'.val * 128 ∨ st'.val * 128 + 128 ≤ st.val * 128
      have : ¬(st.val = st'.val) := fun h => hn (Prod.ext hj (Fin.ext h))
      omega
    · refine apartS 0 ?_
      show j.val + 1 ≤ j'.val ∨ j'.val + 1 ≤ j.val
      have : ¬(j.val = j'.val) := fun h => hj (Fin.ext h)
      omega
  · have h : ¬(st0.has (.slot t.1 t.2) = true) := by revert t; decide +kernel
    unfold rg0
    rw [if_neg h]
    exact raw_intro c (.slot t.1 t.2) f

theorem fwds (c : Dev nD) (f) : (((c : Thread nD τ).loc main_v1_2) ↦{fullShare} f : sProp 𝕄)
    ⊢ bigSep Finset.univ (fun t : Fin 2 × Fin 2 => rg0 m c (.fwd t.1 t.2)) := by
  refine (cut ((c : Thread nD τ).loc main_v1_2) fullShare f (fun t : Fin 2 × Fin 2 => (rgM c (.fwd t.1 t.2)).view.set) ?_).trans
    (bigSep_mono fun t _ => ?_)
  · rintro ⟨j, st⟩ ⟨j', st'⟩ hn
    by_cases hj : j = j'
    · refine apartW 1 ?_
      show st.val * 128 + 128 ≤ st'.val * 128 ∨ st'.val * 128 + 128 ≤ st.val * 128
      have : ¬(st.val = st'.val) := fun h => hn (Prod.ext hj (Fin.ext h))
      omega
    · refine apartW 0 ?_
      show j.val + 1 ≤ j'.val ∨ j'.val + 1 ≤ j.val
      have : ¬(j.val = j'.val) := fun h => hj (Fin.ext h)
      omega
  · have h : ¬(st0.has (.fwd t.1 t.2) = true) := by revert t; decide +kernel
    unfold rg0
    rw [if_neg h]
    exact raw_intro c (.fwd t.1 t.2) f

theorem outs (c : Dev nD) (f) : (((c : Thread nD τ).loc main_v1_0) ↦{fullShare} f : sProp 𝕄)
    ⊢ bigSep Finset.univ (fun t : Fin 4 × Fin 4 × Fin 2 => rg0 m c (.out t.1 t.2.1 t.2.2)) := by
  refine (cut ((c : Thread nD τ).loc main_v1_0) fullShare f (fun t : Fin 4 × Fin 4 × Fin 2 => (rgM c (.out t.1 t.2.1 t.2.2)).view.set) ?_).trans
    (bigSep_mono fun t _ => ?_)
  · rintro ⟨q, j, st⟩ ⟨q', j', st'⟩ hn
    refine apartO 0 ?_
    show prow q j st + 128 ≤ prow q' j' st' ∨ prow q' j' st' + 128 ≤ prow q j st
    have : ¬(q.val = q'.val ∧ j.val = j'.val ∧ st.val = st'.val) :=
      fun h => hn (Prod.ext (Fin.ext h.1) (Prod.ext (Fin.ext h.2.1) (Fin.ext h.2.2)))
    unfold prow; omega
  · have h : ¬(st0.has (.out t.1 t.2.1 t.2.2) = true) := by revert t; decide +kernel
    unfold rg0
    rw [if_neg h]
    exact raw_intro c (.out t.1 t.2.1 t.2.2) f

/-- What stays aside during the run: half of each of the two inputs. -/
def halves (c : Dev nD) : sProp 𝕄 :=
  iprop((((c : Thread nD τ).loc main_arg0) ↦{fullShare.left} m ((c : Thread nD τ).loc main_arg0))
    ∗ (((c : Thread nD τ).loc main_arg1) ↦{fullShare.left} m ((c : Thread nD τ).loc main_arg1)))

theorem arrays (c : Dev nD) :
    (Pipeline.unscopedRest (Ix := Unit) (Name := ℕ) (U := UU) (Lvl := ℕ) spec0 c (fun b => m ((c : Thread nD τ).loc b)) : sProp 𝕄)
      ⊢ iprop(halves m c ∗ bigSep Finset.univ (rg0 m c)) := by
  rw [unscopedRest0_eq, bigSep_Rg]
  unfold halves
  iintro ⟨H0, H1, H2, H3, H4⟩
  ihave H0 := (pointsTo_share (PosShare.mem_left_op_right fullShare)).1 $$ H0
  ihave H1 := (pointsTo_share (PosShare.mem_left_op_right fullShare)).1 $$ H1
  icases H0 with ⟨H0, H0'⟩
  icases H1 with ⟨H1, H1'⟩
  isplitl [H0 H1]
  · isplitl [H0] <;> iassumption
  isplitl [H0' H1']
  · isplitl [H0']
    · iapply (parts m c) $$ H0'
    iapply (ress m c) $$ H1'
  isplitl [H3 H4]
  · isplitl [H3]
    · iapply (slots m c _) $$ H3
    iapply (fwds m c _) $$ H4
  iapply (outs m c _) $$ H2

/-! ## The payments of the barrier signals -/

/-- Where the message `p.2` of the `p.1`-th peer lands here, if it is sent here. -/
def toHere (c : Dev nD) (p : Fin 5 × SK) : Option Rg :=
  if act (peer c p.1) p.2 = true ∧ (dst (peer c p.1) p.2).1 = c then some (land c (dst (peer c p.1) p.2).2) else none

theorem land_inj : ∀ (c : Dev nD) (y y' : RK), inc c y = true → inc c y' = true → land c y = land c y' → y = y' := by decide +kernel
theorem land_own : ∀ (c : Dev nD) (y : RK), inc c y = true → own c (land c y) = false ∧ st0.has (land c y) = false := by decide +kernel

theorem toHere_some {c : Dev nD} {p : Fin 5 × SK} {r : Rg} (h : toHere c p = some r) :
    ∃ y, inc c y = true ∧ org c y = (peer c p.1, p.2) ∧ land c y = r ∧ act (peer c p.1) p.2 = true ∧ (dst (peer c p.1) p.2).1 = c := by
  unfold toHere at h
  split at h
  · next h1 =>
    obtain ⟨h2, h3⟩ := h1
    have h4 := dst_spec (peer c p.1) p.2 h2
    rw [h3] at h4
    exact ⟨_, h4.1, h4.2.1, Option.some.inj h, h2, h3⟩
  · cases h

theorem toHere_inj (c : Dev nD) (p p' : Fin 5 × SK) (r : Rg) (h : toHere c p = some r) (h' : toHere c p' = some r) : p = p' := by
  obtain ⟨y, h1, h2, h3, _⟩ := toHere_some h
  obtain ⟨y', h1', h2', h3', _⟩ := toHere_some h'
  have h4 := land_inj c y y' h1 h1' (h3.trans h3'.symm)
  subst h4
  rw [h2] at h2'
  exact Prod.ext (peer_inj c (Prod.mk.inj h2').1) (Prod.mk.inj h2').2

/-- The regions of the device at its start, and the payments of its signals. -/
theorem regions (c : Dev nD) : bigSep Finset.univ (rg0 m c)
    ⊢ iprop(bigSep Finset.univ (rgRes m c st0 (cmds c)) ∗ bigSep Finset.univ (fun i : Fin 5 => barPay (F := F) c (peer c i))) := by
  classical
  have hs : bigSep Finset.univ (rg0 m c)
      ⊢ iprop(bigSep Finset.univ (fun i : Fin 5 => bigSep Finset.univ (fun x : SK => (toHere c (i, x)).elim iprop(emp) (rg0 m c)))
          ∗ bigSep Finset.univ (fun r => if ∀ j, toHere c j ≠ some r then rg0 m c r else iprop(emp))) :=
    (bigSep_along_rest (J := Fin 5 × SK) (toHere c) (fun j j' r h h' => toHere_inj c j j' r h h') (rg0 m c)).trans
      (BI.sep_mono_l (Entails.of_eq (bigSep_univ_prod (fun p : Fin 5 × SK => (toHere c p).elim iprop(emp) (rg0 m c)))))
  iintro H
  ihave H := hs $$ H
  icases H with ⟨H1, H2⟩
  isplitl [H2]
  · iapply (show bigSep Finset.univ (fun i => if ∀ j, toHere c j ≠ some i then rg0 m c i else iprop(emp)) ⊢ bigSep Finset.univ (rgRes m c st0 (cmds c)) from
      bigSep_mono fun r _ => ?_) $$ H2
    unfold rg0 rgRes
    rw [hasOut_cmds]
    by_cases h1 : st0.has r = true
    · have h2 : ∀ j, toHere c j ≠ some r := fun j hj => by
        obtain ⟨y, hy, _, he, _⟩ := toHere_some hj
        have := (land_own c y hy).2
        rw [he, h1] at this
        cases this
      rw [if_pos h2, if_pos h1, if_pos h1]
      exact BI.Entails.refl _
    · rw [if_neg h1, if_neg h1]
      by_cases h3 : own c r = true
      · have h2 : ∀ j, toHere c j ≠ some r := fun j hj => by
          obtain ⟨y, hy, _, he, _⟩ := toHere_some hj
          have := (land_own c y hy).1
          rw [he, h3] at this
          cases this
        rw [if_pos h2, if_pos h3]
        exact BI.Entails.refl _
      · rw [if_neg h3]
        exact drop _
  · iapply (show bigSep Finset.univ (fun i : Fin 5 => bigSep Finset.univ (fun x : SK => (toHere c (i, x)).elim iprop(emp) (rg0 m c)))
        ⊢ bigSep Finset.univ (fun i : Fin 5 => barPay (F := F) c (peer c i)) from bigSep_mono fun i _ => ?_) $$ H1
    unfold barPay
    refine bigSep_mono fun x _ => ?_
    by_cases h : act (peer c i) x = true ∧ (dst (peer c i) x).1 = c
    · have h1 : toHere c (i, x) = some (land c (dst (peer c i) x).2) := if_pos h
      obtain ⟨y, hy, _, he, _⟩ := toHere_some h1
      have h2 := (land_own c y hy).2
      rw [he] at h2
      rw [h1, if_pos h]
      unfold rg0 landing
      show (if st0.has (land c (dst (peer c i) x).2) = true then _ else _ : sProp 𝕄) ⊢ _
      rw [h2, if_neg Bool.false_ne_true, h.2]
    · rw [if_neg h]
      exact drop _

/-! ## The start -/

variable (K : Dev nD × CK → ℕ)

/-- What a device holds before its first command, but the scratch tiles, gamma and what it owes. -/
def start (c : Dev nD) : sProp 𝕄 :=
  iprop(ctx m K
    ∗ bigSep Finset.univ (sendRes (F := F) c (cmds c)) ∗ bigSep Finset.univ (landRes (F := F) c (cmds c)) ∗ bigSep Finset.univ (recvRes (F := F) c (cmds c))
    ∗ bigSep Finset.univ (sigRes (F := F) c (cmds c)) ∗ barRes (F := F) c (cmds c) ∗ bigSep Finset.univ (rgRes m c st0 (cmds c))
    ∗ bigSep Finset.univ (fun s => locRes m c s (st0.loc s)))

theorem hasWsend_cmds : ∀ (c : Dev nD) (x : SK), hasWsend x (cmds c) = act c x := by decide +kernel

theorem sends (c : Dev nD) (x : SK) :
    iprop(ctx m K ∗ pos c (.s x) ∗ tok c (.s x) c ∗ tok (dst c x).1 (.r (dst c x).2) c) ⊢ |={Set.univ}=> sendRes (F := F) c (cmds c) x := by
  unfold sendRes
  rw [hasSend_cmds, hasWsend_cmds]
  iintro ⟨#HC, Hp, H1, H2⟩
  by_cases h : act c x = true
  · rw [if_pos h]
    imodintro
    isplitl [Hp]; · iexact Hp
    isplitl [H1] <;> iassumption
  · rw [if_neg h, if_neg h]
    ihave Hi := (ctx_inv m K c (.s x)) $$ HC
    imod (Rounds.cell_close ER (sched m) (Es := Set.univ) (Set.mem_univ (K (c, .s x))) (fun h => h) (R := 0) (fun r _ => by
      rcases Nat.eq_zero_or_pos r with rfl | hr
      · rw [duties_eq, show duties c (.s x) = ∅ from if_neg h]
      · exact duties_later m _ r hr)) $$ [Hi Hp] with Hz
    · isplitl [Hi]; · iexact Hi
      iexact Hp
    imodintro
    iexact Hz

theorem recvs (c : Dev nD) (y : RK) :
    iprop(ctx m K ∗ pos c (.r y) ∗ (if inc c y = true then crd c (.r y) NB else iprop(emp))) ⊢ |={Set.univ}=> recvRes (F := F) c (cmds c) y := by
  unfold recvRes
  rw [hasWrecv_cmds]
  by_cases h : inc c y = true
  · rw [if_pos h, if_pos h]
    iintro ⟨#HC, Hp, H1⟩
    imodintro
    isplitl [Hp] <;> iassumption
  · rw [if_neg h, if_neg h]
    iintro ⟨#HC, Hp, -⟩
    ihave Hi := (ctx_inv m K c (.r y)) $$ HC
    imod (Rounds.cell_close ER (sched m) (Es := Set.univ) (Set.mem_univ (K (c, .r y))) (fun h => h) (R := 0) (fun r _ => by
      rcases Nat.eq_zero_or_pos r with rfl | hr
      · rw [duties_eq, show duties c (.r y) = ∅ from if_neg h]
      · exact duties_later m _ r hr)) $$ [Hi Hp] with Hz
    · isplitl [Hi]; · iexact Hi
      iexact Hp
    imodintro
    iexact Hz

theorem start_intro (c : Dev nD) :
    iprop(Pipeline.unscopedRest (Ix := Unit) (Name := ℕ) (U := UU) (Lvl := ℕ) spec0 c (fun b => m ((c : Thread nD τ).loc b))
        ∗ levAts L lv ∗ Pipeline.launchCred owe₀ c ∗ G' m c)
      ⊢ |={Set.univ}=> iprop((∃ K, start m K c) ∗ halves m c) := by
  unfold G' invs mine toks
  rw [bigSep_CK]
  iintro ⟨Hm, #Hlev, Hcr, ⟨%K, ⟨#HI, #HRe⟩, ⟨HpB, HpS, HpR⟩, ⟨HtB, HtS, HtR⟩, Hloc⟩⟩
  ihave Hm := (arrays m c) $$ Hm
  icases Hm with ⟨Hh, Hrg⟩
  ihave Hrg := (regions m c) $$ Hrg
  icases Hrg with ⟨Hrg, Hpay⟩
  ihave Hcr := (credits (F := F) c) $$ Hcr
  icases Hcr with ⟨HcB, HcR⟩
  ihave HC : (ctx m K) $$ []
  · unfold ctx
    isplitl; · iexact HI
    isplitl; · iexact HRe
    iexact Hlev
  icases HC with #HC
  imod (show iprop(ctx m K ∗ bigSep Finset.univ (fun x : SK => iprop(pos c (.s x) ∗ tok c (.s x) c ∗ tok (dst c x).1 (.r (dst c x).2) c)))
      ⊢ (|={Set.univ}=> bigSep Finset.univ (sendRes (F := F) c (cmds c)) : sProp 𝕄) from
        (spread (Φ := fun x : SK => iprop(pos c (.s x) ∗ tok c (.s x) c ∗ tok (dst c x).1 (.r (dst c x).2) c)) fun x => sends m K c x).trans (bigSep_fupd _ _)) $$ [HpS HtS HtR] with HS
  · isplitr; · iexact HC
    simp only [bigSep_sep']
    isplitl [HpS]; · iexact HpS
    isplitl [HtS] <;> iassumption
  imod (show iprop(ctx m K ∗ bigSep Finset.univ (fun y : RK => iprop(pos c (.r y) ∗ (if inc c y = true then crd c (.r y) NB else iprop(emp)))))
      ⊢ (|={Set.univ}=> bigSep Finset.univ (recvRes (F := F) c (cmds c)) : sProp 𝕄) from
        (spread (Φ := fun y : RK => iprop(pos c (.r y) ∗ (if inc c y = true then crd c (.r y) NB else iprop(emp)))) fun y => recvs m K c y).trans (bigSep_fupd _ _)) $$ [HpR HcR] with HR
  · isplitr; · iexact HC
    simp only [bigSep_sep']
    isplitl [HpR] <;> iassumption
  imodintro
  isplitr [Hh]
  · iexists K
    unfold start
    isplitr; · iexact HC
    isplitl [HS]; · iexact HS
    isplitr
    · iapply (show (iprop(emp) : sProp 𝕄) ⊢ bigSep Finset.univ (landRes (F := F) c (cmds c)) from by
        refine (Entails.of_eq (bigSep_emp_const Finset.univ).symm).trans (bigSep_mono fun x _ => ?_)
        unfold landRes
        rw [hasBar_cmds, if_neg (fun h => Bool.noConfusion h.2)]
        exact drop _)
      iempintro
    isplitl [HR]; · iexact HR
    isplitl [HtB Hpay]
    · have e : ∀ i, sigRes (F := F) c (cmds c) i = iprop(tok (peer c i) .bar c ∗ barPay c (peer c i)) := fun i => if_pos (hasSig_cmds c i)
      rw [bigSep_congr fun i _ => e i, bigSep_sep']
      isplitl [HtB] <;> iassumption
    isplitl [HpB HcB]
    · unfold barRes
      rw [if_pos (hasBar_cmds c)]
      isplitl [HpB] <;> iassumption
    isplitl [Hrg]; · iexact Hrg
    have e : ∀ s : Fin 2, locRes m c s (st0.loc s) = semVal ((c : Thread nD τ), .dma (lS s)) 0 := fun s => by fin_cases s <;> rfl
    rw [bigSep_congr fun s _ => e s]
    iexact Hloc
  iexact Hh

end Cert.KernelIdeal.AllReduce
end
end
-- ==== Proof.Run.Steps.lean ====
/-
# One lemma per command

What a device holds before a command, with the command's operation, gives what it holds after it.
-/
module

public import proofs.«01_k».proof.Proof.Run.Inv

@[expose] public section

set_option maxRecDepth 8192

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {m : (ℓ : Loc nD τ sig) → Buf (Elt F) ℓ} {K : Dev nD × CK → ℕ}

theorem of_ite {A : Type} {p : Prop} [Decidable p] {a b : A} (h : (if p then some a else none) = some b) : p ∧ a = b := by
  by_cases hp : p
  · rw [if_pos hp] at h; exact ⟨hp, Option.some.inj h⟩
  · rw [if_neg hp] at h; cases h

theorem sem_ne_beq {x y : SK} (h : y ≠ x) : SK.eqb y x = false := by
  rcases e : SK.eqb y x with _ | _
  · rfl
  · exact absurd (SK.eqb_iff.mp e) h
theorem rk_ne_beq {x y : RK} (h : y ≠ x) : RK.eqb y x = false := by
  rcases e : RK.eqb y x with _ | _
  · rfl
  · exact absurd (RK.eqb_iff.mp e) h
theorem rg_ne_beq {x y : Rg} (h : y ≠ x) : Rg.eqb y x = false := by
  rcases e : Rg.eqb y x with _ | _
  · rfl
  · exact absurd (Rg.eqb_iff.mp e) h
theorem hasSend_self (x : SK) (r r' : Rg) (l : List Cmd) : hasSend x (.send x r r' :: l) = true := by
  show (x.eqb x || _) = true; rw [SK.eqb_iff.mpr rfl]; rfl
theorem hasSend_ne {x y : SK} (h : y ≠ x) (r r' : Rg) (l : List Cmd) : hasSend y (.send x r r' :: l) = hasSend y l := by
  show (y.eqb x || _) = _; rw [sem_ne_beq h]; rfl
theorem hasWsend_self (x : SK) (l : List Cmd) : hasWsend x (.wsend x :: l) = true := by
  show (x.eqb x || _) = true; rw [SK.eqb_iff.mpr rfl]; rfl
theorem hasWsend_ne {x y : SK} (h : y ≠ x) (l : List Cmd) : hasWsend y (.wsend x :: l) = hasWsend y l := by
  show (y.eqb x || _) = _; rw [sem_ne_beq h]; rfl
theorem hasWrecv_self (x : RK) (l : List Cmd) : hasWrecv x (.wrecv x :: l) = true := by
  show (x.eqb x || _) = true; rw [RK.eqb_iff.mpr rfl]; rfl
theorem hasWrecv_ne {x y : RK} (h : y ≠ x) (l : List Cmd) : hasWrecv y (.wrecv x :: l) = hasWrecv y l := by
  show (y.eqb x || _) = _; rw [rk_ne_beq h]; rfl
theorem hasSig_self (x : Fin 5) (l : List Cmd) : hasSig x (.sig x :: l) = true := by
  show (decide (x = x) || _) = true; rw [decide_eq_true rfl]; rfl
theorem hasSig_ne {x y : Fin 5} (h : y ≠ x) (l : List Cmd) : hasSig y (.sig x :: l) = hasSig y l := by
  show (decide (y = x) || _) = _; rw [decide_eq_false h]; rfl
theorem hasOut_self (s : Fin 2) (x : Rg) (l : List Cmd) : hasOut x (.cpOut s x :: l) = true := by
  show (x.eqb x || _) = true; rw [Rg.eqb_iff.mpr rfl]; rfl
theorem hasOut_ne (s : Fin 2) {x y : Rg} (h : y ≠ x) (l : List Cmd) : hasOut y (.cpOut s x :: l) = hasOut y l := by
  show (y.eqb x || _) = _; rw [rg_ne_beq h]; rfl

theorem anySig_false {l : List Cmd} (h : anySig l = false) (i : Fin 5) : hasSig i l = false := by
  induction l with
  | nil => rfl
  | cons x l ih => cases x <;> first | exact ih h | cases h
theorem allSends_of {p : SK → Bool} {l : List Cmd} (h : allSends p l = true) (x : SK) (hx : hasSend x l = true) : p x = true := by
  induction l with
  | nil => cases hx
  | cons y l ih =>
    cases y <;> first
      | exact ih h hx
      | (rename_i x' r r'
         have h' : (p x' && allSends p l) = true := h
         have hx' : (x.eqb x' || hasSend x l) = true := hx
         rw [Bool.and_eq_true] at h'
         rcases (Bool.or_eq_true _ _).mp hx' with e | e
         · rw [SK.eqb_iff.mp e]; exact h'.1
         · exact ih h'.2 e)

theorem has_hold (σ : St) (r : Rg) : (σ.hold r).has r = true := by
  show (r.eqb r || _) = true; rw [Rg.eqb_iff.mpr rfl]; rfl
theorem has_hold_ne (σ : St) {r r' : Rg} (h : r' ≠ r) : (σ.hold r).has r' = σ.has r' := by
  show (r'.eqb r || _) = _; rw [rg_ne_beq h]; rfl

theorem sendRes_send {c : Dev nD} {l : List Cmd} {x : SK} (h : hasSend x l = true) :
    sendRes (F := F) c l x = iprop(pos c (.s x) ∗ tok c (.s x) c ∗ tok (dst c x).1 (.r (dst c x).2) c) := if_pos h
theorem sendRes_wait {c : Dev nD} {l : List Cmd} {x : SK} (h : hasSend x l = false) (h' : hasWsend x l = true) :
    sendRes (F := F) c l x = iprop(pos c (.s x) ∗ crd c (.s x) NB) := by
  unfold sendRes; rw [if_neg (by rw [h]; exact Bool.false_ne_true), if_pos h']
theorem sendRes_done {c : Dev nD} {l : List Cmd} {x : SK} (h : hasSend x l = false) (h' : hasWsend x l = false) :
    sendRes (F := F) c l x = zero c (.s x) := by
  unfold sendRes; rw [if_neg (by rw [h]; exact Bool.false_ne_true), if_neg (by rw [h']; exact Bool.false_ne_true)]
theorem landRes_yes {c : Dev nD} {l : List Cmd} {x : SK} (h : hasSend x l = true) (h' : hasBar l = false) :
    landRes (F := F) c l x = landing c x := if_pos ⟨h, h'⟩
theorem landRes_no {c : Dev nD} {l : List Cmd} {x : SK} (h : hasSend x l = false) :
    landRes (F := F) c l x = iprop(emp) := if_neg fun hh => by rw [h] at hh; cases hh.1
theorem recvRes_wait {c : Dev nD} {l : List Cmd} {y : RK} (h : hasWrecv y l = true) :
    recvRes (F := F) c l y = iprop(pos c (.r y) ∗ crd c (.r y) NB) := if_pos h
theorem recvRes_done {c : Dev nD} {l : List Cmd} {y : RK} (h : hasWrecv y l = false) :
    recvRes (F := F) c l y = zero c (.r y) := if_neg (by rw [h]; exact Bool.false_ne_true)
theorem sigRes_yes {c : Dev nD} {l : List Cmd} {i : Fin 5} (h : hasSig i l = true) :
    sigRes (F := F) c l i = iprop(tok (peer c i) .bar c ∗ barPay c (peer c i)) := if_pos h
theorem sigRes_no {c : Dev nD} {l : List Cmd} {i : Fin 5} (h : hasSig i l = false) :
    sigRes (F := F) c l i = iprop(emp) := if_neg (by rw [h]; exact Bool.false_ne_true)
theorem barRes_yes {c : Dev nD} {l : List Cmd} (h : hasBar l = true) :
    barRes (F := F) c l = iprop(pos c .bar ∗ crd c .bar 5) := if_pos h
theorem barRes_no {c : Dev nD} {l : List Cmd} (h : hasBar l = false) :
    barRes (F := F) c l = zero c .bar := if_neg (by rw [h]; exact Bool.false_ne_true)
theorem rgRes_held {c : Dev nD} {σ : St} {l : List Cmd} {r : Rg} (h : σ.has r = true) : rgRes m c σ l r = heldR m c r := if_pos h
theorem rgRes_raw {c : Dev nD} {σ : St} {l : List Cmd} {r : Rg} (h : σ.has r = false) (h' : hasOut r l = true) :
    rgRes m c σ l r = raw c r := by
  unfold rgRes; rw [if_neg (by rw [h]; exact Bool.false_ne_true), if_pos h']
theorem rgRes_none {c : Dev nD} {σ : St} {l : List Cmd} {r : Rg} (h : σ.has r = false) (h' : hasOut r l = false) :
    rgRes m c σ l r = iprop(emp) := by
  unfold rgRes; rw [if_neg (by rw [h]; exact Bool.false_ne_true), if_neg (by rw [h']; exact Bool.false_ne_true)]

theorem payload_bar (c d : Dev nD) : (sched m).payload ((c : Thread nD τ), .reg barS) 0 d = barPay (F := F) d c := payload_eq m c .bar 0 d
theorem payload_r (c d : Dev nD) (y : RK) : (sched m).payload ((c : Thread nD τ), .dma (rS y)) 0 d = full c (land c y) (val m c (land c y)) :=
  payload_eq m c (.r y) 0 d
theorem payload_s (c d : Dev nD) (x : SK) : (sched m).payload ((c : Thread nD τ), .dma (sS x)) 0 d = iprop(emp) := payload_eq m c (.s x) 0 d
theorem lv_bar (c : Dev nD) : lv ((c : Thread nD τ), .reg barS) () ≤ 1 := le_of_eq (lv_cell c .bar)
theorem lv_s (c : Dev nD) (x : SK) : lv ((c : Thread nD τ), .dma (sS x)) () ≤ 0 := le_of_eq (lv_cell c (.s x))
theorem lv_r (c : Dev nD) (y : RK) : lv ((c : Thread nD τ), .dma (rS y)) () ≤ lvR c y := le_of_eq (lv_cell c (.r y))
theorem lv_l (c : Dev nD) (s : Fin 2) : lv ((c : Thread nD τ), .dma (lS s)) () ≤ 0 := by
  unfold lv; rw [keyOf_local]; exact le_refl 0

theorem rgM_land (d e c : Dev nD) (y : RK) : rgM d (land c y) = rgM e (land c y) := by cases y <;> rfl

/-! ## Signals and the barrier -/

theorem step_sig {c n : Dev nD} {i : Fin 5} {σ σ' : St} {l : List Cmd} (h : adv c l σ (.sig i) = some σ')
    {sm : Sem sig} {z : ℤ} (hn : n = peer c i) (hs : sm = barS) (hz : z = ((1 : ℕ) : ℤ)) {α : Type}
    {k : PUnit → Prog (TpuEff nD τ sig (Elt F) Λ₀ .tc) α} {Q : α → sProp 𝕄} :
    I m K c σ (.sig i :: l) ⊢ iprop((I m K c σ' l -∗ WP c (k ⟨⟩) Q) -∗ WP c (.op (.semSignal (n : Thread nD τ) sm z) k) Q) := by
  obtain ⟨h1, rfl⟩ := of_ite h
  subst hn hs hz
  unfold I
  iintro ⟨#HC, ⟨%W, HO⟩, HS, HL, HR, HG, HB, HM, HX, HF, Hg⟩ Hk
  ihave HG := (bigSep_univ_update (Φ := sigRes c (.sig i :: l)) (Ψ := sigRes c l) i
    (fun j hj => by unfold sigRes; rw [hasSig_ne hj])) $$ HG
  icases HG with ⟨Hi, HG⟩
  ihave Hi := (Entails.of_eq (sigRes_yes (hasSig_self i l))) $$ Hi
  icases Hi with ⟨Ht, Hp⟩
  iapply (Rounds.wp_signal 𝒱₀ ER (sched m) (c : Thread nD τ) none (dst := ((peer c i : Dev nD) : Thread nD τ)) (κ := K (peer c i, .bar)) (d := c)
    (r := 0) (k' := 1) (sem := barS)
    (by show c ∈ (sched m).duties (cell (peer c i) .bar) 0; rw [duties_eq]; exact (mem_peers _ _).mpr (Finset.mem_image_of_mem _ (Finset.mem_univ i)))
    (amount_eq m (peer c i) .bar 0 c) () (oweL c (fun x => hasSend x l) (fun i => hasSig i l))
    (oweL_sig c _ _ _ i (hasSig_self i l) h1 (fun j hj => hasSig_ne hj l)))
    $$ [HO Ht Hp]
  · isplitl []; · iapply (ctx_inv m K (peer c i) .bar) $$ HC
    isplitl [HO]; · iexact HO
    isplitl [Ht]; · iexact Ht
    isplitl [Hp]
    · iapply (Entails.of_eq (payload_bar (peer c i) c).symm) $$ Hp
    · iapply (ctx_reached m K (peer c i) .bar) $$ HC
  iintro HO
  iapply Hk
  isplitr; · iexact HC
  isplitl [HO]; · iexists W; iexact HO
  isplitl [HS]; · iexact HS
  isplitl [HL]; · iexact HL
  isplitl [HR]; · iexact HR
  isplitl [HG]
  · iapply HG
    iapply (Entails.of_eq (sigRes_no h1).symm)
    iempintro
  isplitl [HB]; · iexact HB
  isplitl [HM]; · iexact HM
  isplitl [HX]; · iexact HX
  isplitl [HF]; · iexact HF
  iexact Hg

theorem two_le_lvR (c : Dev nD) (y : RK) : 2 ≤ lvR c y := by
  cases y <;> dsimp only [lvR] <;> (try split) <;> omega

theorem bigSep_swap {X Y : Type} [DecidableEq X] [Fintype Y] [DecidableEq Y] (s : Finset X) (Φ : X → Y → sProp 𝕄) :
    bigSep s (fun i => bigSep Finset.univ (Φ i)) ⊢ bigSep Finset.univ (fun j => bigSep s fun i => Φ i j) := by
  induction s using Finset.induction_on with
  | empty => simp only [bigSep_empty, bigSep_emp_const]; exact .rfl
  | insert a s ha ih =>
    rw [bigSep_insert ha]
    have e : (fun j => bigSep (insert a s) fun i => Φ i j) = fun j => iprop(Φ a j ∗ bigSep s fun i => Φ i j) := by
      funext j; exact bigSep_insert ha
    rw [e, bigSep_sep' Finset.univ (Φ a) (fun j => bigSep s fun i => Φ i j)]
    exact sep_mono_right ih

theorem bar_land (c : Dev nD) (x : SK) : bigSep (peers c) (fun d => if act c x = true ∧ (dst c x).1 = d then landing (F := F) c x else iprop(emp))
      ⊢ if act c x = true then landing (F := F) c x else iprop(emp) := by
  by_cases hx : act c x = true
  · have e := bigSep_elim (Φ := fun d => if act c x = true ∧ (dst c x).1 = d then landing (F := F) c x else iprop(emp)) (dst_spec c x hx).2.2
    rw [if_pos ⟨hx, rfl⟩] at e
    rw [if_pos hx]
    exact e
  · rw [if_neg hx]
    iintro -
    iempintro

theorem bar_land' {c : Dev nD} {l : List Cmd} (h2 : hasBar l = false) (h3 : allSends (act c) l = true) (x : SK) :
    (if act c x = true then landing (F := F) c x else iprop(emp)) ⊢ landRes (F := F) c l x := by
  by_cases hx : hasSend x l = true
  · rw [if_pos (allSends_of h3 x hx), landRes_yes hx h2]
  · rw [landRes_no (Bool.eq_false_iff.mpr hx)]; iintro -; iempintro

theorem bar_lands (c : Dev nD) :
    bigSep (peers c) (fun d => barPay (F := F) d c) ⊢ bigSep Finset.univ (fun x => if act c x = true then landing (F := F) c x else iprop(emp)) := by
  unfold barPay
  have e : ∀ x, bigSep (peers c) (fun d => if act c x = true ∧ (dst c x).1 = d then landing (F := F) c x else iprop(emp))
      ⊢ if act c x = true then landing (F := F) c x else iprop(emp) := fun x => bar_land c x
  exact (bigSep_swap (peers c) _).trans (bigSep_mono fun x _ => e x)

theorem step_bar {c : Dev nD} {σ σ' : St} {l : List Cmd} (h : adv c l σ .bar = some σ')
    {sm : Sem sig} {z : ℕ} (hs : sm = barS) (hz : z = 5) {α : Type}
    {k : PUnit → Prog (TpuEff nD τ sig (Elt F) Λ₀ .tc) α} {Q : α → sProp 𝕄} :
    I m K c σ (.bar :: l) ⊢ iprop((I m K c σ' l -∗ WP c (k ⟨⟩) Q) -∗ WP c (.op (.semWait sm z) k) Q) := by
  obtain ⟨⟨h1, h2, h3⟩, rfl⟩ := of_ite h
  subst hs hz
  have hmw : ctx m K ⊢ MayWait (c : Thread nD τ) (.reg barS) () (oweL c (fun x => hasSend x l) (fun i => hasSig i l)) := by
    refine Laws.entails_trans ?_ (mayWaitL c (.reg barS) 1 (lv_bar c) _ _ ?_ ?_)
    · iintro H; iapply (ctx_lev (F := F) m K) $$ H
    · intro x _
      exact Nat.lt_of_succ_le (two_le_lvR (dst c x).1 (dst c x).2)
    · intro i hi
      rw [anySig_false h1] at hi; cases hi
  unfold I
  iintro ⟨#HC, ⟨%W, HO⟩, HS, HL, HR, HG, HB, HM, HX, HF, Hg⟩ Hk
  ihave HB := (Entails.of_eq (barRes_yes rfl)) $$ HB
  icases HB with ⟨Hp, Hc⟩
  iapply (Rounds.wp_wait_rest_token 𝒱₀ ER (sched m) (c : Thread nD τ) none (κ := K (c, .bar)) (wpE_semWait_eq 𝒱₀ (c : Thread nD τ) none Set.univ)
    (Set.mem_univ _) () (O := oweL c (fun x => hasSend x l) (fun i => hasSig i l)) (W := W) (R := 0) (m := 0) (T := ∅)
    (by rw [Nat.zero_add]; exact (expect_eq m c .bar).symm)) $$ [HO Hp Hc]
  · isplitl []; · iapply (ctx_inv m K c .bar) $$ HC
    isplitl [Hc]; · iexact Hc
    isplitl [HO]; · iexact HO
    isplitl []
    · iapply hmw $$ HC
    · iexact Hp
  iintro ⟨HO, Hp, -, Hpay⟩
  imod (Rounds.cell_close ER (sched m) (Set.mem_univ (K (c, .bar))) (fun h => h) (R := 0 + 1) (g := cell c .bar)
    (fun r hr => duties_later m _ r hr)) $$ [Hp] with Hz
  · isplitl []; · iapply (ctx_inv m K c .bar) $$ HC
    iexact Hp
  iapply Hk
  isplitr; · iexact HC
  isplitl [HO]; · iexists _; iexact HO
  isplitl [HS]; · iexact HS
  isplitl [Hpay]
  · have e : bigSep ((sched m).duties ((c : Thread nD τ), .reg barS) 0 \ ∅) (fun d => (sched m).payload ((c : Thread nD τ), .reg barS) 0 d) ⊢ bigSep Finset.univ (landRes (F := F) c l) := by
      rw [Finset.sdiff_empty, show (sched m).duties ((c : Thread nD τ), .reg barS) 0 = peers c from duties_eq m c .bar]
      rw [show (fun d => (sched m).payload ((c : Thread nD τ), .reg barS) 0 d) = (fun d => barPay (F := F) d c) from funext fun d => payload_bar c d]
      exact (bar_lands c).trans (bigSep_mono fun x _ => bar_land' h2 h3 x)
    iapply e $$ Hpay
  isplitl [HR]; · iexact HR
  isplitl [HG]; · iexact HG
  isplitl [Hz]
  · iapply (Entails.of_eq (barRes_no h2).symm) $$ Hz
  isplitl [HM]; · iexact HM
  isplitl [HX]; · iexact HX
  isplitl [HF]; · iexact HF
  iexact Hg

/-! ## Messages -/

/-- A held region is held twice, at half the share each. -/
theorem held_halve (c : Dev nD) (r : Rg) : heldR m c r ⊢ iprop(heldR m c r ∗ heldR m c r) := by
  unfold heldR owns
  iintro ⟨%q, %f, %hf, H⟩
  ihave H := (pointsTo_share (PosShare.mem_left_op_right q)).1 $$ H
  icases H with ⟨H1, H2⟩
  isplitl [H1]
  · iexists q.left, f
    isplitr; · ipureintro; exact hf
    iexact H1
  · iexists q.right, f
    isplitr; · ipureintro; exact hf
    iexact H2

theorem step_send {c n : Dev nD} {x : SK} {r r' : Rg} {σ σ' : St} {l : List Cmd} (h : adv c l σ (.send x r r') = some σ')
    {sm sm' : DmaSem sig} {ms md : Memref sig .tc .hbm S128x4096 .f32}
    (hn : n = (dst c x).1) (hms : ms = rgM c r) (hmd : md = rgM c r') (hs : sm = sS x) (hs' : sm' = rS (dst c x).2) {α : Type}
    {hsc : md.view.ref.isScScratch = false} {hsrc : ms.view.WordExact} {hdst : md.view.WordExact}
    {hsem : DmaTarget.Typed .hbm (.dma sm') (.remote (n : Thread nD τ) md (.dma sm) hsc)}
    {k : PUnit → Prog (TpuEff nD τ sig (Elt F) Λ₀ .tc) α} {Q : α → sProp 𝕄} :
    I m K c σ (.send x r r' :: l)
      ⊢ iprop((I m K c σ' l -∗ WP c (k ⟨⟩) Q)
          -∗ WP c (.op (.enqueueDma ms (.remote (n : Thread nD τ) md (.dma sm) hsc) (.dma sm') hsrc hdst hsem) k) Q) := by
  obtain ⟨⟨h1, h2, h3, h4, h5, h6, h7⟩, rfl⟩ := of_ite h
  have hout : rgM c r' = rgM (dst c x).1 (land (dst c x).1 (dst c x).2) := by rw [h6]; exact rgM_land _ _ _ _
  rw [hout] at hmd
  subst hn hms hmd hs hs'
  unfold I
  iintro ⟨#HC, ⟨%W, HO⟩, HS, HL, HR, HG, HB, HM, HX, HF, Hg⟩ Hk
  ihave HS := (bigSep_univ_update (Φ := sendRes c (.send x r r' :: l)) (Ψ := sendRes c l) x
    (fun j hj => by unfold sendRes; rw [hasSend_ne hj]; rfl)) $$ HS
  icases HS with ⟨Hi, HS⟩
  ihave Hi := (Entails.of_eq (sendRes_send (hasSend_self x r r' l))) $$ Hi
  icases Hi with ⟨Hp, Ht, Ht'⟩
  ihave HL := (bigSep_univ_update (Φ := landRes c (.send x r r' :: l)) (Ψ := landRes c l) x
    (fun j hj => by unfold landRes; rw [hasSend_ne hj]; rfl)) $$ HL
  icases HL with ⟨Hi, HL⟩
  ihave Hi := (Entails.of_eq (landRes_yes (hasSend_self x r r' l) h2)) $$ Hi
  ihave Hi := (show landing (F := F) c x ⊢ iprop(∃ X : Tile F, owns ((dst c x).1 : Thread nD τ) (rgM (dst c x).1 (land (dst c x).1 (dst c x).2)) fullShare X)
    from .rfl) $$ Hi
  icases Hi with ⟨%X, Hd⟩
  unfold owns
  icases Hd with ⟨%fd, -, Hd⟩
  ihave HM := (bigSep_univ_update (Φ := rgRes m c σ (.send x r r' :: l)) (Ψ := rgRes m c σ l) r
    (fun j hj => rfl)) $$ HM
  icases HM with ⟨Hr, HM⟩
  ihave Hr := (Entails.of_eq (rgRes_held h7)) $$ Hr
  ihave Hr := (held_halve c r) $$ Hr
  icases Hr with ⟨Hr, Hs⟩
  unfold heldR owns
  icases Hs with ⟨%q, %fs, %hfs, Hs⟩
  have hpay : iprop((rgM (dst c x).1 (land (dst c x).1 (dst c x).2)).view.loc ((dst c x).1 : Thread nD τ)
        ↦[(rgM (dst c x).1 (land (dst c x).1 (dst c x).2)).view.set]{fullShare}
          ((rgM (dst c x).1 (land (dst c x).1 (dst c x).2)).view.write (Elt F) fd ((rgM c r).view.read (Elt F) fs) Finset.univ))
      ⊢ (sched m).payload (cell (dst c x).1 (.r (dst c x).2)) 0 c := by
    rw [payload_eq]
    show _ ⊢ full (dst c x).1 (land (dst c x).1 (dst c x).2) (val m (dst c x).1 (land (dst c x).1 (dst c x).2))
    rw [val_land m c x h1, ← h5, ← hfs]
    unfold full owns
    iintro H
    iexists _
    isplitr
    rotate_left
    · iexact H
    ipureintro
    exact View.read_write_univ _ _
  iapply (Rounds.wp_send_pointsTo 𝒱₀ ER (sched m) (c : Thread nD τ) none (κ₁ := K (c, .s x)) (κ₂ := K ((dst c x).1, .r (dst c x).2)) (r₁ := 0) (r₂ := 0)
    (d₁ := c) (d₂ := c) (c' := ((dst c x).1 : Thread nD τ)) (src := rgM c r) (dst := rgM (dst c x).1 (land (dst c x).1 (dst c x).2)) (fd := fd) (fs := fs) (q := q) (sS := .dma (sS x)) (sem := .dma (rS (dst c x).2))
    (by show c ∈ (sched m).duties (cell c (.s x)) 0; rw [duties_eq, show duties c (.s x) = {c} from if_pos h1]; exact Finset.mem_singleton_self c)
    (by
      show c ∈ (sched m).duties (cell (dst c x).1 (.r (dst c x).2)) 0
      rw [duties_eq]
      show c ∈ (if inc (dst c x).1 (dst c x).2 = true then {(org (dst c x).1 (dst c x).2).1} else ∅ : Finset (Dev nD))
      rw [if_pos (dst_spec c x h1).1, (dst_spec c x h1).2.1]; exact Finset.mem_singleton_self c)
    () () NB (show (rgM (dst c x).1 (land (dst c x).1 (dst c x).2)).view.dmaCredit = NB from credit_rg _ _)
    (amount_eq m c (.s x) 0 c) (amount_eq m (dst c x).1 (.r (dst c x).2) 0 c)
    (oweL c (fun x => hasSend x l) (fun i => hasSig i l))
    (oweL_send c _ _ _ x (hasSend_self x r r' l) h3 (fun j hj => hasSend_ne hj r r' l))
    (by
      rw [payload_s]
      iintro -; iempintro)
    hpay)
    $$ [HO Ht Ht' Hd Hs]
  · isplitl []; · iapply (ctx_inv m K c (.s x)) $$ HC
    isplitl []; · iapply (ctx_inv m K (dst c x).1 (.r (dst c x).2)) $$ HC
    isplitl [Hs]; · iexact Hs
    isplitl [Hd]; · iexact Hd
    isplitl [HO]; · iexact HO
    isplitl [Ht]; · iexact Ht
    isplitl []; · iapply (ctx_reached m K c (.s x)) $$ HC
    isplitl [Ht']; · iexact Ht'
    iapply (ctx_reached m K (dst c x).1 (.r (dst c x).2)) $$ HC
  iintro ⟨Hc, HO⟩
  iapply Hk
  isplitr; · iexact HC
  isplitl [HO]; · iexists W; iexact HO
  isplitl [HS Hp Hc]
  · iapply HS
    rw [sendRes_wait h3 h4]
    isplitl [Hp]; · iexact Hp
    iexact Hc
  isplitl [HL]
  · iapply HL
    rw [landRes_no h3]
    iempintro
  isplitl [HR]; · iexact HR
  isplitl [HG]; · iexact HG
  isplitl [HB]; · iexact HB
  isplitl [HM Hr]
  · iapply HM
    iapply (Entails.of_eq (rgRes_held h7).symm)
    unfold heldR owns
    iexact Hr
  isplitl [HX]; · iexact HX
  isplitl [HF]; · iexact HF
  iexact Hg

/-! ## Waits for messages -/

theorem step_wrecv {c : Dev nD} {y : RK} {σ σ' : St} {l : List Cmd} (h : adv c l σ (.wrecv y) = some σ')
    {sp sp' : Space} {s s' : Shape} {e e' : EltTy} {sm : DmaSem sig} {ms : Memref sig .tc sp' s' e'} {md : Memref sig .tc sp s e}
    (hs : sm = rS y) (hN : md.view.dmaCredit = NB) {α : Type} {hsrc : ms.view.WordExact} {hdst : md.view.WordExact}
    {k : PUnit → Prog (TpuEff nD τ sig (Elt F) Λ₀ .tc) α} {Q : α → sProp 𝕄} :
    I m K c σ (.wrecv y :: l)
      ⊢ iprop((I m K c σ' l -∗ WP c (k ⟨⟩) Q) -∗ WP c (.op (.waitDma2 sm ms md hsrc hdst) k) Q) := by
  obtain ⟨⟨h1, h2, h3, h4⟩, rfl⟩ := of_ite h
  subst hs
  have hmw : ctx m K ⊢ MayWait (c : Thread nD τ) (.dma (rS y)) () (oweL c (fun x => hasSend x l) (fun i => hasSig i l)) := by
    refine Laws.entails_trans ?_ (mayWaitL c (.dma (rS y)) (lvR c y) (lv_r c y) _ _ ?_ ?_)
    · iintro H; iapply (ctx_lev (F := F) m K) $$ H
    · intro x hx
      exact Nat.blt_eq.mp (allSends_of h4 x hx)
    · intro i hi
      rw [anySig_false h3] at hi; cases hi
  unfold I
  iintro ⟨#HC, ⟨%W, HO⟩, HS, HL, HR, HG, HB, HM, HX, HF, Hg⟩ Hk
  ihave HR := (bigSep_univ_update (Φ := recvRes c (.wrecv y :: l)) (Ψ := recvRes c l) y
    (fun j hj => by unfold recvRes; rw [hasWrecv_ne hj])) $$ HR
  icases HR with ⟨Hi, HR⟩
  ihave Hi := (Entails.of_eq (recvRes_wait (hasWrecv_self y l))) $$ Hi
  icases Hi with ⟨Hp, Hc⟩
  iapply (Rounds.wp_wait_rest_token 𝒱₀ ER (sched m) (c : Thread nD τ) none (κ := K (c, .r y)) (wpE_waitDma2_eq 𝒱₀ (c : Thread nD τ) none Set.univ)
    (Set.mem_univ _) () (O := oweL c (fun x => hasSend x l) (fun i => hasSig i l)) (W := W) (R := 0) (m := 0) (T := ∅)
    (by rw [Nat.zero_add, hN]; exact ((expect_eq m c (.r y)).trans (if_pos h1)).symm)) $$ [HO Hp Hc]
  · isplitl []; · iapply (ctx_inv m K c (.r y)) $$ HC
    isplitl [Hc]
    · rw [hN]; iexact Hc
    isplitl [HO]; · iexact HO
    isplitl []; · iapply hmw $$ HC
    iexact Hp
  iintro ⟨HO, Hp, -, Hpay⟩
  imod (Rounds.cell_close ER (sched m) (Set.mem_univ (K (c, .r y))) (fun h => h) (R := 0 + 1) (g := cell c (.r y))
    (fun r hr => duties_later m _ r hr)) $$ [Hp] with Hz
  · isplitl []; · iapply (ctx_inv m K c (.r y)) $$ HC
    iexact Hp
  iapply Hk
  isplitr; · iexact HC
  isplitl [HO]; · iexists _; iexact HO
  isplitl [HS]; · iexact HS
  isplitl [HL]; · iexact HL
  isplitl [HR Hz]
  · iapply HR
    iapply (Entails.of_eq (recvRes_done h2).symm) $$ Hz
  isplitl [HG]; · iexact HG
  isplitl [HB]; · iexact HB
  isplitl [HM Hpay]
  · ihave HM := (bigSep_univ_update (Φ := rgRes m c σ (.wrecv y :: l)) (Ψ := rgRes m c (σ.hold (land c y)) l) (land c y)
      (fun j hj => by unfold rgRes; rw [has_hold_ne σ hj]; rfl)) $$ HM
    icases HM with ⟨-, HM⟩
    iapply HM
    iapply (Entails.of_eq (rgRes_held (has_hold σ (land c y))).symm)
    have e : bigSep ((sched m).duties ((c : Thread nD τ), .dma (rS y)) 0 \ ∅) (fun d => (sched m).payload ((c : Thread nD τ), .dma (rS y)) 0 d)
        ⊢ heldR m c (land c y) := by
      rw [Finset.sdiff_empty, show (sched m).duties ((c : Thread nD τ), .dma (rS y)) 0 = {(org c y).1} from (duties_eq m c (.r y)).trans (if_pos h1),
        bigSep_singleton, payload_r]
      unfold heldR
      iintro H
      iexists _
      iexact H
    iapply e $$ Hpay
  isplitl [HX]; · iexact HX
  isplitl [HF]; · iexact HF
  iexact Hg

theorem step_wsend {c : Dev nD} {x : SK} {σ σ' : St} {l : List Cmd} (h : adv c l σ (.wsend x) = some σ')
    {sp sp' : Space} {s s' : Shape} {e e' : EltTy} {sm : DmaSem sig} {ms : Memref sig .tc sp' s' e'} {md : Memref sig .tc sp s e}
    (hs : sm = sS x) (hN : md.view.dmaCredit = NB) {α : Type} {hsrc : ms.view.WordExact} {hdst : md.view.WordExact}
    {k : PUnit → Prog (TpuEff nD τ sig (Elt F) Λ₀ .tc) α} {Q : α → sProp 𝕄} :
    I m K c σ (.wsend x :: l)
      ⊢ iprop((I m K c σ' l -∗ WP c (k ⟨⟩) Q) -∗ WP c (.op (.waitDma2 sm ms md hsrc hdst) k) Q) := by
  obtain ⟨⟨h1, h2, h3⟩, rfl⟩ := of_ite h
  subst hs
  have hmw : ctx m K ⊢ MayWait (c : Thread nD τ) (.dma (sS x)) () (oweL c (fun x => hasSend x l) (fun i => hasSig i l)) := by
    refine Laws.entails_trans ?_ (mayWaitL c (.dma (sS x)) 0 (lv_s c x) _ _ ?_ ?_)
    · iintro H; iapply (ctx_lev (F := F) m K) $$ H
    · intro x hx
      exact Nat.lt_of_lt_of_le Nat.zero_lt_two (two_le_lvR (dst c x).1 (dst c x).2)
    · intro i hi
      exact Nat.one_pos
  unfold I
  iintro ⟨#HC, ⟨%W, HO⟩, HS, HL, HR, HG, HB, HM, HX, HF, Hg⟩ Hk
  ihave HS := (bigSep_univ_update (Φ := sendRes c (.wsend x :: l)) (Ψ := sendRes c l) x
    (fun j hj => by unfold sendRes; rw [hasWsend_ne hj]; rfl)) $$ HS
  icases HS with ⟨Hi, HS⟩
  ihave Hi := (Entails.of_eq (sendRes_wait (c := c) (l := .wsend x :: l) h3 (hasWsend_self x l))) $$ Hi
  icases Hi with ⟨Hp, Hc⟩
  iapply (Rounds.wp_wait_rest_token 𝒱₀ ER (sched m) (c : Thread nD τ) none (κ := K (c, .s x)) (wpE_waitDma2_eq 𝒱₀ (c : Thread nD τ) none Set.univ)
    (Set.mem_univ _) () (O := oweL c (fun x => hasSend x l) (fun i => hasSig i l)) (W := W) (R := 0) (m := 0) (T := ∅)
    (by rw [Nat.zero_add, hN]; exact ((expect_eq m c (.s x)).trans (if_pos h1)).symm)) $$ [HO Hp Hc]
  · isplitl []; · iapply (ctx_inv m K c (.s x)) $$ HC
    isplitl [Hc]
    · rw [hN]; iexact Hc
    isplitl [HO]; · iexact HO
    isplitl []; · iapply hmw $$ HC
    iexact Hp
  iintro ⟨HO, Hp, -, -⟩
  imod (Rounds.cell_close ER (sched m) (Set.mem_univ (K (c, .s x))) (fun h => h) (R := 0 + 1) (g := cell c (.s x))
    (fun r hr => duties_later m _ r hr)) $$ [Hp] with Hz
  · isplitl []; · iapply (ctx_inv m K c (.s x)) $$ HC
    iexact Hp
  iapply Hk
  isplitr; · iexact HC
  isplitl [HO]; · iexists _; iexact HO
  isplitl [HS Hz]
  · iapply HS
    iapply (Entails.of_eq (sendRes_done h3 h2).symm) $$ Hz
  isplitl [HL]; · iexact HL
  isplitl [HR]; · iexact HR
  isplitl [HG]; · iexact HG
  isplitl [HB]; · iexact HB
  isplitl [HM]; · iexact HM
  isplitl [HX]; · iexact HX
  isplitl [HF]; · iexact HF
  iexact Hg

/-! ## Copies between a region and a scratch tile -/

theorem setScr_self (σ : St) (b : Scr) (v : SV) : (σ.setScr b v).scr b = v := by cases b <;> rfl
theorem setScr_ne (σ : St) {b b' : Scr} (v : SV) (h : b' ≠ b) : (σ.setScr b v).scr b' = σ.scr b' := by
  cases b <;> cases b' <;> first | rfl | exact absurd rfl h
theorem setScr_loc (σ : St) (b : Scr) (v : SV) (s : Fin 2) : (σ.setScr b v).loc s = σ.loc s := by cases b <;> rfl
theorem setScr_has (σ : St) (b : Scr) (v : SV) (r : Rg) : (σ.setScr b v).has r = σ.has r := by cases b <;> rfl
theorem setLoc_self (σ : St) (s : Fin 2) (v : Option Fl) : (σ.setLoc s v).loc s = v := by
  unfold St.setLoc St.loc; by_cases h : s = 0
  · rw [if_pos h, if_pos h]
  · rw [if_neg h, if_neg h]
theorem setLoc_ne (σ : St) {s s' : Fin 2} (v : Option Fl) (h : s' ≠ s) : (σ.setLoc s v).loc s' = σ.loc s' := by
  unfold St.setLoc St.loc
  have : s = 0 ∧ s' = 1 ∨ s = 1 ∧ s' = 0 := by omega
  rcases this with ⟨rfl, rfl⟩ | ⟨rfl, rfl⟩ <;> rfl
theorem setLoc_scr (σ : St) (s : Fin 2) (v : Option Fl) (b : Scr) : (σ.setLoc s v).scr b = σ.scr b := by
  unfold St.setLoc; split <;> rfl
theorem setLoc_has (σ : St) (s : Fin 2) (v : Option Fl) (r : Rg) : (σ.setLoc s v).has r = σ.has r := by
  unfold St.setLoc; split <;> rfl

/-- A tile not in flight is owned. -/
theorem svRes_any (c : Dev nD) (b : Scr) {v : SV} (h : v.isFly = false) : svRes m c b v ⊢ iprop(∃ X : Tile F, owns (c : Thread nD τ) (scrM b) fullShare X) := by
  cases v with
  | any => exact BIBase.Entails.rfl
  | val e => unfold svRes; iintro H; iexists _; iexact H
  | fly => cases h

theorem locRes_none {c : Dev nD} {s : Fin 2} {v : Option Fl} (h : v = none) : locRes m c s v = semVal ((c : Thread nD τ), .dma (lS s)) 0 := by
  rw [h]; rfl

theorem step_cpIn {c : Dev nD} {s : Fin 2} {b : Scr} {r : Rg} {σ σ' : St} {l : List Cmd} (h : adv c l σ (.cpIn s b r) = some σ')
    {sm : DmaSem sig} {ms : Memref sig .tc .hbm S128x4096 .f32} {md : Memref sig .tc .vmem S128x4096 .f32}
    (hms : ms = rgM c r) (hmd : md = scrM b) (hs : sm = lS s) {α : Type}
    {hsrc : ms.view.WordExact} {hdst : md.view.WordExact} {hsem : DmaTarget.Typed (nD := nD) .hbm (.dma sm) (.here (p := (.tc : Proc τ)) md)}
    {k : PUnit → Prog (TpuEff nD τ sig (Elt F) Λ₀ .tc) α} {Q : α → sProp 𝕄} :
    I m K c σ (.cpIn s b r :: l)
      ⊢ iprop((I m K c σ' l -∗ WP c (k ⟨⟩) Q) -∗ WP c (.op (.enqueueDma ms (.here md) (.dma sm) hsrc hdst hsem) k) Q) := by
  obtain ⟨⟨h1, h2, h3⟩, rfl⟩ := of_ite h
  have h1' : σ.loc s = none := Option.isNone_iff_eq_none.mp h1
  subst hms hmd hs
  unfold I
  iintro ⟨#HC, ⟨%W, HO⟩, HS, HL, HR, HG, HB, HM, HX, HF, Hg⟩ Hk
  ihave HM := (bigSep_univ_update (Φ := rgRes m c σ (.cpIn s b r :: l))
    (Ψ := rgRes m c ((σ.setScr b .fly).setLoc s (some (.inn b r))) l) r
    (fun j hj => by unfold rgRes; rw [setLoc_has, setScr_has]; rfl)) $$ HM
  icases HM with ⟨Hr, HM⟩
  ihave Hr := (Entails.of_eq (rgRes_held h2)) $$ Hr
  ihave Hr := (held_halve c r) $$ Hr
  icases Hr with ⟨Hr, Hs⟩
  ihave HX := (bigSep_univ_update (Φ := fun b => svRes m c b (σ.scr b))
    (Ψ := fun b' => svRes m c b' (((σ.setScr b .fly).setLoc s (some (.inn b r))).scr b')) b
    (fun j hj => by rw [setLoc_scr, setScr_ne _ _ hj])) $$ HX
  icases HX with ⟨Hb, HX⟩
  ihave Hb := (svRes_any (m := m) c b h3) $$ Hb
  ihave HF := (bigSep_univ_update (Φ := fun s => locRes m c s (σ.loc s))
    (Ψ := fun s' => locRes m c s' (((σ.setScr b .fly).setLoc s (some (.inn b r))).loc s')) s
    (fun j hj => by rw [setLoc_ne _ _ hj, setScr_loc])) $$ HF
  icases HF with ⟨Hf, HF⟩
  ihave Hf := (Entails.of_eq (locRes_none h1')) $$ Hf
  unfold heldR owns
  icases Hs with ⟨%q, %fs, %hfs, Hs⟩
  icases Hb with ⟨%X, %fd, -, Hb⟩
  iapply (Transfers.wp_dmaLocal countersEmb 𝒱₀ (c : Thread nD τ) none (src := rgM c r) (dst := scrM b) (sm := .dma (lS s)) (fs := fs) (fd := fd) (q := q)
    (Sd := (scrM b).view.set) () NB (show (scrM b).view.dmaCredit = NB from credit_scr b) NB_pos (Finset.Subset.refl _)) $$ [Hs Hb Hf]
  · isplitl [Hs]; · iexact Hs
    isplitl [Hb]; · iexact Hb
    iexact Hf
  iintro HFl
  iapply Hk
  isplitr; · iexact HC
  isplitl [HO]; · iexists W; iexact HO
  isplitl [HS]; · iexact HS
  isplitl [HL]; · iexact HL
  isplitl [HR]; · iexact HR
  isplitl [HG]; · iexact HG
  isplitl [HB]; · iexact HB
  isplitl [HM Hr]
  · iapply HM
    iapply (Entails.of_eq (rgRes_held (by rw [setLoc_has, setScr_has]; exact h2)).symm)
    unfold heldR owns
    iexact Hr
  isplitl [HX]
  · iapply HX
    rw [setLoc_scr, setScr_self]
    unfold svRes
    iempintro
  isplitl [HF HFl]
  · iapply HF
    rw [setLoc_self]
    unfold locRes
    iexists _
    isplitr
    rotate_left
    · iexact HFl
    ipureintro
    unfold flRes owns
    iintro ⟨H, -⟩
    iexists _
    isplitr
    rotate_left
    · iexact H
    ipureintro
    rw [← hfs]
    exact View.read_write_univ _ _
  iexact Hg

theorem three_sub_ne : ∀ i : Fin 2, (3 - i.castLE (by decide) : Fin 4) ≠ 1 := by decide

/-- What a device computes for a region is what the region is to hold. -/
theorem ev_defEx (c : Dev nD) (r : Rg) (e : Ex) (h : defEx c r = some e) : ev m c e = val m c r := by
  cases r with
  | part j st => cases h
  | res st => cases h
  | slot s st => cases h
  | fwd i st =>
    obtain ⟨hz, rfl⟩ := of_ite h
    have h1 : inc c (.rs st (3 - i.castLE (by decide))) = true := decide_eq_true (Or.inr hz)
    have h2 : (3 - i.castLE (by decide) : Fin 4) ≠ 1 := three_sub_ne i
    show addT (sv m c (3 - i.castLE (by decide)) st) (pv m c (fwdPart c i) st) = fv m c i st
    rw [sv_sv0 m c _ st h1 h2]; rfl
  | out q j st =>
    obtain ⟨⟨rfl, rfl⟩, rfl⟩ := of_ite h
    show yv m c st = yv m (mk (rOf c) (zOf c)) st
    rw [mk_rz]

theorem step_cpOut {c : Dev nD} {s : Fin 2} {r : Rg} {σ σ' : St} {l : List Cmd} (h : adv c l σ (.cpOut s r) = some σ')
    {sm : DmaSem sig} {ms : Memref sig .tc .vmem S128x4096 .f32} {md : Memref sig .tc .hbm S128x4096 .f32}
    (hms : ms = scrM .o) (hmd : md = rgM c r) (hs : sm = lS s) {α : Type}
    {hsrc : ms.view.WordExact} {hdst : md.view.WordExact} {hsem : DmaTarget.Typed (nD := nD) .vmem (.dma sm) (.here (p := (.tc : Proc τ)) md)}
    {k : PUnit → Prog (TpuEff nD τ sig (Elt F) Λ₀ .tc) α} {Q : α → sProp 𝕄} :
    I m K c σ (.cpOut s r :: l)
      ⊢ iprop((I m K c σ' l -∗ WP c (k ⟨⟩) Q) -∗ WP c (.op (.enqueueDma ms (.here md) (.dma sm) hsrc hdst hsem) k) Q) := by
  rcases hd : defEx c r with _ | e
  · simp only [adv, hd] at h; cases h
  have h' : (if (σ.loc s).isNone = true ∧ σ.o = .val e ∧ σ.has r = false ∧ hasOut r l = false then
        some ((σ.setScr .o .fly).setLoc s (some (.out r))) else none) = some σ' := by simpa only [adv, hd] using h
  obtain ⟨⟨h1, h2, h3, h4⟩, rfl⟩ := of_ite h'
  have h1' : σ.loc s = none := Option.isNone_iff_eq_none.mp h1
  have hv := ev_defEx (m := m) c r e hd
  subst hms hmd hs
  unfold I
  iintro ⟨#HC, ⟨%W, HO⟩, HS, HL, HR, HG, HB, HM, HX, HF, Hg⟩ Hk
  ihave HM := (bigSep_univ_update (Φ := rgRes m c σ (.cpOut s r :: l))
    (Ψ := rgRes m c ((σ.setScr .o .fly).setLoc s (some (.out r))) l) r
    (fun j hj => by unfold rgRes; rw [setLoc_has, setScr_has, hasOut_ne s hj])) $$ HM
  icases HM with ⟨Hr, HM⟩
  ihave Hr := (Entails.of_eq (rgRes_raw h3 (hasOut_self s r l))) $$ Hr
  ihave Hr := (show raw (F := F) c r ⊢ iprop(∃ X : Tile F, full c r X) from BIBase.Entails.rfl) $$ Hr
  ihave HX := (bigSep_univ_update (Φ := fun b => svRes m c b (σ.scr b))
    (Ψ := fun b' => svRes m c b' (((σ.setScr .o .fly).setLoc s (some (.out r))).scr b')) .o
    (fun j hj => by rw [setLoc_scr, setScr_ne _ _ hj])) $$ HX
  icases HX with ⟨Hb, HX⟩
  ihave Hb := (Entails.of_eq (show svRes m c .o (σ.scr .o) = owns (c : Thread nD τ) (scrM .o) fullShare (val m c r) by
    rw [← hv]; exact congrArg (svRes m c .o) h2)) $$ Hb
  ihave HF := (bigSep_univ_update (Φ := fun s => locRes m c s (σ.loc s))
    (Ψ := fun s' => locRes m c s' (((σ.setScr .o .fly).setLoc s (some (.out r))).loc s')) s
    (fun j hj => by rw [setLoc_ne _ _ hj, setScr_loc])) $$ HF
  icases HF with ⟨Hf, HF⟩
  ihave Hf := (Entails.of_eq (locRes_none h1')) $$ Hf
  unfold full owns
  icases Hr with ⟨%X, %fd, -, Hr⟩
  icases Hb with ⟨%fs, %hfs, Hb⟩
  iapply (Transfers.wp_dmaLocal countersEmb 𝒱₀ (c : Thread nD τ) none (src := scrM .o) (dst := rgM c r) (sm := .dma (lS s)) (fs := fs) (fd := fd)
    (q := fullShare) (Sd := (rgM c r).view.set) () NB (show (rgM c r).view.dmaCredit = NB from credit_rg c r) NB_pos (Finset.Subset.refl _))
    $$ [Hr Hb Hf]
  · isplitl [Hb]; · iexact Hb
    isplitl [Hr]; · iexact Hr
    iexact Hf
  iintro HFl
  iapply Hk
  isplitr; · iexact HC
  isplitl [HO]; · iexists W; iexact HO
  isplitl [HS]; · iexact HS
  isplitl [HL]; · iexact HL
  isplitl [HR]; · iexact HR
  isplitl [HG]; · iexact HG
  isplitl [HB]; · iexact HB
  isplitl [HM]
  · iapply HM
    rw [rgRes_none (by rw [setLoc_has, setScr_has]; exact h3) h4]
    iempintro
  isplitl [HX]
  · iapply HX
    rw [setLoc_scr, setScr_self]
    unfold svRes
    iempintro
  isplitl [HF HFl]
  · iapply HF
    rw [setLoc_self]
    unfold locRes
    iexists _
    isplitr
    rotate_left
    · iexact HFl
    ipureintro
    unfold flRes full owns
    iintro ⟨H, H'⟩
    isplitl [H]
    · iexists _
      isplitr
      rotate_left
      · iexact H
      ipureintro
      rw [← hfs]
      exact View.read_write_univ _ _
    · iexists (scrM .o).view.read (Elt F) fs, fs
      isplitr; · ipureintro; rfl
      iexact H'
  iexact Hg

theorem step_wloc {c : Dev nD} {s : Fin 2} {σ σ' : St} {l : List Cmd} (h : adv c l σ (.wloc s) = some σ')
    {sp sp' : Space} {sh sh' : Shape} {e e' : EltTy} {sm : DmaSem sig} {ms : Memref sig .tc sp' sh' e'} {md : Memref sig .tc sp sh e}
    (hs : sm = lS s) (hN : md.view.dmaCredit = NB) {α : Type} {hsrc : ms.view.WordExact} {hdst : md.view.WordExact}
    {k : PUnit → Prog (TpuEff nD τ sig (Elt F) Λ₀ .tc) α} {Q : α → sProp 𝕄} :
    I m K c σ (.wloc s :: l)
      ⊢ iprop((I m K c σ' l -∗ WP c (k ⟨⟩) Q) -∗ WP c (.op (.waitDma2 sm ms md hsrc hdst) k) Q) := by
  subst hs
  have hmw : ctx m K ⊢ MayWait (c : Thread nD τ) (.dma (lS s)) () (oweL c (fun x => hasSend x l) (fun i => hasSig i l)) := by
    refine Laws.entails_trans ?_ (mayWaitL c (.dma (lS s)) 0 (lv_l c s) _ _ ?_ ?_)
    · iintro H; iapply (ctx_lev (F := F) m K) $$ H
    · intro x hx
      exact Nat.lt_of_lt_of_le Nat.zero_lt_two (two_le_lvR (dst c x).1 (dst c x).2)
    · intro i hi
      exact Nat.one_pos
  rcases hf : σ.loc s with _ | f
  · simp only [adv, hf] at h; cases h
  have key : bigSep Finset.univ (rgRes m c σ (.wloc s :: l)) ⊢ iprop(bigSep Finset.univ (fun b => svRes m c b (σ.scr b))
      -∗ flRes m c f -∗ (bigSep Finset.univ (rgRes m c σ' l) ∗ bigSep Finset.univ (fun b => svRes m c b (σ'.scr b)))) := by
    cases f with
    | inn b r =>
      have h' : some ((σ.setScr b (.val (.rg r))).setLoc s none) = some σ' := by simpa only [adv, hf] using h
      obtain rfl := Option.some.inj h'
      iintro HM HX Hf
      isplitl [HM]
      · iapply (Entails.of_eq (show bigSep Finset.univ (rgRes m c σ (.wloc s :: l))
            = bigSep Finset.univ (rgRes m c ((σ.setScr b (.val (.rg r))).setLoc s none) l) from
          congrArg (bigSep Finset.univ) (funext fun j => by unfold rgRes; rw [setLoc_has, setScr_has]; rfl))) $$ HM
      · ihave HX := (bigSep_univ_update (Φ := fun b => svRes m c b (σ.scr b))
          (Ψ := fun b' => svRes m c b' (((σ.setScr b (.val (.rg r))).setLoc s none).scr b')) b
          (fun j hj => by rw [setLoc_scr, setScr_ne _ _ hj])) $$ HX
        icases HX with ⟨-, HX⟩
        iapply HX
        rw [setLoc_scr, setScr_self]
        unfold svRes flRes
        iexact Hf
    | out r =>
      have h' : some (((σ.setScr .o .any).hold r).setLoc s none) = some σ' := by simpa only [adv, hf] using h
      obtain rfl := Option.some.inj h'
      iintro HM HX Hf
      unfold flRes
      icases Hf with ⟨Hr, Ho⟩
      isplitl [HM Hr]
      · ihave HM := (bigSep_univ_update (Φ := rgRes m c σ (.wloc s :: l))
          (Ψ := rgRes m c (((σ.setScr .o .any).hold r).setLoc s none) l) r
          (fun j hj => by unfold rgRes; rw [setLoc_has, has_hold_ne _ hj, setScr_has]; rfl)) $$ HM
        icases HM with ⟨-, HM⟩
        iapply HM
        rw [rgRes_held (by rw [setLoc_has]; exact has_hold _ r)]
        unfold heldR
        iexists fullShare
        iexact Hr
      · ihave HX := (bigSep_univ_update (Φ := fun b => svRes m c b (σ.scr b))
          (Ψ := fun b' => svRes m c b' ((((σ.setScr .o .any).hold r).setLoc s none).scr b')) .o
          (fun j hj => by
            rw [setLoc_scr]
            show svRes m c j ((σ.setScr .o .any).scr j) = _
            rw [setScr_ne _ _ hj])) $$ HX
        icases HX with ⟨-, HX⟩
        iapply HX
        rw [setLoc_scr, show ((σ.setScr .o .any).hold r).scr .o = .any from rfl]
        unfold svRes
        iexact Ho
  have hl : σ'.loc s = none := by
    cases f with
    | inn b r =>
      have h' : some ((σ.setScr b (.val (.rg r))).setLoc s none) = some σ' := by simpa only [adv, hf] using h
      obtain rfl := Option.some.inj h'
      exact setLoc_self _ _ _
    | out r =>
      have h' : some (((σ.setScr .o .any).hold r).setLoc s none) = some σ' := by simpa only [adv, hf] using h
      obtain rfl := Option.some.inj h'
      exact setLoc_self _ _ _
  have hl' : ∀ j, j ≠ s → σ'.loc j = σ.loc j := by
    intro j hj
    cases f with
    | inn b r =>
      have h' : some ((σ.setScr b (.val (.rg r))).setLoc s none) = some σ' := by simpa only [adv, hf] using h
      obtain rfl := Option.some.inj h'
      rw [setLoc_ne _ _ hj, setScr_loc]
    | out r =>
      have h' : some (((σ.setScr .o .any).hold r).setLoc s none) = some σ' := by simpa only [adv, hf] using h
      obtain rfl := Option.some.inj h'
      rw [setLoc_ne _ _ hj]; exact setScr_loc _ _ _ _
  unfold I
  iintro ⟨#HC, ⟨%W, HO⟩, HS, HL, HR, HG, HB, HM, HX, HF, Hg⟩ Hk
  ihave HF := (bigSep_univ_update (Φ := fun s => locRes m c s (σ.loc s)) (Ψ := fun s' => locRes m c s' (σ'.loc s')) s
    (fun j hj => by rw [hl' j hj])) $$ HF
  icases HF with ⟨Hf, HF⟩
  ihave Hf := (Entails.of_eq (show locRes m c s (σ.loc s) = iprop(∃ D : sProp 𝕄, ⌜D ⊢ flRes m c f⌝ ∗ Flight countersEmb (c : Thread nD τ) (.dma (lS s)) () NB D) by
    rw [hf]; rfl)) $$ Hf
  icases Hf with ⟨%D, %hD, Hf⟩
  iapply (Transfers.wp_waitLocalO countersEmb 𝒱₀ (c : Thread nD τ) none (sem := lS s) () hN) $$ [Hf HO]
  · isplitl [Hf]; · iexact Hf
    isplitl [HO]; · iexact HO
    iapply hmw $$ HC
  iintro ⟨HD, Hz, HO⟩
  ihave HD := hD $$ HD
  ihave Hk2 := key $$ HM
  ihave Hk2 := Hk2 $$ HX
  ihave Hk2 := Hk2 $$ HD
  icases Hk2 with ⟨HM, HX⟩
  iapply Hk
  isplitr; · iexact HC
  isplitl [HO]; · iexists _; iexact HO
  isplitl [HS]; · iexact HS
  isplitl [HL]; · iexact HL
  isplitl [HR]; · iexact HR
  isplitl [HG]; · iexact HG
  isplitl [HB]; · iexact HB
  isplitl [HM]; · iexact HM
  isplitl [HX]; · iexact HX
  isplitl [HF Hz]
  · iapply HF
    iapply (Entails.of_eq (locRes_none hl).symm) $$ Hz
  iexact Hg

/-! ## Loads and stores -/

theorem own_ld {c : Dev nD} {b : Scr} {X : Tile F} {α : Type} {hl : (scrM b).view.LoadsAt (Rect.unit (s := S128x4096) ![0, 0] S128x4096.size inb_S128x4096_S128x4096_0_0).toLoadRect}
    {k : Tile F → Prog (TpuEff nD τ sig (Elt F) Λ₀ .tc) α} {Q : α → sProp 𝕄} :
    owns (c : Thread nD τ) (scrM b) fullShare X ⊢ iprop((owns (c : Thread nD τ) (scrM b) fullShare X -∗ WP c (k X) Q)
      -∗ WP c (.op (.load (scrM b) (Rect.unit (s := S128x4096) ![0, 0] S128x4096.size inb_S128x4096_S128x4096_0_0).toLoadRect hl) k) Q) := by
  have hz : (![0, 0] : Fin 2 → ℕ) = fun _ => 0 := by funext i; fin_cases i <;> rfl
  have hr : ∀ f, (scrM b).view.readAt (Elt F) (Rect.unit (s := S128x4096) ![0, 0] S128x4096.size inb_S128x4096_S128x4096_0_0).toLoadRect f
      = (scrM b).view.read (Elt F) f := by
    intro f
    cases b
    · exact Memref.readAt_unit_zero (Elt F) cc0_scratch11 hz _ f
    · exact Memref.readAt_unit_zero (Elt F) cc0_scratch12 hz _ f
    · exact Memref.readAt_unit_zero (Elt F) cc0_scratch13 hz _ f
    · exact Memref.readAt_unit_zero (Elt F) cc0_scratch14 hz _ f
  unfold owns
  iintro ⟨%f, %hf, H⟩ Hk
  iapply (wp_load 𝒱₀ (c : Thread nD τ) none Set.univ (m := scrM b) (hl := hl) (View.setOn_subset_set _ _)) $$ H
  iintro H
  rw [hr f, hf]
  iapply Hk
  iexists f
  isplitr; · ipureintro; exact hf
  iexact H

theorem own_ldg {c : Dev nD} {X : S4096.Idx → Elt F .f32} {α : Type} {hl : gamM.view.LoadsAt (Rect.unit (s := S4096) ![0] S4096.size inb_S4096_S4096_0).toLoadRect}
    {k : (S4096.Idx → Elt F .f32) → Prog (TpuEff nD τ sig (Elt F) Λ₀ .tc) α} {Q : α → sProp 𝕄} :
    owns (c : Thread nD τ) gamM fullShare X ⊢ iprop((owns (c : Thread nD τ) gamM fullShare X -∗ WP c (k X) Q)
      -∗ WP c (.op (.load gamM (Rect.unit (s := S4096) ![0] S4096.size inb_S4096_S4096_0).toLoadRect hl) k) Q) := by
  have hz : (![0] : Fin 1 → ℕ) = fun _ => 0 := by funext i; fin_cases i; rfl
  have hr : ∀ f, gamM.view.readAt (Elt F) (Rect.unit (s := S4096) ![0] S4096.size inb_S4096_S4096_0).toLoadRect f = gamM.view.read (Elt F) f :=
    fun f => Memref.readAt_unit_zero (Elt F) cc0_stg0_0 hz _ f
  unfold owns
  iintro ⟨%f, %hf, H⟩ Hk
  iapply (wp_load 𝒱₀ (c : Thread nD τ) none Set.univ (m := gamM) (hl := hl) (View.setOn_subset_set _ _)) $$ H
  iintro H
  rw [hr f, hf]
  iapply Hk
  iexists f
  isplitr; · ipureintro; exact hf
  iexact H

theorem own_st {c : Dev nD} {b : Scr} {X w : Tile F} {α : Type}
    {hx : ((scrM b).access (Rect.unit (s := S128x4096) ![0, 0] S128x4096.size inb_S128x4096_S128x4096_0_0)).Stores Finset.univ}
    {hm : (Finset.univ : Finset S128x4096.Idx) = Finset.univ ∨ ∀ a, (Rect.unit (s := S128x4096) ![0, 0] S128x4096.size inb_S128x4096_S128x4096_0_0).stride a = 1}
    {k : PUnit → Prog (TpuEff nD τ sig (Elt F) Λ₀ .tc) α} {Q : α → sProp 𝕄} :
    owns (c : Thread nD τ) (scrM b) fullShare X ⊢ iprop((owns (c : Thread nD τ) (scrM b) fullShare w -∗ WP c (k ⟨⟩) Q)
      -∗ WP c (.op (.store (scrM b) (Rect.unit (s := S128x4096) ![0, 0] S128x4096.size inb_S128x4096_S128x4096_0_0) w Finset.univ hx hm) k) Q) := by
  have hz : (![0, 0] : Fin 2 → ℕ) = fun _ => 0 := by funext i; fin_cases i <;> rfl
  have hr : ∀ f, (scrM b).view.read (Elt F)
      (((scrM b).access (Rect.unit (s := S128x4096) ![0, 0] S128x4096.size inb_S128x4096_S128x4096_0_0)).write (Elt F) f w Finset.univ) = w := by
    intro f
    cases b
    · exact (View.read_whole cc0_scratch11 _).trans (Memref.write_access_unit_zero_univ (Elt F) cc0_scratch11 hz _ f w)
    · exact (View.read_whole cc0_scratch12 _).trans (Memref.write_access_unit_zero_univ (Elt F) cc0_scratch12 hz _ f w)
    · exact (View.read_whole cc0_scratch13 _).trans (Memref.write_access_unit_zero_univ (Elt F) cc0_scratch13 hz _ f w)
    · exact (View.read_whole cc0_scratch14 _).trans (Memref.write_access_unit_zero_univ (Elt F) cc0_scratch14 hz _ f w)
  have hsub : ((scrM b).access (Rect.unit (s := S128x4096) ![0, 0] S128x4096.size inb_S128x4096_S128x4096_0_0)).setOn Finset.univ ⊆ (scrM b).view.set := by
    have e : (scrM b).view.set = Finset.univ := by cases b <;> exact View.set_whole _
    rw [e]; exact Finset.subset_univ _
  unfold owns
  iintro ⟨%f, -, H⟩ Hk
  iapply (wp_store 𝒱₀ (c : Thread nD τ) none Set.univ (m := scrM b) (hx := hx) (hm := hm) hsub) $$ H
  iintro H
  iapply Hk
  iexists _
  isplitr
  rotate_left
  · iexact H
  ipureintro
  exact hr f

theorem step_ld {c : Dev nD} {b : Scr} {e : Ex} {σ σ' : St} {l : List Cmd} (h : adv c l σ (.ld b e) = some σ')
    {ms : Memref sig .tc .vmem S128x4096 .f32} (hm : ms = scrM b) {α : Type}
    {hl : ms.view.LoadsAt (Rect.unit (s := S128x4096) ![0, 0] S128x4096.size inb_S128x4096_S128x4096_0_0).toLoadRect}
    {k : Tile F → Prog (TpuEff nD τ sig (Elt F) Λ₀ .tc) α} {Q : α → sProp 𝕄} :
    I m K c σ (.ld b e :: l) ⊢ iprop((I m K c σ' l -∗ WP c (k (ev m c e)) Q)
      -∗ WP c (.op (.load ms (Rect.unit (s := S128x4096) ![0, 0] S128x4096.size inb_S128x4096_S128x4096_0_0).toLoadRect hl) k) Q) := by
  obtain ⟨h1, rfl⟩ := of_ite h
  subst hm
  unfold I
  iintro ⟨#HC, HO, HS, HL, HR, HG, HB, HM, HX, HF, Hg⟩ Hk
  ihave HX := (bigSep_univ_update (Φ := fun b => svRes m c b (σ.scr b)) (Ψ := fun b => svRes m c b (σ.scr b)) b (fun _ _ => rfl)) $$ HX
  icases HX with ⟨Hb, HX⟩
  rw [h1]
  ihave Hb := (Entails.of_eq (show svRes m c b (.val e) = owns (c : Thread nD τ) (scrM b) fullShare (ev m c e) from rfl)) $$ Hb
  iapply (own_ld (b := b) (X := ev m c e)) $$ Hb
  iintro Hb
  iapply Hk
  isplitr; · iexact HC
  isplitl [HO]; · iexact HO
  isplitl [HS]; · iexact HS
  isplitl [HL]; · iexact HL
  isplitl [HR]; · iexact HR
  isplitl [HG]; · iexact HG
  isplitl [HB]; · iexact HB
  isplitl [HM]; · iexact HM
  isplitl [HX Hb]
  · iapply HX
    iapply (Entails.of_eq (show svRes m c b (.val e) = owns (c : Thread nD τ) (scrM b) fullShare (ev m c e) from rfl).symm)
    iexact Hb
  isplitl [HF]; · iexact HF
  iexact Hg

theorem step_ldx {c : Dev nD} {b : Scr} {σ σ' : St} {l : List Cmd} (h : adv c l σ (.ldx b) = some σ')
    {ms : Memref sig .tc .vmem S128x4096 .f32} (hm : ms = scrM b) {α : Type}
    {hl : ms.view.LoadsAt (Rect.unit (s := S128x4096) ![0, 0] S128x4096.size inb_S128x4096_S128x4096_0_0).toLoadRect}
    {k : Tile F → Prog (TpuEff nD τ sig (Elt F) Λ₀ .tc) α} {Q : α → sProp 𝕄} :
    I m K c σ (.ldx b :: l) ⊢ iprop((∀ X, I m K c σ' l -∗ WP c (k X) Q)
      -∗ WP c (.op (.load ms (Rect.unit (s := S128x4096) ![0, 0] S128x4096.size inb_S128x4096_S128x4096_0_0).toLoadRect hl) k) Q) := by
  obtain ⟨h1, rfl⟩ := of_ite h
  subst hm
  unfold I
  iintro ⟨#HC, HO, HS, HL, HR, HG, HB, HM, HX, HF, Hg⟩ Hk
  ihave HX := (bigSep_univ_update (Φ := fun b => svRes m c b (σ.scr b)) (Ψ := fun b => svRes m c b (σ.scr b)) b (fun _ _ => rfl)) $$ HX
  icases HX with ⟨Hb, HX⟩
  rcases hv : σ.scr b with _ | e | _
  · ihave Hb := (Entails.of_eq (show svRes m c b (.any) = iprop(∃ X : Tile F, owns (c : Thread nD τ) (scrM b) fullShare X) from rfl)) $$ Hb
    icases Hb with ⟨%X, Hb⟩
    iapply (own_ld (b := b) (X := X)) $$ Hb
    iintro Hb
    iapply Hk
    isplitr; · iexact HC
    isplitl [HO]; · iexact HO
    isplitl [HS]; · iexact HS
    isplitl [HL]; · iexact HL
    isplitl [HR]; · iexact HR
    isplitl [HG]; · iexact HG
    isplitl [HB]; · iexact HB
    isplitl [HM]; · iexact HM
    isplitl [HX Hb]
    · iapply HX
      iapply (Entails.of_eq (show svRes m c b (.any) = iprop(∃ X : Tile F, owns (c : Thread nD τ) (scrM b) fullShare X) from rfl).symm)
      iexists X
      iexact Hb
    isplitl [HF]; · iexact HF
    iexact Hg
  · ihave Hb := (Entails.of_eq (show svRes m c b (.val e) = owns (c : Thread nD τ) (scrM b) fullShare (ev m c e) from rfl)) $$ Hb
    iapply (own_ld (b := b) (X := ev m c e)) $$ Hb
    iintro Hb
    iapply Hk
    isplitr; · iexact HC
    isplitl [HO]; · iexact HO
    isplitl [HS]; · iexact HS
    isplitl [HL]; · iexact HL
    isplitl [HR]; · iexact HR
    isplitl [HG]; · iexact HG
    isplitl [HB]; · iexact HB
    isplitl [HM]; · iexact HM
    isplitl [HX Hb]
    · iapply HX
      iapply (Entails.of_eq (show svRes m c b (.val e) = owns (c : Thread nD τ) (scrM b) fullShare (ev m c e) from rfl).symm)
      iexact Hb
    isplitl [HF]; · iexact HF
    iexact Hg
  · rw [hv] at h1; cases h1

theorem step_ldg {c : Dev nD} {σ σ' : St} {l : List Cmd} (h : adv c l σ .ldg = some σ')
    {ms : Memref sig .tc .vmem S4096 .f32} (hm : ms = gamM) {α : Type}
    {hl : ms.view.LoadsAt (Rect.unit (s := S4096) ![0] S4096.size inb_S4096_S4096_0).toLoadRect}
    {k : (S4096.Idx → Elt F .f32) → Prog (TpuEff nD τ sig (Elt F) Λ₀ .tc) α} {Q : α → sProp 𝕄} :
    I m K c σ (.ldg :: l) ⊢ iprop((I m K c σ' l -∗ WP c (k (gv m c)) Q)
      -∗ WP c (.op (.load ms (Rect.unit (s := S4096) ![0] S4096.size inb_S4096_S4096_0).toLoadRect hl) k) Q) := by
  obtain rfl : σ = σ' := Option.some.inj h
  subst hm
  unfold I
  iintro ⟨#HC, HO, HS, HL, HR, HG, HB, HM, HX, HF, Hg⟩ Hk
  iapply (own_ldg (X := gv m c)) $$ Hg
  iintro Hg
  iapply Hk
  isplitr; · iexact HC
  isplitl [HO]; · iexact HO
  isplitl [HS]; · iexact HS
  isplitl [HL]; · iexact HL
  isplitl [HR]; · iexact HR
  isplitl [HG]; · iexact HG
  isplitl [HB]; · iexact HB
  isplitl [HM]; · iexact HM
  isplitl [HX]; · iexact HX
  isplitl [HF]; · iexact HF
  iexact Hg

theorem step_st {c : Dev nD} {b : Scr} {e : Ex} {σ σ' : St} {l : List Cmd} (h : adv c l σ (.st b e) = some σ')
    {ms : Memref sig .tc .vmem S128x4096 .f32} {w : Tile F} (hm : ms = scrM b) (hw : w = ev m c e) {α : Type}
    {hx : (ms.access (Rect.unit (s := S128x4096) ![0, 0] S128x4096.size inb_S128x4096_S128x4096_0_0)).Stores Finset.univ}
    {hr : (Finset.univ : Finset S128x4096.Idx) = Finset.univ ∨ ∀ a, (Rect.unit (s := S128x4096) ![0, 0] S128x4096.size inb_S128x4096_S128x4096_0_0).stride a = 1}
    {k : PUnit → Prog (TpuEff nD τ sig (Elt F) Λ₀ .tc) α} {Q : α → sProp 𝕄} :
    I m K c σ (.st b e :: l) ⊢ iprop((I m K c σ' l -∗ WP c (k ⟨⟩) Q)
      -∗ WP c (.op (.store ms (Rect.unit (s := S128x4096) ![0, 0] S128x4096.size inb_S128x4096_S128x4096_0_0) w Finset.univ hx hr) k) Q) := by
  obtain ⟨h1, rfl⟩ := of_ite h
  subst hm hw
  unfold I
  iintro ⟨#HC, HO, HS, HL, HR, HG, HB, HM, HX, HF, Hg⟩ Hk
  ihave HX := (bigSep_univ_update (Φ := fun b => svRes m c b (σ.scr b)) (Ψ := fun b' => svRes m c b' ((σ.setScr b (.val e)).scr b')) b
    (fun j hj => by rw [setScr_ne _ _ hj])) $$ HX
  icases HX with ⟨Hb, HX⟩
  ihave Hb := (svRes_any (m := m) c b h1) $$ Hb
  icases Hb with ⟨%X, Hb⟩
  iapply (own_st (b := b) (X := X) (w := ev m c e)) $$ Hb
  iintro Hb
  iapply Hk
  isplitr; · iexact HC
  isplitl [HO]; · iexact HO
  isplitl [HS]; · iexact HS
  isplitl [HL]; · iexact HL
  isplitl [HR]; · iexact HR
  isplitl [HG]; · iexact HG
  isplitl [HB]; · iexact HB
  isplitl [HM]
  · iapply (Entails.of_eq (congrArg (bigSep Finset.univ) (funext fun j => by unfold rgRes; rw [setScr_has]; rfl) :
      bigSep Finset.univ (rgRes m c σ (.st b e :: l)) = bigSep Finset.univ (rgRes m c (σ.setScr b (.val e)) l))) $$ HM
  isplitl [HX Hb]
  · iapply HX
    rw [setScr_self]
    unfold svRes
    iexact Hb
  isplitl [HF]
  · iapply (Entails.of_eq (congrArg (bigSep Finset.univ) (funext fun s => by rw [setScr_loc]) :
      bigSep Finset.univ (fun s => locRes m c s (σ.loc s)) = bigSep Finset.univ (fun s => locRes m c s ((σ.setScr b (.val e)).loc s)))) $$ HF
  iexact Hg

end Cert.KernelIdeal.AllReduce
end
end
-- ==== Proof.Run.Sim.lean ====
/-
# A program runs a list of commands

`Sim m K c p l post` says that the program `p` runs the commands `l` on device `c` and returns a value satisfying `post`.
There is one rule for each operation, one for a branch, one for a call.
-/
module

public import proofs.«01_k».proof.Proof.Run.Steps

@[expose] public section

set_option maxRecDepth 8192

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CK → ℕ)

/-- The device holds what a state allowing the commands `l` asks for. -/
def Inv (c : Dev nD) (l : List Cmd) : sProp 𝕄 := iprop(∃ σ : St, ⌜ok c σ l = true⌝ ∗ I m K c σ l)

def Sim (c : Dev nD) {α : Type} (p : Prog (TpuEff nD τ sig (Elt F) Λ₀ .tc) α) (l : List Cmd) (post : α → Prop) : Prop :=
  ∀ (l' : List Cmd) (Q : α → sProp 𝕄), (∀ a, post a → Inv m K c l' ⊢ Q a) → Inv m K c (l ++ l') ⊢ WP c p Q

variable {m K} {c : Dev nD} {α β : Type}

theorem sim_ret {post : α → Prop} {a : α} (h : post a) : Sim m K c (pure a) [] post := by
  intro l' Q hk
  show Inv m K c l' ⊢ WP c (.ret a) Q
  rw [show WP c (.ret a) Q = _ from wp_ret ..]
  iintro H
  imodintro
  iapply (hk a h) $$ H

theorem sim_end {a : α} : Sim m K c (pure a) [] fun _ => True := sim_ret trivial

theorem sim_bind {p : Prog (TpuEff nD τ sig (Elt F) Λ₀ .tc) α} {f : α → Prog (TpuEff nD τ sig (Elt F) Λ₀ .tc) β}
    {l₁ l₂ : List Cmd} {post : α → Prop} {post' : β → Prop}
    (h₁ : Sim m K c p l₁ post) (h₂ : ∀ a, post a → Sim m K c (f a) l₂ post') : Sim m K c (p >>= f) (l₁ ++ l₂) post' := by
  intro l' Q hk
  rw [List.append_assoc, show WP c (p >>= f) Q = _ from wp_bind ..]
  exact h₁ _ _ fun a ha => h₂ a ha _ _ hk

/-- A call at the end of a list. -/
theorem sim_bind_nil {p : Prog (TpuEff nD τ sig (Elt F) Λ₀ .tc) α} {f : α → Prog (TpuEff nD τ sig (Elt F) Λ₀ .tc) β}
    {l : List Cmd} {post : α → Prop} {post' : β → Prop}
    (h₁ : Sim m K c p l post) (h₂ : ∀ a, post a → Sim m K c (f a) [] post') : Sim m K c (p >>= f) l post' := by
  have := sim_bind h₁ h₂
  rwa [List.append_nil] at this

theorem sim_dev {f : Dev nD → Prog (TpuEff nD τ sig (Elt F) Λ₀ .tc) β} {l : List Cmd} {post : β → Prop} (h : Sim m K c (f c) l post) :
    Sim m K c (Prog.lift .deviceId >>= f) l post := by
  intro l' Q hk
  rw [Prog.bind_lift, show WP c (.op .deviceId f) Q = _ from wp_deviceId ..]
  exact h l' Q hk

/-- A branch on a word; the rest `r` of the program follows in both cases. -/
theorem sim_if {b : BitVec 1} {r : Prog (TpuEff nD τ sig (Elt F) Λ₀ .tc) β} {A : b = 1#1 → Prog (TpuEff nD τ sig (Elt F) Λ₀ .tc) β}
    {b' : BitVec 1} {L l : List Cmd} {post : β → Prop} (hb : b = b') (h₁ : Sim m K c r l post)
    (h₂ : Sim m K c r l post → ∀ h, Sim m K c (A h) (L ++ l) post) :
    Sim m K c (if h : b = 1#1 then A h else r) (when b' L ++ l) post := by
  subst hb
  unfold when
  by_cases h : b = 1#1
  · rw [dif_pos h, if_pos h]; exact h₂ h₁ h
  · rw [dif_neg h, if_neg h]; exact h₁
/-- A branch at the end of a list. -/
theorem sim_if_nil {b : BitVec 1} {r : Prog (TpuEff nD τ sig (Elt F) Λ₀ .tc) β} {A : b = 1#1 → Prog (TpuEff nD τ sig (Elt F) Λ₀ .tc) β}
    {b' : BitVec 1} {L : List Cmd} {post : β → Prop} (hb : b = b') (h₁ : Sim m K c r [] post)
    (h₂ : Sim m K c r [] post → ∀ h, Sim m K c (A h) L post) :
    Sim m K c (if h : b = 1#1 then A h else r) (when b' L) post := by
  have := sim_if hb h₁ (fun h h' => by rw [List.append_nil]; exact h₂ h h')
  rwa [List.append_nil] at this

/-! Lists in pieces. -/

theorem sim_cons {p : Prog (TpuEff nD τ sig (Elt F) Λ₀ .tc) α} {x : Cmd} {L l : List Cmd} {post : α → Prop}
    (h : Sim m K c p (x :: (L ++ l)) post) : Sim m K c p ((x :: L) ++ l) post := h
theorem sim_nil {p : Prog (TpuEff nD τ sig (Elt F) Λ₀ .tc) α} {l : List Cmd} {post : α → Prop}
    (h : Sim m K c p l post) : Sim m K c p ([] ++ l) post := h
theorem sim_assoc {p : Prog (TpuEff nD τ sig (Elt F) Λ₀ .tc) α} {L₁ L₂ l : List Cmd} {post : α → Prop}
    (h : Sim m K c p (L₁ ++ (L₂ ++ l)) post) : Sim m K c p ((L₁ ++ L₂) ++ l) post := by rwa [List.append_assoc]

theorem inv_cons {x : Cmd} {l : List Cmd} {σ : St} (h : ok c σ (x :: l) = true) : ∃ σ', adv c l σ x = some σ' ∧ ok c σ' l = true := by
  unfold ok at h
  cases e : adv c l σ x with
  | none => rw [e] at h; cases h
  | some σ' => rw [e] at h; exact ⟨σ', rfl, h⟩

/-- One command: what its step leaves is what the rest starts from. -/
theorem sim_step {x : Cmd} {l : List Cmd} {post : β → Prop} {p p' : Prog (TpuEff nD τ sig (Elt F) Λ₀ .tc) β}
    (hs : ∀ (σ σ' : St) (l' : List Cmd) (Q : β → sProp 𝕄), adv c l' σ x = some σ' →
      I m K c σ (x :: l') ⊢ iprop((I m K c σ' l' -∗ WP c p' Q) -∗ WP c p Q))
    (h : Sim m K c p' l post) : Sim m K c p (x :: l) post := by
  intro l' Q hk
  rw [List.cons_append]
  unfold Inv
  iintro ⟨%σ, %hok, HI⟩
  obtain ⟨σ', ha, hok'⟩ := inv_cons hok
  iapply (hs σ σ' (l ++ l') Q ha) $$ HI
  iintro HI
  iapply (h l' Q hk)
  unfold Inv
  iexists σ'
  isplitr; · ipureintro; exact hok'
  iexact HI

/-! ## One rule for each operation -/

theorem sim_sig {n : Dev nD} {i : Fin 5} {l : List Cmd} {post : β → Prop} {sm : Sem sig} {z : BitVec 32}
    {f : PUnit → Prog (TpuEff nD τ sig (Elt F) Λ₀ .tc) β}
    (hn : n = peer c i) (hs : sm = barS) (hz : z = 1#32) (h : Sim m K c (f ⟨⟩) l post) :
    Sim m K c (semSignalWord n sm z >>= f) (.sig i :: l) post := by
  subst hz
  exact sim_step (fun σ σ' l' Q ha => step_sig (F := F) (k := f) ha hn hs rfl) h

theorem sim_bar {l : List Cmd} {post : β → Prop} {sm : Sem sig} {z : BitVec 32}
    {f : PUnit → Prog (TpuEff nD τ sig (Elt F) Λ₀ .tc) β}
    (hs : sm = barS) (hz : z = 5#32) (h : Sim m K c (f ⟨⟩) l post) :
    Sim m K c (semWaitWord sm z >>= f) (.bar :: l) post := by
  subst hz
  exact sim_step (fun σ σ' l' Q ha => step_bar (F := F) (k := f) (z := 5) ha hs rfl) h

theorem sim_send {n : Dev nD} {x : SK} {r r' : Rg} {l : List Cmd} {post : β → Prop}
    {sm sm' : DmaSem sig} {ms md : Memref sig .tc .hbm S128x4096 .f32}
    {hsc : md.view.ref.isScScratch = false} {hsrc : ms.view.WordExact} {hdst : md.view.WordExact}
    {hsem : DmaTarget.Typed .hbm (.dma sm') (.remote (n : Thread nD τ) md (.dma sm) hsc)}
    {f : PUnit → Prog (TpuEff nD τ sig (Elt F) Λ₀ .tc) β}
    (hn : n = (dst c x).1) (hms : ms = rgM c r) (hmd : md = rgM c r') (hs : sm = sS x) (hs' : sm' = rS (dst c x).2)
    (h : Sim m K c (f ⟨⟩) l post) :
    Sim m K c (Prog.lift (.enqueueDma ms (.remote (n : Thread nD τ) md (.dma sm) hsc) (.dma sm') hsrc hdst hsem) >>= f)
      (.send x r r' :: l) post := by
  rw [Prog.bind_lift]
  exact sim_step (fun σ σ' l' Q ha => step_send ha hn hms hmd hs hs') h

theorem sim_wrecv {y : RK} {l : List Cmd} {post : β → Prop}
    {sp sp' : Space} {s s' : Shape} {e e' : EltTy} {sm : DmaSem sig} {ms : Memref sig .tc sp' s' e'} {md : Memref sig .tc sp s e}
    {hsrc : ms.view.WordExact} {hdst : md.view.WordExact} {f : PUnit → Prog (TpuEff nD τ sig (Elt F) Λ₀ .tc) β}
    (hs : sm = rS y) (hN : md.view.dmaCredit = NB) (h : Sim m K c (f ⟨⟩) l post) :
    Sim m K c (Prog.lift (.waitDma2 sm ms md hsrc hdst) >>= f) (.wrecv y :: l) post := by
  rw [Prog.bind_lift]
  exact sim_step (fun σ σ' l' Q ha => step_wrecv ha hs hN) h

theorem sim_wsend {x : SK} {l : List Cmd} {post : β → Prop}
    {sp sp' : Space} {s s' : Shape} {e e' : EltTy} {sm : DmaSem sig} {ms : Memref sig .tc sp' s' e'} {md : Memref sig .tc sp s e}
    {hsrc : ms.view.WordExact} {hdst : md.view.WordExact} {f : PUnit → Prog (TpuEff nD τ sig (Elt F) Λ₀ .tc) β}
    (hs : sm = sS x) (hN : md.view.dmaCredit = NB) (h : Sim m K c (f ⟨⟩) l post) :
    Sim m K c (Prog.lift (.waitDma2 sm ms md hsrc hdst) >>= f) (.wsend x :: l) post := by
  rw [Prog.bind_lift]
  exact sim_step (fun σ σ' l' Q ha => step_wsend ha hs hN) h

theorem sim_wloc {i : Fin 2} {l : List Cmd} {post : β → Prop}
    {sp sp' : Space} {s s' : Shape} {e e' : EltTy} {sm : DmaSem sig} {ms : Memref sig .tc sp' s' e'} {md : Memref sig .tc sp s e}
    {hsrc : ms.view.WordExact} {hdst : md.view.WordExact} {f : PUnit → Prog (TpuEff nD τ sig (Elt F) Λ₀ .tc) β}
    (hs : sm = lS i) (hN : md.view.dmaCredit = NB) (h : Sim m K c (f ⟨⟩) l post) :
    Sim m K c (Prog.lift (.waitDma2 sm ms md hsrc hdst) >>= f) (.wloc i :: l) post := by
  rw [Prog.bind_lift]
  exact sim_step (fun σ σ' l' Q ha => step_wloc ha hs hN) h

theorem sim_cpIn {i : Fin 2} {b : Scr} {r : Rg} {l : List Cmd} {post : β → Prop}
    {sm : DmaSem sig} {ms : Memref sig .tc .hbm S128x4096 .f32} {md : Memref sig .tc .vmem S128x4096 .f32}
    {hsrc : ms.view.WordExact} {hdst : md.view.WordExact} {hsem : DmaTarget.Typed (nD := nD) .hbm (.dma sm) (.here (p := (.tc : Proc τ)) md)}
    {f : PUnit → Prog (TpuEff nD τ sig (Elt F) Λ₀ .tc) β}
    (hms : ms = rgM c r) (hmd : md = scrM b) (hs : sm = lS i) (h : Sim m K c (f ⟨⟩) l post) :
    Sim m K c (Prog.lift (.enqueueDma ms (.here md) (.dma sm) hsrc hdst hsem) >>= f) (.cpIn i b r :: l) post := by
  rw [Prog.bind_lift]
  exact sim_step (fun σ σ' l' Q ha => step_cpIn ha hms hmd hs) h

theorem sim_cpOut {i : Fin 2} {r : Rg} {l : List Cmd} {post : β → Prop}
    {sm : DmaSem sig} {ms : Memref sig .tc .vmem S128x4096 .f32} {md : Memref sig .tc .hbm S128x4096 .f32}
    {hsrc : ms.view.WordExact} {hdst : md.view.WordExact} {hsem : DmaTarget.Typed (nD := nD) .vmem (.dma sm) (.here (p := (.tc : Proc τ)) md)}
    {f : PUnit → Prog (TpuEff nD τ sig (Elt F) Λ₀ .tc) β}
    (hms : ms = scrM .o) (hmd : md = rgM c r) (hs : sm = lS i) (h : Sim m K c (f ⟨⟩) l post) :
    Sim m K c (Prog.lift (.enqueueDma ms (.here md) (.dma sm) hsrc hdst hsem) >>= f) (.cpOut i r :: l) post := by
  rw [Prog.bind_lift]
  exact sim_step (fun σ σ' l' Q ha => step_cpOut ha hms hmd hs) h

theorem sim_ld {b : Scr} {e : Ex} {l : List Cmd} {post : β → Prop} {ms : Memref sig .tc .vmem S128x4096 .f32}
    {hl : ms.view.LoadsAt (Rect.unit (s := S128x4096) ![0, 0] S128x4096.size inb_S128x4096_S128x4096_0_0).toLoadRect}
    {f : Tile F → Prog (TpuEff nD τ sig (Elt F) Λ₀ .tc) β}
    (hm : ms = scrM b) (h : Sim m K c (f (ev m c e)) l post) :
    Sim m K c (Prog.lift (.load ms (Rect.unit (s := S128x4096) ![0, 0] S128x4096.size inb_S128x4096_S128x4096_0_0).toLoadRect hl) >>= f)
      (.ld b e :: l) post := by
  rw [Prog.bind_lift]
  exact sim_step (fun σ σ' l' Q ha => step_ld ha hm) h

theorem sim_ldx {b : Scr} {l : List Cmd} {post : β → Prop} {ms : Memref sig .tc .vmem S128x4096 .f32}
    {hl : ms.view.LoadsAt (Rect.unit (s := S128x4096) ![0, 0] S128x4096.size inb_S128x4096_S128x4096_0_0).toLoadRect}
    {f : Tile F → Prog (TpuEff nD τ sig (Elt F) Λ₀ .tc) β}
    (hm : ms = scrM b) (h : ∀ X, Sim m K c (f X) l post) :
    Sim m K c (Prog.lift (.load ms (Rect.unit (s := S128x4096) ![0, 0] S128x4096.size inb_S128x4096_S128x4096_0_0).toLoadRect hl) >>= f)
      (.ldx b :: l) post := by
  rw [Prog.bind_lift]
  intro l' Q hk
  rw [List.cons_append]
  unfold Inv
  iintro ⟨%σ, %hok, HI⟩
  obtain ⟨σ', ha, hok'⟩ := inv_cons hok
  iapply (step_ldx (F := F) (m := m) (K := K) (l := l ++ l') ha hm) $$ HI
  iintro %X HI
  iapply (h X l' Q hk)
  unfold Inv
  iexists σ'
  isplitr; · ipureintro; exact hok'
  iexact HI

theorem sim_ldg {l : List Cmd} {post : β → Prop} {ms : Memref sig .tc .vmem S4096 .f32}
    {hl : ms.view.LoadsAt (Rect.unit (s := S4096) ![0] S4096.size inb_S4096_S4096_0).toLoadRect}
    {f : (S4096.Idx → Elt F .f32) → Prog (TpuEff nD τ sig (Elt F) Λ₀ .tc) β}
    (hm : ms = gamM) (h : Sim m K c (f (gv m c)) l post) :
    Sim m K c (Prog.lift (.load ms (Rect.unit (s := S4096) ![0] S4096.size inb_S4096_S4096_0).toLoadRect hl) >>= f) (.ldg :: l) post := by
  rw [Prog.bind_lift]
  exact sim_step (fun σ σ' l' Q ha => step_ldg ha hm) h

theorem sim_st {b : Scr} {e : Ex} {l : List Cmd} {post : β → Prop} {ms : Memref sig .tc .vmem S128x4096 .f32} {w : Tile F}
    {hx : (ms.access (Rect.unit (s := S128x4096) ![0, 0] S128x4096.size inb_S128x4096_S128x4096_0_0)).Stores Finset.univ}
    {hr : (Finset.univ : Finset S128x4096.Idx) = Finset.univ ∨ ∀ a, (Rect.unit (s := S128x4096) ![0, 0] S128x4096.size inb_S128x4096_S128x4096_0_0).stride a = 1}
    {f : PUnit → Prog (TpuEff nD τ sig (Elt F) Λ₀ .tc) β}
    (hm : ms = scrM b) (hw : w = ev m c e) (h : Sim m K c (f ⟨⟩) l post) :
    Sim m K c (Prog.lift (.store ms (Rect.unit (s := S128x4096) ![0, 0] S128x4096.size inb_S128x4096_S128x4096_0_0) w Finset.univ hx hr) >>= f)
      (.st b e :: l) post := by
  rw [Prog.bind_lift]
  exact sim_step (fun σ σ' l' Q ha => step_st ha hm hw) h

/-- No condition on a returned value. -/
abbrev T {α : Type} (_ : α) : Prop := True
/-- The z coordinate as the body computes it, and the comparison of it with a number. -/
abbrev w8 (c : Dev nD) : BitVec 32 := Scalar.remsi (Scalar.divsi (Dev.word c) 1#32) 4#32
abbrev weq (c : Dev nD) (n : BitVec 32) : BitVec 1 := Scalar.cmpi .eq (w8 c) n
/-- The barrier semaphore. -/
abbrev barA : Sems sig S_ := SemArray.scalar (sig.barrier 0 rfl)

/-! ## The arguments of the body -/

/-- A part of the body at the arrays, semaphores and scratch tiles of the kernel. -/
abbrev ap.{u} {γ : Sort u} (f : ∀ (arg0 : Memref sig .tc .hbm S1x4096x4096 .f32) (harg0 : arg0.IsWhole)
      (arg1 : Memref sig .tc .hbm S4096x4096 .f32) (harg1 : arg1.IsWhole) (arg2 : Memref sig .tc .vmem S4096 .f32)
      (harg2 : arg2.IsWhole) (arg3 : Memref sig .tc .hbm S4096x4096 .f32) (harg3 : arg3.IsWhole)
      (arg4 : Memref sig .tc .hbm S4x256x4096 .f32) (harg4 : arg4.IsWhole)
      (arg5 : Memref sig .tc .hbm S2x256x4096 .f32) (harg5 : arg5.IsWhole) (arg6 : DmaSems sig S2x3)
      (arg7 : DmaSems sig S2x4) (arg8 : DmaSems sig S2x4) (arg9 : DmaSems sig S2x4) (arg10 : DmaSems sig S2x4)
      (arg11 : DmaSems sig S2x4) (arg12 : DmaSems sig S2x3x2) (arg13 : DmaSems sig S2x3x2)
      (arg14 : DmaSems sig S2x3x2) (arg15 : DmaSems sig S2x3x2) (arg16 : DmaSems sig S2)
      (arg17 : Memref sig .tc .vmem S128x4096 .f32) (harg17 : arg17.IsWhole)
      (arg18 : Memref sig .tc .vmem S128x4096 .f32) (harg18 : arg18.IsWhole)
      (arg19 : Memref sig .tc .vmem S128x4096 .f32) (harg19 : arg19.IsWhole)
      (arg20 : Memref sig .tc .vmem S128x4096 .f32) (harg20 : arg20.IsWhole), γ) : γ :=
  f (Memref.whole main_arg0) (Memref.isWhole_whole _) (Memref.whole main_arg1) (Memref.isWhole_whole _) gamM (Memref.isWhole_whole _) (Memref.whole main_v1_0) (Memref.isWhole_whole _)
    (Memref.whole main_v1_1) (Memref.isWhole_whole _) (Memref.whole main_v1_2) (Memref.isWhole_whole _) cc0_scratch0 cc0_scratch1 cc0_scratch2 cc0_scratch3 cc0_scratch4 cc0_scratch5
    cc0_scratch6 cc0_scratch7 cc0_scratch8 cc0_scratch9 cc0_scratch10 (Memref.whole cc0_scratch11) (Memref.isWhole_whole _) (Memref.whole cc0_scratch12) (Memref.isWhole_whole _)
    (Memref.whole cc0_scratch13) (Memref.isWhole_whole _) (Memref.whole cc0_scratch14) (Memref.isWhole_whole _)

theorem credit_a : (Memref.whole cc0_scratch11 : Memref sig .tc .vmem S128x4096 .f32).view.dmaCredit = NB := credit_scr .a
theorem credit_b : (Memref.whole cc0_scratch12 : Memref sig .tc .vmem S128x4096 .f32).view.dmaCredit = NB := credit_scr .b

/-! ## Memrefs at equal offsets -/

theorem memA_eq {o o' : Fin 3 → ℕ} {h h'} (e : o = o') : memA o h = memA o' h' := by subst e; rfl
theorem memB_eq {o o' : Fin 2 → ℕ} {h h'} (e : o = o') : memB o h = memB o' h' := by subst e; rfl
theorem memO_eq {o o' : Fin 2 → ℕ} {h h'} (e : o = o') : memO o h = memO o' h' := by subst e; rfl
theorem memS_eq {o o' : Fin 3 → ℕ} {h h'} (e : o = o') : memS o h = memS o' h' := by subst e; rfl
theorem memW_eq {o o' : Fin 3 → ℕ} {h h'} (e : o = o') : memW o h = memW o' h' := by subst e; rfl

end Cert.KernelIdeal.AllReduce
end
end
-- ==== Proof.Run.Parts1.lean ====
/-
# The combine steps run their commands
-/
module

public import proofs.«01_k».proof.Proof.Run.Sim
public import proofs.«01_k».proof.Proof.Gen.KernelIdeal.Skeleton

@[expose] public section

set_option maxRecDepth 8192

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {m : (ℓ : Loc nD τ sig) → Buf (Elt F) ℓ} {K : Dev nD × CK → ℕ}

/-- The two halves of a combine step, for each of the eight. -/
theorem parts1 (c : Dev nD) :
    (∀ v2 v5 v8 v21 k0_h17, Sim m K c (ap (k0_part1 (F := F)) c v2 v5 v8 v21 k0_h17) (L1 c) T)
    ∧ (∀ v2 v5 k0_h17, Sim m K c (ap (k0_part2 (F := F)) c v2 v5 k0_h17) (L2 c) T)
    ∧ (∀ v2 v5 v8 v21 k0_h18, Sim m K c (ap (k0_part3 (F := F)) c v2 v5 v8 v21 k0_h18) (L3 c) T)
    ∧ (∀ v2 v5 k0_h18, Sim m K c (ap (k0_part4 (F := F)) c v2 v5 k0_h18) (L4 c) T)
    ∧ (∀ v2 v5 v8 v21 k0_h19, Sim m K c (ap (k0_part5 (F := F)) c v2 v5 v8 v21 k0_h19) (L5 c) T)
    ∧ (∀ v2 v5 k0_h19, Sim m K c (ap (k0_part6 (F := F)) c v2 v5 k0_h19) (L6 c) T)
    ∧ (∀ v2 v5 v8 v21 k0_h20, Sim m K c (ap (k0_part7 (F := F)) c v2 v5 v8 v21 k0_h20) (L7 c) T)
    ∧ (∀ v2 v5 k0_h20, Sim m K c (ap (k0_part8 (F := F)) c v2 v5 k0_h20) (L8 c) T)
    ∧ (∀ v2 v5 v8 v21 k0_h23, Sim m K c (ap (k0_part9 (F := F)) c v2 v5 v8 v21 k0_h23) (L9 c) T)
    ∧ (∀ v2 v5 k0_h23, Sim m K c (ap (k0_part10 (F := F)) c v2 v5 k0_h23) (L10 c) T)
    ∧ (∀ v2 v5 v8 v21 k0_h24, Sim m K c (ap (k0_part11 (F := F)) c v2 v5 v8 v21 k0_h24) (L11 c) T)
    ∧ (∀ v2 v5 k0_h24, Sim m K c (ap (k0_part12 (F := F)) c v2 v5 k0_h24) (L12 c) T)
    ∧ (∀ v2 v5 v8 v21 k0_h25, Sim m K c (ap (k0_part13 (F := F)) c v2 v5 v8 v21 k0_h25) (L13 c) T)
    ∧ (∀ v2 v5 k0_h25, Sim m K c (ap (k0_part14 (F := F)) c v2 v5 k0_h25) (L14 c) T)
    ∧ (∀ v2 v5 v8 v21 k0_h26, Sim m K c (ap (k0_part15 (F := F)) c v2 v5 v8 v21 k0_h26) (L15 c) T)
    ∧ (∀ v2 v5 k0_h26, Sim m K c (ap (k0_part16 (F := F)) c v2 v5 k0_h26) (L16 c) T) := by
  refine ⟨?_, ?_, ?_, ?_, ?_, ?_, ?_, ?_, ?_, ?_, ?_, ?_, ?_, ?_, ?_, ?_⟩
  all_goals
    intros
    first
      | (rw [k0_part1_eq_skeleton, L1]; unfold k0_part1_skel)
      | (rw [k0_part2_eq_skeleton, L2]; unfold k0_part2_skel)
      | (rw [k0_part3_eq_skeleton, L3]; unfold k0_part3_skel)
      | (rw [k0_part4_eq_skeleton, L4]; unfold k0_part4_skel)
      | (rw [k0_part5_eq_skeleton, L5]; unfold k0_part5_skel)
      | (rw [k0_part6_eq_skeleton, L6]; unfold k0_part6_skel)
      | (rw [k0_part7_eq_skeleton, L7]; unfold k0_part7_skel)
      | (rw [k0_part8_eq_skeleton, L8]; unfold k0_part8_skel)
      | (rw [k0_part9_eq_skeleton, L9]; unfold k0_part9_skel)
      | (rw [k0_part10_eq_skeleton, L10]; unfold k0_part10_skel)
      | (rw [k0_part11_eq_skeleton, L11]; unfold k0_part11_skel)
      | (rw [k0_part12_eq_skeleton, L12]; unfold k0_part12_skel)
      | (rw [k0_part13_eq_skeleton, L13]; unfold k0_part13_skel)
      | (rw [k0_part14_eq_skeleton, L14]; unfold k0_part14_skel)
      | (rw [k0_part15_eq_skeleton, L15]; unfold k0_part15_skel)
      | (rw [k0_part16_eq_skeleton, L16]; unfold k0_part16_skel)
    with_reducible
    repeat' first
      | refine sim_cons ?_
      | refine sim_nil ?_
      | refine sim_assoc ?_
      | refine sim_wrecv ?_ ?_ ?_
      | refine sim_wsend ?_ ?_ ?_
      | refine sim_wloc ?_ ?_ ?_
      | refine sim_cpIn ?_ ?_ ?_ ?_
      | refine sim_cpOut ?_ ?_ ?_ ?_
      | refine sim_ld ?_ ?_
      | refine sim_ldx ?_ fun _ => ?_
      | refine sim_ldg ?_ ?_
      | refine sim_st ?_ ?_ ?_
      | refine sim_sig ?_ ?_ ?_ ?_
      | refine sim_bar ?_ ?_ ?_
      | refine sim_send ?_ ?_ ?_ ?_ ?_ ?_
      | exact hjp
      | refine sim_if ?_ ?_ fun hjp h => ?_
      | refine sim_if_nil ?_ ?_ fun hjp h => ?_
      | refine sim_dev ?_
      | exact sim_end
      | exact sim_ret rfl
      | exact sim_ret ⟨rfl, rfl⟩
      | exact sim_ret ⟨rfl, rfl, rfl⟩
  all_goals first
    | with_reducible exact credit_S _ _
    | with_reducible exact credit_O _ _
    | with_reducible exact credit_A _ _
    | with_reducible exact credit_B _ _
    | with_reducible exact credit_W _ _
    | with_reducible exact credit_a
    | with_reducible exact credit_b
    | skip
  all_goals first
    | ((try clear hjp); revert c; decide +kernel)
    | (dsimp only [rgM]; with_reducible refine memA_eq ?_)
    | (dsimp only [rgM]; with_reducible refine memB_eq ?_)
    | (dsimp only [rgM]; with_reducible refine memO_eq ?_)
    | (dsimp only [rgM]; with_reducible refine memS_eq ?_)
    | (dsimp only [rgM]; with_reducible refine memW_eq ?_)
    | rfl
  all_goals
    (try clear hjp); revert c; decide +kernel

end Cert.KernelIdeal.AllReduce
end
end
-- ==== Proof.Run.Parts2.lean ====
/-
# The reduction runs its commands
-/
module

public import proofs.«01_k».proof.Proof.Run.Sim
public import proofs.«01_k».proof.Proof.Gen.KernelIdeal.Skeleton
public import proofs.«01_k».proof.Proof.Run.Parts1

@[expose] public section

set_option maxRecDepth 8192

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {m : (ℓ : Loc nD τ sig) → Buf (Elt F) ℓ} {K : Dev nD × CK → ℕ}

/-- From the mesh coordinates to the first messages. -/
theorem parts2 (c : Dev nD) :
    (Sim m K c (ap (k0_part17 (F := F)) ) (L17 c) fun a => a.1 = c ∧ a.2.2.2.1 = w8 c)
    ∧ (∀ v21 v32 c2_i32_15 v33 v35 c0_i32_17, Sim m K c (ap (k0_part18 (F := F)) v21 v32 c2_i32_15 v33 v35 c0_i32_17) (L18 c) T)
    ∧ (∀ v73 v74 c0_i32_37, Sim m K c (ap (k0_part19 (F := F)) v73 v74 c0_i32_37) (L19 c) T)
    ∧ (∀ v2 v5 v8 v21 v111 v112 v113 v114, Sim m K c (ap (k0_part20 (F := F)) c v2 v5 v8 v21 v111 v112 v113 v114) (L20 c) fun a => a.2.2.1 = barA)
    ∧ (∀ v2 v5 v8 v49 v70 v98 v151, Sim m K c (ap (k0_part21 (F := F)) c v2 v5 v8 v49 v70 v98 barA v151) (L21 c) T)
    ∧ (∀ v2 v5 v8 v21 v119 v182 c4_i32_103, Sim m K c (ap (k0_part22 (F := F)) c v2 v5 v8 v21 v119 barA v182 c4_i32_103) (L22 c) T)
    ∧ (∀ v2 v5 v8 v21 v203, Sim m K c (ap (k0_part23 (F := F)) c v2 v5 v8 v21 v203) (L23 c) T)
    ∧ (∀ v2 v5 v8 v21 v223 c256_i32_170, Sim m K c (ap (k0_part24 (F := F)) c v2 v5 v8 v21 v223 c256_i32_170) (L24 c) T)
    ∧ (∀ v2 v5 v8 v21 v245, Sim m K c (ap (k0_part25 (F := F)) c v2 v5 v8 v21 v245) (L25 c) T)
    ∧ (∀ v2 v5 v21 v263, Sim m K c (ap (k0_part26 (F := F)) c v2 v5 (w8 c) v21 v263) (L26 c) fun a => a.2.2.2.1 = weq c 1#32) := by
  refine ⟨?_, ?_, ?_, ?_, ?_, ?_, ?_, ?_, ?_, ?_⟩
  all_goals
    intros
    first
      | (rw [k0_part17_eq_skeleton, L17]; unfold k0_part17_skel)
      | (rw [k0_part18_eq_skeleton, L18]; unfold k0_part18_skel)
      | (rw [k0_part19_eq_skeleton, L19]; unfold k0_part19_skel)
      | (rw [k0_part20_eq_skeleton, L20]; unfold k0_part20_skel)
      | (rw [k0_part21_eq_skeleton, L21]; unfold k0_part21_skel)
      | (rw [k0_part22_eq_skeleton, L22]; unfold k0_part22_skel)
      | (rw [k0_part23_eq_skeleton, L23]; unfold k0_part23_skel)
      | (rw [k0_part24_eq_skeleton, L24]; unfold k0_part24_skel)
      | (rw [k0_part25_eq_skeleton, L25]; unfold k0_part25_skel)
      | (rw [k0_part26_eq_skeleton, L26]; unfold k0_part26_skel)
    with_reducible
    repeat' first
      | refine sim_cons ?_
      | refine sim_nil ?_
      | refine sim_assoc ?_
      | refine sim_wrecv ?_ ?_ ?_
      | refine sim_wsend ?_ ?_ ?_
      | refine sim_wloc ?_ ?_ ?_
      | refine sim_cpIn ?_ ?_ ?_ ?_
      | refine sim_cpOut ?_ ?_ ?_ ?_
      | refine sim_ld ?_ ?_
      | refine sim_ldx ?_ fun _ => ?_
      | refine sim_ldg ?_ ?_
      | refine sim_st ?_ ?_ ?_
      | refine sim_sig ?_ ?_ ?_ ?_
      | refine sim_bar ?_ ?_ ?_
      | refine sim_send ?_ ?_ ?_ ?_ ?_ ?_
      | exact hjp
      | refine sim_if ?_ ?_ fun hjp h => ?_
      | refine sim_if_nil ?_ ?_ fun hjp h => ?_
      | refine sim_dev ?_
      | exact sim_end
      | exact sim_ret rfl
      | exact sim_ret ⟨rfl, rfl⟩
      | exact sim_ret ⟨rfl, rfl, rfl⟩
  all_goals first
    | with_reducible exact credit_S _ _
    | with_reducible exact credit_O _ _
    | with_reducible exact credit_A _ _
    | with_reducible exact credit_B _ _
    | with_reducible exact credit_W _ _
    | with_reducible exact credit_a
    | with_reducible exact credit_b
    | skip
  all_goals first
    | ((try clear hjp); revert c; decide +kernel)
    | (dsimp only [rgM]; with_reducible refine memA_eq ?_)
    | (dsimp only [rgM]; with_reducible refine memB_eq ?_)
    | (dsimp only [rgM]; with_reducible refine memO_eq ?_)
    | (dsimp only [rgM]; with_reducible refine memS_eq ?_)
    | (dsimp only [rgM]; with_reducible refine memW_eq ?_)
    | rfl
  all_goals
    (try clear hjp); revert c; decide +kernel

/-- The combine steps and what follows each. -/
theorem parts3 (c : Dev nD) :
    (∀ v2 v5 v21 v122 v284, Sim m K c (ap (k0_part27 (F := F)) c v2 v5 (w8 c) v21 v122 v284) (L27 c) fun a => a.1 = weq c 1#32 ∧ a.2.1 = weq c 2#32 ∧ a.2.2 = weq c 2#32)
    ∧ (∀ v2 v5 v21 v421 v422 v423, Sim m K c (ap (k0_part32 (F := F)) c v2 v5 (w8 c) v21 v421 v422 v423) (L32 c) fun a => a.1 = weq c 1#32 ∧ a.2.1 = weq c 1#32 ∧ a.2.2 = weq c 2#32)
    ∧ (∀ v2 v5 v21 v122 v449, Sim m K c (ap (k0_part33 (F := F)) c v2 v5 (w8 c) v21 v122 v449) (L33 c) fun a => a.1 = weq c 2#32 ∧ a.2 = k0_pay14 (ev m c (.rg (.part (zOf c) 1))) (ev m c (.rg (.res 1)))) := by
  obtain ⟨p1, p2, p3, p4, p5, p6, p7, p8, p9, p10, p11, p12, p13, p14, p15, p16⟩ := parts1 (m := m) (K := K) c
  refine ⟨?_, ?_, ?_⟩
  all_goals
    intros
    first
      | (rw [k0_part27_eq_skeleton, L27]; unfold k0_part27_skel)
      | (rw [k0_part32_eq_skeleton, L32]; unfold k0_part32_skel)
      | (rw [k0_part33_eq_skeleton, L33]; unfold k0_part33_skel)
    with_reducible
    repeat' first
      | refine sim_cons ?_
      | refine sim_nil ?_
      | refine sim_assoc ?_
      | refine sim_wrecv ?_ ?_ ?_
      | refine sim_wsend ?_ ?_ ?_
      | refine sim_wloc ?_ ?_ ?_
      | refine sim_cpIn ?_ ?_ ?_ ?_
      | refine sim_cpOut ?_ ?_ ?_ ?_
      | refine sim_ld ?_ ?_
      | refine sim_ldx ?_ fun _ => ?_
      | refine sim_ldg ?_ ?_
      | refine sim_st ?_ ?_ ?_
      | refine sim_sig ?_ ?_ ?_ ?_
      | refine sim_bar ?_ ?_ ?_
      | refine sim_send ?_ ?_ ?_ ?_ ?_ ?_
      | first | refine sim_bind (p1 ..) fun _ _ => ?_ | refine sim_bind (p2 ..) fun _ _ => ?_ | refine sim_bind (p3 ..) fun _ _ => ?_ | refine sim_bind (p4 ..) fun _ _ => ?_ | refine sim_bind (p5 ..) fun _ _ => ?_ | refine sim_bind (p6 ..) fun _ _ => ?_ | refine sim_bind (p7 ..) fun _ _ => ?_ | refine sim_bind (p8 ..) fun _ _ => ?_ | refine sim_bind (p9 ..) fun _ _ => ?_ | refine sim_bind (p10 ..) fun _ _ => ?_ | refine sim_bind (p11 ..) fun _ _ => ?_ | refine sim_bind (p12 ..) fun _ _ => ?_ | refine sim_bind (p13 ..) fun _ _ => ?_ | refine sim_bind (p14 ..) fun _ _ => ?_ | refine sim_bind (p15 ..) fun _ _ => ?_ | refine sim_bind (p16 ..) fun _ _ => ?_
      | exact hjp
      | refine sim_if ?_ ?_ fun hjp h => ?_
      | refine sim_if_nil ?_ ?_ fun hjp h => ?_
      | refine sim_dev ?_
      | exact sim_end
      | exact sim_ret rfl
      | exact sim_ret ⟨rfl, rfl⟩
      | exact sim_ret ⟨rfl, rfl, rfl⟩
  all_goals clear p1 p2 p3 p4 p5 p6 p7 p8 p9 p10 p11 p12 p13 p14 p15 p16
  all_goals first
    | with_reducible exact credit_S _ _
    | with_reducible exact credit_O _ _
    | with_reducible exact credit_A _ _
    | with_reducible exact credit_B _ _
    | with_reducible exact credit_W _ _
    | with_reducible exact credit_a
    | with_reducible exact credit_b
    | skip
  all_goals first
    | ((try clear hjp); revert c; decide +kernel)
    | (dsimp only [rgM]; with_reducible refine memA_eq ?_)
    | (dsimp only [rgM]; with_reducible refine memB_eq ?_)
    | (dsimp only [rgM]; with_reducible refine memO_eq ?_)
    | (dsimp only [rgM]; with_reducible refine memS_eq ?_)
    | (dsimp only [rgM]; with_reducible refine memW_eq ?_)
    | rfl
  all_goals
    (try clear hjp); revert c; decide +kernel

/-- The sums and the normalised tiles. -/
theorem parts4 (c : Dev nD) :
    (∀ v2 v5 v8 v21, Sim m K c (ap (k0_part28 (F := F)) c v2 v5 v8 v21) (L28 c) T)
    ∧ (∀ v2 v5 v8 v21, Sim m K c (ap (k0_part29 (F := F)) v2 v5 v8 v21) (L29 c) T)
    ∧ (Sim m K c (ap (k0_part30 (F := F)) c) (L30 c) fun a => a = k0_pay12 (ev m c (.add (.add (.add (.rg (.part (zOf c) 0)) (.rg (.res 0))) (.rg (.slot 0 0))) (.rg (.slot 1 0)))) (gv m c))
    ∧ (∀ v2 v5 v8 v21, Sim m K c (ap (k0_part31 (F := F)) c v2 v5 v8 v21 (k0_pay12 (ev m c (.add (.add (.add (.rg (.part (zOf c) 0)) (.rg (.res 0))) (.rg (.slot 0 0))) (.rg (.slot 1 0)))) (gv m c))) (L31 c) T)
    ∧ (∀ v2 v5 v8 v21, Sim m K c (ap (k0_part34 (F := F)) c v2 v5 v8 v21 (k0_pay14 (ev m c (.rg (.part (zOf c) 1))) (ev m c (.rg (.res 1))))) (L34 c) fun a => a = ev m c (.add (.rg (.part (zOf c) 1)) (.rg (.res 1))))
    ∧ (∀ v2 v5 v8 v21, Sim m K c (ap (k0_part35 (F := F)) c v2 v5 v8 v21 (ev m c (.add (.rg (.part (zOf c) 1)) (.rg (.res 1))))) (L35 c) T)
    ∧ (∀ v8 v21, Sim m K c (ap (k0_part36 (F := F)) c v8 v21) (L36 c) T)
    ∧ (∀ v2 v5 v8 v21 v559, Sim m K c (ap (k0_part37 (F := F)) c v2 v5 v8 v21 v559) (L37 c) T)
    ∧ (∀ v2 v5 v8 v581 v592 v593 v594 v595 c0_i32_582, Sim m K c (ap (k0_part38 (F := F)) c v2 v5 v8 v581 v592 v593 v594 v595 c0_i32_582) (L38 c) T)
    ∧ (∀ v8 v21 v627 v628 v629 v630 c0_i32_606, Sim m K c (ap (k0_part39 (F := F)) v8 v21 v627 v628 v629 v630 c0_i32_606) (L39 c) T) := by
  refine ⟨?_, ?_, ?_, ?_, ?_, ?_, ?_, ?_, ?_, ?_⟩
  all_goals
    intros
    first
      | (rw [k0_part28_eq_skeleton, L28]; unfold k0_part28_skel)
      | (rw [k0_part29_eq_skeleton, L29]; unfold k0_part29_skel)
      | (rw [k0_part30_eq_skeleton, L30]; unfold k0_part30_skel)
      | (rw [k0_part31_eq_skeleton, L31]; unfold k0_part31_skel)
      | (rw [k0_part34_eq_skeleton, L34]; unfold k0_part34_skel)
      | (rw [k0_part35_eq_skeleton, L35]; unfold k0_part35_skel)
      | (rw [k0_part36_eq_skeleton, L36]; unfold k0_part36_skel)
      | (rw [k0_part37_eq_skeleton, L37]; unfold k0_part37_skel)
      | (rw [k0_part38_eq_skeleton, L38]; unfold k0_part38_skel)
      | (rw [k0_part39_eq_skeleton, L39]; unfold k0_part39_skel)
    with_reducible
    repeat' first
      | refine sim_cons ?_
      | refine sim_nil ?_
      | refine sim_assoc ?_
      | refine sim_wrecv ?_ ?_ ?_
      | refine sim_wsend ?_ ?_ ?_
      | refine sim_wloc ?_ ?_ ?_
      | refine sim_cpIn ?_ ?_ ?_ ?_
      | refine sim_cpOut ?_ ?_ ?_ ?_
      | refine sim_ld ?_ ?_
      | refine sim_ldx ?_ fun _ => ?_
      | refine sim_ldg ?_ ?_
      | refine sim_st ?_ ?_ ?_
      | refine sim_sig ?_ ?_ ?_ ?_
      | refine sim_bar ?_ ?_ ?_
      | refine sim_send ?_ ?_ ?_ ?_ ?_ ?_
      | exact hjp
      | refine sim_if ?_ ?_ fun hjp h => ?_
      | refine sim_if_nil ?_ ?_ fun hjp h => ?_
      | refine sim_dev ?_
      | exact sim_end
      | exact sim_ret rfl
      | exact sim_ret ⟨rfl, rfl⟩
      | exact sim_ret ⟨rfl, rfl, rfl⟩
  all_goals first
    | with_reducible exact credit_S _ _
    | with_reducible exact credit_O _ _
    | with_reducible exact credit_A _ _
    | with_reducible exact credit_B _ _
    | with_reducible exact credit_W _ _
    | with_reducible exact credit_a
    | with_reducible exact credit_b
    | skip
  all_goals first
    | ((try clear hjp); revert c; decide +kernel)
    | (dsimp only [rgM]; with_reducible refine memA_eq ?_)
    | (dsimp only [rgM]; with_reducible refine memB_eq ?_)
    | (dsimp only [rgM]; with_reducible refine memO_eq ?_)
    | (dsimp only [rgM]; with_reducible refine memS_eq ?_)
    | (dsimp only [rgM]; with_reducible refine memW_eq ?_)
    | rfl
  all_goals
    (try clear hjp); revert c; decide +kernel

end Cert.KernelIdeal.AllReduce
end
end
-- ==== Proof.Run.Parts3.lean ====
/-
# The gather runs its commands, first part
-/
module

public import proofs.«01_k».proof.Proof.Run.Sim
public import proofs.«01_k».proof.Proof.Gen.KernelIdeal.Skeleton

@[expose] public section

set_option maxRecDepth 8192

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {m : (ℓ : Loc nD τ sig) → Buf (Elt F) ℓ} {K : Dev nD × CK → ℕ}

/-- Along the z line. -/
theorem parts5 (c : Dev nD) :
    (∀ v2 v5 v8 v21 v49 v70 v641, Sim m K c (ap (k0_part40 (F := F)) c v2 v5 v8 v21 v49 v70 v641) (L40 c) T)
    ∧ (∀ v2 v5 v8 v21 v641 v690 v693, Sim m K c (ap (k0_part41 (F := F)) c v2 v5 v8 v21 v641 v690 v693) (L41 c) T)
    ∧ (∀ v2 v5 v8 v21 v49 v70 v613 v624 v635 v641 v714 v725 v726 c0_i32_686, Sim m K c (ap (k0_part42 (F := F)) c v2 v5 v8 v21 v49 v70 v613 v624 v635 v641 v714 v725 v726 c0_i32_686) (L42 c) T)
    ∧ (∀ v2 v5 v8 v21 v98 v119 v641 v647 v738 v757, Sim m K c (ap (k0_part43 (F := F)) c v2 v5 v8 v21 v98 v119 v641 v647 v738 v757) (L43 c) T)
    ∧ (∀ v2 v5 v8 v21 v647 v783 c3_i32_743, Sim m K c (ap (k0_part44 (F := F)) c v2 v5 v8 v21 v647 v783 c3_i32_743) (L44 c) T)
    ∧ (∀ v2 v5 v8 v21 v49 v70 v613 v624 v635 v647 v809 v818, Sim m K c (ap (k0_part45 (F := F)) c v2 v5 v8 v21 v49 v70 v613 v624 v635 v647 v809 v818) (L45 c) T)
    ∧ (∀ v2 v5 v8 v21 v98 v119 v647 v653 v832 v833 v848 v849, Sim m K c (ap (k0_part46 (F := F)) c v2 v5 v8 v21 v98 v119 v647 v653 v832 v833 v848 v849) (L46 c) T)
    ∧ (∀ v2 v5 v8 v21 v653 v876, Sim m K c (ap (k0_part47 (F := F)) c v2 v5 v8 v21 v653 v876) (L47 c) T)
    ∧ (∀ v2 v5 v8 v21 v49 v70 v613 v624 v635 v653 v904 v909, Sim m K c (ap (k0_part48 (F := F)) c v2 v5 v8 v21 v49 v70 v613 v624 v635 v653 v904 v909) (L48 c) T)
    ∧ (∀ v8 v21 v98 v119 v653 v927 v928 v939 v940, Sim m K c (ap (k0_part49 (F := F)) c v8 v21 v98 v119 v653 v927 v928 v939 v940) (L49 c) T)
    ∧ (∀ v2 v5 v8 v21 v49 v70 v641, Sim m K c (ap (k0_part50 (F := F)) c v2 v5 v8 v21 v49 v70 v641) (L50 c) T)
    ∧ (∀ v2 v5 v8 v21 v641 v995 v998, Sim m K c (ap (k0_part51 (F := F)) c v2 v5 v8 v21 v641 v995 v998) (L51 c) T)
    ∧ (∀ v2 v5 v8 v21 v49 v70 v613 v624 v635 v641 v1019 v1030 v1031 c0_i32_959, Sim m K c (ap (k0_part52 (F := F)) c v2 v5 v8 v21 v49 v70 v613 v624 v635 v641 v1019 v1030 v1031 c0_i32_959) (L52 c) T)
    ∧ (∀ v2 v5 v8 v21 v98 v119 v641 v647 v1043 v1062, Sim m K c (ap (k0_part53 (F := F)) c v2 v5 v8 v21 v98 v119 v641 v647 v1043 v1062) (L53 c) T)
    ∧ (∀ v2 v5 v8 v21 v647 v1088 c3_i32_1016, Sim m K c (ap (k0_part54 (F := F)) c v2 v5 v8 v21 v647 v1088 c3_i32_1016) (L54 c) T)
    ∧ (∀ v2 v5 v8 v21 v49 v70 v613 v624 v635 v647 v1114 v1123, Sim m K c (ap (k0_part55 (F := F)) c v2 v5 v8 v21 v49 v70 v613 v624 v635 v647 v1114 v1123) (L55 c) T)
    ∧ (∀ v2 v5 v8 v21 v98 v119 v647 v653 v1137 v1138 v1153 v1154, Sim m K c (ap (k0_part56 (F := F)) c v2 v5 v8 v21 v98 v119 v647 v653 v1137 v1138 v1153 v1154) (L56 c) T)
    ∧ (∀ v2 v5 v8 v21 v653 v1181, Sim m K c (ap (k0_part57 (F := F)) c v2 v5 v8 v21 v653 v1181) (L57 c) T)
    ∧ (∀ v2 v5 v8 v21 v49 v70 v613 v624 v635 v653 v1209 v1214, Sim m K c (ap (k0_part58 (F := F)) c v2 v5 v8 v21 v49 v70 v613 v624 v635 v653 v1209 v1214) (L58 c) T)
    ∧ (∀ v8 v21 v98 v119 v653 v1232 v1233 v1244 v1245, Sim m K c (ap (k0_part59 (F := F)) c v8 v21 v98 v119 v653 v1232 v1233 v1244 v1245) (L59 c) T) := by
  refine ⟨?_, ?_, ?_, ?_, ?_, ?_, ?_, ?_, ?_, ?_, ?_, ?_, ?_, ?_, ?_, ?_, ?_, ?_, ?_, ?_⟩
  all_goals
    intros
    first
      | (rw [k0_part40_eq_skeleton, L40]; unfold k0_part40_skel)
      | (rw [k0_part41_eq_skeleton, L41]; unfold k0_part41_skel)
      | (rw [k0_part42_eq_skeleton, L42]; unfold k0_part42_skel)
      | (rw [k0_part43_eq_skeleton, L43]; unfold k0_part43_skel)
      | (rw [k0_part44_eq_skeleton, L44]; unfold k0_part44_skel)
      | (rw [k0_part45_eq_skeleton, L45]; unfold k0_part45_skel)
      | (rw [k0_part46_eq_skeleton, L46]; unfold k0_part46_skel)
      | (rw [k0_part47_eq_skeleton, L47]; unfold k0_part47_skel)
      | (rw [k0_part48_eq_skeleton, L48]; unfold k0_part48_skel)
      | (rw [k0_part49_eq_skeleton, L49]; unfold k0_part49_skel)
      | (rw [k0_part50_eq_skeleton, L50]; unfold k0_part50_skel)
      | (rw [k0_part51_eq_skeleton, L51]; unfold k0_part51_skel)
      | (rw [k0_part52_eq_skeleton, L52]; unfold k0_part52_skel)
      | (rw [k0_part53_eq_skeleton, L53]; unfold k0_part53_skel)
      | (rw [k0_part54_eq_skeleton, L54]; unfold k0_part54_skel)
      | (rw [k0_part55_eq_skeleton, L55]; unfold k0_part55_skel)
      | (rw [k0_part56_eq_skeleton, L56]; unfold k0_part56_skel)
      | (rw [k0_part57_eq_skeleton, L57]; unfold k0_part57_skel)
      | (rw [k0_part58_eq_skeleton, L58]; unfold k0_part58_skel)
      | (rw [k0_part59_eq_skeleton, L59]; unfold k0_part59_skel)
    with_reducible
    repeat' first
      | refine sim_cons ?_
      | refine sim_nil ?_
      | refine sim_assoc ?_
      | refine sim_wrecv ?_ ?_ ?_
      | refine sim_wsend ?_ ?_ ?_
      | refine sim_wloc ?_ ?_ ?_
      | refine sim_cpIn ?_ ?_ ?_ ?_
      | refine sim_cpOut ?_ ?_ ?_ ?_
      | refine sim_ld ?_ ?_
      | refine sim_ldx ?_ fun _ => ?_
      | refine sim_ldg ?_ ?_
      | refine sim_st ?_ ?_ ?_
      | refine sim_sig ?_ ?_ ?_ ?_
      | refine sim_bar ?_ ?_ ?_
      | refine sim_send ?_ ?_ ?_ ?_ ?_ ?_
      | exact hjp
      | refine sim_if ?_ ?_ fun hjp h => ?_
      | refine sim_if_nil ?_ ?_ fun hjp h => ?_
      | refine sim_dev ?_
      | exact sim_end
      | exact sim_ret rfl
      | exact sim_ret ⟨rfl, rfl⟩
      | exact sim_ret ⟨rfl, rfl, rfl⟩
  all_goals first
    | with_reducible exact credit_S _ _
    | with_reducible exact credit_O _ _
    | with_reducible exact credit_A _ _
    | with_reducible exact credit_B _ _
    | with_reducible exact credit_W _ _
    | with_reducible exact credit_a
    | with_reducible exact credit_b
    | skip
  all_goals first
    | ((try clear hjp); revert c; decide +kernel)
    | (dsimp only [rgM]; with_reducible refine memA_eq ?_)
    | (dsimp only [rgM]; with_reducible refine memB_eq ?_)
    | (dsimp only [rgM]; with_reducible refine memO_eq ?_)
    | (dsimp only [rgM]; with_reducible refine memS_eq ?_)
    | (dsimp only [rgM]; with_reducible refine memW_eq ?_)
    | rfl
  all_goals
    (try clear hjp); revert c; decide +kernel

/-- Around the ring. -/
theorem parts6 (c : Dev nD) :
    (∀ v8 v21 v98 v119 v1266 v1267 v1272, Sim m K c (ap (k0_part60 (F := F)) c v8 v21 v98 v119 v1266 v1267 v1272) (L60 c) T)
    ∧ (∀ v8 v21 v49 v70 v613 v1304 c256_i32_1207, Sim m K c (ap (k0_part61 (F := F)) c v8 v21 v49 v70 v613 v1304 c256_i32_1207) (L61 c) T)
    ∧ (∀ v8 v21 v49 v98 v119 v613, Sim m K c (ap (k0_part62 (F := F)) c v8 v21 v49 v98 v119 v613) (L62 c) T)
    ∧ (∀ v8 v21 v49 v70 v624 v1365 c4_i32_1264, Sim m K c (ap (k0_part63 (F := F)) c v8 v21 v49 v70 v624 v1365 c4_i32_1264) (L63 c) T)
    ∧ (∀ v8 v21 v98 v119 v624, Sim m K c (ap (k0_part64 (F := F)) c v8 v21 v98 v119 v624) (L64 c) T)
    ∧ (∀ v8 v21 v49 v70 v635 c1_i32_1315, Sim m K c (ap (k0_part65 (F := F)) c v8 v21 v49 v70 v635 c1_i32_1315) (L65 c) T)
    ∧ (∀ v8 v21 v98 v119 v635 v1459 v1460 v1461 v1462 c0_i32_1343, Sim m K c (ap (k0_part66 (F := F)) c v8 v21 v98 v119 v635 v1459 v1460 v1461 v1462 c0_i32_1343) (L66 c) T)
    ∧ (∀ v8 v21 v98 v119 v1490 v1491 v1496, Sim m K c (ap (k0_part67 (F := F)) c v8 v21 v98 v119 v1490 v1491 v1496) (L67 c) T)
    ∧ (∀ v8 v21 v49 v70 v613 v1528 c256_i32_1395, Sim m K c (ap (k0_part68 (F := F)) c v8 v21 v49 v70 v613 v1528 c256_i32_1395) (L68 c) T)
    ∧ (∀ v8 v21 v49 v98 v119 v613, Sim m K c (ap (k0_part69 (F := F)) c v8 v21 v49 v98 v119 v613) (L69 c) T)
    ∧ (∀ v8 v21 v49 v70 v624 v1589 c4_i32_1452, Sim m K c (ap (k0_part70 (F := F)) c v8 v21 v49 v70 v624 v1589 c4_i32_1452) (L70 c) T)
    ∧ (∀ v8 v21 v98 v119 v624, Sim m K c (ap (k0_part71 (F := F)) c v8 v21 v98 v119 v624) (L71 c) T)
    ∧ (∀ v8 v21 v49 v70 v635 c2_i32_1503, Sim m K c (ap (k0_part72 (F := F)) c v8 v21 v49 v70 v635 c2_i32_1503) (L72 c) T)
    ∧ (∀ v8 v21 v98 v119 v635 v1683 v1684 v1685 v1686 c0_i32_1531, Sim m K c (ap (k0_part73 (F := F)) c v8 v21 v98 v119 v635 v1683 v1684 v1685 v1686 c0_i32_1531) (L73 c) T)
    ∧ (∀ v8 v21 v98 v119 v624 v1714 v1715 v1720, Sim m K c (ap (k0_part74 (F := F)) c v8 v21 v98 v119 v624 v1714 v1715 v1720) (L74 c) T)
    ∧ (∀ v8 v21 v49 v70 v98 v119 v613, Sim m K c (ap (k0_part75 (F := F)) c v8 v21 v49 v70 v98 v119 v613) (L75 c) T)
    ∧ (∀ v8 v21 v49 v70 v635 v1780 v1781, Sim m K c (ap (k0_part76 (F := F)) c v8 v21 v49 v70 v635 v1780 v1781) (L76 c) T) := by
  refine ⟨?_, ?_, ?_, ?_, ?_, ?_, ?_, ?_, ?_, ?_, ?_, ?_, ?_, ?_, ?_, ?_, ?_⟩
  all_goals
    intros
    first
      | (rw [k0_part60_eq_skeleton, L60]; unfold k0_part60_skel)
      | (rw [k0_part61_eq_skeleton, L61]; unfold k0_part61_skel)
      | (rw [k0_part62_eq_skeleton, L62]; unfold k0_part62_skel)
      | (rw [k0_part63_eq_skeleton, L63]; unfold k0_part63_skel)
      | (rw [k0_part64_eq_skeleton, L64]; unfold k0_part64_skel)
      | (rw [k0_part65_eq_skeleton, L65]; unfold k0_part65_skel)
      | (rw [k0_part66_eq_skeleton, L66]; unfold k0_part66_skel)
      | (rw [k0_part67_eq_skeleton, L67]; unfold k0_part67_skel)
      | (rw [k0_part68_eq_skeleton, L68]; unfold k0_part68_skel)
      | (rw [k0_part69_eq_skeleton, L69]; unfold k0_part69_skel)
      | (rw [k0_part70_eq_skeleton, L70]; unfold k0_part70_skel)
      | (rw [k0_part71_eq_skeleton, L71]; unfold k0_part71_skel)
      | (rw [k0_part72_eq_skeleton, L72]; unfold k0_part72_skel)
      | (rw [k0_part73_eq_skeleton, L73]; unfold k0_part73_skel)
      | (rw [k0_part74_eq_skeleton, L74]; unfold k0_part74_skel)
      | (rw [k0_part75_eq_skeleton, L75]; unfold k0_part75_skel)
      | (rw [k0_part76_eq_skeleton, L76]; unfold k0_part76_skel)
    with_reducible
    repeat' first
      | refine sim_cons ?_
      | refine sim_nil ?_
      | refine sim_assoc ?_
      | refine sim_wrecv ?_ ?_ ?_
      | refine sim_wsend ?_ ?_ ?_
      | refine sim_wloc ?_ ?_ ?_
      | refine sim_cpIn ?_ ?_ ?_ ?_
      | refine sim_cpOut ?_ ?_ ?_ ?_
      | refine sim_ld ?_ ?_
      | refine sim_ldx ?_ fun _ => ?_
      | refine sim_ldg ?_ ?_
      | refine sim_st ?_ ?_ ?_
      | refine sim_sig ?_ ?_ ?_ ?_
      | refine sim_bar ?_ ?_ ?_
      | refine sim_send ?_ ?_ ?_ ?_ ?_ ?_
      | exact hjp
      | refine sim_if ?_ ?_ fun hjp h => ?_
      | refine sim_if_nil ?_ ?_ fun hjp h => ?_
      | refine sim_dev ?_
      | exact sim_end
      | exact sim_ret rfl
      | exact sim_ret ⟨rfl, rfl⟩
      | exact sim_ret ⟨rfl, rfl, rfl⟩
  all_goals first
    | with_reducible exact credit_S _ _
    | with_reducible exact credit_O _ _
    | with_reducible exact credit_A _ _
    | with_reducible exact credit_B _ _
    | with_reducible exact credit_W _ _
    | with_reducible exact credit_a
    | with_reducible exact credit_b
    | skip
  all_goals first
    | ((try clear hjp); revert c; decide +kernel)
    | (dsimp only [rgM]; with_reducible refine memA_eq ?_)
    | (dsimp only [rgM]; with_reducible refine memB_eq ?_)
    | (dsimp only [rgM]; with_reducible refine memO_eq ?_)
    | (dsimp only [rgM]; with_reducible refine memS_eq ?_)
    | (dsimp only [rgM]; with_reducible refine memW_eq ?_)
    | rfl
  all_goals
    (try clear hjp); revert c; decide +kernel

end Cert.KernelIdeal.AllReduce
end
end
-- ==== Proof.Run.Parts4.lean ====
/-
# The gather runs its commands, second part
-/
module

public import proofs.«01_k».proof.Proof.Run.Sim
public import proofs.«01_k».proof.Proof.Gen.KernelIdeal.Skeleton

@[expose] public section

set_option maxRecDepth 8192

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {m : (ℓ : Loc nD τ sig) → Buf (Elt F) ℓ} {K : Dev nD × CK → ℕ}

/-- Around the ring, second subtile. -/
theorem parts7 (c : Dev nD) :
    (∀ v8 v21 v98 v119 v1812 c4_i32_1639 c0_i32_1640, Sim m K c (ap (k0_part77 (F := F)) c v8 v21 v98 v119 v1812 c4_i32_1639 c0_i32_1640) (L77 c) T)
    ∧ (∀ v8 v21 v49 v70 v1839 v1840 v1845, Sim m K c (ap (k0_part78 (F := F)) c v8 v21 v49 v70 v1839 v1840 v1845) (L78 c) T)
    ∧ (∀ v8 v21 v98 v119 v613 v1878 c1024_i32_1692, Sim m K c (ap (k0_part79 (F := F)) c v8 v21 v98 v119 v613 v1878 c1024_i32_1692) (L79 c) T)
    ∧ (∀ v8 v21 v49 v70 v624 v1910 c128_i32_1719, Sim m K c (ap (k0_part80 (F := F)) c v8 v21 v49 v70 v624 v1910 c128_i32_1719) (L80 c) T)
    ∧ (∀ v8 v21 v70 v98 v119 v624 v1939 c0_i32_1749, Sim m K c (ap (k0_part81 (F := F)) c v8 v21 v70 v98 v119 v624 v1939 c0_i32_1749) (L81 c) T)
    ∧ (∀ v8 v21 v49 v70 v635 v1971 c1_i32_1776, Sim m K c (ap (k0_part82 (F := F)) c v8 v21 v49 v70 v635 v1971 c1_i32_1776) (L82 c) T)
    ∧ (∀ v8 v21 v98 v119 v635 c1_i32_1801, Sim m K c (ap (k0_part83 (F := F)) c v8 v21 v98 v119 v635 c1_i32_1801) (L83 c) T)
    ∧ (∀ v8 v21 v98 v119 v2036 c4_i32_1827 c0_i32_1828, Sim m K c (ap (k0_part84 (F := F)) c v8 v21 v98 v119 v2036 c4_i32_1827 c0_i32_1828) (L84 c) T)
    ∧ (∀ v8 v21 v49 v70 v2063 v2064 v2069, Sim m K c (ap (k0_part85 (F := F)) c v8 v21 v49 v70 v2063 v2064 v2069) (L85 c) T)
    ∧ (∀ v8 v21 v98 v119 v613 v2102 c1024_i32_1880, Sim m K c (ap (k0_part86 (F := F)) c v8 v21 v98 v119 v613 v2102 c1024_i32_1880) (L86 c) T)
    ∧ (∀ v8 v21 v49 v70 v624 v2134 c128_i32_1907, Sim m K c (ap (k0_part87 (F := F)) c v8 v21 v49 v70 v624 v2134 c128_i32_1907) (L87 c) T)
    ∧ (∀ v8 v21 v70 v98 v119 v624 v2163 c0_i32_1937, Sim m K c (ap (k0_part88 (F := F)) c v8 v21 v70 v98 v119 v624 v2163 c0_i32_1937) (L88 c) T)
    ∧ (∀ v8 v21 v49 v70 v635 v2195 c1_i32_1964, Sim m K c (ap (k0_part89 (F := F)) c v8 v21 v49 v70 v635 v2195 c1_i32_1964) (L89 c) T)
    ∧ (∀ v8 v21 v98 v119 v635 c2_i32_1989, Sim m K c (ap (k0_part90 (F := F)) c v8 v21 v98 v119 v635 c2_i32_1989) (L90 c) T)
    ∧ (∀ v8 v21 v98 v119 v2260 c4_i32_2015 c0_i32_2016, Sim m K c (ap (k0_part91 (F := F)) c v8 v21 v98 v119 v2260 c4_i32_2015 c0_i32_2016) (L91 c) T)
    ∧ (∀ v8 v21 v49 v70 v613 v624 v2287 v2288 v2293, Sim m K c (ap (k0_part92 (F := F)) c v8 v21 v49 v70 v613 v624 v2287 v2288 v2293) (L92 c) T)
    ∧ (∀ v8 v21 v49 v70 v98 v119 v635, Sim m K c (ap (k0_part93 (F := F)) c v8 v21 v49 v70 v98 v119 v635) (L93 c) T) := by
  refine ⟨?_, ?_, ?_, ?_, ?_, ?_, ?_, ?_, ?_, ?_, ?_, ?_, ?_, ?_, ?_, ?_, ?_⟩
  all_goals
    intros
    first
      | (rw [k0_part77_eq_skeleton, L77]; unfold k0_part77_skel)
      | (rw [k0_part78_eq_skeleton, L78]; unfold k0_part78_skel)
      | (rw [k0_part79_eq_skeleton, L79]; unfold k0_part79_skel)
      | (rw [k0_part80_eq_skeleton, L80]; unfold k0_part80_skel)
      | (rw [k0_part81_eq_skeleton, L81]; unfold k0_part81_skel)
      | (rw [k0_part82_eq_skeleton, L82]; unfold k0_part82_skel)
      | (rw [k0_part83_eq_skeleton, L83]; unfold k0_part83_skel)
      | (rw [k0_part84_eq_skeleton, L84]; unfold k0_part84_skel)
      | (rw [k0_part85_eq_skeleton, L85]; unfold k0_part85_skel)
      | (rw [k0_part86_eq_skeleton, L86]; unfold k0_part86_skel)
      | (rw [k0_part87_eq_skeleton, L87]; unfold k0_part87_skel)
      | (rw [k0_part88_eq_skeleton, L88]; unfold k0_part88_skel)
      | (rw [k0_part89_eq_skeleton, L89]; unfold k0_part89_skel)
      | (rw [k0_part90_eq_skeleton, L90]; unfold k0_part90_skel)
      | (rw [k0_part91_eq_skeleton, L91]; unfold k0_part91_skel)
      | (rw [k0_part92_eq_skeleton, L92]; unfold k0_part92_skel)
      | (rw [k0_part93_eq_skeleton, L93]; unfold k0_part93_skel)
    with_reducible
    repeat' first
      | refine sim_cons ?_
      | refine sim_nil ?_
      | refine sim_assoc ?_
      | refine sim_wrecv ?_ ?_ ?_
      | refine sim_wsend ?_ ?_ ?_
      | refine sim_wloc ?_ ?_ ?_
      | refine sim_cpIn ?_ ?_ ?_ ?_
      | refine sim_cpOut ?_ ?_ ?_ ?_
      | refine sim_ld ?_ ?_
      | refine sim_ldx ?_ fun _ => ?_
      | refine sim_ldg ?_ ?_
      | refine sim_st ?_ ?_ ?_
      | refine sim_sig ?_ ?_ ?_ ?_
      | refine sim_bar ?_ ?_ ?_
      | refine sim_send ?_ ?_ ?_ ?_ ?_ ?_
      | exact hjp
      | refine sim_if ?_ ?_ fun hjp h => ?_
      | refine sim_if_nil ?_ ?_ fun hjp h => ?_
      | refine sim_dev ?_
      | exact sim_end
      | exact sim_ret rfl
      | exact sim_ret ⟨rfl, rfl⟩
      | exact sim_ret ⟨rfl, rfl, rfl⟩
  all_goals first
    | with_reducible exact credit_S _ _
    | with_reducible exact credit_O _ _
    | with_reducible exact credit_A _ _
    | with_reducible exact credit_B _ _
    | with_reducible exact credit_W _ _
    | with_reducible exact credit_a
    | with_reducible exact credit_b
    | skip
  all_goals first
    | ((try clear hjp); revert c; decide +kernel)
    | (dsimp only [rgM]; with_reducible refine memA_eq ?_)
    | (dsimp only [rgM]; with_reducible refine memB_eq ?_)
    | (dsimp only [rgM]; with_reducible refine memO_eq ?_)
    | (dsimp only [rgM]; with_reducible refine memS_eq ?_)
    | (dsimp only [rgM]; with_reducible refine memW_eq ?_)
    | rfl
  all_goals
    (try clear hjp); revert c; decide +kernel

/-- The waits for the sends. -/
theorem parts8 (c : Dev nD) :
    (∀ v2353 v2354, Sim m K c (ap (k0_part94 (F := F)) c v2353 v2354) (L94 c) T)
    ∧ (Sim m K c (ap (k0_part95 (F := F)) c) (L95 c) T)
    ∧ (Sim m K c (ap (k0_part96 (F := F)) c) (L96 c) T)
    ∧ (Sim m K c (ap (k0_part97 (F := F)) c) (L97 c) T)
    ∧ (∀ v190 v196 v202 v208, Sim m K c (ap (k0_part98 (F := F)) c v190 v196 v202 v208) (L98 c) T)
    ∧ (∀ v214 v220 v226 v232 v238 v244, Sim m K c (ap (k0_part99 (F := F)) c v214 v220 v226 v232 v238 v244) (L99 c) T)
    ∧ (∀ v250 v256 v262 v268 v274 v280, Sim m K c (ap (k0_part100 (F := F)) c v250 v256 v262 v268 v274 v280) (L100 c) T)
    ∧ (∀ v399 v421, Sim m K c (ap (k0_part101 (F := F)) c (weq c 1#32) (weq c 1#32) (weq c 2#32) (weq c 2#32) v399 v421 (weq c 1#32)) (L101 c) fun a => a.1 = Scalar.extui (weq c 1#32) ∧ a.2 = 0#32)
    ∧ (∀ v559 v581 v690 v714 v736, Sim m K c (ap (k0_part102 (F := F)) c (weq c 1#32) (weq c 2#32) (weq c 2#32) v559 v581 v690 v714 v736 (Scalar.extui (weq c 1#32)) 0#32) (L102 c) T)
    ∧ (∀ v737 v738 v785 v809 v831 v832 v833 v2492, Sim m K c (ap (k0_part103 (F := F)) c v737 v738 v785 v809 v831 v832 v833 v2492) (L103 c) T)
    ∧ (∀ v880 v904 v926 v927 v928 v995 v1019 v2506, Sim m K c (ap (k0_part104 (F := F)) c v880 v904 v926 v927 v928 v995 v1019 v2506) (L104 c) T)
    ∧ (∀ v1041 v1042 v1043 v1090 v1114 v1136 v1137 v2520 c0_i32_2530, Sim m K c (ap (k0_part105 (F := F)) c v1041 v1042 v1043 v1090 v1114 v1136 v1137 v2520 c0_i32_2530) (L105 c) T) := by
  refine ⟨?_, ?_, ?_, ?_, ?_, ?_, ?_, ?_, ?_, ?_, ?_, ?_⟩
  all_goals
    intros
    first
      | (rw [k0_part94_eq_skeleton, L94]; unfold k0_part94_skel)
      | (rw [k0_part95_eq_skeleton, L95]; unfold k0_part95_skel)
      | (rw [k0_part96_eq_skeleton, L96]; unfold k0_part96_skel)
      | (rw [k0_part97_eq_skeleton, L97]; unfold k0_part97_skel)
      | (rw [k0_part98_eq_skeleton, L98]; unfold k0_part98_skel)
      | (rw [k0_part99_eq_skeleton, L99]; unfold k0_part99_skel)
      | (rw [k0_part100_eq_skeleton, L100]; unfold k0_part100_skel)
      | (rw [k0_part101_eq_skeleton, L101]; unfold k0_part101_skel)
      | (rw [k0_part102_eq_skeleton, L102]; unfold k0_part102_skel)
      | (rw [k0_part103_eq_skeleton, L103]; unfold k0_part103_skel)
      | (rw [k0_part104_eq_skeleton, L104]; unfold k0_part104_skel)
      | (rw [k0_part105_eq_skeleton, L105]; unfold k0_part105_skel)
    with_reducible
    repeat' first
      | refine sim_cons ?_
      | refine sim_nil ?_
      | refine sim_assoc ?_
      | refine sim_wrecv ?_ ?_ ?_
      | refine sim_wsend ?_ ?_ ?_
      | refine sim_wloc ?_ ?_ ?_
      | refine sim_cpIn ?_ ?_ ?_ ?_
      | refine sim_cpOut ?_ ?_ ?_ ?_
      | refine sim_ld ?_ ?_
      | refine sim_ldx ?_ fun _ => ?_
      | refine sim_ldg ?_ ?_
      | refine sim_st ?_ ?_ ?_
      | refine sim_sig ?_ ?_ ?_ ?_
      | refine sim_bar ?_ ?_ ?_
      | refine sim_send ?_ ?_ ?_ ?_ ?_ ?_
      | exact hjp
      | refine sim_if ?_ ?_ fun hjp h => ?_
      | refine sim_if_nil ?_ ?_ fun hjp h => ?_
      | refine sim_dev ?_
      | exact sim_end
      | exact sim_ret rfl
      | exact sim_ret ⟨rfl, rfl⟩
      | exact sim_ret ⟨rfl, rfl, rfl⟩
  all_goals first
    | with_reducible exact credit_S _ _
    | with_reducible exact credit_O _ _
    | with_reducible exact credit_A _ _
    | with_reducible exact credit_B _ _
    | with_reducible exact credit_W _ _
    | with_reducible exact credit_a
    | with_reducible exact credit_b
    | skip
  all_goals first
    | ((try clear hjp); revert c; decide +kernel)
    | (dsimp only [rgM]; with_reducible refine memA_eq ?_)
    | (dsimp only [rgM]; with_reducible refine memB_eq ?_)
    | (dsimp only [rgM]; with_reducible refine memO_eq ?_)
    | (dsimp only [rgM]; with_reducible refine memS_eq ?_)
    | (dsimp only [rgM]; with_reducible refine memW_eq ?_)
    | rfl
  all_goals
    (try clear hjp); revert c; decide +kernel

end Cert.KernelIdeal.AllReduce
end
end
-- ==== Proof.Run.Body.lean ====
/-
# The body runs the commands of the device
-/
module

public import proofs.«01_k».proof.Proof.Run.Sim
public import proofs.«01_k».proof.Proof.Gen.KernelIdeal.Skeleton
public import proofs.«01_k».proof.Proof.Run.Parts2
public import proofs.«01_k».proof.Proof.Run.Parts3
public import proofs.«01_k».proof.Proof.Run.Parts4

@[expose] public section

set_option maxRecDepth 8192

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {m : (ℓ : Loc nD τ sig) → Buf (Elt F) ℓ} {K : Dev nD × CK → ℕ}

attribute [local irreducible] Sim

/-- The first half returns the words it computed, of which the comparisons of the z coordinate matter later. -/
theorem part106 (c : Dev nD) : Sim m K c (ap (k0_part106 (F := F))) (L106 c)
    (fun ⟨d0, _, _, _, _, _, _, _, _, _, _, _, _, _, _, _, _, _, _, _, _, _, _, v283, v286, v289, v292, _, _, v443, v446, v449, v452, _, _, _, _, _, _, _, _, _, _, _, _, _, _, _, _, _, _, _, _, _, _, _, _, _, _, _, _, _, _, _, _, _, _, _, _, _, _⟩ => d0 = c ∧ v283 = weq c 1#32 ∧ v286 = weq c 1#32 ∧ v289 = weq c 2#32 ∧ v292 = weq c 2#32 ∧ v443 = weq c 1#32 ∧ v446 = weq c 1#32 ∧ v449 = weq c 2#32 ∧ v452 = weq c 2#32) := by
  obtain ⟨p17, p18, p19, p20, p21, p22, p23, p24, p25, p26⟩ := parts2 (m := m) (K := K) c
  obtain ⟨p27, p32, p33⟩ := parts3 (m := m) (K := K) c
  obtain ⟨p28, p29, p30, p31, p34, p35, p36, p37, p38, p39⟩ := parts4 (m := m) (K := K) c
  obtain ⟨p40, p41, p42, p43, p44, p45, p46, p47, p48, p49, p50, p51, p52, p53, p54, p55, p56, p57, p58, p59⟩ := parts5 (m := m) (K := K) c
  obtain ⟨p60, p61, p62, p63, p64, p65, p66, p67, p68, p69, p70, p71, p72, p73, p74, p75, p76⟩ := parts6 (m := m) (K := K) c
  rw [k0_part106_eq_skeleton, L106]
  unfold k0_part106_skel ap
  beta_reduce
  refine sim_bind (p17 ..) ?_
  rintro ⟨d0, v2, v5, v8, v21, v32, c2_i32_15, v33, v35, c0_i32_17⟩ ⟨h0, h1⟩
  obtain rfl : c = d0 := h0.symm
  obtain rfl : v8 = w8 c := h1
  refine sim_bind (p18 ..) ?_
  rintro ⟨v49, v70, v73, v74, c0_i32_37⟩ -
  refine sim_bind (p19 ..) ?_
  rintro ⟨v98, v111, v112, v113, v114⟩ -
  refine sim_bind (p20 ..) ?_
  rintro ⟨v119, v122, v123, v151⟩ h0
  obtain rfl : v123 = barA := h0
  refine sim_bind (p21 ..) ?_
  rintro ⟨v182, c4_i32_103⟩ -
  refine sim_bind (p22 ..) ?_
  rintro ⟨v190, v196, v202, v203⟩ -
  refine sim_bind (p23 ..) ?_
  rintro ⟨v208, v214, v220, v223, c256_i32_170⟩ -
  refine sim_bind (p24 ..) ?_
  rintro ⟨v226, v232, v238, v244, v245⟩ -
  refine sim_bind (p25 ..) ?_
  rintro ⟨v250, v256, v262, v263⟩ -
  refine sim_bind (p26 ..) ?_
  rintro ⟨v268, v274, v280, v283, v284⟩ h0
  obtain rfl : v283 = weq c 1#32 := h0
  refine sim_bind (p27 ..) ?_
  rintro ⟨v286, v289, v292⟩ ⟨h0, h1, h2⟩
  obtain rfl : v286 = weq c 1#32 := h0
  obtain rfl : v289 = weq c 2#32 := h1
  obtain rfl : v292 = weq c 2#32 := h2
  refine sim_bind (p28 ..) fun _ _ => ?_
  refine sim_bind (p29 ..) fun _ _ => ?_
  refine sim_bind (p30 ..) ?_
  rintro v389 h0
  subst h0
  refine sim_bind (p31 ..) ?_
  rintro ⟨v399, v421, v422, v423⟩ -
  refine sim_bind (p32 ..) ?_
  rintro ⟨v443, v446, v449⟩ ⟨h0, h1, h2⟩
  obtain rfl : v443 = weq c 1#32 := h0
  obtain rfl : v446 = weq c 1#32 := h1
  obtain rfl : v449 = weq c 2#32 := h2
  refine sim_bind (p33 ..) ?_
  rintro ⟨v452, v472⟩ ⟨h0, h1⟩
  obtain rfl : v452 = weq c 2#32 := h0
  subst h1
  refine sim_bind (p34 ..) ?_
  rintro v499 h0
  subst h0
  refine sim_bind (p35 ..) fun _ _ => ?_
  refine sim_bind (p36 ..) ?_
  rintro v559 -
  refine sim_bind (p37 ..) ?_
  rintro ⟨v581, v592, v593, v594, v595, c0_i32_582⟩ -
  refine sim_bind (p38 ..) ?_
  rintro ⟨v613, v624, v627, v628, v629, v630, c0_i32_606⟩ -
  refine sim_bind (p39 ..) ?_
  rintro ⟨v635, v641, v647, v653⟩ -
  refine sim_bind (p40 ..) ?_
  rintro ⟨v690, v693⟩ -
  refine sim_bind (p41 ..) ?_
  rintro ⟨v714, v725, v726, c0_i32_686⟩ -
  refine sim_bind (p42 ..) ?_
  rintro ⟨v736, v737, v738, v757⟩ -
  refine sim_bind (p43 ..) ?_
  rintro ⟨v783, c3_i32_743⟩ -
  refine sim_bind (p44 ..) ?_
  rintro ⟨v785, v809, v818⟩ -
  refine sim_bind (p45 ..) ?_
  rintro ⟨v831, v832, v833, v848, v849⟩ -
  refine sim_bind (p46 ..) ?_
  rintro v876 -
  refine sim_bind (p47 ..) ?_
  rintro ⟨v880, v904, v909⟩ -
  refine sim_bind (p48 ..) ?_
  rintro ⟨v926, v927, v928, v939, v940⟩ -
  refine sim_bind (p49 ..) fun _ _ => ?_
  refine sim_bind (p50 ..) ?_
  rintro ⟨v995, v998⟩ -
  refine sim_bind (p51 ..) ?_
  rintro ⟨v1019, v1030, v1031, c0_i32_959⟩ -
  refine sim_bind (p52 ..) ?_
  rintro ⟨v1041, v1042, v1043, v1062⟩ -
  refine sim_bind (p53 ..) ?_
  rintro ⟨v1088, c3_i32_1016⟩ -
  refine sim_bind (p54 ..) ?_
  rintro ⟨v1090, v1114, v1123⟩ -
  refine sim_bind (p55 ..) ?_
  rintro ⟨v1136, v1137, v1138, v1153, v1154⟩ -
  refine sim_bind (p56 ..) ?_
  rintro v1181 -
  refine sim_bind (p57 ..) ?_
  rintro ⟨v1185, v1209, v1214⟩ -
  refine sim_bind (p58 ..) ?_
  rintro ⟨v1231, v1232, v1233, v1244, v1245⟩ -
  refine sim_bind (p59 ..) ?_
  rintro ⟨v1266, v1267, v1272⟩ -
  refine sim_bind (p60 ..) ?_
  rintro ⟨v1304, c256_i32_1207⟩ -
  refine sim_bind (p61 ..) fun _ _ => ?_
  refine sim_bind (p62 ..) ?_
  rintro ⟨v1365, c4_i32_1264⟩ -
  refine sim_bind (p63 ..) fun _ _ => ?_
  refine sim_bind (p64 ..) ?_
  rintro c1_i32_1315 -
  refine sim_bind (p65 ..) ?_
  rintro ⟨v1459, v1460, v1461, v1462, c0_i32_1343⟩ -
  refine sim_bind (p66 ..) ?_
  rintro ⟨v1490, v1491, v1496⟩ -
  refine sim_bind (p67 ..) ?_
  rintro ⟨v1528, c256_i32_1395⟩ -
  refine sim_bind (p68 ..) fun _ _ => ?_
  refine sim_bind (p69 ..) ?_
  rintro ⟨v1589, c4_i32_1452⟩ -
  refine sim_bind (p70 ..) fun _ _ => ?_
  refine sim_bind (p71 ..) ?_
  rintro c2_i32_1503 -
  refine sim_bind (p72 ..) ?_
  rintro ⟨v1683, v1684, v1685, v1686, c0_i32_1531⟩ -
  refine sim_bind (p73 ..) ?_
  rintro ⟨v1714, v1715, v1720⟩ -
  refine sim_bind (p74 ..) fun _ _ => ?_
  refine sim_bind (p75 ..) ?_
  rintro ⟨v1780, v1781⟩ -
  refine sim_bind_nil (p76 ..) ?_
  rintro ⟨v1812, c4_i32_1639, c0_i32_1640⟩ -
  exact sim_ret ⟨rfl, rfl, rfl, rfl, rfl, rfl, rfl, rfl, rfl⟩

theorem part107 (c : Dev nD) : ∀ v8 v21 v49 v70 v98 v119 v190 v196 v202 v208 v214 v220 v226 v232 v238 v244 v250 v256 v262 v268 v274 v280 v399 v421 v559 v581 v613 v624 v635 v690 v714 v736 v737 v738 v785 v809 v831 v832 v833 v880 v904 v926 v927 v928 v995 v1019 v1041 v1042 v1043 v1090 v1114 v1136 v1137 v1138 v1185 v1209 v1231 v1812 c4_i32_1639 c0_i32_1640, Sim m K c (ap (k0_part107 (F := F)) c v8 v21 v49 v70 v98 v119 v190 v196 v202 v208 v214 v220 v226 v232 v238 v244 v250 v256 v262 v268 v274 v280 (weq c 1#32) (weq c 1#32) (weq c 2#32) (weq c 2#32) v399 v421 (weq c 1#32) (weq c 1#32) (weq c 2#32) (weq c 2#32) v559 v581 v613 v624 v635 v690 v714 v736 v737 v738 v785 v809 v831 v832 v833 v880 v904 v926 v927 v928 v995 v1019 v1041 v1042 v1043 v1090 v1114 v1136 v1137 v1138 v1185 v1209 v1231 v1812 c4_i32_1639 c0_i32_1640) (L107 c) T := by
  obtain ⟨p77, p78, p79, p80, p81, p82, p83, p84, p85, p86, p87, p88, p89, p90, p91, p92, p93⟩ := parts7 (m := m) (K := K) c
  obtain ⟨p94, p95, p96, p97, p98, p99, p100, p101, p102, p103, p104, p105⟩ := parts8 (m := m) (K := K) c
  intros
  rw [k0_part107_eq_skeleton, L107]
  unfold k0_part107_skel ap
  beta_reduce
  refine sim_bind (p77 ..) ?_
  rintro ⟨v1839, v1840, v1845⟩ -
  refine sim_bind (p78 ..) ?_
  rintro ⟨v1878, c1024_i32_1692⟩ -
  refine sim_bind (p79 ..) ?_
  rintro ⟨v1910, c128_i32_1719⟩ -
  refine sim_bind (p80 ..) ?_
  rintro ⟨v1939, c0_i32_1749⟩ -
  refine sim_bind (p81 ..) ?_
  rintro ⟨v1971, c1_i32_1776⟩ -
  refine sim_bind (p82 ..) ?_
  rintro c1_i32_1801 -
  refine sim_bind (p83 ..) ?_
  rintro ⟨v2036, c4_i32_1827, c0_i32_1828⟩ -
  refine sim_bind (p84 ..) ?_
  rintro ⟨v2063, v2064, v2069⟩ -
  refine sim_bind (p85 ..) ?_
  rintro ⟨v2102, c1024_i32_1880⟩ -
  refine sim_bind (p86 ..) ?_
  rintro ⟨v2134, c128_i32_1907⟩ -
  refine sim_bind (p87 ..) ?_
  rintro ⟨v2163, c0_i32_1937⟩ -
  refine sim_bind (p88 ..) ?_
  rintro ⟨v2195, c1_i32_1964⟩ -
  refine sim_bind (p89 ..) ?_
  rintro c2_i32_1989 -
  refine sim_bind (p90 ..) ?_
  rintro ⟨v2260, c4_i32_2015, c0_i32_2016⟩ -
  refine sim_bind (p91 ..) ?_
  rintro ⟨v2287, v2288, v2293⟩ -
  refine sim_bind (p92 ..) fun _ _ => ?_
  refine sim_bind (p93 ..) ?_
  rintro ⟨v2353, v2354⟩ -
  refine sim_bind (p94 ..) fun _ _ => ?_
  refine sim_bind (p95 ..) fun _ _ => ?_
  refine sim_bind (p96 ..) fun _ _ => ?_
  refine sim_bind (p97 ..) fun _ _ => ?_
  refine sim_bind (p98 ..) fun _ _ => ?_
  refine sim_bind (p99 ..) fun _ _ => ?_
  refine sim_bind (p100 ..) fun _ _ => ?_
  refine sim_bind (p101 ..) ?_
  rintro ⟨v2476, c0_i32_2416⟩ ⟨h0, h1⟩
  obtain rfl : v2476 = Scalar.extui (weq c 1#32) := h0
  obtain rfl : c0_i32_2416 = 0#32 := h1
  refine sim_bind (p102 ..) ?_
  rintro v2492 -
  refine sim_bind (p103 ..) ?_
  rintro v2506 -
  refine sim_bind (p104 ..) ?_
  rintro ⟨v2520, c0_i32_2530⟩ -
  refine sim_bind (p105 ..) ?_
  rintro v2534 -
  clear p77 p78 p79 p80 p81 p82 p83 p84 p85 p86 p87 p88 p89 p90 p91 p92 p93 p94 p95 p96 p97 p98 p99 p100 p101 p102 p103 p104 p105
  with_reducible
  repeat' first
    | refine sim_cons ?_
    | refine sim_nil ?_
    | refine sim_wsend ?_ ?_ ?_
    | exact hjp
    | refine sim_if ?_ ?_ fun hjp h => ?_
    | refine sim_if_nil ?_ ?_ fun hjp h => ?_
    | exact sim_end
  all_goals first
    | with_reducible exact credit_O _ _
    | rfl
    | ((try clear hjp); revert c; decide +kernel)

/-- The whole body. -/
theorem sim_body (c : Dev nD) : Sim m K c (ap (cc0_body (F := F))) (cmds c) T := by
  have p := part106 (m := m) (K := K) c
  have p' := part107 (m := m) (K := K) c
  unfold cmds ap
  rw [cc0_body_eq_skeleton]
  unfold cc0_body_skel
  beta_reduce
  refine sim_bind p ?_
  rintro ⟨d0, v8, v21, v49, v70, v98, v119, v190, v196, v202, v208, v214, v220, v226, v232, v238, v244, v250, v256, v262, v268, v274, v280, v283, v286, v289, v292, v399, v421, v443, v446, v449, v452, v559, v581, v613, v624, v635, v690, v714, v736, v737, v738, v785, v809, v831, v832, v833, v880, v904, v926, v927, v928, v995, v1019, v1041, v1042, v1043, v1090, v1114, v1136, v1137, v1138, v1185, v1209, v1231, v1232, v1233, v1812, c4_i32_1639, c0_i32_1640⟩ ⟨h0, h1, h2, h3, h4, h5, h6, h7, h8⟩
  obtain rfl : c = d0 := h0.symm
  subst h1 h2 h3 h4 h5 h6 h7 h8
  refine sim_bind (p' ..) fun _ _ => ?_
  clear p p'
  with_reducible
  repeat' first
    | refine sim_cons ?_
    | refine sim_nil ?_
    | refine sim_wsend ?_ ?_ ?_
    | exact hjp
    | refine sim_if ?_ ?_ fun hjp h => ?_
    | refine sim_if_nil ?_ ?_ fun hjp h => ?_
    | exact sim_end
  all_goals first
    | with_reducible exact credit_O _ _
    | rfl
    | ((try clear hjp); revert c; decide +kernel)

end Cert.KernelIdeal.AllReduce
end
end
-- ==== Proof.Run.Main.lean ====
/-
# The run of the kernel

From any memory with zero counters, every fair execution on the sixteen devices ends. The inputs are then unchanged,
every counter is zero, and each tile of each device's output holds the tile computed by the device that owns it.
-/
module

public import proofs.«01_k».proof.Proof.Run.Start
public import proofs.«01_k».proof.Proof.Run.Body
public import proofs.«01_k».proof.Proof.Gen.KernelIdeal.Points
public import Idealize.ShloMosaic.Lib.Pipeline.Quiescent

@[expose] public section

set_option maxRecDepth 8192

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-! ## Before and after the body -/

/-- The four scratch tiles with any contents. -/
def tiles (c : Dev nD) : sProp 𝕄 := bigSep Finset.univ (fun b => svRes m c b .any)

/-- The tiles of the output, as they are at the end. -/
def result (c : Dev nD) : sProp 𝕄 := bigSep Finset.univ (fun t : Fin 4 × Fin 4 × Fin 2 => heldR m c (.out t.1 t.2.1 t.2.2))

def dats (_ : Fin 1) (c : Dev nD) : Dat τ (Elt F) Unit ℕ UU ℕ cfg0 c where
  A w := m ((cfg0.win w).arr.view.loc (c : Thread nD τ))
  after w _ := match w with
    | ⟨0, _⟩ => gv m c
  Φ t := match t with
    | ⟨0, _⟩ => iprop((∃ K, start m K c) ∗ tiles m c)
    | ⟨_ + 1, _⟩ => iprop((result m c ∗ zero c .bar) ∗ ownS c ∗ tiles m c)
  q _ := fullShare
  owed t := match t with
    | ⟨0, _⟩ => owe₀ c
    | ⟨_ + 1, _⟩ => 0

theorem before_gamma (c : Dev nD) (d) : (dats m 0 c).before (0 : Fin 1) t0_0 d = gv m c := by
  unfold Dat.before
  rw [if_pos (fetch0_0 t0_0)]
  rfl

theorem bigSep_Scr (Φ : Scr → sProp 𝕄) : bigSep Finset.univ Φ = iprop(Φ .a ∗ Φ .b ∗ Φ .acc ∗ Φ .o) := by
  rw [bigSep_univ_eq_bigSepL [Scr.a, .b, .acc, .o] (by decide) (by decide) Φ]
  rfl

theorem tiles_eq (c : Dev nD) : (Pipeline.scopedRest (Ix := Unit) (Name := ℕ) (U := UU) (Lvl := ℕ) (Val := Elt F) spec0 c : sProp 𝕄) = tiles m c := by
  rw [scopedRest0_eq]
  unfold tiles
  rw [bigSep_Scr]
  have e : ∀ (b : Ref sig .tc) (f : Buf (Elt F) ((c : Thread nD τ).loc b)),
      (((c : Thread nD τ).loc b) ↦{fullShare} f : sProp 𝕄) = owns (c : Thread nD τ) (Memref.whole b) fullShare f := fun b f => (owns_whole (c : Thread nD τ) b fullShare f).symm
  simp only [e]
  rfl

/-- The start puts the device before its commands. -/
theorem enter (c : Dev nD) : iprop(((∃ K, start m K c) ∗ tiles m c) ∗ (dats m 0 c).owesAt () t0_0.castSucc ∗ owns (c : Thread nD τ) gamM fullShare (gv m c))
    ⊢ iprop(∃ K, Inv m K c (cmds c)) := by
  unfold start tiles Dat.owesAt Pipeline.owesWithin
  rw [show (dats m 0 c).owed t0_0.castSucc = owe₀ c from rfl]
  iintro ⟨⟨⟨%K, HC, HS, HL, HR, HG, HB, HM, HF⟩, HX⟩, ⟨%W, %hW, HO⟩, Hg⟩
  iexists K
  unfold Inv
  iexists st0
  isplitr
  · ipureintro; exact ok_cmds c
  unfold I
  isplitl [HC]; · iexact HC
  isplitl [HO]
  · iexists W
    iapply (Entails.of_eq (by
      unfold owe₀
      rw [show act c = fun x => hasSend x (cmds c) from funext fun x => (hasSend_cmds c x).symm,
        show (fun _ : Fin 5 => true) = fun i => hasSig i (cmds c) from funext fun i => (hasSig_cmds c i).symm])) $$ HO
  isplitl [HS]; · iexact HS
  isplitl [HL]; · iexact HL
  isplitl [HR]; · iexact HR
  isplitl [HG]; · iexact HG
  isplitl [HB]; · iexact HB
  isplitl [HM]; · iexact HM
  isplitl [HX]
  · iapply (Entails.of_eq (bigSep_congr fun b _ => by cases b <;> rfl)) $$ HX
  isplitl [HF]; · iexact HF
  iexact Hg

theorem fin_out {σ : St} (h : fin σ = true) (q j : Fin 4) (st : Fin 2) : σ.has (.out q j st) = true := by
  unfold fin at h
  simp only [Bool.and_eq_true, List.all_eq_true] at h
  exact h.1.1.1.1.1.1 q (List.mem_finRange q) j (List.mem_finRange j) st (List.mem_finRange st)
theorem fin_scr {σ : St} (h : fin σ = true) (b : Scr) : (σ.scr b).isFly = false := by
  unfold fin at h
  simp only [Bool.and_eq_true, Bool.not_eq_true'] at h
  obtain ⟨⟨⟨⟨⟨⟨_, h1⟩, h2⟩, h3⟩, h4⟩, _⟩, _⟩ := h
  cases b
  · exact h1
  · exact h2
  · exact h3
  · exact h4
theorem fin_loc {σ : St} (h : fin σ = true) (s : Fin 2) : σ.loc s = none := by
  unfold fin at h
  simp only [Bool.and_eq_true, Option.isNone_iff_eq_none] at h
  obtain ⟨⟨_, h1⟩, h2⟩ := h
  fin_cases s
  · exact h1
  · exact h2

theorem any_of (c : Dev nD) (b : Scr) (v : SV) (h : v.isFly = false) : svRes m c b v ⊢ svRes m c b .any := by
  cases v with
  | any => exact BIBase.Entails.rfl
  | val e =>
    unfold svRes
    iintro H
    iexists _
    iexact H
  | fly => cases h

theorem owe_end (c : Dev nD) : oweL c (fun x => hasSend x []) (fun i => hasSig i []) = 0 := by
  unfold oweL
  have h1 : ∀ x, hasSend x [] = false := fun _ => rfl
  have h2 : ∀ i, hasSig i [] = false := fun _ => rfl
  simp only [h1, h2, Bool.false_eq_true, if_false, Finset.sum_const_zero, add_zero]

/-- After the last command the device has its results and its semaphores back. -/
theorem leave (K : Dev nD × CK → ℕ) (c : Dev nD) : Inv m K c []
    ⊢ iprop(((result m c ∗ zero c .bar) ∗ ownS c ∗ tiles m c) ∗ (dats m 0 c).owesAt () t0_0.succ ∗ owns (c : Thread nD τ) gamM fullShare (gv m c)) := by
  unfold Inv I Dat.owesAt Pipeline.owesWithin
  rw [show (dats m 0 c).owed t0_0.succ = 0 from rfl, owe_end]
  iintro ⟨%σ, %hσ, -, ⟨%W, HO⟩, HS, -, HR, -, HB, HM, HX, HF, Hg⟩
  have hf : fin σ = true := hσ
  have got : ∀ (q j : Fin 4) (st : Fin 2), rgRes m c σ [] (.out q j st) = heldR m c (.out q j st) := fun q j st => if_pos (fin_out hf q j st)
  have bar : (barRes c [] : sProp 𝕄) = zero c .bar := if_neg (by decide)
  isplitl [HS HR HB HM HX HF]
  · isplitl [HM HB]
    · isplitl [HM]
      · ihave HM := (Entails.of_eq (bigSep_Rg (rgRes m c σ []))) $$ HM
        icases HM with ⟨-, -, HM⟩
        unfold result
        iapply (Entails.of_eq (bigSep_congr fun t _ => got t.1 t.2.1 t.2.2)) $$ HM
      iapply (Entails.of_eq bar) $$ HB
    isplitl [HS HR HF]
    · rw [ownS_eq]
      isplitl [HS HR]
      · isplitl [HS]
        · iexact HS
        iexact HR
      have e : ∀ s : Fin 2, locRes m c s (σ.loc s) = semVal ((c : Thread nD τ), .dma (lS s)) 0 := fun s => by rw [fin_loc hf s]; rfl
      iapply (Entails.of_eq (bigSep_congr fun s _ => e s)) $$ HF
    unfold tiles
    iapply (show bigSep Finset.univ (fun b => svRes m c b (σ.scr b)) ⊢ bigSep Finset.univ (fun b => svRes m c b .any) from
      bigSep_mono fun b _ => any_of m c b _ (fin_scr hf b)) $$ HX
  isplitl [HO]
  · iexists W
    isplitr; · ipureintro; exact fun _ _ => Or.inl trivial
    iexact HO
  iexact Hg

/-- The body's obligation on every device. -/
theorem body_obligation (c : Dev nD) : BodyObligation (dats m 0 c) (defs₀ (F := F)) 𝒱₀ () Set.univ := fun t => by
  rw [fin_N0 t]
  rw [bigSep_W0, bigSep_W0]
  show iprop(((∃ K, start m K c) ∗ tiles m c) ∗ (dats m 0 c).owesAt () t0_0.castSucc
      ∗ (∃ d, owns (c : Thread nD τ) gamM fullShare ((dats m 0 c).before (0 : Fin 1) t0_0 d)))
    ⊢ WP c (ap (cc0_body (F := F))) fun _ => iprop(((result m c ∗ zero c .bar) ∗ ownS c ∗ tiles m c)
      ∗ (dats m 0 c).owesAt () t0_0.succ ∗ owns (c : Thread nD τ) gamM fullShare (gv m c))
  iintro ⟨HΦ, HO, ⟨%d, Hg⟩⟩
  rw [before_gamma]
  ihave H := (enter m c) $$ [HΦ HO Hg]
  · isplitl [HΦ]; · iexact HΦ
    isplitl [HO] <;> iassumption
  icases H with ⟨%K, H⟩
  have h := sim_body (m := m) (K := K) c [] (fun _ => iprop(((result m c ∗ zero c .bar) ∗ ownS c ∗ tiles m c)
      ∗ (dats m 0 c).owesAt () t0_0.succ ∗ owns (c : Thread nD τ) gamM fullShare (gv m c))) fun _ _ => leave m K c
  rw [List.append_nil] at h
  iapply h $$ H

/-! ## The launch -/

theorem share_eq (c : Dev nD) (w : Fin cfg0.W) : (dats m 0 c).share w = fullShare := by unfold Dat.share; split <;> rfl

theorem waits (c : Dev nD) : (levAts L lv : sProp 𝕄) ⊢ Pipeline.cellsWaits cfgs (dats m) () 0 c :=
  Pipeline.cellsWaits_intro cfgs (dats m) () 0 c fun w s t => by
    have h0 : ∀ (w : Fin cfg0.W) (s : Fin (cfg0.spec w).nbuf), (((cfg0.spec w).sem s : DmaSem sig) : Fin 97).val = 0 := by decide +kernel
    have hk : keyOf (.dma ((cfg0.spec w).sem s)) = none := keyOf_none fun k h => by
      cases k with
      | bar => cases h
      | s x =>
        have h1 : x.sem = 0 := (congrArg Fin.val (SemLoc.dma.inj h)).trans (h0 w s)
        cases x <;> simp only [SK.sem] at h1 <;> omega
      | r y =>
        have h1 : y.sem = 0 := (congrArg Fin.val (SemLoc.dma.inj h)).trans (h0 w s)
        cases y <;> simp only [RK.sem] at h1 <;> omega
    have hl : lv ((c : Thread nD τ), .dma ((cfg0.spec w).sem s)) () ≤ 0 := by
      unfold lv
      show (keyOf (.dma ((cfg0.spec w).sem s))).elim 0 (lvl c) ≤ 0
      rw [hk]; exact le_rfl
    refine mayWait c _ 0 hl _ fun g hg => ?_
    rcases t with ⟨_ | _, ht⟩
    · rcases oweL_pos c _ _ g hg with ⟨x, hx, rfl⟩ | ⟨i, hi, rfl⟩
      · exact ⟨_, _, rfl, Nat.lt_of_lt_of_le Nat.zero_lt_two (two_le_lvR (dst c x).1 (dst c x).2)⟩
      · exact ⟨_, _, rfl, Nat.one_pos⟩
    · exact absurd hg (lt_irrefl 0)

/-! ## The end -/

/-- What holds of a device at the end. -/
def Good (c : Dev nD) (s : MemSt nD τ sig (Elt F)) : Prop :=
  (∀ (q j : Fin 4) (st : Fin 2), (rgM c (.out q j st)).view.read (Elt F) (s.mem ((c : Thread nD τ).loc main_v1_0)) = yv m (mk q j) st)
    ∧ s.mem ((c : Thread nD τ).loc main_arg0) = m ((c : Thread nD τ).loc main_arg0)
    ∧ s.mem ((c : Thread nD τ).loc main_arg1) = m ((c : Thread nD τ).loc main_arg1)

theorem read_held (c : Dev nD) (r : Rg) (s' : Phys nD τ sig (Elt F)) : iprop(heldR m c r ∗ SI s')
    ⊢ (⌜(rgM c r).view.read (Elt F) (s'.mem.mem ((rgM c r).view.loc (c : Thread nD τ))) = val m c r⌝ : sProp 𝕄) := by
  unfold heldR owns
  iintro ⟨⟨%q, %f, %hf, H⟩, HSI⟩
  icombine HSI H gives %h
  ipureintro
  rw [← hf]
  exact View.read_congr fun i hi => (h i hi)

theorem read_whole (c : Dev nD) (b : Ref sig .tc) (q : PosShare TreeShare) (s' : Phys nD τ sig (Elt F)) (f) :
    iprop((((c : Thread nD τ).loc b) ↦{q} f) ∗ SI s') ⊢ (⌜s'.mem.mem ((c : Thread nD τ).loc b) = f⌝ : sProp 𝕄) := by
  iintro ⟨H, HSI⟩
  icombine HSI H gives %h
  ipureintro
  exact Buf.eq_of_forall_mem_univ h

theorem good (c : Dev nD) (s' : Phys nD τ sig (Elt F)) : iprop((result m c ∗ halves m c) ∗ SI s') ⊢ (<pers> ⌜Good m c s'.mem⌝ : sProp 𝕄) := by
  have h1 : ∀ (q j : Fin 4) (st : Fin 2), iprop((result m c ∗ halves m c) ∗ SI s')
      ⊢ (⌜(rgM c (.out q j st)).view.read (Elt F) (s'.mem.mem ((c : Thread nD τ).loc main_v1_0)) = yv m (mk q j) st⌝ : sProp 𝕄) := fun q j st => by
    unfold result
    iintro ⟨⟨H, -⟩, HSI⟩
    ihave H := (bigSep_get (fun t : Fin 4 × Fin 4 × Fin 2 => heldR m c (.out t.1 t.2.1 t.2.2)) (q, j, st)) $$ H
    iapply (read_held m c (.out q j st) s')
    isplitl [H] <;> iassumption
  have h2 : iprop((result m c ∗ halves m c) ∗ SI s')
      ⊢ (⌜s'.mem.mem ((c : Thread nD τ).loc main_arg0) = m ((c : Thread nD τ).loc main_arg0)⌝ : sProp 𝕄) := by
    unfold halves
    iintro ⟨⟨-, H, -⟩, HSI⟩
    iapply (read_whole c main_arg0 fullShare.left s' _)
    isplitl [H] <;> iassumption
  have h3 : iprop((result m c ∗ halves m c) ∗ SI s')
      ⊢ (⌜s'.mem.mem ((c : Thread nD τ).loc main_arg1) = m ((c : Thread nD τ).loc main_arg1)⌝ : sProp 𝕄) := by
    unfold halves
    iintro ⟨⟨-, -, H⟩, HSI⟩
    iapply (read_whole c main_arg1 fullShare.left s' _)
    isplitl [H] <;> iassumption
  have h : iprop((result m c ∗ halves m c) ∗ SI s') ⊢ (⌜Good m c s'.mem⌝ : sProp 𝕄) :=
    fun x hx => ⟨fun q j st => h1 q j st x hx, h2 x hx, h3 x hx⟩
  exact h.trans Laws.persistently_pure.2

/-- Every device ends as wanted, with all its counters at zero. -/
def Ends (r : PUnit × MemSt nD τ sig (Elt F)) : Prop :=
  (∀ c : Dev nD, Good m c r.2 ∧ r.2.mem ((c : Thread nD τ).loc main_arg2) = m ((c : Thread nD τ).loc main_arg2)) ∧ r.2.sem = fun _ => 0

theorem run_main : θ_run defs (onTc (τ := τ) (main (F := F))) ⟨m, fun _ => 0, ρ⟩ (Ends m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := owe₀) (howed₀ := fun _ => rfl) (howedN := fun _ => rfl)
    (L := L) (lv := lv) (hL := L_of_ne) (hwaits := waits m)
    (G := G m) (G' := G' m) (u₀ := u₀)
    (hu₀ := fund_all m)
    (hglob := glob m)
    (hA := fun _ _ => rfl) (hpf := fun _ k => k.elim0)
    (X := fun c => iprop(∃ K, start m K c)) (Y := fun c => iprop(result m c ∗ zero c .bar)) (Z := halves m)
    (hX := fun c => by
      rw [unscopedRestP_none]
      iintro ⟨H, Hlev, Hcr, -, HG⟩
      iapply (start_intro m c)
      isplitl [H]; · iexact H
      isplitl [Hlev]; · iexact Hlev
      isplitl [Hcr] <;> iassumption)
    (hin := fun c => by
      show iprop((∃ K, start m K c) ∗ Pipeline.prefHeld _ c _ _ ∗ Pipeline.scopedRest spec0 c) ⊢ iprop((∃ K, start m K c) ∗ tiles m c)
      rw [tiles_eq m]
      iintro ⟨H, -, HT⟩
      isplitl [H] <;> iassumption)
    (hout := fun c => by
      show iprop((result m c ∗ zero c .bar) ∗ ownS c ∗ tiles m c) ⊢ iprop((result m c ∗ zero c .bar) ∗ ownS c ∗ Pipeline.scopedRest spec0 c)
      rw [tiles_eq m])
    (QY := fun c s => Good m c s ∧ ∀ sm : SemLoc sig, sm.isScoped .tc = false → s.sem ((c.tc : Thread nD τ), sm) = 0)
    (hY := fun c s' => by
      iintro ⟨⟨HR, HB⟩, HZ, HSI⟩
      ihave %h := (good m c s') $$ [HR HZ HSI]
      · isplitl [HR HZ]
        · isplitl [HR] <;> iassumption
        iexact HSI
      ihave HB := (Entails.of_eq (unscoped_eq (F := F) c).symm) $$ HB
      ihave %h' := (tcUnscoped_read c s') $$ [HB HSI]
      · isplitl [HB] <;> iassumption
      imodintro
      isplitr; · ipureintro; exact ⟨h, h'⟩
      iexact HSI)
    (hQ := fun _ h hs => ⟨fun c => ⟨(h c).2.2.1, ((h c).1 (0 : Fin 1)).trans ((dats (F := F) m 0 c).arrAt_in (0 : Fin 1) rfl _)⟩,
      sem_eq_zero hs fun c => (h c).2.2.2⟩)

end Cert.KernelIdeal.AllReduce
end
end
-- ==== Proof.Value.Reference.lean ====
/-
# What the reference computes, at one element

At the extended reals.
-/
module

public import proofs.«01_k».proof.Proof.Gen.ReferenceIdeal
public import Idealize.ShloMosaic.Lib.Pointwise
public import Idealize.ShloMosaic.Lib.IdealHost
public import Idealize.ShloMosaic.PureOps.Ideal.Laws

@[expose] public section

noncomputable section

namespace Cert.AllReduceValue

open Cert.ReferenceIdeal Cert.ReferenceIdeal.Facts₀
open Idealize.ShloMosaic

/-- The root mean square normalisation of a row's element `a` under scale `g`, where `q` is the row's sum of squares. -/
def rmsNorm (a q g : EReal) : EReal :=
  Ideal.div a (Ideal.sqrt (Ideal.div q (Ideal.ofBits FTy.f32 0x45800000#32) + Ideal.ofBits FTy.f32 0x358637BD#32)) * g

/-- The sum of the four partial inputs and the residual. -/
def total (P : S4x4096x4096.Idx → EReal) (R : S4096x4096.Idx → EReal) (i j : Fin 4096) : EReal := (∑ z : Fin 4, P (ix3 z i j)) + R (ix2 i j)

variable [Facts]

/-- The reference's result, as its run leaves it. -/
def refOut (P : FVec Ideal S4x4096x4096 .f32) (R : FVec Ideal S4096x4096 .f32) (G : FVec Ideal S4096 .f32) :
    FVec Ideal S4096x4096 .f32 :=
  mulf (Host.divf (addf (Host.reduceAdd P (constant S_ .f32 0x00000000#32) reducesTo_S4x4096x4096_S4096x4096_d0 h_S_) R) (broadcastInDim S4096x4096 ![0, 1] bcast_S4096x1_S4096x4096_0_1 (Host.sqrt (addf (Host.divf (broadcastInDim S4096x1 ![0] bcast_S4096_S4096x1_0 (Host.reduceAdd (mulf (addf (Host.reduceAdd P (constant S_ .f32 0x00000000#32) reducesTo_S4x4096x4096_S4096x4096_d0 h_S_) R) (addf (Host.reduceAdd P (constant S_ .f32 0x00000000#32) reducesTo_S4x4096x4096_S4096x4096_d0 h_S_) R)) (constant S_ .f32 0x00000000#32) reducesTo_S4096x4096_S4096_d1 h_S_)) (broadcastInDim S4096x1 ![] bcast_S_S4096x1 (constant S_ .f32 0x45800000#32))) (broadcastInDim S4096x1 ![] bcast_S_S4096x1 (constant S_ .f32 0x358637BD#32)))))) (broadcastInDim S4096x4096 ![0, 1] bcast_S1x4096_S4096x4096_0_1 (broadcastInDim S1x4096 ![1] bcast_S4096_S1x4096_1 G))

theorem refOut_apply (P : FVec Ideal S4x4096x4096 .f32) (R : FVec Ideal S4096x4096 .f32) (G : FVec Ideal S4096 .f32) (i : S4096x4096.Idx) :
    (refOut P R G i : EReal) = rmsNorm (total P R (i 0) (i 1)) (∑ x : Fin 4096, total P R (i 0) x * total P R (i 0) x) (G (ix1 (i 1))) := by
  unfold refOut rmsNorm total
  pointwise

end Cert.AllReduceValue
end
end
-- ==== Proof.Value.Pay.lean ====
/-
# What the kernel stores, at one element

At the extended reals.
-/
module

public import proofs.«01_k».proof.Proof.Run.Base
public import proofs.«01_k».proof.Proof.Value.Reference
public import Idealize.ShloMosaic.Lib.Pointwise
public import Idealize.ShloMosaic.Lib.IdealHost
public import Idealize.ShloMosaic.PureOps.Ideal.Laws

@[expose] public section

noncomputable section

namespace Cert.KernelIdeal.AllReduce

open Cert.KernelIdeal Cert.KernelIdeal.Gen
open Idealize.ShloMosaic Cert.AllReduceValue

theorem addT_apply (a b : Tile Ideal) (i : S128x4096.Idx) : (addT a b i : EReal) = a i + b i := by
  unfold addT k0_pay1
  pointwise

theorem normT_apply (y : Tile Ideal) (g : S4096.Idx → Elt Ideal .f32) (i : S128x4096.Idx) :
    (normT y g i : EReal) = rmsNorm (y i) (∑ x : Fin 4096, y (ix2 (i 0) x) * y (ix2 (i 0) x)) (g (ix1 (i 1))) := by
  unfold normT k0_pay13 k0_pay12 rmsNorm
  pointwise

end Cert.KernelIdeal.AllReduce
end
end
-- ==== Proof.Value.Tiles.lean ====
/-
# The kernel's tiles at one element

Row `a` of subtile `st` of piece `j` of quarter `q` is row `row q j st a` of the whole array. Each output tile holds the
reference's result at those rows.
-/
module

public import proofs.«01_k».proof.Proof.Value.Pay
public import Idealize.ShloMosaic.Lib.Layout

@[expose] public section

set_option maxRecDepth 100000

noncomputable section

namespace Cert.KernelIdeal.AllReduce

open Cert.KernelIdeal Cert.KernelIdeal.Gen
open Idealize.ShloMosaic Idealize.ShloMosaic.TcCoe Cert.AllReduceValue

/-! ## Where the views read -/

section Views
variable {F : FTy → Type} [FloatOps F] (m : (ℓ : Loc nD τ sig) → Buf (Elt F) ℓ)

/-- A tile's row in the whole array. -/
def row (q j : Fin 4) (st : Fin 2) (a : Fin 128) : Fin 4096 := ⟨prow q j st + a.val, by have := prow_le q j st; omega⟩

theorem pv_apply (c : Dev nD) (j : Fin 4) (st : Fin 2) (a : Fin 128) (l : Fin 4096) :
    pv m c j st (ix2 a l) = m ((c : Thread nD τ).loc main_arg0) (ix3 (0 : Fin 1) (row (rOf c) j st a) l) := by
  have h1 : pv m c j st (ix2 a l) = m ((c : Thread nD τ).loc main_arg0)
      ((Rect.unit (s := S1x4096x4096) ![0, prow (rOf c) j st, 0] S1x128x4096.size (inbA (prow_le _ _ _))).emb
        (Shape.reshapeEquiv (squeezes_S1x128x4096_S128x4096).numel_eq (ix2 a l))) := rfl
  rw [h1, Shape.reshapeEquiv_cons_one]
  congr 1
  funext b
  apply Fin.ext
  rw [Rect.emb_apply]
  match b with
  | ⟨0, _⟩ => rfl
  | ⟨1, _⟩ => show prow (rOf c) j st + 1 * a.val = prow (rOf c) j st + a.val; omega
  | ⟨2, _⟩ => show 0 + 1 * l.val = l.val; omega

theorem rv_apply (c : Dev nD) (st : Fin 2) (a : Fin 128) (l : Fin 4096) :
    rv m c st (ix2 a l) = m ((c : Thread nD τ).loc main_arg1) (ix2 (row (rOf c) (zOf c) st a) l) := by
  have h1 : rv m c st (ix2 a l) = m ((c : Thread nD τ).loc main_arg1)
      ((Rect.unit (s := S4096x4096) ![prow (rOf c) (zOf c) st, 0] S128x4096.size (inbB (prow_le _ _ _))).emb (ix2 a l)) := rfl
  rw [h1]
  congr 1
  funext b
  apply Fin.ext
  rw [Rect.emb_apply]
  match b with
  | ⟨0, _⟩ => show prow (rOf c) (zOf c) st + 1 * a.val = prow (rOf c) (zOf c) st + a.val; omega
  | ⟨1, _⟩ => show 0 + 1 * l.val = l.val; omega

theorem gv_apply (c : Dev nD) (l : Fin 4096) : gv m c (ix1 l) = m ((c : Thread nD τ).loc main_arg2) (ix1 l) := by
  unfold gv
  rw [View.read_apply]
  refine congrArg (m ((c : Thread nD τ).loc main_arg2)) ?_
  show (win0_0.rect (0 : Fin 1)).emb (ix1 l) = _
  funext b
  apply Fin.ext
  rw [Rect.emb_apply]
  match b with
  | ⟨0, _⟩ => exact (congrArg₂ (· + ·) (Nat.zero_mul 4096) (Nat.one_mul l.val)).trans (Nat.zero_add _)

theorem out_apply (c : Dev nD) (q j : Fin 4) (st : Fin 2) (f : S4096x4096.Idx → Elt F .f32) (a : Fin 128) (l : Fin 4096) :
    (rgM c (.out q j st)).view.read (Elt F) f (ix2 a l) = f (ix2 (row q j st a) l) := by
  have h1 : (rgM c (.out q j st)).view.read (Elt F) f (ix2 a l)
      = f ((Rect.unit (s := S4096x4096) ![prow q j st, 0] S128x4096.size (inbB (prow_le _ _ _))).emb (ix2 a l)) := rfl
  rw [h1]
  congr 1
  funext b
  apply Fin.ext
  rw [Rect.emb_apply]
  match b with
  | ⟨0, _⟩ => show prow q j st + 1 * a.val = prow q j st + a.val; omega
  | ⟨1, _⟩ => show 0 + 1 * l.val = l.val; omega

/-- Every row is some tile's. -/
theorem row_cover (r : Fin 4096) : ∃ q j st a, row q j st a = r :=
  ⟨⟨r.val / 1024, by omega⟩, ⟨r.val % 1024 / 256, by omega⟩, ⟨r.val % 256 / 128, by omega⟩, ⟨r.val % 128, by omega⟩, by
    apply Fin.ext
    show r.val / 1024 * 1024 + r.val % 1024 / 256 * 256 + r.val % 256 / 128 * 128 + r.val % 128 = r.val
    omega⟩

/-! ## The sum a device normalises -/

/-- For the device at coordinate `z`: who fills slot 0, who fills slot 1, whom that one adds to, and in which buffer. -/
def by0 : Fin 4 → Fin 4 := ![1, 0, 3, 2]
def by1 : Fin 4 → Fin 4 := ![2, 2, 1, 1]
def by2 : Fin 4 → Fin 4 := ![3, 3, 0, 0]
def buf1 : Fin 4 → Fin 2 := ![0, 1, 1, 0]

theorem slot0 : ∀ (r z : Fin 4) (st : Fin 2), (org (mk r z) (.rs st 0)).1 = mk r (by0 z)
    ∧ src (org (mk r z) (.rs st 0)).1 (org (mk r z) (.rs st 0)).2 = .part z st := by decide +kernel
theorem slot1 : ∀ (r z : Fin 4) (st : Fin 2), (org (mk r z) (.rs st 1)).1 = mk r (by1 z)
    ∧ src (org (mk r z) (.rs st 1)).1 (org (mk r z) (.rs st 1)).2 = .fwd (buf1 z) st := by decide +kernel
theorem slot2 : ∀ (r z : Fin 4) (st : Fin 2), (org (mk r (by1 z)) (.rs st (3 - (buf1 z).castLE (by decide)))).1 = mk r (by2 z)
    ∧ src (org (mk r (by1 z)) (.rs st (3 - (buf1 z).castLE (by decide)))).1 (org (mk r (by1 z)) (.rs st (3 - (buf1 z).castLE (by decide)))).2 = .part z st := by
  decide +kernel
theorem own1 : ∀ r z : Fin 4, fwdPart (mk r (by1 z)) (buf1 z) = z := by decide +kernel

theorem accv_mk (r z : Fin 4) (st : Fin 2) : accv m (mk r z) st
    = addT (addT (addT (pv m (mk r z) z st) (rv m (mk r z) st)) (pv m (mk r (by0 z)) z st)) (addT (pv m (mk r (by2 z)) z st) (pv m (mk r (by1 z)) z st)) := by
  have e0 : sv m (mk r z) 0 st = pv m (mk r (by0 z)) z st := by
    unfold sv
    rw [(slot0 r z st).2, (slot0 r z st).1]
    rfl
  have e2 : sv0 m (mk r (by1 z)) (3 - (buf1 z).castLE (by decide)) st = pv m (mk r (by2 z)) z st := by
    unfold sv0
    rw [(slot2 r z st).2, (slot2 r z st).1]
    rfl
  have e1 : sv m (mk r z) 1 st = addT (pv m (mk r (by2 z)) z st) (pv m (mk r (by1 z)) z st) := by
    unfold sv
    rw [(slot1 r z st).2, (slot1 r z st).1]
    show fv m (mk r (by1 z)) (buf1 z) st = _
    unfold fv
    rw [e2, own1]
  unfold accv
  rw [e0, e1, zOf_mk]

end Views

/-! ## The results -/

section Value
variable (m : (ℓ : Loc nD τ sig) → Buf (Elt Ideal) ℓ)
  (P : FVec Ideal Cert.ReferenceIdeal.S4x4096x4096 .f32) (R : FVec Ideal Cert.ReferenceIdeal.S4096x4096 .f32) (G : FVec Ideal Cert.ReferenceIdeal.S4096 .f32)

/-- The devices' inputs are their parts of the whole arrays. -/
def Parts : Prop := ∀ c : Dev nD,
  m ((c : Thread nD τ).loc main_arg0) = Layout.blockN ⟨3, ![1, 4096, 4096]⟩ ⟨3, ![4, 4096, 4096]⟩ (Layout.meshBlock [2, 2, 4] ![[2], [], []] c) P
    ∧ m ((c : Thread nD τ).loc main_arg1) = R ∧ m ((c : Thread nD τ).loc main_arg2) = G

variable {m P R G}

theorem part_apply (h : Parts m P R G) (r z : Fin 4) (i l : Fin 4096) :
    m ((mk r z : Thread nD τ).loc main_arg0) (ix3 (0 : Fin 1) i l) = P (ix3 z i l) := by
  rw [(h (mk r z)).1, Layout.blockN_apply]
  congr 1
  funext b
  apply Fin.ext
  rw [Layout.TilesN.idx_val]
  match b with
  | ⟨0, _⟩ =>
    have hz : Layout.meshLin [2, 2, 4] (mk r z).val [2] = z.val := by revert r z; decide +kernel
    show Layout.meshLin [2, 2, 4] (mk r z).val [2] * 1 + 0 = z.val
    rw [hz]; omega
  | ⟨1, _⟩ => show 0 * 4096 + i.val = i.val; omega
  | ⟨2, _⟩ => show 0 * 4096 + l.val = l.val; omega

theorem accv_apply (h : Parts m P R G) (q j : Fin 4) (st : Fin 2) (a : Fin 128) (l : Fin 4096) :
    (accv m (mk q j) st (ix2 a l) : EReal) = total P R (row q j st a) l := by
  have hp : ∀ z : Fin 4, pv m (mk q z) j st (ix2 a l) = P (ix3 z (row q j st a) l) := fun z => by
    rw [pv_apply, rOf_mk, part_apply h]
  have hr : rv m (mk q j) st (ix2 a l) = R (ix2 (row q j st a) l) := by
    rw [rv_apply, rOf_mk, zOf_mk, (h (mk q j)).2.1]
  rw [accv_mk, addT_apply, addT_apply, addT_apply, addT_apply, hp, hp, hp, hp, hr]
  unfold total
  rw [Fin.sum_univ_four]
  generalize R (ix2 (row q j st a) l) = b
  generalize hf : (fun z : Fin 4 => (P (ix3 z (row q j st a) l) : EReal)) = f
  have hf' : ∀ z, P (ix3 z (row q j st a) l) = f z := fun z => congrFun hf z
  simp only [hf']
  clear hf hf' hp hr
  have e : ∀ j : Fin 4, (f j + b + f (by0 j) + (f (by2 j) + f (by1 j)) : EReal) = f 0 + f 1 + f 2 + f 3 + b := by
    intro j
    match j with
    | 0 => show f 0 + b + f 1 + (f 3 + f 2) = _; ac_rfl
    | 1 => show f 1 + b + f 0 + (f 3 + f 2) = _; ac_rfl
    | 2 => show f 2 + b + f 3 + (f 0 + f 1) = _; ac_rfl
    | 3 => show f 3 + b + f 2 + (f 0 + f 1) = _; ac_rfl
  exact e j

theorem yv_apply [Cert.ReferenceIdeal.Facts] (h : Parts m P R G) (q j : Fin 4) (st : Fin 2) (a : Fin 128) (l : Fin 4096) :
    yv m (mk q j) st (ix2 a l) = refOut P R G (ix2 (row q j st a) l) := by
  unfold yv
  refine (normT_apply _ _ _).trans ((refOut_apply P R G _).trans ?_).symm
  have hg : gv m (mk q j) (ix1 l) = G (ix1 l) := by rw [gv_apply, (h (mk q j)).2.2]
  show rmsNorm (total P R (row q j st a) l) (∑ x : Fin 4096, total P R (row q j st a) x * total P R (row q j st a) x) (G (ix1 l))
    = rmsNorm (accv m (mk q j) st (ix2 a l)) (∑ x : Fin 4096, accv m (mk q j) st (ix2 a x) * accv m (mk q j) st (ix2 a x)) (gv m (mk q j) (ix1 l))
  rw [hg, accv_apply h, Finset.sum_congr rfl fun x _ => congrArg (fun t : EReal => t * t) (accv_apply h q j st a x)]

/-- A whole output whose tiles are the devices' is the reference's result. -/
theorem out_eq [Cert.ReferenceIdeal.Facts] (h : Parts m P R G) (c : Dev nD) (f : S4096x4096.Idx → Elt Ideal .f32)
    (hf : ∀ (q j : Fin 4) (st : Fin 2), (rgM c (.out q j st)).view.read (Elt Ideal) f = yv m (mk q j) st) : f = refOut P R G := by
  funext i
  obtain ⟨q, j, st, a, ha⟩ := row_cover (i 0)
  have hi : i = ix2 (row q j st a) (i 1) := by rw [ha]; exact eq_ix2 i
  have hl : ∀ l : Fin 4096, f (ix2 (row q j st a) l) = refOut P R G (ix2 (row q j st a) l) := fun l => by
    rw [← out_apply c q j st f a l, hf, yv_apply h]
  rw [hi]
  exact hl (i 1)

end Value

end Cert.KernelIdeal.AllReduce
end
end
-- ==== Proof.lean ====
/-
# The all-reduce kernel is correct

The frames of the kernel and of the reference, and the equality of what they compute over the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run.Main
public import proofs.«01_k».proof.Proof.Value.Tiles

@[expose] public section

open Idealize.ShloMosaic Idealize.SL.Sem

namespace Cert.Proof

/-! ## The two readings of the kernel have one text -/

theorem bodies_eq : @Cert.Kernel.defs₀ Bits _ _ = @Cert.KernelIdeal.defs₀ Bits _ _ := by
  unfold Cert.Kernel.defs₀ Cert.KernelIdeal.defs₀
  refine congrArg Defs.onTc (funext fun ℓ => funext fun a => ?_)
  match ℓ, a with
  | ⟨0, _⟩, (t, s) => rfl
  | ⟨n + 1, h⟩, _ => exact absurd h (Nat.not_lt.2 (Nat.le_add_left _ _))

theorem defs_eq : @Cert.Kernel.defs Bits _ _ = @Cert.KernelIdeal.defs Bits _ _ :=
  congrArg (Pipeline.defs (@Cert.KernelIdeal.pcfgs Bits _)) bodies_eq

/-! ## The frames -/

theorem frame_kernel : Cert.quiescent_Kernel := fun m ρ _ => by
  rw [defs_eq]
  exact (θ_run Cert.KernelIdeal.defs _ _).mono (fun _ h => ⟨fun c => ⟨(h.1 c).1.2.1, (h.1 c).1.2.2, (h.1 c).2⟩, h.2⟩)
    (Cert.KernelIdeal.AllReduce.run_main (F := Bits) m ρ)

theorem frame_ideal : Cert.quiescent_KernelIdeal := fun m ρ _ =>
  (θ_run Cert.KernelIdeal.defs _ _).mono (fun _ h => ⟨fun c => ⟨(h.1 c).1.2.1, (h.1 c).1.2.2, (h.1 c).2⟩, h.2⟩)
    (Cert.KernelIdeal.AllReduce.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-! ## The value -/

section Value
variable [Cert.ReferenceIdeal.Facts]

/-- Every device ends with the reference's whole result. -/
theorem value : Cert.algebraic_KernelIdeal_ReferenceIdeal := fun m ρ m' ρ' _ h =>
  ⟨Cert.AllReduceValue.refOut _ _ _,
    (θ_run Cert.KernelIdeal.defs _ _).mono
      (fun _ e c => ⟨Cert.KernelIdeal.AllReduce.out_eq h c _ (e.1 c).1.1, (e.1 c).1.2.1, (e.1 c).1.2.2, (e.1 c).2⟩)
      (Cert.KernelIdeal.AllReduce.run_main (F := Ideal) m ρ),
    (θ_run Cert.ReferenceIdeal.defs _ _).mono (fun _ e => e 0) (Cert.ReferenceIdeal.Value.run m' ρ')⟩

end Value

theorem claim : Cert.Claim :=
  ⟨Cert.Kernel.Gen.facts, Cert.KernelIdeal.Gen.facts, Cert.ReferenceIdeal.Gen.facts, frame_kernel, frame_ideal, frame_reference, trivial, value⟩

end Cert.Proof
